-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S4096x2048 : Shape := ⟨2, ![4096, 2048]⟩
abbrev S2x2x128x1024 : Shape := ⟨4, ![2, 2, 128, 1024]⟩
abbrev S2x3x128x1024 : Shape := ⟨4, ![2, 3, 128, 1024]⟩
abbrev S2x3 : Shape := ⟨2, ![2, 3]⟩
abbrev S2x3x4 : Shape := ⟨3, ![2, 3, 4]⟩
abbrev S_ : Shape := ⟨0, ![]⟩
abbrev S128x128 : Shape := ⟨2, ![128, 128]⟩
abbrev S128x1024 : Shape := ⟨2, ![128, 1024]⟩
abbrev S1x1x128x1024 : Shape := ⟨4, ![1, 1, 128, 1024]⟩
abbrev S1x1x32x1024 : Shape := ⟨4, ![1, 1, 32, 1024]⟩
abbrev S32x1024 : Shape := ⟨2, ![32, 1024]⟩
abbrev S1x1x1 : Shape := ⟨3, ![1, 1, 1]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S4096x2048, .f32⟩
  | .local _ .vmem, ⟨0, _⟩ => ⟨S4096x128, .f32⟩
  | .local _ .vmem, ⟨1, _⟩ => ⟨S128x2048, .f32⟩
  | .local _ .vmem, ⟨2, _⟩ => ⟨S2x2x128x1024, .f32⟩
  | .local _ .vmem, ⟨3, _⟩ => ⟨S2x3x128x1024, .bf16⟩
  | .local _ .vmem, ⟨4, _⟩ => ⟨S2x2x128x1024, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 3 56 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_19 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v30 : BitVec 32 := Scalar.addi v2 c0_i32_19
  let c32_i32_20 : BitVec 32 := 32#32
  let c0_i32_21 : BitVec 32 := 0#32
  let v31 : BitVec 1 := Scalar.cmpi .eq c32_i32_20 c0_i32_21
  let c1_i32_22 : BitVec 32 := 1#32
  let v32 : BitVec 32 := Scalar.select v31 c1_i32_22 c32_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c128_i32 : BitVec 32 := 128#32
  let v41 : BitVec 32 := Scalar.muli v40 c128_i32
  let v42 : Index := Scalar.indexCast v41
  let c0 : Index := 0#32
  ![v42.toNat, 0]
def k0_off1_at (r : Fin 61) : BitVec 32 :=
  if r.val < 30 then
    if r.val < 15 then
      if r.val < 7 then
        if r.val < 3 then
          if r.val < 1 then
            0#32
          else
            if r.val < 2 then
              4294967295#32
            else
              1#32
        else
          if r.val < 5 then
            if r.val < 4 then
              4294967294#32
            else
              2#32
          else
            if r.val < 6 then
              4294967293#32
            else
              3#32
      else
        if r.val < 11 then
          if r.val < 9 then
            if r.val < 8 then
              4294967292#32
            else
              4#32
          else
            if r.val < 10 then
              4294967291#32
            else
              5#32
        else
          if r.val < 13 then
            if r.val < 12 then
              4294967290#32
            else
              6#32
          else
            if r.val < 14 then
              4294967289#32
            else
              7#32
    else
      if r.val < 22 then
        if r.val < 18 then
          if r.val < 16 then
            4294967288#32
          else
            if r.val < 17 then
              8#32
            else
              4294967287#32
        else
          if r.val < 20 then
            if r.val < 19 then
              9#32
            else
              4294967286#32
          else
            if r.val < 21 then
              10#32
            else
              4294967285#32
      else
        if r.val < 26 then
          if r.val < 24 then
            if r.val < 23 then
              11#32
            else
              4294967284#32
          else
            if r.val < 25 then
              12#32
            else
              4294967283#32
        else
          if r.val < 28 then
            if r.val < 27 then
              13#32
            else
              4294967282#32
          else
            if r.val < 29 then
              14#32
            else
              4294967281#32
  else
    if r.val < 45 then
      if r.val < 37 then
        if r.val < 33 then
          if r.val < 31 then
            15#32
          else
            if r.val < 32 then
              4294967280#32
            else
              16#32
        else
          if r.val < 35 then
            if r.val < 34 then
              4294967279#32
            else
              17#32
          else
            if r.val < 36 then
              4294967278#32
            else
              18#32
      else
        if r.val < 41 then
          if r.val < 39 then
            if r.val < 38 then
              4294967277#32
            else
              19#32
          else
            if r.val < 40 then
              4294967276#32
            else
              20#32
        else
          if r.val < 43 then
            if r.val < 42 then
              4294967275#32
            else
              21#32
          else
            if r.val < 44 then
              4294967274#32
            else
              22#32
    else
      if r.val < 53 then
        if r.val < 49 then
          if r.val < 47 then
            if r.val < 46 then
              4294967273#32
            else
              23#32
          else
            if r.val < 48 then
              4294967272#32
            else
              24#32
        else
          if r.val < 51 then
            if r.val < 50 then
              4294967271#32
            else
              25#32
          else
            if r.val < 52 then
              4294967270#32
            else
              26#32
      else
        if r.val < 57 then
          if r.val < 55 then
            if r.val < 54 then
              4294967269#32
            else
              27#32
          else
            if r.val < 56 then
              4294967268#32
            else
              28#32
        else
          if r.val < 59 then
            if r.val < 58 then
              4294967267#32
            else
              29#32
          else
            if r.val < 60 then
              4294967266#32
            else
              30#32
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_64 : BitVec 32 := 1#32
  let v78 : BitVec 32 := Scalar.muli v24 c1_i32_64
  let v79 : BitVec 32 := Scalar.addi c0_i32_65 v78
  v79.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_87 : BitVec 32 := 1#32
  let v94 : BitVec 32 := Scalar.muli v24 c1_i32_87
  let v95 : BitVec 32 := Scalar.addi c0_i32_88 v94
  v95.toNat
def k0_dev5 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_110 : BitVec 32 := 1#32
  let v110 : BitVec 32 := Scalar.muli v24 c1_i32_110
  let v111 : BitVec 32 := Scalar.addi c0_i32_111 v110
  v111.toNat
def k0_dev6 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_131 : BitVec 32 := 1#32
  let v126 : BitVec 32 := Scalar.muli v24 c1_i32_131
  let v127 : BitVec 32 := Scalar.addi c0_i32_132 v126
  v127.toNat
def k0_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_154 : BitVec 32 := 1#32
  let v142 : BitVec 32 := Scalar.muli v13 c1_i32_154
  let v143 : BitVec 32 := Scalar.addi c0_i32_155 v142
  v143.toNat
def k0_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_178 : BitVec 32 := 1#32
  let v158 : BitVec 32 := Scalar.muli v13 c1_i32_178
  let v159 : BitVec 32 := Scalar.addi c0_i32_179 v158
  v159.toNat
def k0_dev9 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_202 : BitVec 32 := 1#32
  let v174 : BitVec 32 := Scalar.muli v13 c1_i32_202
  let v175 : BitVec 32 := Scalar.addi c0_i32_203 v174
  v175.toNat
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_226 : BitVec 32 := 1#32
  let v190 : BitVec 32 := Scalar.muli v13 c1_i32_226
  let v191 : BitVec 32 := Scalar.addi c0_i32_227 v190
  v191.toNat
def k0_dev11 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_320 : BitVec 32 := 1#32
  let v269 : BitVec 32 := Scalar.muli v24 c1_i32_320
  let v270 : BitVec 32 := Scalar.addi c0_i32_321 v269
  v270.toNat
def k0_dev12 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_383 : BitVec 32 := 1#32
  let v306 : BitVec 32 := Scalar.muli v24 c1_i32_383
  let v307 : BitVec 32 := Scalar.addi c0_i32_384 v306
  v307.toNat
def k0_dev13 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_446 : BitVec 32 := 1#32
  let v343 : BitVec 32 := Scalar.muli v24 c1_i32_446
  let v344 : BitVec 32 := Scalar.addi c0_i32_447 v343
  v344.toNat
def k0_dev14 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_509 : BitVec 32 := 1#32
  let v380 : BitVec 32 := Scalar.muli v24 c1_i32_509
  let v381 : BitVec 32 := Scalar.addi c0_i32_510 v380
  v381.toNat
def k0_dev15 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_516 : BitVec 32 := 1#32
  let v390 : BitVec 32 := Scalar.muli v13 c1_i32_516
  let v391 : BitVec 32 := Scalar.addi c0_i32_517 v390
  v391.toNat
def k0_dev16 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_575 : BitVec 32 := 1#32
  let v419 : BitVec 32 := Scalar.muli v13 c1_i32_575
  let v420 : BitVec 32 := Scalar.addi c0_i32_576 v419
  v420.toNat
def k0_dev17 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_638 : BitVec 32 := 1#32
  let v456 : BitVec 32 := Scalar.muli v13 c1_i32_638
  let v457 : BitVec 32 := Scalar.addi c0_i32_639 v456
  v457.toNat
def k0_dev18 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_701 : BitVec 32 := 1#32
  let v493 : BitVec 32 := Scalar.muli v13 c1_i32_701
  let v494 : BitVec 32 := Scalar.addi c0_i32_702 v493
  v494.toNat
def k0_dev19 (d0 : Dev nD) : Nat :=
  let c0_i32_765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_764 : BitVec 32 := 1#32
  let v530 : BitVec 32 := Scalar.muli v13 c1_i32_764
  let v531 : BitVec 32 := Scalar.addi c0_i32_765 v530
  v531.toNat
def k0_dev20 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_771 : BitVec 32 := 1#32
  let v540 : BitVec 32 := Scalar.muli v24 c1_i32_771
  let v541 : BitVec 32 := Scalar.addi c0_i32_772 v540
  v541.toNat
def k0_dev21 (d0 : Dev nD) : Nat :=
  let c0_i32_862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_861 : BitVec 32 := 1#32
  let v611 : BitVec 32 := Scalar.muli v24 c1_i32_861
  let v612 : BitVec 32 := Scalar.addi c0_i32_862 v611
  v612.toNat
def k0_dev22 (d0 : Dev nD) : Nat :=
  let c0_i32_925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_924 : BitVec 32 := 1#32
  let v648 : BitVec 32 := Scalar.muli v24 c1_i32_924
  let v649 : BitVec 32 := Scalar.addi c0_i32_925 v648
  v649.toNat
def k0_dev23 (d0 : Dev nD) : Nat :=
  let c0_i32_988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_987 : BitVec 32 := 1#32
  let v685 : BitVec 32 := Scalar.muli v24 c1_i32_987
  let v686 : BitVec 32 := Scalar.addi c0_i32_988 v685
  v686.toNat
def k0_dev24 (d0 : Dev nD) : Nat :=
  let c0_i32_1051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1050 : BitVec 32 := 1#32
  let v722 : BitVec 32 := Scalar.muli v24 c1_i32_1050
  let v723 : BitVec 32 := Scalar.addi c0_i32_1051 v722
  v723.toNat
def k0_dev25 (d0 : Dev nD) : Nat :=
  let c0_i32_1058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1057 : BitVec 32 := 1#32
  let v732 : BitVec 32 := Scalar.muli v13 c1_i32_1057
  let v733 : BitVec 32 := Scalar.addi c0_i32_1058 v732
  v733.toNat
def k0_dev26 (d0 : Dev nD) : Nat :=
  let c0_i32_1117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1116 : BitVec 32 := 1#32
  let v761 : BitVec 32 := Scalar.muli v13 c1_i32_1116
  let v762 : BitVec 32 := Scalar.addi c0_i32_1117 v761
  v762.toNat
def k0_dev27 (d0 : Dev nD) : Nat :=
  let c0_i32_1180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1179 : BitVec 32 := 1#32
  let v798 : BitVec 32 := Scalar.muli v13 c1_i32_1179
  let v799 : BitVec 32 := Scalar.addi c0_i32_1180 v798
  v799.toNat
def k0_dev28 (d0 : Dev nD) : Nat :=
  let c0_i32_1243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1242 : BitVec 32 := 1#32
  let v835 : BitVec 32 := Scalar.muli v13 c1_i32_1242
  let v836 : BitVec 32 := Scalar.addi c0_i32_1243 v835
  v836.toNat
def k0_dev29 (d0 : Dev nD) : Nat :=
  let c0_i32_1306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1305 : BitVec 32 := 1#32
  let v872 : BitVec 32 := Scalar.muli v13 c1_i32_1305
  let v873 : BitVec 32 := Scalar.addi c0_i32_1306 v872
  v873.toNat
def k0_dev30 (d0 : Dev nD) : Nat :=
  let c0_i32_1313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1312 : BitVec 32 := 1#32
  let v882 : BitVec 32 := Scalar.muli v24 c1_i32_1312
  let v883 : BitVec 32 := Scalar.addi c0_i32_1313 v882
  v883.toNat
def k0_dev31 (d0 : Dev nD) : Nat :=
  let c0_i32_1404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1403 : BitVec 32 := 1#32
  let v953 : BitVec 32 := Scalar.muli v24 c1_i32_1403
  let v954 : BitVec 32 := Scalar.addi c0_i32_1404 v953
  v954.toNat
def k0_dev32 (d0 : Dev nD) : Nat :=
  let c0_i32_1467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1466 : BitVec 32 := 1#32
  let v990 : BitVec 32 := Scalar.muli v24 c1_i32_1466
  let v991 : BitVec 32 := Scalar.addi c0_i32_1467 v990
  v991.toNat
def k0_dev33 (d0 : Dev nD) : Nat :=
  let c0_i32_1530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1529 : BitVec 32 := 1#32
  let v1027 : BitVec 32 := Scalar.muli v24 c1_i32_1529
  let v1028 : BitVec 32 := Scalar.addi c0_i32_1530 v1027
  v1028.toNat
def k0_dev34 (d0 : Dev nD) : Nat :=
  let c0_i32_1593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1592 : BitVec 32 := 1#32
  let v1064 : BitVec 32 := Scalar.muli v24 c1_i32_1592
  let v1065 : BitVec 32 := Scalar.addi c0_i32_1593 v1064
  v1065.toNat
def k0_dev35 (d0 : Dev nD) : Nat :=
  let c0_i32_1600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1599 : BitVec 32 := 1#32
  let v1074 : BitVec 32 := Scalar.muli v13 c1_i32_1599
  let v1075 : BitVec 32 := Scalar.addi c0_i32_1600 v1074
  v1075.toNat
def k0_dev36 (d0 : Dev nD) : Nat :=
  let c0_i32_1661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1660 : BitVec 32 := 1#32
  let v1103 : BitVec 32 := Scalar.muli v13 c1_i32_1660
  let v1104 : BitVec 32 := Scalar.addi c0_i32_1661 v1103
  v1104.toNat
def k0_dev37 (d0 : Dev nD) : Nat :=
  let c0_i32_1724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1723 : BitVec 32 := 1#32
  let v1140 : BitVec 32 := Scalar.muli v13 c1_i32_1723
  let v1141 : BitVec 32 := Scalar.addi c0_i32_1724 v1140
  v1141.toNat
def k0_dev38 (d0 : Dev nD) : Nat :=
  let c0_i32_1787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1786 : BitVec 32 := 1#32
  let v1177 : BitVec 32 := Scalar.muli v13 c1_i32_1786
  let v1178 : BitVec 32 := Scalar.addi c0_i32_1787 v1177
  v1178.toNat
def k0_dev39 (d0 : Dev nD) : Nat :=
  let c0_i32_1850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1849 : BitVec 32 := 1#32
  let v1214 : BitVec 32 := Scalar.muli v13 c1_i32_1849
  let v1215 : BitVec 32 := Scalar.addi c0_i32_1850 v1214
  v1215.toNat
def k0_dev40 (d0 : Dev nD) : Nat :=
  let c0_i32_1857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1856 : BitVec 32 := 1#32
  let v1224 : BitVec 32 := Scalar.muli v24 c1_i32_1856
  let v1225 : BitVec 32 := Scalar.addi c0_i32_1857 v1224
  v1225.toNat
def k0_dev41 (d0 : Dev nD) : Nat :=
  let c0_i32_1948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1947 : BitVec 32 := 1#32
  let v1295 : BitVec 32 := Scalar.muli v24 c1_i32_1947
  let v1296 : BitVec 32 := Scalar.addi c0_i32_1948 v1295
  v1296.toNat
def k0_dev42 (d0 : Dev nD) : Nat :=
  let c0_i32_2011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2010 : BitVec 32 := 1#32
  let v1332 : BitVec 32 := Scalar.muli v24 c1_i32_2010
  let v1333 : BitVec 32 := Scalar.addi c0_i32_2011 v1332
  v1333.toNat
def k0_dev43 (d0 : Dev nD) : Nat :=
  let c0_i32_2074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2073 : BitVec 32 := 1#32
  let v1369 : BitVec 32 := Scalar.muli v24 c1_i32_2073
  let v1370 : BitVec 32 := Scalar.addi c0_i32_2074 v1369
  v1370.toNat
def k0_dev44 (d0 : Dev nD) : Nat :=
  let c0_i32_2137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2136 : BitVec 32 := 1#32
  let v1406 : BitVec 32 := Scalar.muli v24 c1_i32_2136
  let v1407 : BitVec 32 := Scalar.addi c0_i32_2137 v1406
  v1407.toNat
def k0_dev45 (d0 : Dev nD) : Nat :=
  let c0_i32_2144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2143 : BitVec 32 := 1#32
  let v1416 : BitVec 32 := Scalar.muli v13 c1_i32_2143
  let v1417 : BitVec 32 := Scalar.addi c0_i32_2144 v1416
  v1417.toNat
def k0_dev46 (d0 : Dev nD) : Nat :=
  let c0_i32_2205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2204 : BitVec 32 := 1#32
  let v1445 : BitVec 32 := Scalar.muli v13 c1_i32_2204
  let v1446 : BitVec 32 := Scalar.addi c0_i32_2205 v1445
  v1446.toNat
def k0_dev47 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2267 : BitVec 32 := 1#32
  let v1482 : BitVec 32 := Scalar.muli v13 c1_i32_2267
  let v1483 : BitVec 32 := Scalar.addi c0_i32_2268 v1482
  v1483.toNat
def k0_dev48 (d0 : Dev nD) : Nat :=
  let c0_i32_2331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2330 : BitVec 32 := 1#32
  let v1519 : BitVec 32 := Scalar.muli v13 c1_i32_2330
  let v1520 : BitVec 32 := Scalar.addi c0_i32_2331 v1519
  v1520.toNat
def k0_dev49 (d0 : Dev nD) : Nat :=
  let c0_i32_2394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2393 : BitVec 32 := 1#32
  let v1556 : BitVec 32 := Scalar.muli v13 c1_i32_2393
  let v1557 : BitVec 32 := Scalar.addi c0_i32_2394 v1556
  v1557.toNat
def k0_dev50 (d0 : Dev nD) : Nat :=
  let c0_i32_2401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2400 : BitVec 32 := 1#32
  let v1566 : BitVec 32 := Scalar.muli v24 c1_i32_2400
  let v1567 : BitVec 32 := Scalar.addi c0_i32_2401 v1566
  v1567.toNat
def k0_dev51 (d0 : Dev nD) : Nat :=
  let c0_i32_2492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2491 : BitVec 32 := 1#32
  let v1637 : BitVec 32 := Scalar.muli v24 c1_i32_2491
  let v1638 : BitVec 32 := Scalar.addi c0_i32_2492 v1637
  v1638.toNat
def k0_dev52 (d0 : Dev nD) : Nat :=
  let c0_i32_2555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2554 : BitVec 32 := 1#32
  let v1674 : BitVec 32 := Scalar.muli v24 c1_i32_2554
  let v1675 : BitVec 32 := Scalar.addi c0_i32_2555 v1674
  v1675.toNat
def k0_dev53 (d0 : Dev nD) : Nat :=
  let c0_i32_2618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2617 : BitVec 32 := 1#32
  let v1711 : BitVec 32 := Scalar.muli v24 c1_i32_2617
  let v1712 : BitVec 32 := Scalar.addi c0_i32_2618 v1711
  v1712.toNat
def k0_dev54 (d0 : Dev nD) : Nat :=
  let c0_i32_2681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2680 : BitVec 32 := 1#32
  let v1748 : BitVec 32 := Scalar.muli v24 c1_i32_2680
  let v1749 : BitVec 32 := Scalar.addi c0_i32_2681 v1748
  v1749.toNat
def k0_dev55 (d0 : Dev nD) : Nat :=
  let c0_i32_2688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2687 : BitVec 32 := 1#32
  let v1758 : BitVec 32 := Scalar.muli v13 c1_i32_2687
  let v1759 : BitVec 32 := Scalar.addi c0_i32_2688 v1758
  v1759.toNat
def k0_dev56 (d0 : Dev nD) : Nat :=
  let c0_i32_2749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2748 : BitVec 32 := 1#32
  let v1787 : BitVec 32 := Scalar.muli v13 c1_i32_2748
  let v1788 : BitVec 32 := Scalar.addi c0_i32_2749 v1787
  v1788.toNat
def k0_dev57 (d0 : Dev nD) : Nat :=
  let c0_i32_2812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2811 : BitVec 32 := 1#32
  let v1824 : BitVec 32 := Scalar.muli v13 c1_i32_2811
  let v1825 : BitVec 32 := Scalar.addi c0_i32_2812 v1824
  v1825.toNat
def k0_dev58 (d0 : Dev nD) : Nat :=
  let c0_i32_2875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2874 : BitVec 32 := 1#32
  let v1861 : BitVec 32 := Scalar.muli v13 c1_i32_2874
  let v1862 : BitVec 32 := Scalar.addi c0_i32_2875 v1861
  v1862.toNat
def k0_dev59 (d0 : Dev nD) : Nat :=
  let c0_i32_2938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2937 : BitVec 32 := 1#32
  let v1898 : BitVec 32 := Scalar.muli v13 c1_i32_2937
  let v1899 : BitVec 32 := Scalar.addi c0_i32_2938 v1898
  v1899.toNat
def k0_dev60 (d0 : Dev nD) : Nat :=
  let c0_i32_2945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2944 : BitVec 32 := 1#32
  let v1908 : BitVec 32 := Scalar.muli v24 c1_i32_2944
  let v1909 : BitVec 32 := Scalar.addi c0_i32_2945 v1908
  v1909.toNat
def k0_dev61 (d0 : Dev nD) : Nat :=
  let c0_i32_3036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3035 : BitVec 32 := 1#32
  let v1979 : BitVec 32 := Scalar.muli v24 c1_i32_3035
  let v1980 : BitVec 32 := Scalar.addi c0_i32_3036 v1979
  v1980.toNat
def k0_dev62 (d0 : Dev nD) : Nat :=
  let c0_i32_3099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3098 : BitVec 32 := 1#32
  let v2016 : BitVec 32 := Scalar.muli v24 c1_i32_3098
  let v2017 : BitVec 32 := Scalar.addi c0_i32_3099 v2016
  v2017.toNat
def k0_dev63 (d0 : Dev nD) : Nat :=
  let c0_i32_3162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3161 : BitVec 32 := 1#32
  let v2053 : BitVec 32 := Scalar.muli v24 c1_i32_3161
  let v2054 : BitVec 32 := Scalar.addi c0_i32_3162 v2053
  v2054.toNat
def k0_dev64 (d0 : Dev nD) : Nat :=
  let c0_i32_3225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3224 : BitVec 32 := 1#32
  let v2090 : BitVec 32 := Scalar.muli v24 c1_i32_3224
  let v2091 : BitVec 32 := Scalar.addi c0_i32_3225 v2090
  v2091.toNat
def k0_dev65 (d0 : Dev nD) : Nat :=
  let c0_i32_3232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3231 : BitVec 32 := 1#32
  let v2100 : BitVec 32 := Scalar.muli v13 c1_i32_3231
  let v2101 : BitVec 32 := Scalar.addi c0_i32_3232 v2100
  v2101.toNat
def k0_dev66 (d0 : Dev nD) : Nat :=
  let c0_i32_3293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3292 : BitVec 32 := 1#32
  let v2129 : BitVec 32 := Scalar.muli v13 c1_i32_3292
  let v2130 : BitVec 32 := Scalar.addi c0_i32_3293 v2129
  v2130.toNat
def k0_dev67 (d0 : Dev nD) : Nat :=
  let c0_i32_3356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3355 : BitVec 32 := 1#32
  let v2166 : BitVec 32 := Scalar.muli v13 c1_i32_3355
  let v2167 : BitVec 32 := Scalar.addi c0_i32_3356 v2166
  v2167.toNat
def k0_dev68 (d0 : Dev nD) : Nat :=
  let c0_i32_3419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3418 : BitVec 32 := 1#32
  let v2203 : BitVec 32 := Scalar.muli v13 c1_i32_3418
  let v2204 : BitVec 32 := Scalar.addi c0_i32_3419 v2203
  v2204.toNat
def k0_dev69 (d0 : Dev nD) : Nat :=
  let c0_i32_3482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3481 : BitVec 32 := 1#32
  let v2240 : BitVec 32 := Scalar.muli v13 c1_i32_3481
  let v2241 : BitVec 32 := Scalar.addi c0_i32_3482 v2240
  v2241.toNat
def k0_dev70 (d0 : Dev nD) : Nat :=
  let c0_i32_3489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3488 : BitVec 32 := 1#32
  let v2250 : BitVec 32 := Scalar.muli v24 c1_i32_3488
  let v2251 : BitVec 32 := Scalar.addi c0_i32_3489 v2250
  v2251.toNat
def k0_dev71 (d0 : Dev nD) : Nat :=
  let c0_i32_3580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3579 : BitVec 32 := 1#32
  let v2321 : BitVec 32 := Scalar.muli v24 c1_i32_3579
  let v2322 : BitVec 32 := Scalar.addi c0_i32_3580 v2321
  v2322.toNat
def k0_dev72 (d0 : Dev nD) : Nat :=
  let c0_i32_3643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3642 : BitVec 32 := 1#32
  let v2358 : BitVec 32 := Scalar.muli v24 c1_i32_3642
  let v2359 : BitVec 32 := Scalar.addi c0_i32_3643 v2358
  v2359.toNat
def k0_dev73 (d0 : Dev nD) : Nat :=
  let c0_i32_3706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3705 : BitVec 32 := 1#32
  let v2395 : BitVec 32 := Scalar.muli v24 c1_i32_3705
  let v2396 : BitVec 32 := Scalar.addi c0_i32_3706 v2395
  v2396.toNat
def k0_dev74 (d0 : Dev nD) : Nat :=
  let c0_i32_3769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3768 : BitVec 32 := 1#32
  let v2432 : BitVec 32 := Scalar.muli v24 c1_i32_3768
  let v2433 : BitVec 32 := Scalar.addi c0_i32_3769 v2432
  v2433.toNat
def k0_dev75 (d0 : Dev nD) : Nat :=
  let c0_i32_3776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3775 : BitVec 32 := 1#32
  let v2442 : BitVec 32 := Scalar.muli v13 c1_i32_3775
  let v2443 : BitVec 32 := Scalar.addi c0_i32_3776 v2442
  v2443.toNat
def k0_dev76 (d0 : Dev nD) : Nat :=
  let c0_i32_3837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3836 : BitVec 32 := 1#32
  let v2471 : BitVec 32 := Scalar.muli v13 c1_i32_3836
  let v2472 : BitVec 32 := Scalar.addi c0_i32_3837 v2471
  v2472.toNat
def k0_dev77 (d0 : Dev nD) : Nat :=
  let c0_i32_3900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3899 : BitVec 32 := 1#32
  let v2508 : BitVec 32 := Scalar.muli v13 c1_i32_3899
  let v2509 : BitVec 32 := Scalar.addi c0_i32_3900 v2508
  v2509.toNat
def k0_dev78 (d0 : Dev nD) : Nat :=
  let c0_i32_3963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3962 : BitVec 32 := 1#32
  let v2545 : BitVec 32 := Scalar.muli v13 c1_i32_3962
  let v2546 : BitVec 32 := Scalar.addi c0_i32_3963 v2545
  v2546.toNat
def k0_dev79 (d0 : Dev nD) : Nat :=
  let c0_i32_4026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4025 : BitVec 32 := 1#32
  let v2582 : BitVec 32 := Scalar.muli v13 c1_i32_4025
  let v2583 : BitVec 32 := Scalar.addi c0_i32_4026 v2582
  v2583.toNat
def k0_dev80 (d0 : Dev nD) : Nat :=
  let c0_i32_4033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4032 : BitVec 32 := 1#32
  let v2592 : BitVec 32 := Scalar.muli v24 c1_i32_4032
  let v2593 : BitVec 32 := Scalar.addi c0_i32_4033 v2592
  v2593.toNat
def k0_dev81 (d0 : Dev nD) : Nat :=
  let c0_i32_4124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4123 : BitVec 32 := 1#32
  let v2663 : BitVec 32 := Scalar.muli v24 c1_i32_4123
  let v2664 : BitVec 32 := Scalar.addi c0_i32_4124 v2663
  v2664.toNat
def k0_dev82 (d0 : Dev nD) : Nat :=
  let c0_i32_4187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4186 : BitVec 32 := 1#32
  let v2700 : BitVec 32 := Scalar.muli v24 c1_i32_4186
  let v2701 : BitVec 32 := Scalar.addi c0_i32_4187 v2700
  v2701.toNat
def k0_dev83 (d0 : Dev nD) : Nat :=
  let c0_i32_4250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4249 : BitVec 32 := 1#32
  let v2737 : BitVec 32 := Scalar.muli v24 c1_i32_4249
  let v2738 : BitVec 32 := Scalar.addi c0_i32_4250 v2737
  v2738.toNat
def k0_dev84 (d0 : Dev nD) : Nat :=
  let c0_i32_4313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4312 : BitVec 32 := 1#32
  let v2774 : BitVec 32 := Scalar.muli v24 c1_i32_4312
  let v2775 : BitVec 32 := Scalar.addi c0_i32_4313 v2774
  v2775.toNat
def k0_dev85 (d0 : Dev nD) : Nat :=
  let c0_i32_4320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4319 : BitVec 32 := 1#32
  let v2784 : BitVec 32 := Scalar.muli v13 c1_i32_4319
  let v2785 : BitVec 32 := Scalar.addi c0_i32_4320 v2784
  v2785.toNat
def k0_dev86 (d0 : Dev nD) : Nat :=
  let c0_i32_4381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4380 : BitVec 32 := 1#32
  let v2813 : BitVec 32 := Scalar.muli v13 c1_i32_4380
  let v2814 : BitVec 32 := Scalar.addi c0_i32_4381 v2813
  v2814.toNat
def k0_dev87 (d0 : Dev nD) : Nat :=
  let c0_i32_4444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4443 : BitVec 32 := 1#32
  let v2850 : BitVec 32 := Scalar.muli v13 c1_i32_4443
  let v2851 : BitVec 32 := Scalar.addi c0_i32_4444 v2850
  v2851.toNat
def k0_dev88 (d0 : Dev nD) : Nat :=
  let c0_i32_4507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4506 : BitVec 32 := 1#32
  let v2887 : BitVec 32 := Scalar.muli v13 c1_i32_4506
  let v2888 : BitVec 32 := Scalar.addi c0_i32_4507 v2887
  v2888.toNat
def k0_dev89 (d0 : Dev nD) : Nat :=
  let c0_i32_4570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4569 : BitVec 32 := 1#32
  let v2924 : BitVec 32 := Scalar.muli v13 c1_i32_4569
  let v2925 : BitVec 32 := Scalar.addi c0_i32_4570 v2924
  v2925.toNat
def k0_dev90 (d0 : Dev nD) : Nat :=
  let c0_i32_4577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4576 : BitVec 32 := 1#32
  let v2934 : BitVec 32 := Scalar.muli v24 c1_i32_4576
  let v2935 : BitVec 32 := Scalar.addi c0_i32_4577 v2934
  v2935.toNat
def k0_dev91 (d0 : Dev nD) : Nat :=
  let c0_i32_4668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4667 : BitVec 32 := 1#32
  let v3005 : BitVec 32 := Scalar.muli v24 c1_i32_4667
  let v3006 : BitVec 32 := Scalar.addi c0_i32_4668 v3005
  v3006.toNat
def k0_dev92 (d0 : Dev nD) : Nat :=
  let c0_i32_4731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4730 : BitVec 32 := 1#32
  let v3042 : BitVec 32 := Scalar.muli v24 c1_i32_4730
  let v3043 : BitVec 32 := Scalar.addi c0_i32_4731 v3042
  v3043.toNat
def k0_dev93 (d0 : Dev nD) : Nat :=
  let c0_i32_4794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4793 : BitVec 32 := 1#32
  let v3079 : BitVec 32 := Scalar.muli v24 c1_i32_4793
  let v3080 : BitVec 32 := Scalar.addi c0_i32_4794 v3079
  v3080.toNat
def k0_dev94 (d0 : Dev nD) : Nat :=
  let c0_i32_4857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4856 : BitVec 32 := 1#32
  let v3116 : BitVec 32 := Scalar.muli v24 c1_i32_4856
  let v3117 : BitVec 32 := Scalar.addi c0_i32_4857 v3116
  v3117.toNat
def k0_dev95 (d0 : Dev nD) : Nat :=
  let c0_i32_4864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4863 : BitVec 32 := 1#32
  let v3126 : BitVec 32 := Scalar.muli v13 c1_i32_4863
  let v3127 : BitVec 32 := Scalar.addi c0_i32_4864 v3126
  v3127.toNat
def k0_dev96 (d0 : Dev nD) : Nat :=
  let c0_i32_4925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4924 : BitVec 32 := 1#32
  let v3155 : BitVec 32 := Scalar.muli v13 c1_i32_4924
  let v3156 : BitVec 32 := Scalar.addi c0_i32_4925 v3155
  v3156.toNat
def k0_dev97 (d0 : Dev nD) : Nat :=
  let c0_i32_4988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4987 : BitVec 32 := 1#32
  let v3192 : BitVec 32 := Scalar.muli v13 c1_i32_4987
  let v3193 : BitVec 32 := Scalar.addi c0_i32_4988 v3192
  v3193.toNat
def k0_dev98 (d0 : Dev nD) : Nat :=
  let c0_i32_5051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5050 : BitVec 32 := 1#32
  let v3229 : BitVec 32 := Scalar.muli v13 c1_i32_5050
  let v3230 : BitVec 32 := Scalar.addi c0_i32_5051 v3229
  v3230.toNat
def k0_dev99 (d0 : Dev nD) : Nat :=
  let c0_i32_5114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5113 : BitVec 32 := 1#32
  let v3266 : BitVec 32 := Scalar.muli v13 c1_i32_5113
  let v3267 : BitVec 32 := Scalar.addi c0_i32_5114 v3266
  v3267.toNat
def k0_dev100 (d0 : Dev nD) : Nat :=
  let c0_i32_5121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5120 : BitVec 32 := 1#32
  let v3276 : BitVec 32 := Scalar.muli v24 c1_i32_5120
  let v3277 : BitVec 32 := Scalar.addi c0_i32_5121 v3276
  v3277.toNat
def k0_dev101 (d0 : Dev nD) : Nat :=
  let c0_i32_5212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5211 : BitVec 32 := 1#32
  let v3347 : BitVec 32 := Scalar.muli v24 c1_i32_5211
  let v3348 : BitVec 32 := Scalar.addi c0_i32_5212 v3347
  v3348.toNat
def k0_dev102 (d0 : Dev nD) : Nat :=
  let c0_i32_5275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5274 : BitVec 32 := 1#32
  let v3384 : BitVec 32 := Scalar.muli v24 c1_i32_5274
  let v3385 : BitVec 32 := Scalar.addi c0_i32_5275 v3384
  v3385.toNat
def k0_dev103 (d0 : Dev nD) : Nat :=
  let c0_i32_5338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5337 : BitVec 32 := 1#32
  let v3421 : BitVec 32 := Scalar.muli v24 c1_i32_5337
  let v3422 : BitVec 32 := Scalar.addi c0_i32_5338 v3421
  v3422.toNat
def k0_dev104 (d0 : Dev nD) : Nat :=
  let c0_i32_5401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5400 : BitVec 32 := 1#32
  let v3458 : BitVec 32 := Scalar.muli v24 c1_i32_5400
  let v3459 : BitVec 32 := Scalar.addi c0_i32_5401 v3458
  v3459.toNat
def k0_dev105 (d0 : Dev nD) : Nat :=
  let c0_i32_5408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5407 : BitVec 32 := 1#32
  let v3468 : BitVec 32 := Scalar.muli v13 c1_i32_5407
  let v3469 : BitVec 32 := Scalar.addi c0_i32_5408 v3468
  v3469.toNat
def k0_dev106 (d0 : Dev nD) : Nat :=
  let c0_i32_5469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5468 : BitVec 32 := 1#32
  let v3497 : BitVec 32 := Scalar.muli v13 c1_i32_5468
  let v3498 : BitVec 32 := Scalar.addi c0_i32_5469 v3497
  v3498.toNat
def k0_dev107 (d0 : Dev nD) : Nat :=
  let c0_i32_5532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5531 : BitVec 32 := 1#32
  let v3534 : BitVec 32 := Scalar.muli v13 c1_i32_5531
  let v3535 : BitVec 32 := Scalar.addi c0_i32_5532 v3534
  v3535.toNat
def k0_dev108 (d0 : Dev nD) : Nat :=
  let c0_i32_5595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5594 : BitVec 32 := 1#32
  let v3571 : BitVec 32 := Scalar.muli v13 c1_i32_5594
  let v3572 : BitVec 32 := Scalar.addi c0_i32_5595 v3571
  v3572.toNat
def k0_dev109 (d0 : Dev nD) : Nat :=
  let c0_i32_5658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5657 : BitVec 32 := 1#32
  let v3608 : BitVec 32 := Scalar.muli v13 c1_i32_5657
  let v3609 : BitVec 32 := Scalar.addi c0_i32_5658 v3608
  v3609.toNat
def k0_dev110 (d0 : Dev nD) : Nat :=
  let c0_i32_5665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5664 : BitVec 32 := 1#32
  let v3618 : BitVec 32 := Scalar.muli v24 c1_i32_5664
  let v3619 : BitVec 32 := Scalar.addi c0_i32_5665 v3618
  v3619.toNat
def k0_dev111 (d0 : Dev nD) : Nat :=
  let c0_i32_5756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5755 : BitVec 32 := 1#32
  let v3689 : BitVec 32 := Scalar.muli v24 c1_i32_5755
  let v3690 : BitVec 32 := Scalar.addi c0_i32_5756 v3689
  v3690.toNat
def k0_dev112 (d0 : Dev nD) : Nat :=
  let c0_i32_5819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5818 : BitVec 32 := 1#32
  let v3726 : BitVec 32 := Scalar.muli v24 c1_i32_5818
  let v3727 : BitVec 32 := Scalar.addi c0_i32_5819 v3726
  v3727.toNat
def k0_dev113 (d0 : Dev nD) : Nat :=
  let c0_i32_5882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5881 : BitVec 32 := 1#32
  let v3763 : BitVec 32 := Scalar.muli v24 c1_i32_5881
  let v3764 : BitVec 32 := Scalar.addi c0_i32_5882 v3763
  v3764.toNat
def k0_dev114 (d0 : Dev nD) : Nat :=
  let c0_i32_5945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5944 : BitVec 32 := 1#32
  let v3800 : BitVec 32 := Scalar.muli v24 c1_i32_5944
  let v3801 : BitVec 32 := Scalar.addi c0_i32_5945 v3800
  v3801.toNat
def k0_dev115 (d0 : Dev nD) : Nat :=
  let c0_i32_5952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5951 : BitVec 32 := 1#32
  let v3810 : BitVec 32 := Scalar.muli v13 c1_i32_5951
  let v3811 : BitVec 32 := Scalar.addi c0_i32_5952 v3810
  v3811.toNat
def k0_dev116 (d0 : Dev nD) : Nat :=
  let c0_i32_6013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6012 : BitVec 32 := 1#32
  let v3839 : BitVec 32 := Scalar.muli v13 c1_i32_6012
  let v3840 : BitVec 32 := Scalar.addi c0_i32_6013 v3839
  v3840.toNat
def k0_dev117 (d0 : Dev nD) : Nat :=
  let c0_i32_6076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6075 : BitVec 32 := 1#32
  let v3876 : BitVec 32 := Scalar.muli v13 c1_i32_6075
  let v3877 : BitVec 32 := Scalar.addi c0_i32_6076 v3876
  v3877.toNat
def k0_dev118 (d0 : Dev nD) : Nat :=
  let c0_i32_6139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6138 : BitVec 32 := 1#32
  let v3913 : BitVec 32 := Scalar.muli v13 c1_i32_6138
  let v3914 : BitVec 32 := Scalar.addi c0_i32_6139 v3913
  v3914.toNat
def k0_dev119 (d0 : Dev nD) : Nat :=
  let c0_i32_6202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6201 : BitVec 32 := 1#32
  let v3950 : BitVec 32 := Scalar.muli v13 c1_i32_6201
  let v3951 : BitVec 32 := Scalar.addi c0_i32_6202 v3950
  v3951.toNat
def k0_dev120 (d0 : Dev nD) : Nat :=
  let c0_i32_6209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6208 : BitVec 32 := 1#32
  let v3960 : BitVec 32 := Scalar.muli v24 c1_i32_6208
  let v3961 : BitVec 32 := Scalar.addi c0_i32_6209 v3960
  v3961.toNat
def k0_dev121 (d0 : Dev nD) : Nat :=
  let c0_i32_6300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6299 : BitVec 32 := 1#32
  let v4031 : BitVec 32 := Scalar.muli v24 c1_i32_6299
  let v4032 : BitVec 32 := Scalar.addi c0_i32_6300 v4031
  v4032.toNat
def k0_dev122 (d0 : Dev nD) : Nat :=
  let c0_i32_6363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6362 : BitVec 32 := 1#32
  let v4068 : BitVec 32 := Scalar.muli v24 c1_i32_6362
  let v4069 : BitVec 32 := Scalar.addi c0_i32_6363 v4068
  v4069.toNat
def k0_dev123 (d0 : Dev nD) : Nat :=
  let c0_i32_6426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6425 : BitVec 32 := 1#32
  let v4105 : BitVec 32 := Scalar.muli v24 c1_i32_6425
  let v4106 : BitVec 32 := Scalar.addi c0_i32_6426 v4105
  v4106.toNat
def k0_dev124 (d0 : Dev nD) : Nat :=
  let c0_i32_6489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6488 : BitVec 32 := 1#32
  let v4142 : BitVec 32 := Scalar.muli v24 c1_i32_6488
  let v4143 : BitVec 32 := Scalar.addi c0_i32_6489 v4142
  v4143.toNat
def k0_dev125 (d0 : Dev nD) : Nat :=
  let c0_i32_6496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6495 : BitVec 32 := 1#32
  let v4152 : BitVec 32 := Scalar.muli v13 c1_i32_6495
  let v4153 : BitVec 32 := Scalar.addi c0_i32_6496 v4152
  v4153.toNat
def k0_dev126 (d0 : Dev nD) : Nat :=
  let c0_i32_6557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6556 : BitVec 32 := 1#32
  let v4181 : BitVec 32 := Scalar.muli v13 c1_i32_6556
  let v4182 : BitVec 32 := Scalar.addi c0_i32_6557 v4181
  v4182.toNat
def k0_dev127 (d0 : Dev nD) : Nat :=
  let c0_i32_6620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6619 : BitVec 32 := 1#32
  let v4218 : BitVec 32 := Scalar.muli v13 c1_i32_6619
  let v4219 : BitVec 32 := Scalar.addi c0_i32_6620 v4218
  v4219.toNat
def k0_dev128 (d0 : Dev nD) : Nat :=
  let c0_i32_6683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6682 : BitVec 32 := 1#32
  let v4255 : BitVec 32 := Scalar.muli v13 c1_i32_6682
  let v4256 : BitVec 32 := Scalar.addi c0_i32_6683 v4255
  v4256.toNat
def k0_dev129 (d0 : Dev nD) : Nat :=
  let c0_i32_6746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6745 : BitVec 32 := 1#32
  let v4292 : BitVec 32 := Scalar.muli v13 c1_i32_6745
  let v4293 : BitVec 32 := Scalar.addi c0_i32_6746 v4292
  v4293.toNat
def k0_dev130 (d0 : Dev nD) : Nat :=
  let c0_i32_6753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6752 : BitVec 32 := 1#32
  let v4302 : BitVec 32 := Scalar.muli v24 c1_i32_6752
  let v4303 : BitVec 32 := Scalar.addi c0_i32_6753 v4302
  v4303.toNat
def k0_dev131 (d0 : Dev nD) : Nat :=
  let c0_i32_6844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6843 : BitVec 32 := 1#32
  let v4373 : BitVec 32 := Scalar.muli v24 c1_i32_6843
  let v4374 : BitVec 32 := Scalar.addi c0_i32_6844 v4373
  v4374.toNat
def k0_dev132 (d0 : Dev nD) : Nat :=
  let c0_i32_6907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6906 : BitVec 32 := 1#32
  let v4410 : BitVec 32 := Scalar.muli v24 c1_i32_6906
  let v4411 : BitVec 32 := Scalar.addi c0_i32_6907 v4410
  v4411.toNat
def k0_dev133 (d0 : Dev nD) : Nat :=
  let c0_i32_6970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6969 : BitVec 32 := 1#32
  let v4447 : BitVec 32 := Scalar.muli v24 c1_i32_6969
  let v4448 : BitVec 32 := Scalar.addi c0_i32_6970 v4447
  v4448.toNat
def k0_dev134 (d0 : Dev nD) : Nat :=
  let c0_i32_7033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7032 : BitVec 32 := 1#32
  let v4484 : BitVec 32 := Scalar.muli v24 c1_i32_7032
  let v4485 : BitVec 32 := Scalar.addi c0_i32_7033 v4484
  v4485.toNat
def k0_dev135 (d0 : Dev nD) : Nat :=
  let c0_i32_7040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7039 : BitVec 32 := 1#32
  let v4494 : BitVec 32 := Scalar.muli v13 c1_i32_7039
  let v4495 : BitVec 32 := Scalar.addi c0_i32_7040 v4494
  v4495.toNat
def k0_dev136 (d0 : Dev nD) : Nat :=
  let c0_i32_7101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7100 : BitVec 32 := 1#32
  let v4523 : BitVec 32 := Scalar.muli v13 c1_i32_7100
  let v4524 : BitVec 32 := Scalar.addi c0_i32_7101 v4523
  v4524.toNat
def k0_dev137 (d0 : Dev nD) : Nat :=
  let c0_i32_7164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7163 : BitVec 32 := 1#32
  let v4560 : BitVec 32 := Scalar.muli v13 c1_i32_7163
  let v4561 : BitVec 32 := Scalar.addi c0_i32_7164 v4560
  v4561.toNat
def k0_dev138 (d0 : Dev nD) : Nat :=
  let c0_i32_7227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7226 : BitVec 32 := 1#32
  let v4597 : BitVec 32 := Scalar.muli v13 c1_i32_7226
  let v4598 : BitVec 32 := Scalar.addi c0_i32_7227 v4597
  v4598.toNat
def k0_dev139 (d0 : Dev nD) : Nat :=
  let c0_i32_7290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7289 : BitVec 32 := 1#32
  let v4634 : BitVec 32 := Scalar.muli v13 c1_i32_7289
  let v4635 : BitVec 32 := Scalar.addi c0_i32_7290 v4634
  v4635.toNat
def k0_dev140 (d0 : Dev nD) : Nat :=
  let c0_i32_7297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7296 : BitVec 32 := 1#32
  let v4644 : BitVec 32 := Scalar.muli v24 c1_i32_7296
  let v4645 : BitVec 32 := Scalar.addi c0_i32_7297 v4644
  v4645.toNat
def k0_dev141 (d0 : Dev nD) : Nat :=
  let c0_i32_7388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7387 : BitVec 32 := 1#32
  let v4715 : BitVec 32 := Scalar.muli v24 c1_i32_7387
  let v4716 : BitVec 32 := Scalar.addi c0_i32_7388 v4715
  v4716.toNat
def k0_dev142 (d0 : Dev nD) : Nat :=
  let c0_i32_7451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7450 : BitVec 32 := 1#32
  let v4752 : BitVec 32 := Scalar.muli v24 c1_i32_7450
  let v4753 : BitVec 32 := Scalar.addi c0_i32_7451 v4752
  v4753.toNat
def k0_dev143 (d0 : Dev nD) : Nat :=
  let c0_i32_7514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7513 : BitVec 32 := 1#32
  let v4789 : BitVec 32 := Scalar.muli v24 c1_i32_7513
  let v4790 : BitVec 32 := Scalar.addi c0_i32_7514 v4789
  v4790.toNat
def k0_dev144 (d0 : Dev nD) : Nat :=
  let c0_i32_7577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7576 : BitVec 32 := 1#32
  let v4826 : BitVec 32 := Scalar.muli v24 c1_i32_7576
  let v4827 : BitVec 32 := Scalar.addi c0_i32_7577 v4826
  v4827.toNat
def k0_dev145 (d0 : Dev nD) : Nat :=
  let c0_i32_7584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7583 : BitVec 32 := 1#32
  let v4836 : BitVec 32 := Scalar.muli v13 c1_i32_7583
  let v4837 : BitVec 32 := Scalar.addi c0_i32_7584 v4836
  v4837.toNat
def k0_dev146 (d0 : Dev nD) : Nat :=
  let c0_i32_7645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7644 : BitVec 32 := 1#32
  let v4865 : BitVec 32 := Scalar.muli v13 c1_i32_7644
  let v4866 : BitVec 32 := Scalar.addi c0_i32_7645 v4865
  v4866.toNat
def k0_dev147 (d0 : Dev nD) : Nat :=
  let c0_i32_7708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7707 : BitVec 32 := 1#32
  let v4902 : BitVec 32 := Scalar.muli v13 c1_i32_7707
  let v4903 : BitVec 32 := Scalar.addi c0_i32_7708 v4902
  v4903.toNat
def k0_dev148 (d0 : Dev nD) : Nat :=
  let c0_i32_7771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7770 : BitVec 32 := 1#32
  let v4939 : BitVec 32 := Scalar.muli v13 c1_i32_7770
  let v4940 : BitVec 32 := Scalar.addi c0_i32_7771 v4939
  v4940.toNat
def k0_dev149 (d0 : Dev nD) : Nat :=
  let c0_i32_7834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7833 : BitVec 32 := 1#32
  let v4976 : BitVec 32 := Scalar.muli v13 c1_i32_7833
  let v4977 : BitVec 32 := Scalar.addi c0_i32_7834 v4976
  v4977.toNat
def k0_dev150 (d0 : Dev nD) : Nat :=
  let c0_i32_7841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7840 : BitVec 32 := 1#32
  let v4986 : BitVec 32 := Scalar.muli v24 c1_i32_7840
  let v4987 : BitVec 32 := Scalar.addi c0_i32_7841 v4986
  v4987.toNat
def k0_dev151 (d0 : Dev nD) : Nat :=
  let c0_i32_7932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7931 : BitVec 32 := 1#32
  let v5057 : BitVec 32 := Scalar.muli v24 c1_i32_7931
  let v5058 : BitVec 32 := Scalar.addi c0_i32_7932 v5057
  v5058.toNat
def k0_dev152 (d0 : Dev nD) : Nat :=
  let c0_i32_7995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7994 : BitVec 32 := 1#32
  let v5094 : BitVec 32 := Scalar.muli v24 c1_i32_7994
  let v5095 : BitVec 32 := Scalar.addi c0_i32_7995 v5094
  v5095.toNat
def k0_dev153 (d0 : Dev nD) : Nat :=
  let c0_i32_8058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8057 : BitVec 32 := 1#32
  let v5131 : BitVec 32 := Scalar.muli v24 c1_i32_8057
  let v5132 : BitVec 32 := Scalar.addi c0_i32_8058 v5131
  v5132.toNat
def k0_dev154 (d0 : Dev nD) : Nat :=
  let c0_i32_8121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8120 : BitVec 32 := 1#32
  let v5168 : BitVec 32 := Scalar.muli v24 c1_i32_8120
  let v5169 : BitVec 32 := Scalar.addi c0_i32_8121 v5168
  v5169.toNat
def k0_dev155 (d0 : Dev nD) : Nat :=
  let c0_i32_8128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8127 : BitVec 32 := 1#32
  let v5178 : BitVec 32 := Scalar.muli v13 c1_i32_8127
  let v5179 : BitVec 32 := Scalar.addi c0_i32_8128 v5178
  v5179.toNat
def k0_dev156 (d0 : Dev nD) : Nat :=
  let c0_i32_8189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8188 : BitVec 32 := 1#32
  let v5207 : BitVec 32 := Scalar.muli v13 c1_i32_8188
  let v5208 : BitVec 32 := Scalar.addi c0_i32_8189 v5207
  v5208.toNat
def k0_dev157 (d0 : Dev nD) : Nat :=
  let c0_i32_8252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8251 : BitVec 32 := 1#32
  let v5244 : BitVec 32 := Scalar.muli v13 c1_i32_8251
  let v5245 : BitVec 32 := Scalar.addi c0_i32_8252 v5244
  v5245.toNat
def k0_dev158 (d0 : Dev nD) : Nat :=
  let c0_i32_8315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8314 : BitVec 32 := 1#32
  let v5281 : BitVec 32 := Scalar.muli v13 c1_i32_8314
  let v5282 : BitVec 32 := Scalar.addi c0_i32_8315 v5281
  v5282.toNat
def k0_dev159 (d0 : Dev nD) : Nat :=
  let c0_i32_8378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8377 : BitVec 32 := 1#32
  let v5318 : BitVec 32 := Scalar.muli v13 c1_i32_8377
  let v5319 : BitVec 32 := Scalar.addi c0_i32_8378 v5318
  v5319.toNat
def k0_dev160 (d0 : Dev nD) : Nat :=
  let c0_i32_8385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8384 : BitVec 32 := 1#32
  let v5328 : BitVec 32 := Scalar.muli v24 c1_i32_8384
  let v5329 : BitVec 32 := Scalar.addi c0_i32_8385 v5328
  v5329.toNat
def k0_dev161 (d0 : Dev nD) : Nat :=
  let c0_i32_8476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8475 : BitVec 32 := 1#32
  let v5399 : BitVec 32 := Scalar.muli v24 c1_i32_8475
  let v5400 : BitVec 32 := Scalar.addi c0_i32_8476 v5399
  v5400.toNat
def k0_dev162 (d0 : Dev nD) : Nat :=
  let c0_i32_8539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8538 : BitVec 32 := 1#32
  let v5436 : BitVec 32 := Scalar.muli v24 c1_i32_8538
  let v5437 : BitVec 32 := Scalar.addi c0_i32_8539 v5436
  v5437.toNat
def k0_dev163 (d0 : Dev nD) : Nat :=
  let c0_i32_8602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8601 : BitVec 32 := 1#32
  let v5473 : BitVec 32 := Scalar.muli v24 c1_i32_8601
  let v5474 : BitVec 32 := Scalar.addi c0_i32_8602 v5473
  v5474.toNat
def k0_dev164 (d0 : Dev nD) : Nat :=
  let c0_i32_8665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8664 : BitVec 32 := 1#32
  let v5510 : BitVec 32 := Scalar.muli v24 c1_i32_8664
  let v5511 : BitVec 32 := Scalar.addi c0_i32_8665 v5510
  v5511.toNat
def k0_dev165 (d0 : Dev nD) : Nat :=
  let c0_i32_8672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8671 : BitVec 32 := 1#32
  let v5520 : BitVec 32 := Scalar.muli v13 c1_i32_8671
  let v5521 : BitVec 32 := Scalar.addi c0_i32_8672 v5520
  v5521.toNat
def k0_dev166 (d0 : Dev nD) : Nat :=
  let c0_i32_8733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8732 : BitVec 32 := 1#32
  let v5549 : BitVec 32 := Scalar.muli v13 c1_i32_8732
  let v5550 : BitVec 32 := Scalar.addi c0_i32_8733 v5549
  v5550.toNat
def k0_dev167 (d0 : Dev nD) : Nat :=
  let c0_i32_8796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8795 : BitVec 32 := 1#32
  let v5586 : BitVec 32 := Scalar.muli v13 c1_i32_8795
  let v5587 : BitVec 32 := Scalar.addi c0_i32_8796 v5586
  v5587.toNat
def k0_dev168 (d0 : Dev nD) : Nat :=
  let c0_i32_8859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8858 : BitVec 32 := 1#32
  let v5623 : BitVec 32 := Scalar.muli v13 c1_i32_8858
  let v5624 : BitVec 32 := Scalar.addi c0_i32_8859 v5623
  v5624.toNat
def k0_dev169 (d0 : Dev nD) : Nat :=
  let c0_i32_8922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8921 : BitVec 32 := 1#32
  let v5660 : BitVec 32 := Scalar.muli v13 c1_i32_8921
  let v5661 : BitVec 32 := Scalar.addi c0_i32_8922 v5660
  v5661.toNat
def k0_dev170 (d0 : Dev nD) : Nat :=
  let c0_i32_8929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8928 : BitVec 32 := 1#32
  let v5670 : BitVec 32 := Scalar.muli v24 c1_i32_8928
  let v5671 : BitVec 32 := Scalar.addi c0_i32_8929 v5670
  v5671.toNat
def k0_dev171 (d0 : Dev nD) : Nat :=
  let c0_i32_9020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9019 : BitVec 32 := 1#32
  let v5741 : BitVec 32 := Scalar.muli v24 c1_i32_9019
  let v5742 : BitVec 32 := Scalar.addi c0_i32_9020 v5741
  v5742.toNat
def k0_dev172 (d0 : Dev nD) : Nat :=
  let c0_i32_9083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9082 : BitVec 32 := 1#32
  let v5778 : BitVec 32 := Scalar.muli v24 c1_i32_9082
  let v5779 : BitVec 32 := Scalar.addi c0_i32_9083 v5778
  v5779.toNat
def k0_dev173 (d0 : Dev nD) : Nat :=
  let c0_i32_9146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9145 : BitVec 32 := 1#32
  let v5815 : BitVec 32 := Scalar.muli v24 c1_i32_9145
  let v5816 : BitVec 32 := Scalar.addi c0_i32_9146 v5815
  v5816.toNat
def k0_dev174 (d0 : Dev nD) : Nat :=
  let c0_i32_9209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9208 : BitVec 32 := 1#32
  let v5852 : BitVec 32 := Scalar.muli v24 c1_i32_9208
  let v5853 : BitVec 32 := Scalar.addi c0_i32_9209 v5852
  v5853.toNat
def k0_dev175 (d0 : Dev nD) : Nat :=
  let c0_i32_9216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9215 : BitVec 32 := 1#32
  let v5862 : BitVec 32 := Scalar.muli v13 c1_i32_9215
  let v5863 : BitVec 32 := Scalar.addi c0_i32_9216 v5862
  v5863.toNat
def k0_dev176 (d0 : Dev nD) : Nat :=
  let c0_i32_9277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9276 : BitVec 32 := 1#32
  let v5891 : BitVec 32 := Scalar.muli v13 c1_i32_9276
  let v5892 : BitVec 32 := Scalar.addi c0_i32_9277 v5891
  v5892.toNat
def k0_dev177 (d0 : Dev nD) : Nat :=
  let c0_i32_9340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9339 : BitVec 32 := 1#32
  let v5928 : BitVec 32 := Scalar.muli v13 c1_i32_9339
  let v5929 : BitVec 32 := Scalar.addi c0_i32_9340 v5928
  v5929.toNat
def k0_dev178 (d0 : Dev nD) : Nat :=
  let c0_i32_9403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9402 : BitVec 32 := 1#32
  let v5965 : BitVec 32 := Scalar.muli v13 c1_i32_9402
  let v5966 : BitVec 32 := Scalar.addi c0_i32_9403 v5965
  v5966.toNat
def k0_dev179 (d0 : Dev nD) : Nat :=
  let c0_i32_9466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9465 : BitVec 32 := 1#32
  let v6002 : BitVec 32 := Scalar.muli v13 c1_i32_9465
  let v6003 : BitVec 32 := Scalar.addi c0_i32_9466 v6002
  v6003.toNat
def k0_dev180 (d0 : Dev nD) : Nat :=
  let c0_i32_9473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9472 : BitVec 32 := 1#32
  let v6012 : BitVec 32 := Scalar.muli v24 c1_i32_9472
  let v6013 : BitVec 32 := Scalar.addi c0_i32_9473 v6012
  v6013.toNat
def k0_dev181 (d0 : Dev nD) : Nat :=
  let c0_i32_9564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9563 : BitVec 32 := 1#32
  let v6083 : BitVec 32 := Scalar.muli v24 c1_i32_9563
  let v6084 : BitVec 32 := Scalar.addi c0_i32_9564 v6083
  v6084.toNat
def k0_dev182 (d0 : Dev nD) : Nat :=
  let c0_i32_9627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9626 : BitVec 32 := 1#32
  let v6120 : BitVec 32 := Scalar.muli v24 c1_i32_9626
  let v6121 : BitVec 32 := Scalar.addi c0_i32_9627 v6120
  v6121.toNat
def k0_dev183 (d0 : Dev nD) : Nat :=
  let c0_i32_9690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9689 : BitVec 32 := 1#32
  let v6157 : BitVec 32 := Scalar.muli v24 c1_i32_9689
  let v6158 : BitVec 32 := Scalar.addi c0_i32_9690 v6157
  v6158.toNat
def k0_dev184 (d0 : Dev nD) : Nat :=
  let c0_i32_9753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9752 : BitVec 32 := 1#32
  let v6194 : BitVec 32 := Scalar.muli v24 c1_i32_9752
  let v6195 : BitVec 32 := Scalar.addi c0_i32_9753 v6194
  v6195.toNat
def k0_dev185 (d0 : Dev nD) : Nat :=
  let c0_i32_9760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9759 : BitVec 32 := 1#32
  let v6204 : BitVec 32 := Scalar.muli v13 c1_i32_9759
  let v6205 : BitVec 32 := Scalar.addi c0_i32_9760 v6204
  v6205.toNat
def k0_dev186 (d0 : Dev nD) : Nat :=
  let c0_i32_9821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9820 : BitVec 32 := 1#32
  let v6233 : BitVec 32 := Scalar.muli v13 c1_i32_9820
  let v6234 : BitVec 32 := Scalar.addi c0_i32_9821 v6233
  v6234.toNat
def k0_dev187 (d0 : Dev nD) : Nat :=
  let c0_i32_9884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9883 : BitVec 32 := 1#32
  let v6270 : BitVec 32 := Scalar.muli v13 c1_i32_9883
  let v6271 : BitVec 32 := Scalar.addi c0_i32_9884 v6270
  v6271.toNat
def k0_dev188 (d0 : Dev nD) : Nat :=
  let c0_i32_9947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9946 : BitVec 32 := 1#32
  let v6307 : BitVec 32 := Scalar.muli v13 c1_i32_9946
  let v6308 : BitVec 32 := Scalar.addi c0_i32_9947 v6307
  v6308.toNat
def k0_dev189 (d0 : Dev nD) : Nat :=
  let c0_i32_10010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10009 : BitVec 32 := 1#32
  let v6344 : BitVec 32 := Scalar.muli v13 c1_i32_10009
  let v6345 : BitVec 32 := Scalar.addi c0_i32_10010 v6344
  v6345.toNat
def k0_dev190 (d0 : Dev nD) : Nat :=
  let c0_i32_10017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10016 : BitVec 32 := 1#32
  let v6354 : BitVec 32 := Scalar.muli v24 c1_i32_10016
  let v6355 : BitVec 32 := Scalar.addi c0_i32_10017 v6354
  v6355.toNat
def k0_dev191 (d0 : Dev nD) : Nat :=
  let c0_i32_10108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10107 : BitVec 32 := 1#32
  let v6425 : BitVec 32 := Scalar.muli v24 c1_i32_10107
  let v6426 : BitVec 32 := Scalar.addi c0_i32_10108 v6425
  v6426.toNat
def k0_dev192 (d0 : Dev nD) : Nat :=
  let c0_i32_10171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10170 : BitVec 32 := 1#32
  let v6462 : BitVec 32 := Scalar.muli v24 c1_i32_10170
  let v6463 : BitVec 32 := Scalar.addi c0_i32_10171 v6462
  v6463.toNat
def k0_dev193 (d0 : Dev nD) : Nat :=
  let c0_i32_10234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10233 : BitVec 32 := 1#32
  let v6499 : BitVec 32 := Scalar.muli v24 c1_i32_10233
  let v6500 : BitVec 32 := Scalar.addi c0_i32_10234 v6499
  v6500.toNat
def k0_dev194 (d0 : Dev nD) : Nat :=
  let c0_i32_10297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10296 : BitVec 32 := 1#32
  let v6536 : BitVec 32 := Scalar.muli v24 c1_i32_10296
  let v6537 : BitVec 32 := Scalar.addi c0_i32_10297 v6536
  v6537.toNat
def k0_dev195 (d0 : Dev nD) : Nat :=
  let c0_i32_10304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10303 : BitVec 32 := 1#32
  let v6546 : BitVec 32 := Scalar.muli v13 c1_i32_10303
  let v6547 : BitVec 32 := Scalar.addi c0_i32_10304 v6546
  v6547.toNat
def k0_dev196 (d0 : Dev nD) : Nat :=
  let c0_i32_10365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10364 : BitVec 32 := 1#32
  let v6575 : BitVec 32 := Scalar.muli v13 c1_i32_10364
  let v6576 : BitVec 32 := Scalar.addi c0_i32_10365 v6575
  v6576.toNat
def k0_dev197 (d0 : Dev nD) : Nat :=
  let c0_i32_10428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10427 : BitVec 32 := 1#32
  let v6612 : BitVec 32 := Scalar.muli v13 c1_i32_10427
  let v6613 : BitVec 32 := Scalar.addi c0_i32_10428 v6612
  v6613.toNat
def k0_dev198 (d0 : Dev nD) : Nat :=
  let c0_i32_10491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10490 : BitVec 32 := 1#32
  let v6649 : BitVec 32 := Scalar.muli v13 c1_i32_10490
  let v6650 : BitVec 32 := Scalar.addi c0_i32_10491 v6649
  v6650.toNat
def k0_dev199 (d0 : Dev nD) : Nat :=
  let c0_i32_10554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10553 : BitVec 32 := 1#32
  let v6686 : BitVec 32 := Scalar.muli v13 c1_i32_10553
  let v6687 : BitVec 32 := Scalar.addi c0_i32_10554 v6686
  v6687.toNat
def k0_dev200 (d0 : Dev nD) : Nat :=
  let c0_i32_10561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10560 : BitVec 32 := 1#32
  let v6696 : BitVec 32 := Scalar.muli v24 c1_i32_10560
  let v6697 : BitVec 32 := Scalar.addi c0_i32_10561 v6696
  v6697.toNat
def k0_dev201 (d0 : Dev nD) : Nat :=
  let c0_i32_10652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10651 : BitVec 32 := 1#32
  let v6767 : BitVec 32 := Scalar.muli v24 c1_i32_10651
  let v6768 : BitVec 32 := Scalar.addi c0_i32_10652 v6767
  v6768.toNat
def k0_dev202 (d0 : Dev nD) : Nat :=
  let c0_i32_10715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10714 : BitVec 32 := 1#32
  let v6804 : BitVec 32 := Scalar.muli v24 c1_i32_10714
  let v6805 : BitVec 32 := Scalar.addi c0_i32_10715 v6804
  v6805.toNat
def k0_dev203 (d0 : Dev nD) : Nat :=
  let c0_i32_10778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10777 : BitVec 32 := 1#32
  let v6841 : BitVec 32 := Scalar.muli v24 c1_i32_10777
  let v6842 : BitVec 32 := Scalar.addi c0_i32_10778 v6841
  v6842.toNat
def k0_dev204 (d0 : Dev nD) : Nat :=
  let c0_i32_10841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10840 : BitVec 32 := 1#32
  let v6878 : BitVec 32 := Scalar.muli v24 c1_i32_10840
  let v6879 : BitVec 32 := Scalar.addi c0_i32_10841 v6878
  v6879.toNat
def k0_dev205 (d0 : Dev nD) : Nat :=
  let c0_i32_10848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10847 : BitVec 32 := 1#32
  let v6888 : BitVec 32 := Scalar.muli v13 c1_i32_10847
  let v6889 : BitVec 32 := Scalar.addi c0_i32_10848 v6888
  v6889.toNat
def k0_dev206 (d0 : Dev nD) : Nat :=
  let c0_i32_10909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10908 : BitVec 32 := 1#32
  let v6917 : BitVec 32 := Scalar.muli v13 c1_i32_10908
  let v6918 : BitVec 32 := Scalar.addi c0_i32_10909 v6917
  v6918.toNat
def k0_dev207 (d0 : Dev nD) : Nat :=
  let c0_i32_10972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10971 : BitVec 32 := 1#32
  let v6954 : BitVec 32 := Scalar.muli v13 c1_i32_10971
  let v6955 : BitVec 32 := Scalar.addi c0_i32_10972 v6954
  v6955.toNat
def k0_dev208 (d0 : Dev nD) : Nat :=
  let c0_i32_11035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11034 : BitVec 32 := 1#32
  let v6991 : BitVec 32 := Scalar.muli v13 c1_i32_11034
  let v6992 : BitVec 32 := Scalar.addi c0_i32_11035 v6991
  v6992.toNat
def k0_dev209 (d0 : Dev nD) : Nat :=
  let c0_i32_11098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11097 : BitVec 32 := 1#32
  let v7028 : BitVec 32 := Scalar.muli v13 c1_i32_11097
  let v7029 : BitVec 32 := Scalar.addi c0_i32_11098 v7028
  v7029.toNat
def k0_dev210 (d0 : Dev nD) : Nat :=
  let c0_i32_11105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11104 : BitVec 32 := 1#32
  let v7038 : BitVec 32 := Scalar.muli v24 c1_i32_11104
  let v7039 : BitVec 32 := Scalar.addi c0_i32_11105 v7038
  v7039.toNat
def k0_dev211 (d0 : Dev nD) : Nat :=
  let c0_i32_11196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11195 : BitVec 32 := 1#32
  let v7109 : BitVec 32 := Scalar.muli v24 c1_i32_11195
  let v7110 : BitVec 32 := Scalar.addi c0_i32_11196 v7109
  v7110.toNat
def k0_dev212 (d0 : Dev nD) : Nat :=
  let c0_i32_11259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11258 : BitVec 32 := 1#32
  let v7146 : BitVec 32 := Scalar.muli v24 c1_i32_11258
  let v7147 : BitVec 32 := Scalar.addi c0_i32_11259 v7146
  v7147.toNat
def k0_dev213 (d0 : Dev nD) : Nat :=
  let c0_i32_11322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11321 : BitVec 32 := 1#32
  let v7183 : BitVec 32 := Scalar.muli v24 c1_i32_11321
  let v7184 : BitVec 32 := Scalar.addi c0_i32_11322 v7183
  v7184.toNat
def k0_dev214 (d0 : Dev nD) : Nat :=
  let c0_i32_11385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11384 : BitVec 32 := 1#32
  let v7220 : BitVec 32 := Scalar.muli v24 c1_i32_11384
  let v7221 : BitVec 32 := Scalar.addi c0_i32_11385 v7220
  v7221.toNat
def k0_dev215 (d0 : Dev nD) : Nat :=
  let c0_i32_11392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11391 : BitVec 32 := 1#32
  let v7230 : BitVec 32 := Scalar.muli v13 c1_i32_11391
  let v7231 : BitVec 32 := Scalar.addi c0_i32_11392 v7230
  v7231.toNat
def k0_dev216 (d0 : Dev nD) : Nat :=
  let c0_i32_11453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11452 : BitVec 32 := 1#32
  let v7259 : BitVec 32 := Scalar.muli v13 c1_i32_11452
  let v7260 : BitVec 32 := Scalar.addi c0_i32_11453 v7259
  v7260.toNat
def k0_dev217 (d0 : Dev nD) : Nat :=
  let c0_i32_11516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11515 : BitVec 32 := 1#32
  let v7296 : BitVec 32 := Scalar.muli v13 c1_i32_11515
  let v7297 : BitVec 32 := Scalar.addi c0_i32_11516 v7296
  v7297.toNat
def k0_dev218 (d0 : Dev nD) : Nat :=
  let c0_i32_11579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11578 : BitVec 32 := 1#32
  let v7333 : BitVec 32 := Scalar.muli v13 c1_i32_11578
  let v7334 : BitVec 32 := Scalar.addi c0_i32_11579 v7333
  v7334.toNat
def k0_dev219 (d0 : Dev nD) : Nat :=
  let c0_i32_11642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11641 : BitVec 32 := 1#32
  let v7370 : BitVec 32 := Scalar.muli v13 c1_i32_11641
  let v7371 : BitVec 32 := Scalar.addi c0_i32_11642 v7370
  v7371.toNat
def k0_dev220 (d0 : Dev nD) : Nat :=
  let c0_i32_11649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11648 : BitVec 32 := 1#32
  let v7380 : BitVec 32 := Scalar.muli v24 c1_i32_11648
  let v7381 : BitVec 32 := Scalar.addi c0_i32_11649 v7380
  v7381.toNat
def k0_dev221 (d0 : Dev nD) : Nat :=
  let c0_i32_11740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11739 : BitVec 32 := 1#32
  let v7451 : BitVec 32 := Scalar.muli v24 c1_i32_11739
  let v7452 : BitVec 32 := Scalar.addi c0_i32_11740 v7451
  v7452.toNat
def k0_dev222 (d0 : Dev nD) : Nat :=
  let c0_i32_11803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11802 : BitVec 32 := 1#32
  let v7488 : BitVec 32 := Scalar.muli v24 c1_i32_11802
  let v7489 : BitVec 32 := Scalar.addi c0_i32_11803 v7488
  v7489.toNat
def k0_dev223 (d0 : Dev nD) : Nat :=
  let c0_i32_11866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11865 : BitVec 32 := 1#32
  let v7525 : BitVec 32 := Scalar.muli v24 c1_i32_11865
  let v7526 : BitVec 32 := Scalar.addi c0_i32_11866 v7525
  v7526.toNat
def k0_dev224 (d0 : Dev nD) : Nat :=
  let c0_i32_11929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11928 : BitVec 32 := 1#32
  let v7562 : BitVec 32 := Scalar.muli v24 c1_i32_11928
  let v7563 : BitVec 32 := Scalar.addi c0_i32_11929 v7562
  v7563.toNat
def k0_dev225 (d0 : Dev nD) : Nat :=
  let c0_i32_11936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11935 : BitVec 32 := 1#32
  let v7572 : BitVec 32 := Scalar.muli v13 c1_i32_11935
  let v7573 : BitVec 32 := Scalar.addi c0_i32_11936 v7572
  v7573.toNat
def k0_dev226 (d0 : Dev nD) : Nat :=
  let c0_i32_11997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11996 : BitVec 32 := 1#32
  let v7601 : BitVec 32 := Scalar.muli v13 c1_i32_11996
  let v7602 : BitVec 32 := Scalar.addi c0_i32_11997 v7601
  v7602.toNat
def k0_dev227 (d0 : Dev nD) : Nat :=
  let c0_i32_12060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12059 : BitVec 32 := 1#32
  let v7638 : BitVec 32 := Scalar.muli v13 c1_i32_12059
  let v7639 : BitVec 32 := Scalar.addi c0_i32_12060 v7638
  v7639.toNat
def k0_dev228 (d0 : Dev nD) : Nat :=
  let c0_i32_12123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12122 : BitVec 32 := 1#32
  let v7675 : BitVec 32 := Scalar.muli v13 c1_i32_12122
  let v7676 : BitVec 32 := Scalar.addi c0_i32_12123 v7675
  v7676.toNat
def k0_dev229 (d0 : Dev nD) : Nat :=
  let c0_i32_12186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12185 : BitVec 32 := 1#32
  let v7712 : BitVec 32 := Scalar.muli v13 c1_i32_12185
  let v7713 : BitVec 32 := Scalar.addi c0_i32_12186 v7712
  v7713.toNat
def k0_dev230 (d0 : Dev nD) : Nat :=
  let c0_i32_12193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12192 : BitVec 32 := 1#32
  let v7722 : BitVec 32 := Scalar.muli v24 c1_i32_12192
  let v7723 : BitVec 32 := Scalar.addi c0_i32_12193 v7722
  v7723.toNat
def k0_dev231 (d0 : Dev nD) : Nat :=
  let c0_i32_12284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12283 : BitVec 32 := 1#32
  let v7793 : BitVec 32 := Scalar.muli v24 c1_i32_12283
  let v7794 : BitVec 32 := Scalar.addi c0_i32_12284 v7793
  v7794.toNat
def k0_dev232 (d0 : Dev nD) : Nat :=
  let c0_i32_12347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12346 : BitVec 32 := 1#32
  let v7830 : BitVec 32 := Scalar.muli v24 c1_i32_12346
  let v7831 : BitVec 32 := Scalar.addi c0_i32_12347 v7830
  v7831.toNat
def k0_dev233 (d0 : Dev nD) : Nat :=
  let c0_i32_12410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12409 : BitVec 32 := 1#32
  let v7867 : BitVec 32 := Scalar.muli v24 c1_i32_12409
  let v7868 : BitVec 32 := Scalar.addi c0_i32_12410 v7867
  v7868.toNat
def k0_dev234 (d0 : Dev nD) : Nat :=
  let c0_i32_12473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12472 : BitVec 32 := 1#32
  let v7904 : BitVec 32 := Scalar.muli v24 c1_i32_12472
  let v7905 : BitVec 32 := Scalar.addi c0_i32_12473 v7904
  v7905.toNat
def k0_dev235 (d0 : Dev nD) : Nat :=
  let c0_i32_12480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12479 : BitVec 32 := 1#32
  let v7914 : BitVec 32 := Scalar.muli v13 c1_i32_12479
  let v7915 : BitVec 32 := Scalar.addi c0_i32_12480 v7914
  v7915.toNat
def k0_dev236 (d0 : Dev nD) : Nat :=
  let c0_i32_12541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12540 : BitVec 32 := 1#32
  let v7943 : BitVec 32 := Scalar.muli v13 c1_i32_12540
  let v7944 : BitVec 32 := Scalar.addi c0_i32_12541 v7943
  v7944.toNat
def k0_dev237 (d0 : Dev nD) : Nat :=
  let c0_i32_12604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12603 : BitVec 32 := 1#32
  let v7980 : BitVec 32 := Scalar.muli v13 c1_i32_12603
  let v7981 : BitVec 32 := Scalar.addi c0_i32_12604 v7980
  v7981.toNat
def k0_dev238 (d0 : Dev nD) : Nat :=
  let c0_i32_12667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12666 : BitVec 32 := 1#32
  let v8017 : BitVec 32 := Scalar.muli v13 c1_i32_12666
  let v8018 : BitVec 32 := Scalar.addi c0_i32_12667 v8017
  v8018.toNat
def k0_dev239 (d0 : Dev nD) : Nat :=
  let c0_i32_12730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12729 : BitVec 32 := 1#32
  let v8054 : BitVec 32 := Scalar.muli v13 c1_i32_12729
  let v8055 : BitVec 32 := Scalar.addi c0_i32_12730 v8054
  v8055.toNat
def k0_dev240 (d0 : Dev nD) : Nat :=
  let c0_i32_12737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12736 : BitVec 32 := 1#32
  let v8064 : BitVec 32 := Scalar.muli v24 c1_i32_12736
  let v8065 : BitVec 32 := Scalar.addi c0_i32_12737 v8064
  v8065.toNat
def k0_dev241 (d0 : Dev nD) : Nat :=
  let c0_i32_12828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12827 : BitVec 32 := 1#32
  let v8135 : BitVec 32 := Scalar.muli v24 c1_i32_12827
  let v8136 : BitVec 32 := Scalar.addi c0_i32_12828 v8135
  v8136.toNat
def k0_dev242 (d0 : Dev nD) : Nat :=
  let c0_i32_12891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12890 : BitVec 32 := 1#32
  let v8172 : BitVec 32 := Scalar.muli v24 c1_i32_12890
  let v8173 : BitVec 32 := Scalar.addi c0_i32_12891 v8172
  v8173.toNat
def k0_dev243 (d0 : Dev nD) : Nat :=
  let c0_i32_12954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12953 : BitVec 32 := 1#32
  let v8209 : BitVec 32 := Scalar.muli v24 c1_i32_12953
  let v8210 : BitVec 32 := Scalar.addi c0_i32_12954 v8209
  v8210.toNat
def k0_dev244 (d0 : Dev nD) : Nat :=
  let c0_i32_13017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13016 : BitVec 32 := 1#32
  let v8246 : BitVec 32 := Scalar.muli v24 c1_i32_13016
  let v8247 : BitVec 32 := Scalar.addi c0_i32_13017 v8246
  v8247.toNat
def k0_dev245 (d0 : Dev nD) : Nat :=
  let c0_i32_13024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13023 : BitVec 32 := 1#32
  let v8256 : BitVec 32 := Scalar.muli v13 c1_i32_13023
  let v8257 : BitVec 32 := Scalar.addi c0_i32_13024 v8256
  v8257.toNat
def k0_dev246 (d0 : Dev nD) : Nat :=
  let c0_i32_13085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13084 : BitVec 32 := 1#32
  let v8285 : BitVec 32 := Scalar.muli v13 c1_i32_13084
  let v8286 : BitVec 32 := Scalar.addi c0_i32_13085 v8285
  v8286.toNat
def k0_dev247 (d0 : Dev nD) : Nat :=
  let c0_i32_13148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13147 : BitVec 32 := 1#32
  let v8322 : BitVec 32 := Scalar.muli v13 c1_i32_13147
  let v8323 : BitVec 32 := Scalar.addi c0_i32_13148 v8322
  v8323.toNat
def k0_dev248 (d0 : Dev nD) : Nat :=
  let c0_i32_13211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13210 : BitVec 32 := 1#32
  let v8359 : BitVec 32 := Scalar.muli v13 c1_i32_13210
  let v8360 : BitVec 32 := Scalar.addi c0_i32_13211 v8359
  v8360.toNat
def k0_dev249 (d0 : Dev nD) : Nat :=
  let c0_i32_13274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13273 : BitVec 32 := 1#32
  let v8396 : BitVec 32 := Scalar.muli v13 c1_i32_13273
  let v8397 : BitVec 32 := Scalar.addi c0_i32_13274 v8396
  v8397.toNat
def k0_dev250 (d0 : Dev nD) : Nat :=
  let c0_i32_13281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13280 : BitVec 32 := 1#32
  let v8406 : BitVec 32 := Scalar.muli v24 c1_i32_13280
  let v8407 : BitVec 32 := Scalar.addi c0_i32_13281 v8406
  v8407.toNat
def k0_dev251 (d0 : Dev nD) : Nat :=
  let c0_i32_13372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13371 : BitVec 32 := 1#32
  let v8477 : BitVec 32 := Scalar.muli v24 c1_i32_13371
  let v8478 : BitVec 32 := Scalar.addi c0_i32_13372 v8477
  v8478.toNat
def k0_dev252 (d0 : Dev nD) : Nat :=
  let c0_i32_13435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13434 : BitVec 32 := 1#32
  let v8514 : BitVec 32 := Scalar.muli v24 c1_i32_13434
  let v8515 : BitVec 32 := Scalar.addi c0_i32_13435 v8514
  v8515.toNat
def k0_dev253 (d0 : Dev nD) : Nat :=
  let c0_i32_13498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13497 : BitVec 32 := 1#32
  let v8551 : BitVec 32 := Scalar.muli v24 c1_i32_13497
  let v8552 : BitVec 32 := Scalar.addi c0_i32_13498 v8551
  v8552.toNat
def k0_dev254 (d0 : Dev nD) : Nat :=
  let c0_i32_13561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13560 : BitVec 32 := 1#32
  let v8588 : BitVec 32 := Scalar.muli v24 c1_i32_13560
  let v8589 : BitVec 32 := Scalar.addi c0_i32_13561 v8588
  v8589.toNat
def k0_dev255 (d0 : Dev nD) : Nat :=
  let c0_i32_13568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13567 : BitVec 32 := 1#32
  let v8598 : BitVec 32 := Scalar.muli v13 c1_i32_13567
  let v8599 : BitVec 32 := Scalar.addi c0_i32_13568 v8598
  v8599.toNat
def k0_dev256 (d0 : Dev nD) : Nat :=
  let c0_i32_13629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13628 : BitVec 32 := 1#32
  let v8627 : BitVec 32 := Scalar.muli v13 c1_i32_13628
  let v8628 : BitVec 32 := Scalar.addi c0_i32_13629 v8627
  v8628.toNat
def k0_dev257 (d0 : Dev nD) : Nat :=
  let c0_i32_13692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13691 : BitVec 32 := 1#32
  let v8664 : BitVec 32 := Scalar.muli v13 c1_i32_13691
  let v8665 : BitVec 32 := Scalar.addi c0_i32_13692 v8664
  v8665.toNat
def k0_dev258 (d0 : Dev nD) : Nat :=
  let c0_i32_13755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13754 : BitVec 32 := 1#32
  let v8701 : BitVec 32 := Scalar.muli v13 c1_i32_13754
  let v8702 : BitVec 32 := Scalar.addi c0_i32_13755 v8701
  v8702.toNat
def k0_dev259 (d0 : Dev nD) : Nat :=
  let c0_i32_13818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13817 : BitVec 32 := 1#32
  let v8738 : BitVec 32 := Scalar.muli v13 c1_i32_13817
  let v8739 : BitVec 32 := Scalar.addi c0_i32_13818 v8738
  v8739.toNat
def k0_dev260 (d0 : Dev nD) : Nat :=
  let c0_i32_13825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13824 : BitVec 32 := 1#32
  let v8748 : BitVec 32 := Scalar.muli v24 c1_i32_13824
  let v8749 : BitVec 32 := Scalar.addi c0_i32_13825 v8748
  v8749.toNat
def k0_dev261 (d0 : Dev nD) : Nat :=
  let c0_i32_13916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13915 : BitVec 32 := 1#32
  let v8819 : BitVec 32 := Scalar.muli v24 c1_i32_13915
  let v8820 : BitVec 32 := Scalar.addi c0_i32_13916 v8819
  v8820.toNat
def k0_dev262 (d0 : Dev nD) : Nat :=
  let c0_i32_13979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13978 : BitVec 32 := 1#32
  let v8856 : BitVec 32 := Scalar.muli v24 c1_i32_13978
  let v8857 : BitVec 32 := Scalar.addi c0_i32_13979 v8856
  v8857.toNat
def k0_dev263 (d0 : Dev nD) : Nat :=
  let c0_i32_14042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14041 : BitVec 32 := 1#32
  let v8893 : BitVec 32 := Scalar.muli v24 c1_i32_14041
  let v8894 : BitVec 32 := Scalar.addi c0_i32_14042 v8893
  v8894.toNat
def k0_dev264 (d0 : Dev nD) : Nat :=
  let c0_i32_14105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14104 : BitVec 32 := 1#32
  let v8930 : BitVec 32 := Scalar.muli v24 c1_i32_14104
  let v8931 : BitVec 32 := Scalar.addi c0_i32_14105 v8930
  v8931.toNat
def k0_dev265 (d0 : Dev nD) : Nat :=
  let c0_i32_14112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14111 : BitVec 32 := 1#32
  let v8940 : BitVec 32 := Scalar.muli v13 c1_i32_14111
  let v8941 : BitVec 32 := Scalar.addi c0_i32_14112 v8940
  v8941.toNat
def k0_dev266 (d0 : Dev nD) : Nat :=
  let c0_i32_14173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14172 : BitVec 32 := 1#32
  let v8969 : BitVec 32 := Scalar.muli v13 c1_i32_14172
  let v8970 : BitVec 32 := Scalar.addi c0_i32_14173 v8969
  v8970.toNat
def k0_dev267 (d0 : Dev nD) : Nat :=
  let c0_i32_14236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14235 : BitVec 32 := 1#32
  let v9006 : BitVec 32 := Scalar.muli v13 c1_i32_14235
  let v9007 : BitVec 32 := Scalar.addi c0_i32_14236 v9006
  v9007.toNat
def k0_dev268 (d0 : Dev nD) : Nat :=
  let c0_i32_14299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14298 : BitVec 32 := 1#32
  let v9043 : BitVec 32 := Scalar.muli v13 c1_i32_14298
  let v9044 : BitVec 32 := Scalar.addi c0_i32_14299 v9043
  v9044.toNat
def k0_dev269 (d0 : Dev nD) : Nat :=
  let c0_i32_14362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14361 : BitVec 32 := 1#32
  let v9080 : BitVec 32 := Scalar.muli v13 c1_i32_14361
  let v9081 : BitVec 32 := Scalar.addi c0_i32_14362 v9080
  v9081.toNat
def k0_dev270 (d0 : Dev nD) : Nat :=
  let c0_i32_14369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14368 : BitVec 32 := 1#32
  let v9090 : BitVec 32 := Scalar.muli v24 c1_i32_14368
  let v9091 : BitVec 32 := Scalar.addi c0_i32_14369 v9090
  v9091.toNat
def k0_dev271 (d0 : Dev nD) : Nat :=
  let c0_i32_14460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14459 : BitVec 32 := 1#32
  let v9161 : BitVec 32 := Scalar.muli v24 c1_i32_14459
  let v9162 : BitVec 32 := Scalar.addi c0_i32_14460 v9161
  v9162.toNat
def k0_dev272 (d0 : Dev nD) : Nat :=
  let c0_i32_14523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14522 : BitVec 32 := 1#32
  let v9198 : BitVec 32 := Scalar.muli v24 c1_i32_14522
  let v9199 : BitVec 32 := Scalar.addi c0_i32_14523 v9198
  v9199.toNat
def k0_dev273 (d0 : Dev nD) : Nat :=
  let c0_i32_14586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14585 : BitVec 32 := 1#32
  let v9235 : BitVec 32 := Scalar.muli v24 c1_i32_14585
  let v9236 : BitVec 32 := Scalar.addi c0_i32_14586 v9235
  v9236.toNat
def k0_dev274 (d0 : Dev nD) : Nat :=
  let c0_i32_14649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14648 : BitVec 32 := 1#32
  let v9272 : BitVec 32 := Scalar.muli v24 c1_i32_14648
  let v9273 : BitVec 32 := Scalar.addi c0_i32_14649 v9272
  v9273.toNat
def k0_dev275 (d0 : Dev nD) : Nat :=
  let c0_i32_14656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14655 : BitVec 32 := 1#32
  let v9282 : BitVec 32 := Scalar.muli v13 c1_i32_14655
  let v9283 : BitVec 32 := Scalar.addi c0_i32_14656 v9282
  v9283.toNat
def k0_dev276 (d0 : Dev nD) : Nat :=
  let c0_i32_14717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14716 : BitVec 32 := 1#32
  let v9311 : BitVec 32 := Scalar.muli v13 c1_i32_14716
  let v9312 : BitVec 32 := Scalar.addi c0_i32_14717 v9311
  v9312.toNat
def k0_dev277 (d0 : Dev nD) : Nat :=
  let c0_i32_14780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14779 : BitVec 32 := 1#32
  let v9348 : BitVec 32 := Scalar.muli v13 c1_i32_14779
  let v9349 : BitVec 32 := Scalar.addi c0_i32_14780 v9348
  v9349.toNat
def k0_dev278 (d0 : Dev nD) : Nat :=
  let c0_i32_14843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14842 : BitVec 32 := 1#32
  let v9385 : BitVec 32 := Scalar.muli v13 c1_i32_14842
  let v9386 : BitVec 32 := Scalar.addi c0_i32_14843 v9385
  v9386.toNat
def k0_dev279 (d0 : Dev nD) : Nat :=
  let c0_i32_14906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14905 : BitVec 32 := 1#32
  let v9422 : BitVec 32 := Scalar.muli v13 c1_i32_14905
  let v9423 : BitVec 32 := Scalar.addi c0_i32_14906 v9422
  v9423.toNat
def k0_dev280 (d0 : Dev nD) : Nat :=
  let c0_i32_14913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14912 : BitVec 32 := 1#32
  let v9432 : BitVec 32 := Scalar.muli v24 c1_i32_14912
  let v9433 : BitVec 32 := Scalar.addi c0_i32_14913 v9432
  v9433.toNat
def k0_dev281 (d0 : Dev nD) : Nat :=
  let c0_i32_15004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15003 : BitVec 32 := 1#32
  let v9503 : BitVec 32 := Scalar.muli v24 c1_i32_15003
  let v9504 : BitVec 32 := Scalar.addi c0_i32_15004 v9503
  v9504.toNat
def k0_dev282 (d0 : Dev nD) : Nat :=
  let c0_i32_15067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15066 : BitVec 32 := 1#32
  let v9540 : BitVec 32 := Scalar.muli v24 c1_i32_15066
  let v9541 : BitVec 32 := Scalar.addi c0_i32_15067 v9540
  v9541.toNat
def k0_dev283 (d0 : Dev nD) : Nat :=
  let c0_i32_15130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15129 : BitVec 32 := 1#32
  let v9577 : BitVec 32 := Scalar.muli v24 c1_i32_15129
  let v9578 : BitVec 32 := Scalar.addi c0_i32_15130 v9577
  v9578.toNat
def k0_dev284 (d0 : Dev nD) : Nat :=
  let c0_i32_15193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15192 : BitVec 32 := 1#32
  let v9614 : BitVec 32 := Scalar.muli v24 c1_i32_15192
  let v9615 : BitVec 32 := Scalar.addi c0_i32_15193 v9614
  v9615.toNat
def k0_dev285 (d0 : Dev nD) : Nat :=
  let c0_i32_15200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15199 : BitVec 32 := 1#32
  let v9624 : BitVec 32 := Scalar.muli v13 c1_i32_15199
  let v9625 : BitVec 32 := Scalar.addi c0_i32_15200 v9624
  v9625.toNat
def k0_dev286 (d0 : Dev nD) : Nat :=
  let c0_i32_15261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15260 : BitVec 32 := 1#32
  let v9653 : BitVec 32 := Scalar.muli v13 c1_i32_15260
  let v9654 : BitVec 32 := Scalar.addi c0_i32_15261 v9653
  v9654.toNat
def k0_dev287 (d0 : Dev nD) : Nat :=
  let c0_i32_15324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15323 : BitVec 32 := 1#32
  let v9690 : BitVec 32 := Scalar.muli v13 c1_i32_15323
  let v9691 : BitVec 32 := Scalar.addi c0_i32_15324 v9690
  v9691.toNat
def k0_dev288 (d0 : Dev nD) : Nat :=
  let c0_i32_15387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15386 : BitVec 32 := 1#32
  let v9727 : BitVec 32 := Scalar.muli v13 c1_i32_15386
  let v9728 : BitVec 32 := Scalar.addi c0_i32_15387 v9727
  v9728.toNat
def k0_dev289 (d0 : Dev nD) : Nat :=
  let c0_i32_15450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15449 : BitVec 32 := 1#32
  let v9764 : BitVec 32 := Scalar.muli v13 c1_i32_15449
  let v9765 : BitVec 32 := Scalar.addi c0_i32_15450 v9764
  v9765.toNat
def k0_dev290 (d0 : Dev nD) : Nat :=
  let c0_i32_15457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15456 : BitVec 32 := 1#32
  let v9774 : BitVec 32 := Scalar.muli v24 c1_i32_15456
  let v9775 : BitVec 32 := Scalar.addi c0_i32_15457 v9774
  v9775.toNat
def k0_dev291 (d0 : Dev nD) : Nat :=
  let c0_i32_15548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15547 : BitVec 32 := 1#32
  let v9845 : BitVec 32 := Scalar.muli v24 c1_i32_15547
  let v9846 : BitVec 32 := Scalar.addi c0_i32_15548 v9845
  v9846.toNat
def k0_dev292 (d0 : Dev nD) : Nat :=
  let c0_i32_15611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15610 : BitVec 32 := 1#32
  let v9882 : BitVec 32 := Scalar.muli v24 c1_i32_15610
  let v9883 : BitVec 32 := Scalar.addi c0_i32_15611 v9882
  v9883.toNat
def k0_dev293 (d0 : Dev nD) : Nat :=
  let c0_i32_15674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15673 : BitVec 32 := 1#32
  let v9919 : BitVec 32 := Scalar.muli v24 c1_i32_15673
  let v9920 : BitVec 32 := Scalar.addi c0_i32_15674 v9919
  v9920.toNat
def k0_dev294 (d0 : Dev nD) : Nat :=
  let c0_i32_15737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15736 : BitVec 32 := 1#32
  let v9956 : BitVec 32 := Scalar.muli v24 c1_i32_15736
  let v9957 : BitVec 32 := Scalar.addi c0_i32_15737 v9956
  v9957.toNat
def k0_dev295 (d0 : Dev nD) : Nat :=
  let c0_i32_15744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15743 : BitVec 32 := 1#32
  let v9966 : BitVec 32 := Scalar.muli v13 c1_i32_15743
  let v9967 : BitVec 32 := Scalar.addi c0_i32_15744 v9966
  v9967.toNat
def k0_dev296 (d0 : Dev nD) : Nat :=
  let c0_i32_15805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15804 : BitVec 32 := 1#32
  let v9995 : BitVec 32 := Scalar.muli v13 c1_i32_15804
  let v9996 : BitVec 32 := Scalar.addi c0_i32_15805 v9995
  v9996.toNat
def k0_dev297 (d0 : Dev nD) : Nat :=
  let c0_i32_15868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15867 : BitVec 32 := 1#32
  let v10032 : BitVec 32 := Scalar.muli v13 c1_i32_15867
  let v10033 : BitVec 32 := Scalar.addi c0_i32_15868 v10032
  v10033.toNat
def k0_dev298 (d0 : Dev nD) : Nat :=
  let c0_i32_15931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15930 : BitVec 32 := 1#32
  let v10069 : BitVec 32 := Scalar.muli v13 c1_i32_15930
  let v10070 : BitVec 32 := Scalar.addi c0_i32_15931 v10069
  v10070.toNat
def k0_dev299 (d0 : Dev nD) : Nat :=
  let c0_i32_15994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15993 : BitVec 32 := 1#32
  let v10106 : BitVec 32 := Scalar.muli v13 c1_i32_15993
  let v10107 : BitVec 32 := Scalar.addi c0_i32_15994 v10106
  v10107.toNat
def k0_dev300 (d0 : Dev nD) : Nat :=
  let c0_i32_16001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16000 : BitVec 32 := 1#32
  let v10116 : BitVec 32 := Scalar.muli v24 c1_i32_16000
  let v10117 : BitVec 32 := Scalar.addi c0_i32_16001 v10116
  v10117.toNat
def k0_dev301 (d0 : Dev nD) : Nat :=
  let c0_i32_16092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16091 : BitVec 32 := 1#32
  let v10187 : BitVec 32 := Scalar.muli v24 c1_i32_16091
  let v10188 : BitVec 32 := Scalar.addi c0_i32_16092 v10187
  v10188.toNat
def k0_dev302 (d0 : Dev nD) : Nat :=
  let c0_i32_16155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16154 : BitVec 32 := 1#32
  let v10224 : BitVec 32 := Scalar.muli v24 c1_i32_16154
  let v10225 : BitVec 32 := Scalar.addi c0_i32_16155 v10224
  v10225.toNat
def k0_dev303 (d0 : Dev nD) : Nat :=
  let c0_i32_16218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16217 : BitVec 32 := 1#32
  let v10261 : BitVec 32 := Scalar.muli v24 c1_i32_16217
  let v10262 : BitVec 32 := Scalar.addi c0_i32_16218 v10261
  v10262.toNat
def k0_dev304 (d0 : Dev nD) : Nat :=
  let c0_i32_16281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16280 : BitVec 32 := 1#32
  let v10298 : BitVec 32 := Scalar.muli v24 c1_i32_16280
  let v10299 : BitVec 32 := Scalar.addi c0_i32_16281 v10298
  v10299.toNat
def k0_dev305 (d0 : Dev nD) : Nat :=
  let c0_i32_16288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16287 : BitVec 32 := 1#32
  let v10308 : BitVec 32 := Scalar.muli v13 c1_i32_16287
  let v10309 : BitVec 32 := Scalar.addi c0_i32_16288 v10308
  v10309.toNat
def k0_dev306 (d0 : Dev nD) : Nat :=
  let c0_i32_16349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16348 : BitVec 32 := 1#32
  let v10337 : BitVec 32 := Scalar.muli v13 c1_i32_16348
  let v10338 : BitVec 32 := Scalar.addi c0_i32_16349 v10337
  v10338.toNat
def k0_dev307 (d0 : Dev nD) : Nat :=
  let c0_i32_16412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16411 : BitVec 32 := 1#32
  let v10374 : BitVec 32 := Scalar.muli v13 c1_i32_16411
  let v10375 : BitVec 32 := Scalar.addi c0_i32_16412 v10374
  v10375.toNat
def k0_dev308 (d0 : Dev nD) : Nat :=
  let c0_i32_16475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16474 : BitVec 32 := 1#32
  let v10411 : BitVec 32 := Scalar.muli v13 c1_i32_16474
  let v10412 : BitVec 32 := Scalar.addi c0_i32_16475 v10411
  v10412.toNat
def k0_dev309 (d0 : Dev nD) : Nat :=
  let c0_i32_16538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16537 : BitVec 32 := 1#32
  let v10448 : BitVec 32 := Scalar.muli v13 c1_i32_16537
  let v10449 : BitVec 32 := Scalar.addi c0_i32_16538 v10448
  v10449.toNat
def k0_dev310 (d0 : Dev nD) : Nat :=
  let c0_i32_16545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16544 : BitVec 32 := 1#32
  let v10458 : BitVec 32 := Scalar.muli v24 c1_i32_16544
  let v10459 : BitVec 32 := Scalar.addi c0_i32_16545 v10458
  v10459.toNat
def k0_off2 (d0 : Dev nD) (c_m1_i32_16546 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v10460 : BitVec 32 := Scalar.subi v2 c_m1_i32_16546
  let c32_i32_16547 : BitVec 32 := 32#32
  let c0_i32_16548 : BitVec 32 := 0#32
  let v10461 : BitVec 1 := Scalar.cmpi .eq c32_i32_16547 c0_i32_16548
  let c1_i32_16549 : BitVec 32 := 1#32
  let v10462 : BitVec 32 := Scalar.select v10461 c1_i32_16549 c32_i32_16547
  let v10463 : BitVec 32 := Scalar.remsi v10460 v10462
  let c0_i32_16551 : BitVec 32 := 0#32
  let v10465 : BitVec 1 := Scalar.cmpi .slt v10463 c0_i32_16551
  let c0_i32_16552 : BitVec 32 := 0#32
  let v10466 : BitVec 1 := Scalar.cmpi .slt v10462 c0_i32_16552
  let v10467 : BitVec 1 := Scalar.xori v10465 v10466
  let c0_i32_16550 : BitVec 32 := 0#32
  let v10464 : BitVec 1 := Scalar.cmpi .ne v10463 c0_i32_16550
  let v10468 : BitVec 1 := Scalar.andi v10467 v10464
  let v10469 : BitVec 32 := Scalar.addi v10463 v10462
  let v10470 : BitVec 32 := Scalar.select v10468 v10469 v10463
  let c128_i32_16553 : BitVec 32 := 128#32
  let v10471 : BitVec 32 := Scalar.muli v10470 c128_i32_16553
  let v10472 : Index := Scalar.indexCast v10471
  let c0_16554 : Index := 0#32
  ![v10472.toNat, 0]
def k0_dev311 (d0 : Dev nD) : Nat :=
  let c0_i32_16649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16648 : BitVec 32 := 1#32
  let v10553 : BitVec 32 := Scalar.muli v24 c1_i32_16648
  let v10554 : BitVec 32 := Scalar.addi c0_i32_16649 v10553
  v10554.toNat
def k0_dev312 (d0 : Dev nD) : Nat :=
  let c0_i32_16716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16715 : BitVec 32 := 1#32
  let v10603 : BitVec 32 := Scalar.muli v24 c1_i32_16715
  let v10604 : BitVec 32 := Scalar.addi c0_i32_16716 v10603
  v10604.toNat
def k0_dev313 (d0 : Dev nD) : Nat :=
  let c0_i32_16783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16782 : BitVec 32 := 1#32
  let v10653 : BitVec 32 := Scalar.muli v24 c1_i32_16782
  let v10654 : BitVec 32 := Scalar.addi c0_i32_16783 v10653
  v10654.toNat
def k0_dev314 (d0 : Dev nD) : Nat :=
  let c0_i32_16850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16849 : BitVec 32 := 1#32
  let v10703 : BitVec 32 := Scalar.muli v24 c1_i32_16849
  let v10704 : BitVec 32 := Scalar.addi c0_i32_16850 v10703
  v10704.toNat
def k0_dev315 (d0 : Dev nD) : Nat :=
  let c0_i32_16857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16856 : BitVec 32 := 1#32
  let v10713 : BitVec 32 := Scalar.muli v13 c1_i32_16856
  let v10714 : BitVec 32 := Scalar.addi c0_i32_16857 v10713
  v10714.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_16578 : BitVec 32 := 4294967295#32
  let v10502 : BitVec 32 := Scalar.subi v2 c_m1_i32_16578
  let c32_i32_16579 : BitVec 32 := 32#32
  let c0_i32_16580 : BitVec 32 := 0#32
  let v10503 : BitVec 1 := Scalar.cmpi .eq c32_i32_16579 c0_i32_16580
  let c1_i32_16581 : BitVec 32 := 1#32
  let v10504 : BitVec 32 := Scalar.select v10503 c1_i32_16581 c32_i32_16579
  let v10505 : BitVec 32 := Scalar.remsi v10502 v10504
  let c0_i32_16583 : BitVec 32 := 0#32
  let v10507 : BitVec 1 := Scalar.cmpi .slt v10505 c0_i32_16583
  let c0_i32_16584 : BitVec 32 := 0#32
  let v10508 : BitVec 1 := Scalar.cmpi .slt v10504 c0_i32_16584
  let v10509 : BitVec 1 := Scalar.xori v10507 v10508
  let c0_i32_16582 : BitVec 32 := 0#32
  let v10506 : BitVec 1 := Scalar.cmpi .ne v10505 c0_i32_16582
  let v10510 : BitVec 1 := Scalar.andi v10509 v10506
  let v10511 : BitVec 32 := Scalar.addi v10505 v10504
  let v10512 : BitVec 32 := Scalar.select v10510 v10511 v10505
  let c128_i32_16858 : BitVec 32 := 128#32
  let v10715 : BitVec 32 := Scalar.muli v10512 c128_i32_16858
  let c0_i32_16863 : BitVec 32 := 0#32
  ![v10715.toNat, 0]
def k0_dev316 (d0 : Dev nD) : Nat :=
  let c0_i32_16937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16936 : BitVec 32 := 1#32
  let v10772 : BitVec 32 := Scalar.muli v13 c1_i32_16936
  let v10773 : BitVec 32 := Scalar.addi c0_i32_16937 v10772
  v10773.toNat
def k0_dev317 (d0 : Dev nD) : Nat :=
  let c0_i32_17004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17003 : BitVec 32 := 1#32
  let v10822 : BitVec 32 := Scalar.muli v13 c1_i32_17003
  let v10823 : BitVec 32 := Scalar.addi c0_i32_17004 v10822
  v10823.toNat
def k0_dev318 (d0 : Dev nD) : Nat :=
  let c0_i32_17071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17070 : BitVec 32 := 1#32
  let v10872 : BitVec 32 := Scalar.muli v13 c1_i32_17070
  let v10873 : BitVec 32 := Scalar.addi c0_i32_17071 v10872
  v10873.toNat
def k0_dev319 (d0 : Dev nD) : Nat :=
  let c0_i32_17138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17137 : BitVec 32 := 1#32
  let v10922 : BitVec 32 := Scalar.muli v13 c1_i32_17137
  let v10923 : BitVec 32 := Scalar.addi c0_i32_17138 v10922
  v10923.toNat
def k0_dev320 (d0 : Dev nD) : Nat :=
  let c0_i32_17145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17144 : BitVec 32 := 1#32
  let v10932 : BitVec 32 := Scalar.muli v24 c1_i32_17144
  let v10933 : BitVec 32 := Scalar.addi c0_i32_17145 v10932
  v10933.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16866 : BitVec 32 := 1#32
  let v10721 : BitVec 32 := Scalar.subi v2 c1_i32_16866
  let c32_i32_16867 : BitVec 32 := 32#32
  let c0_i32_16868 : BitVec 32 := 0#32
  let v10722 : BitVec 1 := Scalar.cmpi .eq c32_i32_16867 c0_i32_16868
  let c1_i32_16869 : BitVec 32 := 1#32
  let v10723 : BitVec 32 := Scalar.select v10722 c1_i32_16869 c32_i32_16867
  let v10724 : BitVec 32 := Scalar.remsi v10721 v10723
  let c0_i32_16871 : BitVec 32 := 0#32
  let v10726 : BitVec 1 := Scalar.cmpi .slt v10724 c0_i32_16871
  let c0_i32_16872 : BitVec 32 := 0#32
  let v10727 : BitVec 1 := Scalar.cmpi .slt v10723 c0_i32_16872
  let v10728 : BitVec 1 := Scalar.xori v10726 v10727
  let c0_i32_16870 : BitVec 32 := 0#32
  let v10725 : BitVec 1 := Scalar.cmpi .ne v10724 c0_i32_16870
  let v10729 : BitVec 1 := Scalar.andi v10728 v10725
  let v10730 : BitVec 32 := Scalar.addi v10724 v10723
  let v10731 : BitVec 32 := Scalar.select v10729 v10730 v10724
  let c128_i32_17146 : BitVec 32 := 128#32
  let v10934 : BitVec 32 := Scalar.muli v10731 c128_i32_17146
  let c1024_i32 : BitVec 32 := 1024#32
  ![v10934.toNat, 1024]
def k0_dev321 (d0 : Dev nD) : Nat :=
  let c0_i32_17204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17203 : BitVec 32 := 1#32
  let v10965 : BitVec 32 := Scalar.muli v24 c1_i32_17203
  let v10966 : BitVec 32 := Scalar.addi c0_i32_17204 v10965
  v10966.toNat
def k0_dev322 (d0 : Dev nD) : Nat :=
  let c0_i32_17259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17258 : BitVec 32 := 1#32
  let v10995 : BitVec 32 := Scalar.muli v24 c1_i32_17258
  let v10996 : BitVec 32 := Scalar.addi c0_i32_17259 v10995
  v10996.toNat
def k0_dev323 (d0 : Dev nD) : Nat :=
  let c0_i32_17314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17313 : BitVec 32 := 1#32
  let v11025 : BitVec 32 := Scalar.muli v24 c1_i32_17313
  let v11026 : BitVec 32 := Scalar.addi c0_i32_17314 v11025
  v11026.toNat
def k0_dev324 (d0 : Dev nD) : Nat :=
  let c0_i32_17369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17368 : BitVec 32 := 1#32
  let v11055 : BitVec 32 := Scalar.muli v24 c1_i32_17368
  let v11056 : BitVec 32 := Scalar.addi c0_i32_17369 v11055
  v11056.toNat
def k0_off5 (d0 : Dev nD) (c_m1_i32_17382 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_17153 : BitVec 32 := 4294967295#32
  let v10940 : BitVec 32 := Scalar.subi v2 c_m1_i32_17153
  let c32_i32_17154 : BitVec 32 := 32#32
  let c0_i32_17155 : BitVec 32 := 0#32
  let v10941 : BitVec 1 := Scalar.cmpi .eq c32_i32_17154 c0_i32_17155
  let c1_i32_17156 : BitVec 32 := 1#32
  let v10942 : BitVec 32 := Scalar.select v10941 c1_i32_17156 c32_i32_17154
  let v10943 : BitVec 32 := Scalar.remsi v10940 v10942
  let c0_i32_17158 : BitVec 32 := 0#32
  let v10945 : BitVec 1 := Scalar.cmpi .slt v10943 c0_i32_17158
  let c0_i32_17159 : BitVec 32 := 0#32
  let v10946 : BitVec 1 := Scalar.cmpi .slt v10942 c0_i32_17159
  let v10947 : BitVec 1 := Scalar.xori v10945 v10946
  let c0_i32_17157 : BitVec 32 := 0#32
  let v10944 : BitVec 1 := Scalar.cmpi .ne v10943 c0_i32_17157
  let v10948 : BitVec 1 := Scalar.andi v10947 v10944
  let v10949 : BitVec 32 := Scalar.addi v10943 v10942
  let v10950 : BitVec 32 := Scalar.select v10948 v10949 v10943
  let v11071 : BitVec 32 := Scalar.addi v10950 c_m1_i32_17382
  let c32_i32_17383 : BitVec 32 := 32#32
  let c0_i32_17384 : BitVec 32 := 0#32
  let v11072 : BitVec 1 := Scalar.cmpi .eq c32_i32_17383 c0_i32_17384
  let c1_i32_17385 : BitVec 32 := 1#32
  let v11073 : BitVec 32 := Scalar.select v11072 c1_i32_17385 c32_i32_17383
  let v11074 : BitVec 32 := Scalar.remsi v11071 v11073
  let c0_i32_17387 : BitVec 32 := 0#32
  let v11076 : BitVec 1 := Scalar.cmpi .slt v11074 c0_i32_17387
  let c0_i32_17388 : BitVec 32 := 0#32
  let v11077 : BitVec 1 := Scalar.cmpi .slt v11073 c0_i32_17388
  let v11078 : BitVec 1 := Scalar.xori v11076 v11077
  let c0_i32_17386 : BitVec 32 := 0#32
  let v11075 : BitVec 1 := Scalar.cmpi .ne v11074 c0_i32_17386
  let v11079 : BitVec 1 := Scalar.andi v11078 v11075
  let v11080 : BitVec 32 := Scalar.addi v11074 v11073
  let v11081 : BitVec 32 := Scalar.select v11079 v11080 v11074
  let c128_i32_17389 : BitVec 32 := 128#32
  let v11082 : BitVec 32 := Scalar.muli v11081 c128_i32_17389
  let c0_i32_17394 : BitVec 32 := 0#32
  ![v11082.toNat, 0]
def k0_dev325 (d0 : Dev nD) : Nat :=
  let c0_i32_17448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17447 : BitVec 32 := 1#32
  let v11113 : BitVec 32 := Scalar.muli v13 c1_i32_17447
  let v11114 : BitVec 32 := Scalar.addi c0_i32_17448 v11113
  v11114.toNat
def k0_dev326 (d0 : Dev nD) : Nat :=
  let c0_i32_17503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17502 : BitVec 32 := 1#32
  let v11143 : BitVec 32 := Scalar.muli v13 c1_i32_17502
  let v11144 : BitVec 32 := Scalar.addi c0_i32_17503 v11143
  v11144.toNat
def k0_dev327 (d0 : Dev nD) : Nat :=
  let c0_i32_17558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17557 : BitVec 32 := 1#32
  let v11173 : BitVec 32 := Scalar.muli v13 c1_i32_17557
  let v11174 : BitVec 32 := Scalar.addi c0_i32_17558 v11173
  v11174.toNat
def k0_dev328 (d0 : Dev nD) : Nat :=
  let c0_i32_17613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17612 : BitVec 32 := 1#32
  let v11203 : BitVec 32 := Scalar.muli v13 c1_i32_17612
  let v11204 : BitVec 32 := Scalar.addi c0_i32_17613 v11203
  v11204.toNat
def k0_off6 (d0 : Dev nD) (c1_i32_17626 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17397 : BitVec 32 := 1#32
  let v11088 : BitVec 32 := Scalar.subi v2 c1_i32_17397
  let c32_i32_17398 : BitVec 32 := 32#32
  let c0_i32_17399 : BitVec 32 := 0#32
  let v11089 : BitVec 1 := Scalar.cmpi .eq c32_i32_17398 c0_i32_17399
  let c1_i32_17400 : BitVec 32 := 1#32
  let v11090 : BitVec 32 := Scalar.select v11089 c1_i32_17400 c32_i32_17398
  let v11091 : BitVec 32 := Scalar.remsi v11088 v11090
  let c0_i32_17402 : BitVec 32 := 0#32
  let v11093 : BitVec 1 := Scalar.cmpi .slt v11091 c0_i32_17402
  let c0_i32_17403 : BitVec 32 := 0#32
  let v11094 : BitVec 1 := Scalar.cmpi .slt v11090 c0_i32_17403
  let v11095 : BitVec 1 := Scalar.xori v11093 v11094
  let c0_i32_17401 : BitVec 32 := 0#32
  let v11092 : BitVec 1 := Scalar.cmpi .ne v11091 c0_i32_17401
  let v11096 : BitVec 1 := Scalar.andi v11095 v11092
  let v11097 : BitVec 32 := Scalar.addi v11091 v11090
  let v11098 : BitVec 32 := Scalar.select v11096 v11097 v11091
  let v11219 : BitVec 32 := Scalar.addi v11098 c1_i32_17626
  let c32_i32_17627 : BitVec 32 := 32#32
  let c0_i32_17628 : BitVec 32 := 0#32
  let v11220 : BitVec 1 := Scalar.cmpi .eq c32_i32_17627 c0_i32_17628
  let c1_i32_17629 : BitVec 32 := 1#32
  let v11221 : BitVec 32 := Scalar.select v11220 c1_i32_17629 c32_i32_17627
  let v11222 : BitVec 32 := Scalar.remsi v11219 v11221
  let c0_i32_17631 : BitVec 32 := 0#32
  let v11224 : BitVec 1 := Scalar.cmpi .slt v11222 c0_i32_17631
  let c0_i32_17632 : BitVec 32 := 0#32
  let v11225 : BitVec 1 := Scalar.cmpi .slt v11221 c0_i32_17632
  let v11226 : BitVec 1 := Scalar.xori v11224 v11225
  let c0_i32_17630 : BitVec 32 := 0#32
  let v11223 : BitVec 1 := Scalar.cmpi .ne v11222 c0_i32_17630
  let v11227 : BitVec 1 := Scalar.andi v11226 v11223
  let v11228 : BitVec 32 := Scalar.addi v11222 v11221
  let v11229 : BitVec 32 := Scalar.select v11227 v11228 v11222
  let c128_i32_17633 : BitVec 32 := 128#32
  let v11230 : BitVec 32 := Scalar.muli v11229 c128_i32_17633
  let c1024_i32_17638 : BitVec 32 := 1024#32
  ![v11230.toNat, 1024]
def k0_dev329 (d0 : Dev nD) : Nat :=
  let c0_i32_17699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17698 : BitVec 32 := 1#32
  let v11266 : BitVec 32 := Scalar.muli v24 c1_i32_17698
  let v11267 : BitVec 32 := Scalar.addi c0_i32_17699 v11266
  v11267.toNat
def k0_dev330 (d0 : Dev nD) : Nat :=
  let c0_i32_17754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17753 : BitVec 32 := 1#32
  let v11296 : BitVec 32 := Scalar.muli v24 c1_i32_17753
  let v11297 : BitVec 32 := Scalar.addi c0_i32_17754 v11296
  v11297.toNat
def k0_dev331 (d0 : Dev nD) : Nat :=
  let c0_i32_17809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17808 : BitVec 32 := 1#32
  let v11326 : BitVec 32 := Scalar.muli v24 c1_i32_17808
  let v11327 : BitVec 32 := Scalar.addi c0_i32_17809 v11326
  v11327.toNat
def k0_dev332 (d0 : Dev nD) : Nat :=
  let c0_i32_17864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17863 : BitVec 32 := 1#32
  let v11356 : BitVec 32 := Scalar.muli v24 c1_i32_17863
  let v11357 : BitVec 32 := Scalar.addi c0_i32_17864 v11356
  v11357.toNat
def k0_dev333 (d0 : Dev nD) : Nat :=
  let c0_i32_17879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17878 : BitVec 32 := 1#32
  let v11372 : BitVec 32 := Scalar.muli v13 c1_i32_17878
  let v11373 : BitVec 32 := Scalar.addi c0_i32_17879 v11372
  v11373.toNat
def k0_dev334 (d0 : Dev nD) : Nat :=
  let c0_i32_17953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17952 : BitVec 32 := 1#32
  let v11421 : BitVec 32 := Scalar.muli v13 c1_i32_17952
  let v11422 : BitVec 32 := Scalar.addi c0_i32_17953 v11421
  v11422.toNat
def k0_dev335 (d0 : Dev nD) : Nat :=
  let c0_i32_18008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18007 : BitVec 32 := 1#32
  let v11451 : BitVec 32 := Scalar.muli v13 c1_i32_18007
  let v11452 : BitVec 32 := Scalar.addi c0_i32_18008 v11451
  v11452.toNat
def k0_dev336 (d0 : Dev nD) : Nat :=
  let c0_i32_18063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18062 : BitVec 32 := 1#32
  let v11481 : BitVec 32 := Scalar.muli v13 c1_i32_18062
  let v11482 : BitVec 32 := Scalar.addi c0_i32_18063 v11481
  v11482.toNat
def k0_dev337 (d0 : Dev nD) : Nat :=
  let c0_i32_18118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18117 : BitVec 32 := 1#32
  let v11511 : BitVec 32 := Scalar.muli v13 c1_i32_18117
  let v11512 : BitVec 32 := Scalar.addi c0_i32_18118 v11511
  v11512.toNat
def k0_dev338 (d0 : Dev nD) : Nat :=
  let c0_i32_18133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18132 : BitVec 32 := 1#32
  let v11527 : BitVec 32 := Scalar.muli v24 c1_i32_18132
  let v11528 : BitVec 32 := Scalar.addi c0_i32_18133 v11527
  v11528.toNat
def k0_dev339 (d0 : Dev nD) : Nat :=
  let c0_i32_18207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18206 : BitVec 32 := 1#32
  let v11576 : BitVec 32 := Scalar.muli v24 c1_i32_18206
  let v11577 : BitVec 32 := Scalar.addi c0_i32_18207 v11576
  v11577.toNat
def k0_dev340 (d0 : Dev nD) : Nat :=
  let c0_i32_18262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18261 : BitVec 32 := 1#32
  let v11606 : BitVec 32 := Scalar.muli v24 c1_i32_18261
  let v11607 : BitVec 32 := Scalar.addi c0_i32_18262 v11606
  v11607.toNat
def k0_dev341 (d0 : Dev nD) : Nat :=
  let c0_i32_18317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18316 : BitVec 32 := 1#32
  let v11636 : BitVec 32 := Scalar.muli v24 c1_i32_18316
  let v11637 : BitVec 32 := Scalar.addi c0_i32_18317 v11636
  v11637.toNat
def k0_dev342 (d0 : Dev nD) : Nat :=
  let c0_i32_18372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18371 : BitVec 32 := 1#32
  let v11666 : BitVec 32 := Scalar.muli v24 c1_i32_18371
  let v11667 : BitVec 32 := Scalar.addi c0_i32_18372 v11666
  v11667.toNat
def k0_dev343 (d0 : Dev nD) : Nat :=
  let c0_i32_18387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18386 : BitVec 32 := 1#32
  let v11682 : BitVec 32 := Scalar.muli v13 c1_i32_18386
  let v11683 : BitVec 32 := Scalar.addi c0_i32_18387 v11682
  v11683.toNat
def k0_dev344 (d0 : Dev nD) : Nat :=
  let c0_i32_18461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18460 : BitVec 32 := 1#32
  let v11731 : BitVec 32 := Scalar.muli v13 c1_i32_18460
  let v11732 : BitVec 32 := Scalar.addi c0_i32_18461 v11731
  v11732.toNat
def k0_dev345 (d0 : Dev nD) : Nat :=
  let c0_i32_18516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18515 : BitVec 32 := 1#32
  let v11761 : BitVec 32 := Scalar.muli v13 c1_i32_18515
  let v11762 : BitVec 32 := Scalar.addi c0_i32_18516 v11761
  v11762.toNat
def k0_dev346 (d0 : Dev nD) : Nat :=
  let c0_i32_18571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18570 : BitVec 32 := 1#32
  let v11791 : BitVec 32 := Scalar.muli v13 c1_i32_18570
  let v11792 : BitVec 32 := Scalar.addi c0_i32_18571 v11791
  v11792.toNat
def k0_dev347 (d0 : Dev nD) : Nat :=
  let c0_i32_18626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18625 : BitVec 32 := 1#32
  let v11821 : BitVec 32 := Scalar.muli v13 c1_i32_18625
  let v11822 : BitVec 32 := Scalar.addi c0_i32_18626 v11821
  v11822.toNat
def k0_dev348 (d0 : Dev nD) : Nat :=
  let c0_i32_18641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18640 : BitVec 32 := 1#32
  let v11837 : BitVec 32 := Scalar.muli v24 c1_i32_18640
  let v11838 : BitVec 32 := Scalar.addi c0_i32_18641 v11837
  v11838.toNat
def k0_dev349 (d0 : Dev nD) : Nat :=
  let c0_i32_18715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18714 : BitVec 32 := 1#32
  let v11886 : BitVec 32 := Scalar.muli v24 c1_i32_18714
  let v11887 : BitVec 32 := Scalar.addi c0_i32_18715 v11886
  v11887.toNat
def k0_dev350 (d0 : Dev nD) : Nat :=
  let c0_i32_18770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18769 : BitVec 32 := 1#32
  let v11916 : BitVec 32 := Scalar.muli v24 c1_i32_18769
  let v11917 : BitVec 32 := Scalar.addi c0_i32_18770 v11916
  v11917.toNat
def k0_dev351 (d0 : Dev nD) : Nat :=
  let c0_i32_18825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18824 : BitVec 32 := 1#32
  let v11946 : BitVec 32 := Scalar.muli v24 c1_i32_18824
  let v11947 : BitVec 32 := Scalar.addi c0_i32_18825 v11946
  v11947.toNat
def k0_dev352 (d0 : Dev nD) : Nat :=
  let c0_i32_18880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18879 : BitVec 32 := 1#32
  let v11976 : BitVec 32 := Scalar.muli v24 c1_i32_18879
  let v11977 : BitVec 32 := Scalar.addi c0_i32_18880 v11976
  v11977.toNat
def k0_dev353 (d0 : Dev nD) : Nat :=
  let c0_i32_18895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18894 : BitVec 32 := 1#32
  let v11992 : BitVec 32 := Scalar.muli v13 c1_i32_18894
  let v11993 : BitVec 32 := Scalar.addi c0_i32_18895 v11992
  v11993.toNat
def k0_dev354 (d0 : Dev nD) : Nat :=
  let c0_i32_18969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18968 : BitVec 32 := 1#32
  let v12041 : BitVec 32 := Scalar.muli v13 c1_i32_18968
  let v12042 : BitVec 32 := Scalar.addi c0_i32_18969 v12041
  v12042.toNat
def k0_dev355 (d0 : Dev nD) : Nat :=
  let c0_i32_19024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19023 : BitVec 32 := 1#32
  let v12071 : BitVec 32 := Scalar.muli v13 c1_i32_19023
  let v12072 : BitVec 32 := Scalar.addi c0_i32_19024 v12071
  v12072.toNat
def k0_dev356 (d0 : Dev nD) : Nat :=
  let c0_i32_19079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19078 : BitVec 32 := 1#32
  let v12101 : BitVec 32 := Scalar.muli v13 c1_i32_19078
  let v12102 : BitVec 32 := Scalar.addi c0_i32_19079 v12101
  v12102.toNat
def k0_dev357 (d0 : Dev nD) : Nat :=
  let c0_i32_19134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19133 : BitVec 32 := 1#32
  let v12131 : BitVec 32 := Scalar.muli v13 c1_i32_19133
  let v12132 : BitVec 32 := Scalar.addi c0_i32_19134 v12131
  v12132.toNat
def k0_dev358 (d0 : Dev nD) : Nat :=
  let c0_i32_19149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19148 : BitVec 32 := 1#32
  let v12147 : BitVec 32 := Scalar.muli v24 c1_i32_19148
  let v12148 : BitVec 32 := Scalar.addi c0_i32_19149 v12147
  v12148.toNat
def k0_dev359 (d0 : Dev nD) : Nat :=
  let c0_i32_19223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19222 : BitVec 32 := 1#32
  let v12196 : BitVec 32 := Scalar.muli v24 c1_i32_19222
  let v12197 : BitVec 32 := Scalar.addi c0_i32_19223 v12196
  v12197.toNat
def k0_dev360 (d0 : Dev nD) : Nat :=
  let c0_i32_19278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19277 : BitVec 32 := 1#32
  let v12226 : BitVec 32 := Scalar.muli v24 c1_i32_19277
  let v12227 : BitVec 32 := Scalar.addi c0_i32_19278 v12226
  v12227.toNat
def k0_dev361 (d0 : Dev nD) : Nat :=
  let c0_i32_19333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19332 : BitVec 32 := 1#32
  let v12256 : BitVec 32 := Scalar.muli v24 c1_i32_19332
  let v12257 : BitVec 32 := Scalar.addi c0_i32_19333 v12256
  v12257.toNat
def k0_dev362 (d0 : Dev nD) : Nat :=
  let c0_i32_19388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19387 : BitVec 32 := 1#32
  let v12286 : BitVec 32 := Scalar.muli v24 c1_i32_19387
  let v12287 : BitVec 32 := Scalar.addi c0_i32_19388 v12286
  v12287.toNat
def k0_dev363 (d0 : Dev nD) : Nat :=
  let c0_i32_19403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19402 : BitVec 32 := 1#32
  let v12302 : BitVec 32 := Scalar.muli v13 c1_i32_19402
  let v12303 : BitVec 32 := Scalar.addi c0_i32_19403 v12302
  v12303.toNat
def k0_dev364 (d0 : Dev nD) : Nat :=
  let c0_i32_19477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19476 : BitVec 32 := 1#32
  let v12351 : BitVec 32 := Scalar.muli v13 c1_i32_19476
  let v12352 : BitVec 32 := Scalar.addi c0_i32_19477 v12351
  v12352.toNat
def k0_dev365 (d0 : Dev nD) : Nat :=
  let c0_i32_19532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19531 : BitVec 32 := 1#32
  let v12381 : BitVec 32 := Scalar.muli v13 c1_i32_19531
  let v12382 : BitVec 32 := Scalar.addi c0_i32_19532 v12381
  v12382.toNat
def k0_dev366 (d0 : Dev nD) : Nat :=
  let c0_i32_19587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19586 : BitVec 32 := 1#32
  let v12411 : BitVec 32 := Scalar.muli v13 c1_i32_19586
  let v12412 : BitVec 32 := Scalar.addi c0_i32_19587 v12411
  v12412.toNat
def k0_dev367 (d0 : Dev nD) : Nat :=
  let c0_i32_19642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19641 : BitVec 32 := 1#32
  let v12441 : BitVec 32 := Scalar.muli v13 c1_i32_19641
  let v12442 : BitVec 32 := Scalar.addi c0_i32_19642 v12441
  v12442.toNat
def k0_dev368 (d0 : Dev nD) : Nat :=
  let c0_i32_19657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19656 : BitVec 32 := 1#32
  let v12457 : BitVec 32 := Scalar.muli v24 c1_i32_19656
  let v12458 : BitVec 32 := Scalar.addi c0_i32_19657 v12457
  v12458.toNat
def k0_dev369 (d0 : Dev nD) : Nat :=
  let c0_i32_19731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19730 : BitVec 32 := 1#32
  let v12506 : BitVec 32 := Scalar.muli v24 c1_i32_19730
  let v12507 : BitVec 32 := Scalar.addi c0_i32_19731 v12506
  v12507.toNat
def k0_dev370 (d0 : Dev nD) : Nat :=
  let c0_i32_19786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19785 : BitVec 32 := 1#32
  let v12536 : BitVec 32 := Scalar.muli v24 c1_i32_19785
  let v12537 : BitVec 32 := Scalar.addi c0_i32_19786 v12536
  v12537.toNat
def k0_dev371 (d0 : Dev nD) : Nat :=
  let c0_i32_19841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19840 : BitVec 32 := 1#32
  let v12566 : BitVec 32 := Scalar.muli v24 c1_i32_19840
  let v12567 : BitVec 32 := Scalar.addi c0_i32_19841 v12566
  v12567.toNat
def k0_dev372 (d0 : Dev nD) : Nat :=
  let c0_i32_19896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19895 : BitVec 32 := 1#32
  let v12596 : BitVec 32 := Scalar.muli v24 c1_i32_19895
  let v12597 : BitVec 32 := Scalar.addi c0_i32_19896 v12596
  v12597.toNat
def k0_dev373 (d0 : Dev nD) : Nat :=
  let c0_i32_19911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19910 : BitVec 32 := 1#32
  let v12612 : BitVec 32 := Scalar.muli v13 c1_i32_19910
  let v12613 : BitVec 32 := Scalar.addi c0_i32_19911 v12612
  v12613.toNat
def k0_dev374 (d0 : Dev nD) : Nat :=
  let c0_i32_19985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19984 : BitVec 32 := 1#32
  let v12661 : BitVec 32 := Scalar.muli v13 c1_i32_19984
  let v12662 : BitVec 32 := Scalar.addi c0_i32_19985 v12661
  v12662.toNat
def k0_dev375 (d0 : Dev nD) : Nat :=
  let c0_i32_20040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20039 : BitVec 32 := 1#32
  let v12691 : BitVec 32 := Scalar.muli v13 c1_i32_20039
  let v12692 : BitVec 32 := Scalar.addi c0_i32_20040 v12691
  v12692.toNat
def k0_dev376 (d0 : Dev nD) : Nat :=
  let c0_i32_20095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20094 : BitVec 32 := 1#32
  let v12721 : BitVec 32 := Scalar.muli v13 c1_i32_20094
  let v12722 : BitVec 32 := Scalar.addi c0_i32_20095 v12721
  v12722.toNat
def k0_dev377 (d0 : Dev nD) : Nat :=
  let c0_i32_20150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20149 : BitVec 32 := 1#32
  let v12751 : BitVec 32 := Scalar.muli v13 c1_i32_20149
  let v12752 : BitVec 32 := Scalar.addi c0_i32_20150 v12751
  v12752.toNat
def k0_dev378 (d0 : Dev nD) : Nat :=
  let c0_i32_20165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20164 : BitVec 32 := 1#32
  let v12767 : BitVec 32 := Scalar.muli v24 c1_i32_20164
  let v12768 : BitVec 32 := Scalar.addi c0_i32_20165 v12767
  v12768.toNat
def k0_dev379 (d0 : Dev nD) : Nat :=
  let c0_i32_20239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20238 : BitVec 32 := 1#32
  let v12816 : BitVec 32 := Scalar.muli v24 c1_i32_20238
  let v12817 : BitVec 32 := Scalar.addi c0_i32_20239 v12816
  v12817.toNat
def k0_dev380 (d0 : Dev nD) : Nat :=
  let c0_i32_20294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20293 : BitVec 32 := 1#32
  let v12846 : BitVec 32 := Scalar.muli v24 c1_i32_20293
  let v12847 : BitVec 32 := Scalar.addi c0_i32_20294 v12846
  v12847.toNat
def k0_dev381 (d0 : Dev nD) : Nat :=
  let c0_i32_20349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20348 : BitVec 32 := 1#32
  let v12876 : BitVec 32 := Scalar.muli v24 c1_i32_20348
  let v12877 : BitVec 32 := Scalar.addi c0_i32_20349 v12876
  v12877.toNat
def k0_dev382 (d0 : Dev nD) : Nat :=
  let c0_i32_20404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20403 : BitVec 32 := 1#32
  let v12906 : BitVec 32 := Scalar.muli v24 c1_i32_20403
  let v12907 : BitVec 32 := Scalar.addi c0_i32_20404 v12906
  v12907.toNat
def k0_dev383 (d0 : Dev nD) : Nat :=
  let c0_i32_20419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20418 : BitVec 32 := 1#32
  let v12922 : BitVec 32 := Scalar.muli v13 c1_i32_20418
  let v12923 : BitVec 32 := Scalar.addi c0_i32_20419 v12922
  v12923.toNat
def k0_dev384 (d0 : Dev nD) : Nat :=
  let c0_i32_20493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20492 : BitVec 32 := 1#32
  let v12971 : BitVec 32 := Scalar.muli v13 c1_i32_20492
  let v12972 : BitVec 32 := Scalar.addi c0_i32_20493 v12971
  v12972.toNat
def k0_dev385 (d0 : Dev nD) : Nat :=
  let c0_i32_20548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20547 : BitVec 32 := 1#32
  let v13001 : BitVec 32 := Scalar.muli v13 c1_i32_20547
  let v13002 : BitVec 32 := Scalar.addi c0_i32_20548 v13001
  v13002.toNat
def k0_dev386 (d0 : Dev nD) : Nat :=
  let c0_i32_20603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20602 : BitVec 32 := 1#32
  let v13031 : BitVec 32 := Scalar.muli v13 c1_i32_20602
  let v13032 : BitVec 32 := Scalar.addi c0_i32_20603 v13031
  v13032.toNat
def k0_dev387 (d0 : Dev nD) : Nat :=
  let c0_i32_20658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20657 : BitVec 32 := 1#32
  let v13061 : BitVec 32 := Scalar.muli v13 c1_i32_20657
  let v13062 : BitVec 32 := Scalar.addi c0_i32_20658 v13061
  v13062.toNat
def k0_dev388 (d0 : Dev nD) : Nat :=
  let c0_i32_20673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20672 : BitVec 32 := 1#32
  let v13077 : BitVec 32 := Scalar.muli v24 c1_i32_20672
  let v13078 : BitVec 32 := Scalar.addi c0_i32_20673 v13077
  v13078.toNat
def k0_dev389 (d0 : Dev nD) : Nat :=
  let c0_i32_20747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20746 : BitVec 32 := 1#32
  let v13126 : BitVec 32 := Scalar.muli v24 c1_i32_20746
  let v13127 : BitVec 32 := Scalar.addi c0_i32_20747 v13126
  v13127.toNat
def k0_dev390 (d0 : Dev nD) : Nat :=
  let c0_i32_20802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20801 : BitVec 32 := 1#32
  let v13156 : BitVec 32 := Scalar.muli v24 c1_i32_20801
  let v13157 : BitVec 32 := Scalar.addi c0_i32_20802 v13156
  v13157.toNat
def k0_dev391 (d0 : Dev nD) : Nat :=
  let c0_i32_20857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20856 : BitVec 32 := 1#32
  let v13186 : BitVec 32 := Scalar.muli v24 c1_i32_20856
  let v13187 : BitVec 32 := Scalar.addi c0_i32_20857 v13186
  v13187.toNat
def k0_dev392 (d0 : Dev nD) : Nat :=
  let c0_i32_20912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20911 : BitVec 32 := 1#32
  let v13216 : BitVec 32 := Scalar.muli v24 c1_i32_20911
  let v13217 : BitVec 32 := Scalar.addi c0_i32_20912 v13216
  v13217.toNat
def k0_dev393 (d0 : Dev nD) : Nat :=
  let c0_i32_20927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20926 : BitVec 32 := 1#32
  let v13232 : BitVec 32 := Scalar.muli v13 c1_i32_20926
  let v13233 : BitVec 32 := Scalar.addi c0_i32_20927 v13232
  v13233.toNat
def k0_dev394 (d0 : Dev nD) : Nat :=
  let c0_i32_21001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21000 : BitVec 32 := 1#32
  let v13281 : BitVec 32 := Scalar.muli v13 c1_i32_21000
  let v13282 : BitVec 32 := Scalar.addi c0_i32_21001 v13281
  v13282.toNat
def k0_dev395 (d0 : Dev nD) : Nat :=
  let c0_i32_21056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21055 : BitVec 32 := 1#32
  let v13311 : BitVec 32 := Scalar.muli v13 c1_i32_21055
  let v13312 : BitVec 32 := Scalar.addi c0_i32_21056 v13311
  v13312.toNat
def k0_dev396 (d0 : Dev nD) : Nat :=
  let c0_i32_21111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21110 : BitVec 32 := 1#32
  let v13341 : BitVec 32 := Scalar.muli v13 c1_i32_21110
  let v13342 : BitVec 32 := Scalar.addi c0_i32_21111 v13341
  v13342.toNat
def k0_dev397 (d0 : Dev nD) : Nat :=
  let c0_i32_21166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21165 : BitVec 32 := 1#32
  let v13371 : BitVec 32 := Scalar.muli v13 c1_i32_21165
  let v13372 : BitVec 32 := Scalar.addi c0_i32_21166 v13371
  v13372.toNat
def k0_dev398 (d0 : Dev nD) : Nat :=
  let c0_i32_21181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21180 : BitVec 32 := 1#32
  let v13387 : BitVec 32 := Scalar.muli v24 c1_i32_21180
  let v13388 : BitVec 32 := Scalar.addi c0_i32_21181 v13387
  v13388.toNat
def k0_dev399 (d0 : Dev nD) : Nat :=
  let c0_i32_21255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21254 : BitVec 32 := 1#32
  let v13436 : BitVec 32 := Scalar.muli v24 c1_i32_21254
  let v13437 : BitVec 32 := Scalar.addi c0_i32_21255 v13436
  v13437.toNat
def k0_dev400 (d0 : Dev nD) : Nat :=
  let c0_i32_21310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21309 : BitVec 32 := 1#32
  let v13466 : BitVec 32 := Scalar.muli v24 c1_i32_21309
  let v13467 : BitVec 32 := Scalar.addi c0_i32_21310 v13466
  v13467.toNat
def k0_dev401 (d0 : Dev nD) : Nat :=
  let c0_i32_21365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21364 : BitVec 32 := 1#32
  let v13496 : BitVec 32 := Scalar.muli v24 c1_i32_21364
  let v13497 : BitVec 32 := Scalar.addi c0_i32_21365 v13496
  v13497.toNat
def k0_dev402 (d0 : Dev nD) : Nat :=
  let c0_i32_21420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21419 : BitVec 32 := 1#32
  let v13526 : BitVec 32 := Scalar.muli v24 c1_i32_21419
  let v13527 : BitVec 32 := Scalar.addi c0_i32_21420 v13526
  v13527.toNat
def k0_dev403 (d0 : Dev nD) : Nat :=
  let c0_i32_21435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21434 : BitVec 32 := 1#32
  let v13542 : BitVec 32 := Scalar.muli v13 c1_i32_21434
  let v13543 : BitVec 32 := Scalar.addi c0_i32_21435 v13542
  v13543.toNat
def k0_dev404 (d0 : Dev nD) : Nat :=
  let c0_i32_21509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21508 : BitVec 32 := 1#32
  let v13591 : BitVec 32 := Scalar.muli v13 c1_i32_21508
  let v13592 : BitVec 32 := Scalar.addi c0_i32_21509 v13591
  v13592.toNat
def k0_dev405 (d0 : Dev nD) : Nat :=
  let c0_i32_21564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21563 : BitVec 32 := 1#32
  let v13621 : BitVec 32 := Scalar.muli v13 c1_i32_21563
  let v13622 : BitVec 32 := Scalar.addi c0_i32_21564 v13621
  v13622.toNat
def k0_dev406 (d0 : Dev nD) : Nat :=
  let c0_i32_21619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21618 : BitVec 32 := 1#32
  let v13651 : BitVec 32 := Scalar.muli v13 c1_i32_21618
  let v13652 : BitVec 32 := Scalar.addi c0_i32_21619 v13651
  v13652.toNat
def k0_dev407 (d0 : Dev nD) : Nat :=
  let c0_i32_21674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21673 : BitVec 32 := 1#32
  let v13681 : BitVec 32 := Scalar.muli v13 c1_i32_21673
  let v13682 : BitVec 32 := Scalar.addi c0_i32_21674 v13681
  v13682.toNat
def k0_dev408 (d0 : Dev nD) : Nat :=
  let c0_i32_21689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21688 : BitVec 32 := 1#32
  let v13697 : BitVec 32 := Scalar.muli v24 c1_i32_21688
  let v13698 : BitVec 32 := Scalar.addi c0_i32_21689 v13697
  v13698.toNat
def k0_dev409 (d0 : Dev nD) : Nat :=
  let c0_i32_21763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21762 : BitVec 32 := 1#32
  let v13746 : BitVec 32 := Scalar.muli v24 c1_i32_21762
  let v13747 : BitVec 32 := Scalar.addi c0_i32_21763 v13746
  v13747.toNat
def k0_dev410 (d0 : Dev nD) : Nat :=
  let c0_i32_21818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21817 : BitVec 32 := 1#32
  let v13776 : BitVec 32 := Scalar.muli v24 c1_i32_21817
  let v13777 : BitVec 32 := Scalar.addi c0_i32_21818 v13776
  v13777.toNat
def k0_dev411 (d0 : Dev nD) : Nat :=
  let c0_i32_21873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21872 : BitVec 32 := 1#32
  let v13806 : BitVec 32 := Scalar.muli v24 c1_i32_21872
  let v13807 : BitVec 32 := Scalar.addi c0_i32_21873 v13806
  v13807.toNat
def k0_dev412 (d0 : Dev nD) : Nat :=
  let c0_i32_21928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21927 : BitVec 32 := 1#32
  let v13836 : BitVec 32 := Scalar.muli v24 c1_i32_21927
  let v13837 : BitVec 32 := Scalar.addi c0_i32_21928 v13836
  v13837.toNat
def k0_dev413 (d0 : Dev nD) : Nat :=
  let c0_i32_21943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21942 : BitVec 32 := 1#32
  let v13852 : BitVec 32 := Scalar.muli v13 c1_i32_21942
  let v13853 : BitVec 32 := Scalar.addi c0_i32_21943 v13852
  v13853.toNat
def k0_dev414 (d0 : Dev nD) : Nat :=
  let c0_i32_22017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22016 : BitVec 32 := 1#32
  let v13901 : BitVec 32 := Scalar.muli v13 c1_i32_22016
  let v13902 : BitVec 32 := Scalar.addi c0_i32_22017 v13901
  v13902.toNat
def k0_dev415 (d0 : Dev nD) : Nat :=
  let c0_i32_22072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22071 : BitVec 32 := 1#32
  let v13931 : BitVec 32 := Scalar.muli v13 c1_i32_22071
  let v13932 : BitVec 32 := Scalar.addi c0_i32_22072 v13931
  v13932.toNat
def k0_dev416 (d0 : Dev nD) : Nat :=
  let c0_i32_22127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22126 : BitVec 32 := 1#32
  let v13961 : BitVec 32 := Scalar.muli v13 c1_i32_22126
  let v13962 : BitVec 32 := Scalar.addi c0_i32_22127 v13961
  v13962.toNat
def k0_dev417 (d0 : Dev nD) : Nat :=
  let c0_i32_22182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22181 : BitVec 32 := 1#32
  let v13991 : BitVec 32 := Scalar.muli v13 c1_i32_22181
  let v13992 : BitVec 32 := Scalar.addi c0_i32_22182 v13991
  v13992.toNat
def k0_dev418 (d0 : Dev nD) : Nat :=
  let c0_i32_22197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22196 : BitVec 32 := 1#32
  let v14007 : BitVec 32 := Scalar.muli v24 c1_i32_22196
  let v14008 : BitVec 32 := Scalar.addi c0_i32_22197 v14007
  v14008.toNat
def k0_dev419 (d0 : Dev nD) : Nat :=
  let c0_i32_22271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22270 : BitVec 32 := 1#32
  let v14056 : BitVec 32 := Scalar.muli v24 c1_i32_22270
  let v14057 : BitVec 32 := Scalar.addi c0_i32_22271 v14056
  v14057.toNat
def k0_dev420 (d0 : Dev nD) : Nat :=
  let c0_i32_22326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22325 : BitVec 32 := 1#32
  let v14086 : BitVec 32 := Scalar.muli v24 c1_i32_22325
  let v14087 : BitVec 32 := Scalar.addi c0_i32_22326 v14086
  v14087.toNat
def k0_dev421 (d0 : Dev nD) : Nat :=
  let c0_i32_22381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22380 : BitVec 32 := 1#32
  let v14116 : BitVec 32 := Scalar.muli v24 c1_i32_22380
  let v14117 : BitVec 32 := Scalar.addi c0_i32_22381 v14116
  v14117.toNat
def k0_dev422 (d0 : Dev nD) : Nat :=
  let c0_i32_22436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22435 : BitVec 32 := 1#32
  let v14146 : BitVec 32 := Scalar.muli v24 c1_i32_22435
  let v14147 : BitVec 32 := Scalar.addi c0_i32_22436 v14146
  v14147.toNat
def k0_dev423 (d0 : Dev nD) : Nat :=
  let c0_i32_22451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22450 : BitVec 32 := 1#32
  let v14162 : BitVec 32 := Scalar.muli v13 c1_i32_22450
  let v14163 : BitVec 32 := Scalar.addi c0_i32_22451 v14162
  v14163.toNat
def k0_dev424 (d0 : Dev nD) : Nat :=
  let c0_i32_22525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22524 : BitVec 32 := 1#32
  let v14211 : BitVec 32 := Scalar.muli v13 c1_i32_22524
  let v14212 : BitVec 32 := Scalar.addi c0_i32_22525 v14211
  v14212.toNat
def k0_dev425 (d0 : Dev nD) : Nat :=
  let c0_i32_22580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22579 : BitVec 32 := 1#32
  let v14241 : BitVec 32 := Scalar.muli v13 c1_i32_22579
  let v14242 : BitVec 32 := Scalar.addi c0_i32_22580 v14241
  v14242.toNat
def k0_dev426 (d0 : Dev nD) : Nat :=
  let c0_i32_22635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22634 : BitVec 32 := 1#32
  let v14271 : BitVec 32 := Scalar.muli v13 c1_i32_22634
  let v14272 : BitVec 32 := Scalar.addi c0_i32_22635 v14271
  v14272.toNat
def k0_dev427 (d0 : Dev nD) : Nat :=
  let c0_i32_22690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22689 : BitVec 32 := 1#32
  let v14301 : BitVec 32 := Scalar.muli v13 c1_i32_22689
  let v14302 : BitVec 32 := Scalar.addi c0_i32_22690 v14301
  v14302.toNat
def k0_dev428 (d0 : Dev nD) : Nat :=
  let c0_i32_22705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22704 : BitVec 32 := 1#32
  let v14317 : BitVec 32 := Scalar.muli v24 c1_i32_22704
  let v14318 : BitVec 32 := Scalar.addi c0_i32_22705 v14317
  v14318.toNat
def k0_dev429 (d0 : Dev nD) : Nat :=
  let c0_i32_22779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22778 : BitVec 32 := 1#32
  let v14366 : BitVec 32 := Scalar.muli v24 c1_i32_22778
  let v14367 : BitVec 32 := Scalar.addi c0_i32_22779 v14366
  v14367.toNat
def k0_dev430 (d0 : Dev nD) : Nat :=
  let c0_i32_22834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22833 : BitVec 32 := 1#32
  let v14396 : BitVec 32 := Scalar.muli v24 c1_i32_22833
  let v14397 : BitVec 32 := Scalar.addi c0_i32_22834 v14396
  v14397.toNat
def k0_dev431 (d0 : Dev nD) : Nat :=
  let c0_i32_22889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22888 : BitVec 32 := 1#32
  let v14426 : BitVec 32 := Scalar.muli v24 c1_i32_22888
  let v14427 : BitVec 32 := Scalar.addi c0_i32_22889 v14426
  v14427.toNat
def k0_dev432 (d0 : Dev nD) : Nat :=
  let c0_i32_22944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22943 : BitVec 32 := 1#32
  let v14456 : BitVec 32 := Scalar.muli v24 c1_i32_22943
  let v14457 : BitVec 32 := Scalar.addi c0_i32_22944 v14456
  v14457.toNat
def k0_dev433 (d0 : Dev nD) : Nat :=
  let c0_i32_22959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22958 : BitVec 32 := 1#32
  let v14472 : BitVec 32 := Scalar.muli v13 c1_i32_22958
  let v14473 : BitVec 32 := Scalar.addi c0_i32_22959 v14472
  v14473.toNat
def k0_dev434 (d0 : Dev nD) : Nat :=
  let c0_i32_23033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23032 : BitVec 32 := 1#32
  let v14521 : BitVec 32 := Scalar.muli v13 c1_i32_23032
  let v14522 : BitVec 32 := Scalar.addi c0_i32_23033 v14521
  v14522.toNat
def k0_dev435 (d0 : Dev nD) : Nat :=
  let c0_i32_23088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23087 : BitVec 32 := 1#32
  let v14551 : BitVec 32 := Scalar.muli v13 c1_i32_23087
  let v14552 : BitVec 32 := Scalar.addi c0_i32_23088 v14551
  v14552.toNat
def k0_dev436 (d0 : Dev nD) : Nat :=
  let c0_i32_23143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23142 : BitVec 32 := 1#32
  let v14581 : BitVec 32 := Scalar.muli v13 c1_i32_23142
  let v14582 : BitVec 32 := Scalar.addi c0_i32_23143 v14581
  v14582.toNat
def k0_dev437 (d0 : Dev nD) : Nat :=
  let c0_i32_23198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23197 : BitVec 32 := 1#32
  let v14611 : BitVec 32 := Scalar.muli v13 c1_i32_23197
  let v14612 : BitVec 32 := Scalar.addi c0_i32_23198 v14611
  v14612.toNat
def k0_dev438 (d0 : Dev nD) : Nat :=
  let c0_i32_23213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23212 : BitVec 32 := 1#32
  let v14627 : BitVec 32 := Scalar.muli v24 c1_i32_23212
  let v14628 : BitVec 32 := Scalar.addi c0_i32_23213 v14627
  v14628.toNat
def k0_dev439 (d0 : Dev nD) : Nat :=
  let c0_i32_23287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23286 : BitVec 32 := 1#32
  let v14676 : BitVec 32 := Scalar.muli v24 c1_i32_23286
  let v14677 : BitVec 32 := Scalar.addi c0_i32_23287 v14676
  v14677.toNat
def k0_dev440 (d0 : Dev nD) : Nat :=
  let c0_i32_23342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23341 : BitVec 32 := 1#32
  let v14706 : BitVec 32 := Scalar.muli v24 c1_i32_23341
  let v14707 : BitVec 32 := Scalar.addi c0_i32_23342 v14706
  v14707.toNat
def k0_dev441 (d0 : Dev nD) : Nat :=
  let c0_i32_23397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23396 : BitVec 32 := 1#32
  let v14736 : BitVec 32 := Scalar.muli v24 c1_i32_23396
  let v14737 : BitVec 32 := Scalar.addi c0_i32_23397 v14736
  v14737.toNat
def k0_dev442 (d0 : Dev nD) : Nat :=
  let c0_i32_23452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23451 : BitVec 32 := 1#32
  let v14766 : BitVec 32 := Scalar.muli v24 c1_i32_23451
  let v14767 : BitVec 32 := Scalar.addi c0_i32_23452 v14766
  v14767.toNat
def k0_dev443 (d0 : Dev nD) : Nat :=
  let c0_i32_23467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23466 : BitVec 32 := 1#32
  let v14782 : BitVec 32 := Scalar.muli v13 c1_i32_23466
  let v14783 : BitVec 32 := Scalar.addi c0_i32_23467 v14782
  v14783.toNat
def k0_dev444 (d0 : Dev nD) : Nat :=
  let c0_i32_23541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23540 : BitVec 32 := 1#32
  let v14831 : BitVec 32 := Scalar.muli v13 c1_i32_23540
  let v14832 : BitVec 32 := Scalar.addi c0_i32_23541 v14831
  v14832.toNat
def k0_dev445 (d0 : Dev nD) : Nat :=
  let c0_i32_23596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23595 : BitVec 32 := 1#32
  let v14861 : BitVec 32 := Scalar.muli v13 c1_i32_23595
  let v14862 : BitVec 32 := Scalar.addi c0_i32_23596 v14861
  v14862.toNat
def k0_dev446 (d0 : Dev nD) : Nat :=
  let c0_i32_23651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23650 : BitVec 32 := 1#32
  let v14891 : BitVec 32 := Scalar.muli v13 c1_i32_23650
  let v14892 : BitVec 32 := Scalar.addi c0_i32_23651 v14891
  v14892.toNat
def k0_dev447 (d0 : Dev nD) : Nat :=
  let c0_i32_23706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23705 : BitVec 32 := 1#32
  let v14921 : BitVec 32 := Scalar.muli v13 c1_i32_23705
  let v14922 : BitVec 32 := Scalar.addi c0_i32_23706 v14921
  v14922.toNat
def k0_dev448 (d0 : Dev nD) : Nat :=
  let c0_i32_23721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23720 : BitVec 32 := 1#32
  let v14937 : BitVec 32 := Scalar.muli v24 c1_i32_23720
  let v14938 : BitVec 32 := Scalar.addi c0_i32_23721 v14937
  v14938.toNat
def k0_dev449 (d0 : Dev nD) : Nat :=
  let c0_i32_23795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23794 : BitVec 32 := 1#32
  let v14986 : BitVec 32 := Scalar.muli v24 c1_i32_23794
  let v14987 : BitVec 32 := Scalar.addi c0_i32_23795 v14986
  v14987.toNat
def k0_dev450 (d0 : Dev nD) : Nat :=
  let c0_i32_23850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23849 : BitVec 32 := 1#32
  let v15016 : BitVec 32 := Scalar.muli v24 c1_i32_23849
  let v15017 : BitVec 32 := Scalar.addi c0_i32_23850 v15016
  v15017.toNat
def k0_dev451 (d0 : Dev nD) : Nat :=
  let c0_i32_23905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23904 : BitVec 32 := 1#32
  let v15046 : BitVec 32 := Scalar.muli v24 c1_i32_23904
  let v15047 : BitVec 32 := Scalar.addi c0_i32_23905 v15046
  v15047.toNat
def k0_dev452 (d0 : Dev nD) : Nat :=
  let c0_i32_23960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23959 : BitVec 32 := 1#32
  let v15076 : BitVec 32 := Scalar.muli v24 c1_i32_23959
  let v15077 : BitVec 32 := Scalar.addi c0_i32_23960 v15076
  v15077.toNat
def k0_dev453 (d0 : Dev nD) : Nat :=
  let c0_i32_23975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23974 : BitVec 32 := 1#32
  let v15092 : BitVec 32 := Scalar.muli v13 c1_i32_23974
  let v15093 : BitVec 32 := Scalar.addi c0_i32_23975 v15092
  v15093.toNat
def k0_dev454 (d0 : Dev nD) : Nat :=
  let c0_i32_24049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24048 : BitVec 32 := 1#32
  let v15141 : BitVec 32 := Scalar.muli v13 c1_i32_24048
  let v15142 : BitVec 32 := Scalar.addi c0_i32_24049 v15141
  v15142.toNat
def k0_dev455 (d0 : Dev nD) : Nat :=
  let c0_i32_24104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24103 : BitVec 32 := 1#32
  let v15171 : BitVec 32 := Scalar.muli v13 c1_i32_24103
  let v15172 : BitVec 32 := Scalar.addi c0_i32_24104 v15171
  v15172.toNat
def k0_dev456 (d0 : Dev nD) : Nat :=
  let c0_i32_24159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24158 : BitVec 32 := 1#32
  let v15201 : BitVec 32 := Scalar.muli v13 c1_i32_24158
  let v15202 : BitVec 32 := Scalar.addi c0_i32_24159 v15201
  v15202.toNat
def k0_dev457 (d0 : Dev nD) : Nat :=
  let c0_i32_24214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24213 : BitVec 32 := 1#32
  let v15231 : BitVec 32 := Scalar.muli v13 c1_i32_24213
  let v15232 : BitVec 32 := Scalar.addi c0_i32_24214 v15231
  v15232.toNat
def k0_dev458 (d0 : Dev nD) : Nat :=
  let c0_i32_24229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24228 : BitVec 32 := 1#32
  let v15247 : BitVec 32 := Scalar.muli v24 c1_i32_24228
  let v15248 : BitVec 32 := Scalar.addi c0_i32_24229 v15247
  v15248.toNat
def k0_dev459 (d0 : Dev nD) : Nat :=
  let c0_i32_24303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24302 : BitVec 32 := 1#32
  let v15296 : BitVec 32 := Scalar.muli v24 c1_i32_24302
  let v15297 : BitVec 32 := Scalar.addi c0_i32_24303 v15296
  v15297.toNat
def k0_dev460 (d0 : Dev nD) : Nat :=
  let c0_i32_24358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24357 : BitVec 32 := 1#32
  let v15326 : BitVec 32 := Scalar.muli v24 c1_i32_24357
  let v15327 : BitVec 32 := Scalar.addi c0_i32_24358 v15326
  v15327.toNat
def k0_dev461 (d0 : Dev nD) : Nat :=
  let c0_i32_24413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24412 : BitVec 32 := 1#32
  let v15356 : BitVec 32 := Scalar.muli v24 c1_i32_24412
  let v15357 : BitVec 32 := Scalar.addi c0_i32_24413 v15356
  v15357.toNat
def k0_dev462 (d0 : Dev nD) : Nat :=
  let c0_i32_24468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24467 : BitVec 32 := 1#32
  let v15386 : BitVec 32 := Scalar.muli v24 c1_i32_24467
  let v15387 : BitVec 32 := Scalar.addi c0_i32_24468 v15386
  v15387.toNat
def k0_dev463 (d0 : Dev nD) : Nat :=
  let c0_i32_24483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24482 : BitVec 32 := 1#32
  let v15402 : BitVec 32 := Scalar.muli v13 c1_i32_24482
  let v15403 : BitVec 32 := Scalar.addi c0_i32_24483 v15402
  v15403.toNat
def k0_dev464 (d0 : Dev nD) : Nat :=
  let c0_i32_24557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24556 : BitVec 32 := 1#32
  let v15451 : BitVec 32 := Scalar.muli v13 c1_i32_24556
  let v15452 : BitVec 32 := Scalar.addi c0_i32_24557 v15451
  v15452.toNat
def k0_dev465 (d0 : Dev nD) : Nat :=
  let c0_i32_24612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24611 : BitVec 32 := 1#32
  let v15481 : BitVec 32 := Scalar.muli v13 c1_i32_24611
  let v15482 : BitVec 32 := Scalar.addi c0_i32_24612 v15481
  v15482.toNat
def k0_dev466 (d0 : Dev nD) : Nat :=
  let c0_i32_24667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24666 : BitVec 32 := 1#32
  let v15511 : BitVec 32 := Scalar.muli v13 c1_i32_24666
  let v15512 : BitVec 32 := Scalar.addi c0_i32_24667 v15511
  v15512.toNat
def k0_dev467 (d0 : Dev nD) : Nat :=
  let c0_i32_24722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24721 : BitVec 32 := 1#32
  let v15541 : BitVec 32 := Scalar.muli v13 c1_i32_24721
  let v15542 : BitVec 32 := Scalar.addi c0_i32_24722 v15541
  v15542.toNat
def k0_dev468 (d0 : Dev nD) : Nat :=
  let c0_i32_24737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24736 : BitVec 32 := 1#32
  let v15557 : BitVec 32 := Scalar.muli v24 c1_i32_24736
  let v15558 : BitVec 32 := Scalar.addi c0_i32_24737 v15557
  v15558.toNat
def k0_dev469 (d0 : Dev nD) : Nat :=
  let c0_i32_24811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24810 : BitVec 32 := 1#32
  let v15606 : BitVec 32 := Scalar.muli v24 c1_i32_24810
  let v15607 : BitVec 32 := Scalar.addi c0_i32_24811 v15606
  v15607.toNat
def k0_dev470 (d0 : Dev nD) : Nat :=
  let c0_i32_24866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24865 : BitVec 32 := 1#32
  let v15636 : BitVec 32 := Scalar.muli v24 c1_i32_24865
  let v15637 : BitVec 32 := Scalar.addi c0_i32_24866 v15636
  v15637.toNat
def k0_dev471 (d0 : Dev nD) : Nat :=
  let c0_i32_24921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24920 : BitVec 32 := 1#32
  let v15666 : BitVec 32 := Scalar.muli v24 c1_i32_24920
  let v15667 : BitVec 32 := Scalar.addi c0_i32_24921 v15666
  v15667.toNat
def k0_dev472 (d0 : Dev nD) : Nat :=
  let c0_i32_24976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24975 : BitVec 32 := 1#32
  let v15696 : BitVec 32 := Scalar.muli v24 c1_i32_24975
  let v15697 : BitVec 32 := Scalar.addi c0_i32_24976 v15696
  v15697.toNat
def k0_dev473 (d0 : Dev nD) : Nat :=
  let c0_i32_24991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24990 : BitVec 32 := 1#32
  let v15712 : BitVec 32 := Scalar.muli v13 c1_i32_24990
  let v15713 : BitVec 32 := Scalar.addi c0_i32_24991 v15712
  v15713.toNat
def k0_dev474 (d0 : Dev nD) : Nat :=
  let c0_i32_25065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25064 : BitVec 32 := 1#32
  let v15761 : BitVec 32 := Scalar.muli v13 c1_i32_25064
  let v15762 : BitVec 32 := Scalar.addi c0_i32_25065 v15761
  v15762.toNat
def k0_dev475 (d0 : Dev nD) : Nat :=
  let c0_i32_25120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25119 : BitVec 32 := 1#32
  let v15791 : BitVec 32 := Scalar.muli v13 c1_i32_25119
  let v15792 : BitVec 32 := Scalar.addi c0_i32_25120 v15791
  v15792.toNat
def k0_dev476 (d0 : Dev nD) : Nat :=
  let c0_i32_25175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25174 : BitVec 32 := 1#32
  let v15821 : BitVec 32 := Scalar.muli v13 c1_i32_25174
  let v15822 : BitVec 32 := Scalar.addi c0_i32_25175 v15821
  v15822.toNat
def k0_dev477 (d0 : Dev nD) : Nat :=
  let c0_i32_25230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25229 : BitVec 32 := 1#32
  let v15851 : BitVec 32 := Scalar.muli v13 c1_i32_25229
  let v15852 : BitVec 32 := Scalar.addi c0_i32_25230 v15851
  v15852.toNat
def k0_dev478 (d0 : Dev nD) : Nat :=
  let c0_i32_25245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25244 : BitVec 32 := 1#32
  let v15867 : BitVec 32 := Scalar.muli v24 c1_i32_25244
  let v15868 : BitVec 32 := Scalar.addi c0_i32_25245 v15867
  v15868.toNat
def k0_dev479 (d0 : Dev nD) : Nat :=
  let c0_i32_25319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25318 : BitVec 32 := 1#32
  let v15916 : BitVec 32 := Scalar.muli v24 c1_i32_25318
  let v15917 : BitVec 32 := Scalar.addi c0_i32_25319 v15916
  v15917.toNat
def k0_dev480 (d0 : Dev nD) : Nat :=
  let c0_i32_25374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25373 : BitVec 32 := 1#32
  let v15946 : BitVec 32 := Scalar.muli v24 c1_i32_25373
  let v15947 : BitVec 32 := Scalar.addi c0_i32_25374 v15946
  v15947.toNat
def k0_dev481 (d0 : Dev nD) : Nat :=
  let c0_i32_25429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25428 : BitVec 32 := 1#32
  let v15976 : BitVec 32 := Scalar.muli v24 c1_i32_25428
  let v15977 : BitVec 32 := Scalar.addi c0_i32_25429 v15976
  v15977.toNat
def k0_dev482 (d0 : Dev nD) : Nat :=
  let c0_i32_25484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25483 : BitVec 32 := 1#32
  let v16006 : BitVec 32 := Scalar.muli v24 c1_i32_25483
  let v16007 : BitVec 32 := Scalar.addi c0_i32_25484 v16006
  v16007.toNat
def k0_dev483 (d0 : Dev nD) : Nat :=
  let c0_i32_25499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25498 : BitVec 32 := 1#32
  let v16022 : BitVec 32 := Scalar.muli v13 c1_i32_25498
  let v16023 : BitVec 32 := Scalar.addi c0_i32_25499 v16022
  v16023.toNat
def k0_dev484 (d0 : Dev nD) : Nat :=
  let c0_i32_25573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25572 : BitVec 32 := 1#32
  let v16071 : BitVec 32 := Scalar.muli v13 c1_i32_25572
  let v16072 : BitVec 32 := Scalar.addi c0_i32_25573 v16071
  v16072.toNat
def k0_dev485 (d0 : Dev nD) : Nat :=
  let c0_i32_25628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25627 : BitVec 32 := 1#32
  let v16101 : BitVec 32 := Scalar.muli v13 c1_i32_25627
  let v16102 : BitVec 32 := Scalar.addi c0_i32_25628 v16101
  v16102.toNat
def k0_dev486 (d0 : Dev nD) : Nat :=
  let c0_i32_25683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25682 : BitVec 32 := 1#32
  let v16131 : BitVec 32 := Scalar.muli v13 c1_i32_25682
  let v16132 : BitVec 32 := Scalar.addi c0_i32_25683 v16131
  v16132.toNat
def k0_dev487 (d0 : Dev nD) : Nat :=
  let c0_i32_25738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25737 : BitVec 32 := 1#32
  let v16161 : BitVec 32 := Scalar.muli v13 c1_i32_25737
  let v16162 : BitVec 32 := Scalar.addi c0_i32_25738 v16161
  v16162.toNat
def k0_dev488 (d0 : Dev nD) : Nat :=
  let c0_i32_25753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25752 : BitVec 32 := 1#32
  let v16177 : BitVec 32 := Scalar.muli v24 c1_i32_25752
  let v16178 : BitVec 32 := Scalar.addi c0_i32_25753 v16177
  v16178.toNat
def k0_dev489 (d0 : Dev nD) : Nat :=
  let c0_i32_25827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25826 : BitVec 32 := 1#32
  let v16226 : BitVec 32 := Scalar.muli v24 c1_i32_25826
  let v16227 : BitVec 32 := Scalar.addi c0_i32_25827 v16226
  v16227.toNat
def k0_dev490 (d0 : Dev nD) : Nat :=
  let c0_i32_25882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25881 : BitVec 32 := 1#32
  let v16256 : BitVec 32 := Scalar.muli v24 c1_i32_25881
  let v16257 : BitVec 32 := Scalar.addi c0_i32_25882 v16256
  v16257.toNat
def k0_dev491 (d0 : Dev nD) : Nat :=
  let c0_i32_25937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25936 : BitVec 32 := 1#32
  let v16286 : BitVec 32 := Scalar.muli v24 c1_i32_25936
  let v16287 : BitVec 32 := Scalar.addi c0_i32_25937 v16286
  v16287.toNat
def k0_dev492 (d0 : Dev nD) : Nat :=
  let c0_i32_25992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25991 : BitVec 32 := 1#32
  let v16316 : BitVec 32 := Scalar.muli v24 c1_i32_25991
  let v16317 : BitVec 32 := Scalar.addi c0_i32_25992 v16316
  v16317.toNat
def k0_dev493 (d0 : Dev nD) : Nat :=
  let c0_i32_26007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26006 : BitVec 32 := 1#32
  let v16332 : BitVec 32 := Scalar.muli v13 c1_i32_26006
  let v16333 : BitVec 32 := Scalar.addi c0_i32_26007 v16332
  v16333.toNat
def k0_dev494 (d0 : Dev nD) : Nat :=
  let c0_i32_26081 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26080 : BitVec 32 := 1#32
  let v16381 : BitVec 32 := Scalar.muli v13 c1_i32_26080
  let v16382 : BitVec 32 := Scalar.addi c0_i32_26081 v16381
  v16382.toNat
def k0_dev495 (d0 : Dev nD) : Nat :=
  let c0_i32_26136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26135 : BitVec 32 := 1#32
  let v16411 : BitVec 32 := Scalar.muli v13 c1_i32_26135
  let v16412 : BitVec 32 := Scalar.addi c0_i32_26136 v16411
  v16412.toNat
def k0_dev496 (d0 : Dev nD) : Nat :=
  let c0_i32_26191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26190 : BitVec 32 := 1#32
  let v16441 : BitVec 32 := Scalar.muli v13 c1_i32_26190
  let v16442 : BitVec 32 := Scalar.addi c0_i32_26191 v16441
  v16442.toNat
def k0_dev497 (d0 : Dev nD) : Nat :=
  let c0_i32_26246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26245 : BitVec 32 := 1#32
  let v16471 : BitVec 32 := Scalar.muli v13 c1_i32_26245
  let v16472 : BitVec 32 := Scalar.addi c0_i32_26246 v16471
  v16472.toNat
def k0_dev498 (d0 : Dev nD) : Nat :=
  let c0_i32_26261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26260 : BitVec 32 := 1#32
  let v16487 : BitVec 32 := Scalar.muli v24 c1_i32_26260
  let v16488 : BitVec 32 := Scalar.addi c0_i32_26261 v16487
  v16488.toNat
def k0_dev499 (d0 : Dev nD) : Nat :=
  let c0_i32_26335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26334 : BitVec 32 := 1#32
  let v16536 : BitVec 32 := Scalar.muli v24 c1_i32_26334
  let v16537 : BitVec 32 := Scalar.addi c0_i32_26335 v16536
  v16537.toNat
def k0_dev500 (d0 : Dev nD) : Nat :=
  let c0_i32_26390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26389 : BitVec 32 := 1#32
  let v16566 : BitVec 32 := Scalar.muli v24 c1_i32_26389
  let v16567 : BitVec 32 := Scalar.addi c0_i32_26390 v16566
  v16567.toNat
def k0_dev501 (d0 : Dev nD) : Nat :=
  let c0_i32_26445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26444 : BitVec 32 := 1#32
  let v16596 : BitVec 32 := Scalar.muli v24 c1_i32_26444
  let v16597 : BitVec 32 := Scalar.addi c0_i32_26445 v16596
  v16597.toNat
def k0_dev502 (d0 : Dev nD) : Nat :=
  let c0_i32_26500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26499 : BitVec 32 := 1#32
  let v16626 : BitVec 32 := Scalar.muli v24 c1_i32_26499
  let v16627 : BitVec 32 := Scalar.addi c0_i32_26500 v16626
  v16627.toNat
def k0_dev503 (d0 : Dev nD) : Nat :=
  let c0_i32_26515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26514 : BitVec 32 := 1#32
  let v16642 : BitVec 32 := Scalar.muli v13 c1_i32_26514
  let v16643 : BitVec 32 := Scalar.addi c0_i32_26515 v16642
  v16643.toNat
def k0_dev504 (d0 : Dev nD) : Nat :=
  let c0_i32_26589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26588 : BitVec 32 := 1#32
  let v16691 : BitVec 32 := Scalar.muli v13 c1_i32_26588
  let v16692 : BitVec 32 := Scalar.addi c0_i32_26589 v16691
  v16692.toNat
def k0_dev505 (d0 : Dev nD) : Nat :=
  let c0_i32_26644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26643 : BitVec 32 := 1#32
  let v16721 : BitVec 32 := Scalar.muli v13 c1_i32_26643
  let v16722 : BitVec 32 := Scalar.addi c0_i32_26644 v16721
  v16722.toNat
def k0_dev506 (d0 : Dev nD) : Nat :=
  let c0_i32_26699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26698 : BitVec 32 := 1#32
  let v16751 : BitVec 32 := Scalar.muli v13 c1_i32_26698
  let v16752 : BitVec 32 := Scalar.addi c0_i32_26699 v16751
  v16752.toNat
def k0_dev507 (d0 : Dev nD) : Nat :=
  let c0_i32_26754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26753 : BitVec 32 := 1#32
  let v16781 : BitVec 32 := Scalar.muli v13 c1_i32_26753
  let v16782 : BitVec 32 := Scalar.addi c0_i32_26754 v16781
  v16782.toNat
def k0_dev508 (d0 : Dev nD) : Nat :=
  let c0_i32_26769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26768 : BitVec 32 := 1#32
  let v16797 : BitVec 32 := Scalar.muli v24 c1_i32_26768
  let v16798 : BitVec 32 := Scalar.addi c0_i32_26769 v16797
  v16798.toNat
def k0_dev509 (d0 : Dev nD) : Nat :=
  let c0_i32_26843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26842 : BitVec 32 := 1#32
  let v16846 : BitVec 32 := Scalar.muli v24 c1_i32_26842
  let v16847 : BitVec 32 := Scalar.addi c0_i32_26843 v16846
  v16847.toNat
def k0_dev510 (d0 : Dev nD) : Nat :=
  let c0_i32_26898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26897 : BitVec 32 := 1#32
  let v16876 : BitVec 32 := Scalar.muli v24 c1_i32_26897
  let v16877 : BitVec 32 := Scalar.addi c0_i32_26898 v16876
  v16877.toNat
def k0_dev511 (d0 : Dev nD) : Nat :=
  let c0_i32_26953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26952 : BitVec 32 := 1#32
  let v16906 : BitVec 32 := Scalar.muli v24 c1_i32_26952
  let v16907 : BitVec 32 := Scalar.addi c0_i32_26953 v16906
  v16907.toNat
def k0_dev512 (d0 : Dev nD) : Nat :=
  let c0_i32_27008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27007 : BitVec 32 := 1#32
  let v16936 : BitVec 32 := Scalar.muli v24 c1_i32_27007
  let v16937 : BitVec 32 := Scalar.addi c0_i32_27008 v16936
  v16937.toNat
def k0_dev513 (d0 : Dev nD) : Nat :=
  let c0_i32_27023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27022 : BitVec 32 := 1#32
  let v16952 : BitVec 32 := Scalar.muli v13 c1_i32_27022
  let v16953 : BitVec 32 := Scalar.addi c0_i32_27023 v16952
  v16953.toNat
def k0_dev514 (d0 : Dev nD) : Nat :=
  let c0_i32_27097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27096 : BitVec 32 := 1#32
  let v17001 : BitVec 32 := Scalar.muli v13 c1_i32_27096
  let v17002 : BitVec 32 := Scalar.addi c0_i32_27097 v17001
  v17002.toNat
def k0_dev515 (d0 : Dev nD) : Nat :=
  let c0_i32_27152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27151 : BitVec 32 := 1#32
  let v17031 : BitVec 32 := Scalar.muli v13 c1_i32_27151
  let v17032 : BitVec 32 := Scalar.addi c0_i32_27152 v17031
  v17032.toNat
def k0_dev516 (d0 : Dev nD) : Nat :=
  let c0_i32_27207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27206 : BitVec 32 := 1#32
  let v17061 : BitVec 32 := Scalar.muli v13 c1_i32_27206
  let v17062 : BitVec 32 := Scalar.addi c0_i32_27207 v17061
  v17062.toNat
def k0_dev517 (d0 : Dev nD) : Nat :=
  let c0_i32_27262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27261 : BitVec 32 := 1#32
  let v17091 : BitVec 32 := Scalar.muli v13 c1_i32_27261
  let v17092 : BitVec 32 := Scalar.addi c0_i32_27262 v17091
  v17092.toNat
def k0_dev518 (d0 : Dev nD) : Nat :=
  let c0_i32_27277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27276 : BitVec 32 := 1#32
  let v17107 : BitVec 32 := Scalar.muli v24 c1_i32_27276
  let v17108 : BitVec 32 := Scalar.addi c0_i32_27277 v17107
  v17108.toNat
def k0_dev519 (d0 : Dev nD) : Nat :=
  let c0_i32_27351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27350 : BitVec 32 := 1#32
  let v17156 : BitVec 32 := Scalar.muli v24 c1_i32_27350
  let v17157 : BitVec 32 := Scalar.addi c0_i32_27351 v17156
  v17157.toNat
def k0_dev520 (d0 : Dev nD) : Nat :=
  let c0_i32_27406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27405 : BitVec 32 := 1#32
  let v17186 : BitVec 32 := Scalar.muli v24 c1_i32_27405
  let v17187 : BitVec 32 := Scalar.addi c0_i32_27406 v17186
  v17187.toNat
def k0_dev521 (d0 : Dev nD) : Nat :=
  let c0_i32_27461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27460 : BitVec 32 := 1#32
  let v17216 : BitVec 32 := Scalar.muli v24 c1_i32_27460
  let v17217 : BitVec 32 := Scalar.addi c0_i32_27461 v17216
  v17217.toNat
def k0_dev522 (d0 : Dev nD) : Nat :=
  let c0_i32_27516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27515 : BitVec 32 := 1#32
  let v17246 : BitVec 32 := Scalar.muli v24 c1_i32_27515
  let v17247 : BitVec 32 := Scalar.addi c0_i32_27516 v17246
  v17247.toNat
def k0_dev523 (d0 : Dev nD) : Nat :=
  let c0_i32_27531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27530 : BitVec 32 := 1#32
  let v17262 : BitVec 32 := Scalar.muli v13 c1_i32_27530
  let v17263 : BitVec 32 := Scalar.addi c0_i32_27531 v17262
  v17263.toNat
def k0_dev524 (d0 : Dev nD) : Nat :=
  let c0_i32_27605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27604 : BitVec 32 := 1#32
  let v17311 : BitVec 32 := Scalar.muli v13 c1_i32_27604
  let v17312 : BitVec 32 := Scalar.addi c0_i32_27605 v17311
  v17312.toNat
def k0_dev525 (d0 : Dev nD) : Nat :=
  let c0_i32_27660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27659 : BitVec 32 := 1#32
  let v17341 : BitVec 32 := Scalar.muli v13 c1_i32_27659
  let v17342 : BitVec 32 := Scalar.addi c0_i32_27660 v17341
  v17342.toNat
def k0_dev526 (d0 : Dev nD) : Nat :=
  let c0_i32_27715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27714 : BitVec 32 := 1#32
  let v17371 : BitVec 32 := Scalar.muli v13 c1_i32_27714
  let v17372 : BitVec 32 := Scalar.addi c0_i32_27715 v17371
  v17372.toNat
def k0_dev527 (d0 : Dev nD) : Nat :=
  let c0_i32_27770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27769 : BitVec 32 := 1#32
  let v17401 : BitVec 32 := Scalar.muli v13 c1_i32_27769
  let v17402 : BitVec 32 := Scalar.addi c0_i32_27770 v17401
  v17402.toNat
def k0_dev528 (d0 : Dev nD) : Nat :=
  let c0_i32_27785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27784 : BitVec 32 := 1#32
  let v17417 : BitVec 32 := Scalar.muli v24 c1_i32_27784
  let v17418 : BitVec 32 := Scalar.addi c0_i32_27785 v17417
  v17418.toNat
def k0_dev529 (d0 : Dev nD) : Nat :=
  let c0_i32_27859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27858 : BitVec 32 := 1#32
  let v17466 : BitVec 32 := Scalar.muli v24 c1_i32_27858
  let v17467 : BitVec 32 := Scalar.addi c0_i32_27859 v17466
  v17467.toNat
def k0_dev530 (d0 : Dev nD) : Nat :=
  let c0_i32_27914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27913 : BitVec 32 := 1#32
  let v17496 : BitVec 32 := Scalar.muli v24 c1_i32_27913
  let v17497 : BitVec 32 := Scalar.addi c0_i32_27914 v17496
  v17497.toNat
def k0_dev531 (d0 : Dev nD) : Nat :=
  let c0_i32_27969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27968 : BitVec 32 := 1#32
  let v17526 : BitVec 32 := Scalar.muli v24 c1_i32_27968
  let v17527 : BitVec 32 := Scalar.addi c0_i32_27969 v17526
  v17527.toNat
def k0_dev532 (d0 : Dev nD) : Nat :=
  let c0_i32_28024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28023 : BitVec 32 := 1#32
  let v17556 : BitVec 32 := Scalar.muli v24 c1_i32_28023
  let v17557 : BitVec 32 := Scalar.addi c0_i32_28024 v17556
  v17557.toNat
def k0_dev533 (d0 : Dev nD) : Nat :=
  let c0_i32_28039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28038 : BitVec 32 := 1#32
  let v17572 : BitVec 32 := Scalar.muli v13 c1_i32_28038
  let v17573 : BitVec 32 := Scalar.addi c0_i32_28039 v17572
  v17573.toNat
def k0_dev534 (d0 : Dev nD) : Nat :=
  let c0_i32_28113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28112 : BitVec 32 := 1#32
  let v17621 : BitVec 32 := Scalar.muli v13 c1_i32_28112
  let v17622 : BitVec 32 := Scalar.addi c0_i32_28113 v17621
  v17622.toNat
def k0_dev535 (d0 : Dev nD) : Nat :=
  let c0_i32_28168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28167 : BitVec 32 := 1#32
  let v17651 : BitVec 32 := Scalar.muli v13 c1_i32_28167
  let v17652 : BitVec 32 := Scalar.addi c0_i32_28168 v17651
  v17652.toNat
def k0_dev536 (d0 : Dev nD) : Nat :=
  let c0_i32_28223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28222 : BitVec 32 := 1#32
  let v17681 : BitVec 32 := Scalar.muli v13 c1_i32_28222
  let v17682 : BitVec 32 := Scalar.addi c0_i32_28223 v17681
  v17682.toNat
def k0_dev537 (d0 : Dev nD) : Nat :=
  let c0_i32_28278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28277 : BitVec 32 := 1#32
  let v17711 : BitVec 32 := Scalar.muli v13 c1_i32_28277
  let v17712 : BitVec 32 := Scalar.addi c0_i32_28278 v17711
  v17712.toNat
def k0_dev538 (d0 : Dev nD) : Nat :=
  let c0_i32_28293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28292 : BitVec 32 := 1#32
  let v17727 : BitVec 32 := Scalar.muli v24 c1_i32_28292
  let v17728 : BitVec 32 := Scalar.addi c0_i32_28293 v17727
  v17728.toNat
def k0_dev539 (d0 : Dev nD) : Nat :=
  let c0_i32_28367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28366 : BitVec 32 := 1#32
  let v17776 : BitVec 32 := Scalar.muli v24 c1_i32_28366
  let v17777 : BitVec 32 := Scalar.addi c0_i32_28367 v17776
  v17777.toNat
def k0_dev540 (d0 : Dev nD) : Nat :=
  let c0_i32_28422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28421 : BitVec 32 := 1#32
  let v17806 : BitVec 32 := Scalar.muli v24 c1_i32_28421
  let v17807 : BitVec 32 := Scalar.addi c0_i32_28422 v17806
  v17807.toNat
def k0_dev541 (d0 : Dev nD) : Nat :=
  let c0_i32_28477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28476 : BitVec 32 := 1#32
  let v17836 : BitVec 32 := Scalar.muli v24 c1_i32_28476
  let v17837 : BitVec 32 := Scalar.addi c0_i32_28477 v17836
  v17837.toNat
def k0_dev542 (d0 : Dev nD) : Nat :=
  let c0_i32_28532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28531 : BitVec 32 := 1#32
  let v17866 : BitVec 32 := Scalar.muli v24 c1_i32_28531
  let v17867 : BitVec 32 := Scalar.addi c0_i32_28532 v17866
  v17867.toNat
def k0_dev543 (d0 : Dev nD) : Nat :=
  let c0_i32_28547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28546 : BitVec 32 := 1#32
  let v17882 : BitVec 32 := Scalar.muli v13 c1_i32_28546
  let v17883 : BitVec 32 := Scalar.addi c0_i32_28547 v17882
  v17883.toNat
def k0_dev544 (d0 : Dev nD) : Nat :=
  let c0_i32_28621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28620 : BitVec 32 := 1#32
  let v17931 : BitVec 32 := Scalar.muli v13 c1_i32_28620
  let v17932 : BitVec 32 := Scalar.addi c0_i32_28621 v17931
  v17932.toNat
def k0_dev545 (d0 : Dev nD) : Nat :=
  let c0_i32_28676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28675 : BitVec 32 := 1#32
  let v17961 : BitVec 32 := Scalar.muli v13 c1_i32_28675
  let v17962 : BitVec 32 := Scalar.addi c0_i32_28676 v17961
  v17962.toNat
def k0_dev546 (d0 : Dev nD) : Nat :=
  let c0_i32_28731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28730 : BitVec 32 := 1#32
  let v17991 : BitVec 32 := Scalar.muli v13 c1_i32_28730
  let v17992 : BitVec 32 := Scalar.addi c0_i32_28731 v17991
  v17992.toNat
def k0_dev547 (d0 : Dev nD) : Nat :=
  let c0_i32_28786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28785 : BitVec 32 := 1#32
  let v18021 : BitVec 32 := Scalar.muli v13 c1_i32_28785
  let v18022 : BitVec 32 := Scalar.addi c0_i32_28786 v18021
  v18022.toNat
def k0_dev548 (d0 : Dev nD) : Nat :=
  let c0_i32_28801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28800 : BitVec 32 := 1#32
  let v18037 : BitVec 32 := Scalar.muli v24 c1_i32_28800
  let v18038 : BitVec 32 := Scalar.addi c0_i32_28801 v18037
  v18038.toNat
def k0_dev549 (d0 : Dev nD) : Nat :=
  let c0_i32_28875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28874 : BitVec 32 := 1#32
  let v18086 : BitVec 32 := Scalar.muli v24 c1_i32_28874
  let v18087 : BitVec 32 := Scalar.addi c0_i32_28875 v18086
  v18087.toNat
def k0_dev550 (d0 : Dev nD) : Nat :=
  let c0_i32_28930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28929 : BitVec 32 := 1#32
  let v18116 : BitVec 32 := Scalar.muli v24 c1_i32_28929
  let v18117 : BitVec 32 := Scalar.addi c0_i32_28930 v18116
  v18117.toNat
def k0_dev551 (d0 : Dev nD) : Nat :=
  let c0_i32_28985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28984 : BitVec 32 := 1#32
  let v18146 : BitVec 32 := Scalar.muli v24 c1_i32_28984
  let v18147 : BitVec 32 := Scalar.addi c0_i32_28985 v18146
  v18147.toNat
def k0_dev552 (d0 : Dev nD) : Nat :=
  let c0_i32_29040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29039 : BitVec 32 := 1#32
  let v18176 : BitVec 32 := Scalar.muli v24 c1_i32_29039
  let v18177 : BitVec 32 := Scalar.addi c0_i32_29040 v18176
  v18177.toNat
def k0_dev553 (d0 : Dev nD) : Nat :=
  let c0_i32_29055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29054 : BitVec 32 := 1#32
  let v18192 : BitVec 32 := Scalar.muli v13 c1_i32_29054
  let v18193 : BitVec 32 := Scalar.addi c0_i32_29055 v18192
  v18193.toNat
def k0_dev554 (d0 : Dev nD) : Nat :=
  let c0_i32_29129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29128 : BitVec 32 := 1#32
  let v18241 : BitVec 32 := Scalar.muli v13 c1_i32_29128
  let v18242 : BitVec 32 := Scalar.addi c0_i32_29129 v18241
  v18242.toNat
def k0_dev555 (d0 : Dev nD) : Nat :=
  let c0_i32_29184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29183 : BitVec 32 := 1#32
  let v18271 : BitVec 32 := Scalar.muli v13 c1_i32_29183
  let v18272 : BitVec 32 := Scalar.addi c0_i32_29184 v18271
  v18272.toNat
def k0_dev556 (d0 : Dev nD) : Nat :=
  let c0_i32_29239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29238 : BitVec 32 := 1#32
  let v18301 : BitVec 32 := Scalar.muli v13 c1_i32_29238
  let v18302 : BitVec 32 := Scalar.addi c0_i32_29239 v18301
  v18302.toNat
def k0_dev557 (d0 : Dev nD) : Nat :=
  let c0_i32_29294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29293 : BitVec 32 := 1#32
  let v18331 : BitVec 32 := Scalar.muli v13 c1_i32_29293
  let v18332 : BitVec 32 := Scalar.addi c0_i32_29294 v18331
  v18332.toNat
def k0_dev558 (d0 : Dev nD) : Nat :=
  let c0_i32_29309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29308 : BitVec 32 := 1#32
  let v18347 : BitVec 32 := Scalar.muli v24 c1_i32_29308
  let v18348 : BitVec 32 := Scalar.addi c0_i32_29309 v18347
  v18348.toNat
def k0_dev559 (d0 : Dev nD) : Nat :=
  let c0_i32_29383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29382 : BitVec 32 := 1#32
  let v18396 : BitVec 32 := Scalar.muli v24 c1_i32_29382
  let v18397 : BitVec 32 := Scalar.addi c0_i32_29383 v18396
  v18397.toNat
def k0_dev560 (d0 : Dev nD) : Nat :=
  let c0_i32_29438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29437 : BitVec 32 := 1#32
  let v18426 : BitVec 32 := Scalar.muli v24 c1_i32_29437
  let v18427 : BitVec 32 := Scalar.addi c0_i32_29438 v18426
  v18427.toNat
def k0_dev561 (d0 : Dev nD) : Nat :=
  let c0_i32_29493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29492 : BitVec 32 := 1#32
  let v18456 : BitVec 32 := Scalar.muli v24 c1_i32_29492
  let v18457 : BitVec 32 := Scalar.addi c0_i32_29493 v18456
  v18457.toNat
def k0_dev562 (d0 : Dev nD) : Nat :=
  let c0_i32_29548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29547 : BitVec 32 := 1#32
  let v18486 : BitVec 32 := Scalar.muli v24 c1_i32_29547
  let v18487 : BitVec 32 := Scalar.addi c0_i32_29548 v18486
  v18487.toNat
def k0_dev563 (d0 : Dev nD) : Nat :=
  let c0_i32_29563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29562 : BitVec 32 := 1#32
  let v18502 : BitVec 32 := Scalar.muli v13 c1_i32_29562
  let v18503 : BitVec 32 := Scalar.addi c0_i32_29563 v18502
  v18503.toNat
def k0_dev564 (d0 : Dev nD) : Nat :=
  let c0_i32_29637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29636 : BitVec 32 := 1#32
  let v18551 : BitVec 32 := Scalar.muli v13 c1_i32_29636
  let v18552 : BitVec 32 := Scalar.addi c0_i32_29637 v18551
  v18552.toNat
def k0_dev565 (d0 : Dev nD) : Nat :=
  let c0_i32_29692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29691 : BitVec 32 := 1#32
  let v18581 : BitVec 32 := Scalar.muli v13 c1_i32_29691
  let v18582 : BitVec 32 := Scalar.addi c0_i32_29692 v18581
  v18582.toNat
def k0_dev566 (d0 : Dev nD) : Nat :=
  let c0_i32_29747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29746 : BitVec 32 := 1#32
  let v18611 : BitVec 32 := Scalar.muli v13 c1_i32_29746
  let v18612 : BitVec 32 := Scalar.addi c0_i32_29747 v18611
  v18612.toNat
def k0_dev567 (d0 : Dev nD) : Nat :=
  let c0_i32_29802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29801 : BitVec 32 := 1#32
  let v18641 : BitVec 32 := Scalar.muli v13 c1_i32_29801
  let v18642 : BitVec 32 := Scalar.addi c0_i32_29802 v18641
  v18642.toNat
def k0_dev568 (d0 : Dev nD) : Nat :=
  let c0_i32_29817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29816 : BitVec 32 := 1#32
  let v18657 : BitVec 32 := Scalar.muli v24 c1_i32_29816
  let v18658 : BitVec 32 := Scalar.addi c0_i32_29817 v18657
  v18658.toNat
def k0_dev569 (d0 : Dev nD) : Nat :=
  let c0_i32_29891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29890 : BitVec 32 := 1#32
  let v18706 : BitVec 32 := Scalar.muli v24 c1_i32_29890
  let v18707 : BitVec 32 := Scalar.addi c0_i32_29891 v18706
  v18707.toNat
def k0_dev570 (d0 : Dev nD) : Nat :=
  let c0_i32_29946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29945 : BitVec 32 := 1#32
  let v18736 : BitVec 32 := Scalar.muli v24 c1_i32_29945
  let v18737 : BitVec 32 := Scalar.addi c0_i32_29946 v18736
  v18737.toNat
def k0_dev571 (d0 : Dev nD) : Nat :=
  let c0_i32_30001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30000 : BitVec 32 := 1#32
  let v18766 : BitVec 32 := Scalar.muli v24 c1_i32_30000
  let v18767 : BitVec 32 := Scalar.addi c0_i32_30001 v18766
  v18767.toNat
def k0_dev572 (d0 : Dev nD) : Nat :=
  let c0_i32_30056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30055 : BitVec 32 := 1#32
  let v18796 : BitVec 32 := Scalar.muli v24 c1_i32_30055
  let v18797 : BitVec 32 := Scalar.addi c0_i32_30056 v18796
  v18797.toNat
def k0_dev573 (d0 : Dev nD) : Nat :=
  let c0_i32_30071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30070 : BitVec 32 := 1#32
  let v18812 : BitVec 32 := Scalar.muli v13 c1_i32_30070
  let v18813 : BitVec 32 := Scalar.addi c0_i32_30071 v18812
  v18813.toNat
def k0_dev574 (d0 : Dev nD) : Nat :=
  let c0_i32_30145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30144 : BitVec 32 := 1#32
  let v18861 : BitVec 32 := Scalar.muli v13 c1_i32_30144
  let v18862 : BitVec 32 := Scalar.addi c0_i32_30145 v18861
  v18862.toNat
def k0_dev575 (d0 : Dev nD) : Nat :=
  let c0_i32_30200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30199 : BitVec 32 := 1#32
  let v18891 : BitVec 32 := Scalar.muli v13 c1_i32_30199
  let v18892 : BitVec 32 := Scalar.addi c0_i32_30200 v18891
  v18892.toNat
def k0_dev576 (d0 : Dev nD) : Nat :=
  let c0_i32_30255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30254 : BitVec 32 := 1#32
  let v18921 : BitVec 32 := Scalar.muli v13 c1_i32_30254
  let v18922 : BitVec 32 := Scalar.addi c0_i32_30255 v18921
  v18922.toNat
def k0_dev577 (d0 : Dev nD) : Nat :=
  let c0_i32_30310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30309 : BitVec 32 := 1#32
  let v18951 : BitVec 32 := Scalar.muli v13 c1_i32_30309
  let v18952 : BitVec 32 := Scalar.addi c0_i32_30310 v18951
  v18952.toNat
def k0_dev578 (d0 : Dev nD) : Nat :=
  let c0_i32_30325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30324 : BitVec 32 := 1#32
  let v18967 : BitVec 32 := Scalar.muli v24 c1_i32_30324
  let v18968 : BitVec 32 := Scalar.addi c0_i32_30325 v18967
  v18968.toNat
def k0_dev579 (d0 : Dev nD) : Nat :=
  let c0_i32_30399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30398 : BitVec 32 := 1#32
  let v19016 : BitVec 32 := Scalar.muli v24 c1_i32_30398
  let v19017 : BitVec 32 := Scalar.addi c0_i32_30399 v19016
  v19017.toNat
def k0_dev580 (d0 : Dev nD) : Nat :=
  let c0_i32_30454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30453 : BitVec 32 := 1#32
  let v19046 : BitVec 32 := Scalar.muli v24 c1_i32_30453
  let v19047 : BitVec 32 := Scalar.addi c0_i32_30454 v19046
  v19047.toNat
def k0_dev581 (d0 : Dev nD) : Nat :=
  let c0_i32_30509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30508 : BitVec 32 := 1#32
  let v19076 : BitVec 32 := Scalar.muli v24 c1_i32_30508
  let v19077 : BitVec 32 := Scalar.addi c0_i32_30509 v19076
  v19077.toNat
def k0_dev582 (d0 : Dev nD) : Nat :=
  let c0_i32_30564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30563 : BitVec 32 := 1#32
  let v19106 : BitVec 32 := Scalar.muli v24 c1_i32_30563
  let v19107 : BitVec 32 := Scalar.addi c0_i32_30564 v19106
  v19107.toNat
def k0_dev583 (d0 : Dev nD) : Nat :=
  let c0_i32_30579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30578 : BitVec 32 := 1#32
  let v19122 : BitVec 32 := Scalar.muli v13 c1_i32_30578
  let v19123 : BitVec 32 := Scalar.addi c0_i32_30579 v19122
  v19123.toNat
def k0_dev584 (d0 : Dev nD) : Nat :=
  let c0_i32_30653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30652 : BitVec 32 := 1#32
  let v19171 : BitVec 32 := Scalar.muli v13 c1_i32_30652
  let v19172 : BitVec 32 := Scalar.addi c0_i32_30653 v19171
  v19172.toNat
def k0_dev585 (d0 : Dev nD) : Nat :=
  let c0_i32_30708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30707 : BitVec 32 := 1#32
  let v19201 : BitVec 32 := Scalar.muli v13 c1_i32_30707
  let v19202 : BitVec 32 := Scalar.addi c0_i32_30708 v19201
  v19202.toNat
def k0_dev586 (d0 : Dev nD) : Nat :=
  let c0_i32_30763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30762 : BitVec 32 := 1#32
  let v19231 : BitVec 32 := Scalar.muli v13 c1_i32_30762
  let v19232 : BitVec 32 := Scalar.addi c0_i32_30763 v19231
  v19232.toNat
def k0_dev587 (d0 : Dev nD) : Nat :=
  let c0_i32_30818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30817 : BitVec 32 := 1#32
  let v19261 : BitVec 32 := Scalar.muli v13 c1_i32_30817
  let v19262 : BitVec 32 := Scalar.addi c0_i32_30818 v19261
  v19262.toNat
def k0_dev588 (d0 : Dev nD) : Nat :=
  let c0_i32_30833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30832 : BitVec 32 := 1#32
  let v19277 : BitVec 32 := Scalar.muli v24 c1_i32_30832
  let v19278 : BitVec 32 := Scalar.addi c0_i32_30833 v19277
  v19278.toNat
def k0_dev589 (d0 : Dev nD) : Nat :=
  let c0_i32_30907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30906 : BitVec 32 := 1#32
  let v19326 : BitVec 32 := Scalar.muli v24 c1_i32_30906
  let v19327 : BitVec 32 := Scalar.addi c0_i32_30907 v19326
  v19327.toNat
def k0_dev590 (d0 : Dev nD) : Nat :=
  let c0_i32_30962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30961 : BitVec 32 := 1#32
  let v19356 : BitVec 32 := Scalar.muli v24 c1_i32_30961
  let v19357 : BitVec 32 := Scalar.addi c0_i32_30962 v19356
  v19357.toNat
def k0_dev591 (d0 : Dev nD) : Nat :=
  let c0_i32_31017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31016 : BitVec 32 := 1#32
  let v19386 : BitVec 32 := Scalar.muli v24 c1_i32_31016
  let v19387 : BitVec 32 := Scalar.addi c0_i32_31017 v19386
  v19387.toNat
def k0_dev592 (d0 : Dev nD) : Nat :=
  let c0_i32_31072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31071 : BitVec 32 := 1#32
  let v19416 : BitVec 32 := Scalar.muli v24 c1_i32_31071
  let v19417 : BitVec 32 := Scalar.addi c0_i32_31072 v19416
  v19417.toNat
def k0_dev593 (d0 : Dev nD) : Nat :=
  let c0_i32_31087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31086 : BitVec 32 := 1#32
  let v19432 : BitVec 32 := Scalar.muli v13 c1_i32_31086
  let v19433 : BitVec 32 := Scalar.addi c0_i32_31087 v19432
  v19433.toNat
def k0_dev594 (d0 : Dev nD) : Nat :=
  let c0_i32_31161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31160 : BitVec 32 := 1#32
  let v19481 : BitVec 32 := Scalar.muli v13 c1_i32_31160
  let v19482 : BitVec 32 := Scalar.addi c0_i32_31161 v19481
  v19482.toNat
def k0_dev595 (d0 : Dev nD) : Nat :=
  let c0_i32_31216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31215 : BitVec 32 := 1#32
  let v19511 : BitVec 32 := Scalar.muli v13 c1_i32_31215
  let v19512 : BitVec 32 := Scalar.addi c0_i32_31216 v19511
  v19512.toNat
def k0_dev596 (d0 : Dev nD) : Nat :=
  let c0_i32_31271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31270 : BitVec 32 := 1#32
  let v19541 : BitVec 32 := Scalar.muli v13 c1_i32_31270
  let v19542 : BitVec 32 := Scalar.addi c0_i32_31271 v19541
  v19542.toNat
def k0_dev597 (d0 : Dev nD) : Nat :=
  let c0_i32_31326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31325 : BitVec 32 := 1#32
  let v19571 : BitVec 32 := Scalar.muli v13 c1_i32_31325
  let v19572 : BitVec 32 := Scalar.addi c0_i32_31326 v19571
  v19572.toNat
def k0_dev598 (d0 : Dev nD) : Nat :=
  let c0_i32_31341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31340 : BitVec 32 := 1#32
  let v19587 : BitVec 32 := Scalar.muli v24 c1_i32_31340
  let v19588 : BitVec 32 := Scalar.addi c0_i32_31341 v19587
  v19588.toNat
def k0_dev599 (d0 : Dev nD) : Nat :=
  let c0_i32_31415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31414 : BitVec 32 := 1#32
  let v19636 : BitVec 32 := Scalar.muli v24 c1_i32_31414
  let v19637 : BitVec 32 := Scalar.addi c0_i32_31415 v19636
  v19637.toNat
def k0_dev600 (d0 : Dev nD) : Nat :=
  let c0_i32_31470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31469 : BitVec 32 := 1#32
  let v19666 : BitVec 32 := Scalar.muli v24 c1_i32_31469
  let v19667 : BitVec 32 := Scalar.addi c0_i32_31470 v19666
  v19667.toNat
def k0_dev601 (d0 : Dev nD) : Nat :=
  let c0_i32_31525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31524 : BitVec 32 := 1#32
  let v19696 : BitVec 32 := Scalar.muli v24 c1_i32_31524
  let v19697 : BitVec 32 := Scalar.addi c0_i32_31525 v19696
  v19697.toNat
def k0_dev602 (d0 : Dev nD) : Nat :=
  let c0_i32_31580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31579 : BitVec 32 := 1#32
  let v19726 : BitVec 32 := Scalar.muli v24 c1_i32_31579
  let v19727 : BitVec 32 := Scalar.addi c0_i32_31580 v19726
  v19727.toNat
def k0_dev603 (d0 : Dev nD) : Nat :=
  let c0_i32_31595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31594 : BitVec 32 := 1#32
  let v19742 : BitVec 32 := Scalar.muli v13 c1_i32_31594
  let v19743 : BitVec 32 := Scalar.addi c0_i32_31595 v19742
  v19743.toNat
def k0_dev604 (d0 : Dev nD) : Nat :=
  let c0_i32_31669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31668 : BitVec 32 := 1#32
  let v19791 : BitVec 32 := Scalar.muli v13 c1_i32_31668
  let v19792 : BitVec 32 := Scalar.addi c0_i32_31669 v19791
  v19792.toNat
def k0_dev605 (d0 : Dev nD) : Nat :=
  let c0_i32_31724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31723 : BitVec 32 := 1#32
  let v19821 : BitVec 32 := Scalar.muli v13 c1_i32_31723
  let v19822 : BitVec 32 := Scalar.addi c0_i32_31724 v19821
  v19822.toNat
def k0_dev606 (d0 : Dev nD) : Nat :=
  let c0_i32_31779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31778 : BitVec 32 := 1#32
  let v19851 : BitVec 32 := Scalar.muli v13 c1_i32_31778
  let v19852 : BitVec 32 := Scalar.addi c0_i32_31779 v19851
  v19852.toNat
def k0_dev607 (d0 : Dev nD) : Nat :=
  let c0_i32_31834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31833 : BitVec 32 := 1#32
  let v19881 : BitVec 32 := Scalar.muli v13 c1_i32_31833
  let v19882 : BitVec 32 := Scalar.addi c0_i32_31834 v19881
  v19882.toNat
def k0_dev608 (d0 : Dev nD) : Nat :=
  let c0_i32_31849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31848 : BitVec 32 := 1#32
  let v19897 : BitVec 32 := Scalar.muli v24 c1_i32_31848
  let v19898 : BitVec 32 := Scalar.addi c0_i32_31849 v19897
  v19898.toNat
def k0_dev609 (d0 : Dev nD) : Nat :=
  let c0_i32_31923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31922 : BitVec 32 := 1#32
  let v19946 : BitVec 32 := Scalar.muli v24 c1_i32_31922
  let v19947 : BitVec 32 := Scalar.addi c0_i32_31923 v19946
  v19947.toNat
def k0_dev610 (d0 : Dev nD) : Nat :=
  let c0_i32_31978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31977 : BitVec 32 := 1#32
  let v19976 : BitVec 32 := Scalar.muli v24 c1_i32_31977
  let v19977 : BitVec 32 := Scalar.addi c0_i32_31978 v19976
  v19977.toNat
def k0_dev611 (d0 : Dev nD) : Nat :=
  let c0_i32_32033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32032 : BitVec 32 := 1#32
  let v20006 : BitVec 32 := Scalar.muli v24 c1_i32_32032
  let v20007 : BitVec 32 := Scalar.addi c0_i32_32033 v20006
  v20007.toNat
def k0_dev612 (d0 : Dev nD) : Nat :=
  let c0_i32_32088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32087 : BitVec 32 := 1#32
  let v20036 : BitVec 32 := Scalar.muli v24 c1_i32_32087
  let v20037 : BitVec 32 := Scalar.addi c0_i32_32088 v20036
  v20037.toNat
def k0_dev613 (d0 : Dev nD) : Nat :=
  let c0_i32_32103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32102 : BitVec 32 := 1#32
  let v20052 : BitVec 32 := Scalar.muli v13 c1_i32_32102
  let v20053 : BitVec 32 := Scalar.addi c0_i32_32103 v20052
  v20053.toNat
def k0_dev614 (d0 : Dev nD) : Nat :=
  let c0_i32_32177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32176 : BitVec 32 := 1#32
  let v20101 : BitVec 32 := Scalar.muli v13 c1_i32_32176
  let v20102 : BitVec 32 := Scalar.addi c0_i32_32177 v20101
  v20102.toNat
def k0_dev615 (d0 : Dev nD) : Nat :=
  let c0_i32_32232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32231 : BitVec 32 := 1#32
  let v20131 : BitVec 32 := Scalar.muli v13 c1_i32_32231
  let v20132 : BitVec 32 := Scalar.addi c0_i32_32232 v20131
  v20132.toNat
def k0_dev616 (d0 : Dev nD) : Nat :=
  let c0_i32_32287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32286 : BitVec 32 := 1#32
  let v20161 : BitVec 32 := Scalar.muli v13 c1_i32_32286
  let v20162 : BitVec 32 := Scalar.addi c0_i32_32287 v20161
  v20162.toNat
def k0_dev617 (d0 : Dev nD) : Nat :=
  let c0_i32_32342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32341 : BitVec 32 := 1#32
  let v20191 : BitVec 32 := Scalar.muli v13 c1_i32_32341
  let v20192 : BitVec 32 := Scalar.addi c0_i32_32342 v20191
  v20192.toNat
def k0_dev618 (d0 : Dev nD) : Nat :=
  let c0_i32_32357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32356 : BitVec 32 := 1#32
  let v20207 : BitVec 32 := Scalar.muli v24 c1_i32_32356
  let v20208 : BitVec 32 := Scalar.addi c0_i32_32357 v20207
  v20208.toNat
def k0_dev619 (d0 : Dev nD) : Nat :=
  let c0_i32_32499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32498 : BitVec 32 := 1#32
  let v20282 : BitVec 32 := Scalar.muli v13 c1_i32_32498
  let v20283 : BitVec 32 := Scalar.addi c0_i32_32499 v20282
  v20283.toNat
def k0_dev620 (d0 : Dev nD) : Nat :=
  let c0_i32_32552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32551 : BitVec 32 := 1#32
  let v20333 : BitVec 32 := Scalar.muli v13 c1_i32_32551
  let v20334 : BitVec 32 := Scalar.addi c0_i32_32552 v20333
  v20334.toNat
def k0_dev621 (d0 : Dev nD) : Nat :=
  let c0_i32_32681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32680 : BitVec 32 := 1#32
  let v20391 : BitVec 32 := Scalar.muli v24 c1_i32_32680
  let v20392 : BitVec 32 := Scalar.addi c0_i32_32681 v20391
  v20392.toNat
def k0_dev622 (d0 : Dev nD) : Nat :=
  let c0_i32_32734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32733 : BitVec 32 := 1#32
  let v20442 : BitVec 32 := Scalar.muli v24 c1_i32_32733
  let v20443 : BitVec 32 := Scalar.addi c0_i32_32734 v20442
  v20443.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/- The kernel's body as a list of steps over a direction, a hop and a band. -/
module

public import proofs.«01_k».proof.Proof.Gen.KernelIdeal.Points
public import proofs.«01_k».proof.Proof.Gen.KernelIdeal.Launch

@[expose] public section

noncomputable section

namespace Cert.KernelIdeal

open Idealize.ShloMosaic Idealize.ShloMosaic.TcCoe Idealize.SL Idealize.SL.Sem
open Facts₀ Facts

variable {F : FTy → Type} [FloatOps F]

/-! ## Operands -/

/-- The staged block of `x`, the staged block of `w_mat` and the result. -/
abbrev xM : Memref sig .tc .vmem S4096x128 .f32 := Memref.whole cc0_stg0_0
abbrev wM : Memref sig .tc .vmem S128x2048 .f32 := Memref.whole cc0_stg1_0
abbrev oM : Memref sig .tc .hbm S4096x2048 .f32 := Memref.whole main_v1
/-- The partial sums, the landing slots and the packed chunks to send. -/
abbrev sbM : Memref sig .tc .vmem S2x2x128x1024 .f32 := Memref.whole cc0_scratch0
abbrev cmM : Memref sig .tc .vmem S2x3x128x1024 .bf16 := Memref.whole cc0_scratch1
abbrev pkM : Memref sig .tc .vmem S2x2x128x1024 .bf16 := Memref.whole cc0_scratch2

/-- The shape of a buffer of `n` chunks for each of the two directions. -/
abbrev S4 (n : ℕ) : Shape := ⟨4, ![2, n, 128, 1024]⟩

theorem inb_band {n : ℕ} (di : Fin 2) (j : Fin n) (s : Fin 4) :
    ∀ a, (![di.val, j.val, 32 * s.val, 0] : Fin 4 → ℕ) a + S1x1x32x1024.size a ≤ (S4 n).size a := by
  simp [Fin.forall_fin_succ]; omega

theorem inb_slot {n : ℕ} (di : Fin 2) (j : Fin n) :
    ∀ a, (![di.val, j.val, 0, 0] : Fin 4 → ℕ) a + S1x1x128x1024.size a ≤ (S4 n).size a := by
  simp [Fin.forall_fin_succ]; omega

/-- Band `s` (32 rows) of chunk `j` of direction `di`, and the whole chunk. -/
abbrev bandR (n : ℕ) (di : Fin 2) (j : Fin n) (s : Fin 4) : Rect (S4 n) :=
  Rect.unit (s := S4 n) ![di.val, j.val, 32 * s.val, 0] S1x1x32x1024.size (inb_band di j s)
abbrev slotR (n : ℕ) (di : Fin 2) (j : Fin n) : Rect (S4 n) :=
  Rect.unit (s := S4 n) ![di.val, j.val, 0, 0] S1x1x128x1024.size (inb_slot di j)

theorem inb_w (di : Fin 2) : ∀ a, (![0, 1024 * di.val] : Fin 2 → ℕ) a + S128x1024.size a ≤ S128x2048.size a := by
  simp [Fin.forall_fin_succ]; omega

/-- The columns of `w_mat` of a direction. -/
abbrev wR (di : Fin 2) : Rect S128x2048 := Rect.unit (s := S128x2048) ![0, 1024 * di.val] S128x1024.size (inb_w di)

theorem inb_sem3 (di : Fin 2) (j : Fin 3) (s : Fin 4) :
    ∀ a, (![di.val, j.val, s.val] : Fin 3 → ℕ) a + S1x1x1.size a ≤ S2x3x4.size a := by
  simp [Fin.forall_fin_succ]; omega
theorem inb_sem2 (di : Fin 2) (j : Fin 3) : ∀ a, (![di.val, j.val] : Fin 2 → ℕ) a + S1x1.size a ≤ S2x3.size a := by
  simp [Fin.forall_fin_succ]; omega

/-- The semaphores: of a chunk's store, of a band's send, of its receipt, of a direction's credits, the barrier's. -/
abbrev storeS (di : Fin 2) (j : Fin 3) : DmaSem sig :=
  ((cc0_scratch3.slice (Rect.unit (s := S2x3) ![di.val, j.val] S1x1.size (inb_sem2 di j))).squeeze S_ squeezes_S1x1_S_).sem
abbrev sendS (di : Fin 2) (j : Fin 3) (s : Fin 4) : DmaSem sig :=
  ((cc0_scratch4.slice (Rect.unit (s := S2x3x4) ![di.val, j.val, s.val] S1x1x1.size (inb_sem3 di j s))).squeeze S_ squeezes_S1x1x1_S_).sem
abbrev recvS (di : Fin 2) (j : Fin 3) (s : Fin 4) : DmaSem sig :=
  ((cc0_scratch5.slice (Rect.unit (s := S2x3x4) ![di.val, j.val, s.val] S1x1x1.size (inb_sem3 di j s))).squeeze S_ squeezes_S1x1x1_S_).sem
abbrev credS (di : Fin 2) : Sem sig := if di.val = 0 then cc0_scratch6.sem else cc0_scratch7.sem
abbrev barS : Sem sig := (SemArray.scalar (sig.barrier 0 rfl) : Sems sig S_).sem

/-- The memref of a band of the landing slots, of the packed chunks, and of a chunk of the partial sums. -/
abbrev cmB (di : Fin 2) (j : Fin 3) (s : Fin 4) : Memref sig .tc .vmem S32x1024 .bf16 :=
  (cmM.slice (bandR 3 di j s) (fun _ => rfl)).squeeze S32x1024 squeezes_S1x1x32x1024_S32x1024
abbrev pkB (di : Fin 2) (j : Fin 2) (s : Fin 4) : Memref sig .tc .vmem S32x1024 .bf16 :=
  (pkM.slice (bandR 2 di j s) (fun _ => rfl)).squeeze S32x1024 squeezes_S1x1x32x1024_S32x1024
abbrev sbC (di : Fin 2) (j : Fin 2) : Memref sig .tc .vmem S128x1024 .f32 :=
  (sbM.slice (slotR 2 di j) (fun _ => rfl)).squeeze S128x1024 squeezes_S1x1x128x1024_S128x1024

theorem words3 : ∀ (di : Fin 2) (j : Fin 3) (s : Fin 4), (bandR 3 di j s).WholeWords (EltTy.packing .bf16) := by decide
theorem words2 : ∀ (di : Fin 2) (j : Fin 2) (s : Fin 4), (bandR 2 di j s).WholeWords (EltTy.packing .bf16) := by decide
theorem packed2 : ∀ (di : Fin 2) (j : Fin 2) (s : Fin 4), (bandR 2 di j s).PackedRows (EltTy.packing .bf16) := by decide

theorem cmB_exact (di : Fin 2) (j : Fin 3) (s : Fin 4) : (cmB di j s).view.WordExact :=
  (View.wordExact_slice_whole_of_wholeWords cc0_scratch1 rfl (bandR 3 di j s) (words3 di j s)).reshape _ _
theorem pkB_exact (di : Fin 2) (j : Fin 2) (s : Fin 4) : (pkB di j s).view.WordExact :=
  (View.wordExact_slice_whole_of_wholeWords cc0_scratch2 rfl (bandR 2 di j s) (words2 di j s)).reshape _ _
theorem pk_stores (di : Fin 2) (j : Fin 2) (s : Fin 4) : (pkM.access (bandR 2 di j s)).Stores Finset.univ :=
  View.stores_vmem h_S1x1x32x1024
    (View.storeExact_slice_whole_of_packedRows cc0_scratch2 rfl (bandR 2 di j s) (packed2 di j s)) (fun _ => rfl)

/-! ## Devices and offsets -/

/-- The device a direction sends to, and the one it receives from. -/
abbrev dstD (di : Fin 2) (d0 : Dev nD) : Dev nD :=
  if di.val = 0 then ⟨k0_dev2 d0, k0_dev2_lt d0⟩ else ⟨k0_dev1 d0, k0_dev1_lt d0⟩
abbrev srcD (di : Fin 2) (d0 : Dev nD) : Dev nD :=
  if di.val = 0 then ⟨k0_dev1 d0, k0_dev1_lt d0⟩ else ⟨k0_dev2 d0, k0_dev2_lt d0⟩

/-- Plus or minus `k` as a word: minus in direction 0. -/
abbrev sgnW (di : Fin 2) (k : ℕ) : BitVec 32 :=
  if di.val = 0 then BitVec.ofNat 32 (4294967296 - k) else BitVec.ofNat 32 k

/-- Where in `x` hop `h` reads the rows of the chunk it adds to. -/
def xOff (di : Fin 2) (h : ℕ) (d0 : Dev nD) : Fin 2 → ℕ :=
  if h = 31 then k0_off2 d0 (sgnW di 1) else k0_off1 d0 (sgnW di (h % 32))

/-- Where in the result hop `h ≥ 31` stores its chunk. -/
def oOff (di : Fin 2) (h : ℕ) (d0 : Dev nD) : Fin 2 → ℕ :=
  if h = 31 then (if di.val = 0 then k0_off3 d0 else k0_off4 d0)
  else if di.val = 0 then k0_off5 d0 (sgnW 0 ((h - 31) % 32)) else k0_off6 d0 (sgnW 1 ((h - 31) % 32))

/-- The chunk direction `di` of device `d0` adds to at hop `h`: `h` before its own number in direction 0, after it in
    direction 1; and at hop 31 the one after (before). -/
def chunkOf (di : Fin 2) (h : ℕ) (d0 : Dev nD) : Fin 32 :=
  ⟨(if di.val = 0 then d0.val + (32 - h % 32) else d0.val + h) % 32, Nat.mod_lt _ (by decide)⟩

theorem xOff_aux : ∀ d0 : Dev nD, ∀ di : Fin 2, ∀ k : Fin 32,
    k0_off1 d0 (sgnW di k.val) 0 = 128 * (chunkOf di k.val d0).val ∧ k0_off1 d0 (sgnW di k.val) 1 = 0 := by decide +kernel

theorem off2_aux : ∀ d0 : Dev nD, ∀ di : Fin 2,
    k0_off2 d0 (sgnW di 1) 0 = 128 * (chunkOf di 31 d0).val ∧ k0_off2 d0 (sgnW di 1) 1 = 0 := by decide +kernel

theorem off34_aux : ∀ d0 : Dev nD, (k0_off3 d0 0 = 128 * (chunkOf 0 31 d0).val ∧ k0_off3 d0 1 = 0) ∧
    (k0_off4 d0 0 = 128 * (chunkOf 1 31 d0).val ∧ k0_off4 d0 1 = 1024) := by decide +kernel

theorem off56_aux : ∀ d0 : Dev nD, ∀ k : Fin 32,
    (k0_off5 d0 (sgnW 0 k.val) 0 = 128 * (chunkOf 0 (31 + k.val) d0).val ∧ k0_off5 d0 (sgnW 0 k.val) 1 = 0) ∧
    (k0_off6 d0 (sgnW 1 k.val) 0 = 128 * (chunkOf 1 (31 + k.val) d0).val ∧ k0_off6 d0 (sgnW 1 k.val) 1 = 1024) := by
  decide +kernel

theorem chunk_le {n : ℕ} (k : Fin n) (m : ℕ) (h : m = 128 * n) : 128 * k.val + 128 ≤ m := by omega

theorem xOff_eq (di : Fin 2) (h : ℕ) (d0 : Dev nD) : xOff di h d0 = ![128 * (chunkOf di h d0).val, 0] := by
  funext a
  by_cases h31 : h = 31
  · subst h31; simp only [xOff, if_pos]; have := off2_aux d0 di
    refine Fin.cases this.1 (fun a => Fin.cases this.2 (fun a => a.elim0) a) a
  · simp only [xOff, if_neg h31]
    have := xOff_aux d0 di ⟨h % 32, Nat.mod_lt _ (by decide)⟩
    have e : chunkOf di (h % 32) d0 = chunkOf di h d0 := by
      apply Fin.ext; simp only [chunkOf]; split <;> omega
    rw [← e]
    refine Fin.cases this.1 (fun a => Fin.cases this.2 (fun a => a.elim0) a) a

theorem xOff_inb (di : Fin 2) (h : ℕ) (d0 : Dev nD) : ∀ a, xOff di h d0 a + S128x128.size a ≤ S4096x128.size a := by
  rw [xOff_eq]; simp [Fin.forall_fin_succ]; omega

theorem oOff_eq (di : Fin 2) (h : ℕ) (hh : 31 ≤ h) (d0 : Dev nD) :
    oOff di h d0 = ![128 * (chunkOf di h d0).val, 1024 * di.val] := by
  have key : oOff di h d0 0 = 128 * (chunkOf di h d0).val ∧ oOff di h d0 1 = 1024 * di.val := by
    by_cases h31 : h = 31
    · subst h31; have := off34_aux d0
      obtain ⟨di, hdi⟩ := di
      rcases di with _ | _ | _
      · exact this.1
      · exact this.2
      · omega
    · have := off56_aux d0 ⟨(h - 31) % 32, Nat.mod_lt _ (by decide)⟩
      have e : ∀ di, chunkOf di (31 + (h - 31) % 32) d0 = chunkOf di h d0 := fun di => by
        apply Fin.ext; simp only [chunkOf]; split <;> omega
      simp only [e] at this
      simp only [oOff, if_neg h31]
      obtain ⟨di, hdi⟩ := di
      rcases di with _ | _ | _
      · exact this.1
      · exact this.2
      · omega
  funext a
  refine Fin.cases key.1 (fun a => Fin.cases key.2 (fun a => a.elim0) a) a

/-- A rectangle of the result of a chunk of rows and half of the columns fits. -/
theorem oOff_inb (di : Fin 2) (h : ℕ) (hh : 31 ≤ h) (d0 : Dev nD) :
    ∀ a, oOff di h d0 a + S128x1024.size a ≤ S4096x2048.size a := by
  rw [oOff_eq di h hh]; simp [Fin.forall_fin_succ]; omega

abbrev xR (di : Fin 2) (h : ℕ) (d0 : Dev nD) : Rect S4096x128 :=
  Rect.unit (s := S4096x128) (xOff di h d0) S128x128.size (xOff_inb di h d0)
abbrev oC (di : Fin 2) (h : ℕ) (hh : 31 ≤ h) (d0 : Dev nD) : Memref sig .tc .hbm S128x1024 .f32 :=
  oM.slice (Rect.unit (s := S4096x2048) (oOff di h d0) S128x1024.size (oOff_inb di h hh d0)) (fun _ => rfl)

/-! ## Values -/

/-- A chunk of the product of the rows `x` and the columns `w`. -/
def dotV (x : Vec F S128x128 .f32) (w : Vec F S128x1024 .f32) : FVec F S128x1024 .f32 :=
  matmul dot_S128x128_S128x1024_S128x1024_1_0_0_1_n_n none (shapeCast S128x128 x shapeCasts_S128x128_S128x128)
    (shapeCast S128x1024 w shapeCasts_S128x1024_S128x1024) (constant S128x1024 .f32 0x00000000#32)

/-- The conversions between the two element types. -/
def packV {S : Shape} (v : FVec F S .f32) : FVec F S .bf16 := truncf .bf16 v bitsLt_bf16_f32
def unpackV {S : Shape} (v : FVec F S .bf16) : FVec F S .f32 := extf .f32 v bitsLt_bf16_f32

/-- What is added to a band of the partial sums. -/
def addV (a : FVec F S32x1024 .f32) (b : FVec F S32x1024 .bf16) : FVec F S32x1024 .f32 :=
  addf a (unpackV b)

/-- The activation of a band. -/
def geluV (y : FVec F S32x1024 .f32) : FVec F S32x1024 .f32 :=
  mulf (mulf (broadcast S32x1024 (Scalar.ofBits .f32 0x3F000000#32)) y)
    (addf (broadcast S32x1024 (Scalar.ofBits .f32 0x3F800000#32))
      (tanh (mulf (broadcast S32x1024 (Scalar.ofBits .f32 0x3F4C422A#32))
        (addf y (mulf (mulf (mulf (broadcast S32x1024 (Scalar.ofBits .f32 0x3D372713#32)) y) y) y)))))

/-- What hop `h` stores in a band of the partial sums that held `a`, on receiving `b`. -/
def accV (h : ℕ) (a : FVec F S32x1024 .f32) (b : FVec F S32x1024 .bf16) : FVec F S32x1024 .f32 :=
  if h = 31 then geluV (addV a b) else addV a b

/-- A band as a rectangle of a buffer of chunks, and back. -/
abbrev toB {α : Type} (v : S32x1024.Idx → α) : S1x1x32x1024.Idx → α := shapeCast S1x1x32x1024 v shapeCasts_S32x1024_S1x1x32x1024
abbrev ofB {α : Type} (v : S1x1x32x1024.Idx → α) : S32x1024.Idx → α := shapeCast S32x1024 v shapeCasts_S1x1x32x1024_S32x1024

/-! ## Steps -/

/-- Programs of a core. A step is a function of the program that follows it. -/
abbrev Pr (F : FTy → Type) : Type 1 := Prog (TpuEff nD τ sig (Elt F) Λ₀ .tc) PUnit

abbrev sl2 (h : ℕ) : Fin 2 := ⟨h % 2, Nat.mod_lt _ (by decide)⟩
abbrev sl3 (h : ℕ) : Fin 3 := ⟨h % 3, Nat.mod_lt _ (by decide)⟩

/-- Signal both neighbours, wait for both. -/
def stBarrier (d0 : Dev nD) (K : Pr F) : Pr F :=
  .op (.semSignal ((⟨k0_dev1 d0, k0_dev1_lt d0⟩ : Dev nD), .tc) barS (1#32 : BitVec 32).toInt) fun _ =>
  .op (.semSignal ((⟨k0_dev2 d0, k0_dev2_lt d0⟩ : Dev nD), .tc) barS (1#32 : BitVec 32).toInt) fun _ =>
  .op (.semWait barS (2#32 : BitVec 32).toInt) fun _ => K

/-- Hop `h`'s product. -/
def stDot (di : Fin 2) (h : ℕ) (d0 : Dev nD) (K : Pr F) : Pr F :=
  .op (.load xM (xR di h d0).toLoadRect (View.loadsAt_vmem h_S128x128)) fun x =>
  .op (.load wM (wR di).toLoadRect (View.loadsAt_vmem h_S128x1024)) fun w =>
  .op (.load sbM (slotR 2 di (sl2 h)).toLoadRect (View.loadsAt_vmem h_S1x1x128x1024)) fun _ =>
  .op (.store sbM (slotR 2 di (sl2 h)) (shapeCast S1x1x128x1024 (dotV x w) shapeCasts_S128x1024_S1x1x128x1024) Finset.univ
    (View.stores_vmem_bits_univ h_S1x1x128x1024 rfl) (.inl rfl)) fun _ => K

/-- Wait for `n` credits. -/
def stCredWait (di : Fin 2) (n : BitVec 32) (K : Pr F) : Pr F := .op (.semWait (credS di) n.toInt) fun _ => K

/-- Give a credit to the device received from. -/
def stCred (di : Fin 2) (d0 : Dev nD) (K : Pr F) : Pr F :=
  .op (.semSignal (srcD di d0, .tc) (credS di) (1#32 : BitVec 32).toInt) fun _ => K

/-- Wait for the store of hop `h`'s chunk. -/
def stStoreWait (di : Fin 2) (h : ℕ) (K : Pr F) : Pr F :=
  .op (.waitDma (storeS di (sl3 h)) main_v1 S128x1024 .f32 (.inl rfl)) fun _ => K

/-- Wait for the send of hop `h`'s band, then for the receipt of the neighbour's. -/
def stSendWait (di : Fin 2) (h : ℕ) (s : Fin 4) (K : Pr F) : Pr F :=
  .op (.waitDma (sendS di (sl3 h) s) (if h ≤ 31 then cc0_scratch2 else cc0_scratch1) S32x1024 .bf16 (.inl rfl)) fun _ => K
def stRecvWait (di : Fin 2) (h : ℕ) (s : Fin 4) (K : Pr F) : Pr F :=
  .op (.waitDma (recvS di (sl3 h) s) cc0_scratch1 S32x1024 .bf16 (.inl rfl)) fun _ => K

/-- Hop 0: pack a band. -/
def stPack (di : Fin 2) (s : Fin 4) (K : Pr F) : Pr F :=
  .op (.load sbM (bandR 2 di 0 s).toLoadRect (View.loadsAt_vmem h_S1x1x32x1024)) fun (v : Vec F S1x1x32x1024 .f32) =>
  .op (.load pkM (bandR 2 di 0 s).toLoadRect (View.loadsAt_vmem h_S1x1x32x1024)) fun _ =>
  .op (.store pkM (bandR 2 di 0 s) (toB (packV (ofB v))) Finset.univ (pk_stores di 0 s) (.inl rfl)) fun _ => K

/-- Hops 1 to 31: add the band received at the hop before, keep and pack the sum. -/
def stAcc (di : Fin 2) (h : ℕ) (s : Fin 4) (K : Pr F) : Pr F :=
  .op (.load sbM (bandR 2 di (sl2 h) s).toLoadRect (View.loadsAt_vmem h_S1x1x32x1024)) fun (a : Vec F S1x1x32x1024 .f32) =>
  .op (.load cmM (bandR 3 di (sl3 (h - 1)) s).toLoadRect (View.loadsAt_vmem h_S1x1x32x1024)) fun (b : Vec F S1x1x32x1024 .bf16) =>
  .op (.load sbM (bandR 2 di (sl2 h) s).toLoadRect (View.loadsAt_vmem h_S1x1x32x1024)) fun _ =>
  .op (.store sbM (bandR 2 di (sl2 h) s) (toB (accV h (ofB a) (ofB b))) Finset.univ
    (View.stores_vmem_bits_univ h_S1x1x32x1024 rfl) (.inl rfl)) fun _ =>
  .op (.load pkM (bandR 2 di (sl2 h) s).toLoadRect (View.loadsAt_vmem h_S1x1x32x1024)) fun _ =>
  .op (.store pkM (bandR 2 di (sl2 h) s) (toB (packV (accV h (ofB a) (ofB b)))) Finset.univ
    (pk_stores di (sl2 h) s) (.inl rfl)) fun _ => K

/-- Send a packed band (hops up to 31), or the band received at the hop before (from hop 32 on). -/
def stSendPk (di : Fin 2) (h : ℕ) (s : Fin 4) (d0 : Dev nD) (K : Pr F) : Pr F :=
  .op (.enqueueDma (pkB di (sl2 h) s) (.remote (Dev.tc (dstD di d0)) (cmB di (sl3 h) s) (.dma (sendS di (sl3 h) s)))
    (.dma (recvS di (sl3 h) s)) (pkB_exact _ _ _) (cmB_exact _ _ _) ⟨⟨rfl, Or.inl rfl⟩, trivial⟩) fun _ => K
def stSendCm (di : Fin 2) (h : ℕ) (s : Fin 4) (d0 : Dev nD) (K : Pr F) : Pr F :=
  .op (.enqueueDma (cmB di (sl3 (h - 1)) s) (.remote (Dev.tc (dstD di d0)) (cmB di (sl3 h) s) (.dma (sendS di (sl3 h) s)))
    (.dma (recvS di (sl3 h) s)) (cmB_exact _ _ _) (cmB_exact _ _ _) ⟨⟨rfl, Or.inl rfl⟩, trivial⟩) fun _ => K

/-- From hop 32 on: unpack the band received at the hop before. -/
def stUnpack (di : Fin 2) (h : ℕ) (s : Fin 4) (K : Pr F) : Pr F :=
  .op (.load cmM (bandR 3 di (sl3 (h - 1)) s).toLoadRect (View.loadsAt_vmem h_S1x1x32x1024)) fun (b : Vec F S1x1x32x1024 .bf16) =>
  .op (.load sbM (bandR 2 di (sl2 h) s).toLoadRect (View.loadsAt_vmem h_S1x1x32x1024)) fun _ =>
  .op (.store sbM (bandR 2 di (sl2 h) s) (toB (unpackV (ofB b))) Finset.univ
    (View.stores_vmem_bits_univ h_S1x1x32x1024 rfl) (.inl rfl)) fun _ => K

/-- At the end: unpack the whole chunk received at hop 61. -/
def stLast (di : Fin 2) (K : Pr F) : Pr F :=
  .op (.load cmM (slotR 3 di 1).toLoadRect (View.loadsAt_vmem h_S1x1x128x1024)) fun (b : Vec F S1x1x128x1024 .bf16) =>
  .op (.load sbM (slotR 2 di 0).toLoadRect (View.loadsAt_vmem h_S1x1x128x1024)) fun _ =>
  .op (.store sbM (slotR 2 di 0) (shapeCast S1x1x128x1024 (unpackV (shapeCast S128x1024 b shapeCasts_S1x1x128x1024_S128x1024))
      shapeCasts_S128x1024_S1x1x128x1024) Finset.univ
    (View.stores_vmem_bits_univ h_S1x1x128x1024 rfl) (.inl rfl)) fun _ => K

/-- Store the chunk of hop `h ≥ 31` in the result, counting on store semaphore `j`. -/
def stStore (di : Fin 2) (h : ℕ) (j : Fin 3) (hh : 31 ≤ h) (d0 : Dev nD) (K : Pr F) : Pr F :=
  .op (.enqueueDma (sbC di (sl2 h)) (.here (oC di h hh d0)) (.dma (storeS di j))
    ((View.wordExact_bits rfl).reshape _ _) (View.wordExact_bits rfl) ⟨Or.inl rfl, trivial⟩) fun _ => K

/-! ## The body -/

abbrev St (F : FTy → Type) : Type 1 := Pr F → Pr F

/-- A list of steps, then the program `K`. -/
def runL (l : List (St F)) (K : Pr F) : Pr F := l.foldr (fun s k => s k) K

theorem runL_append (l m : List (St F)) (K : Pr F) : runL (l ++ m) K = runL l (runL m K) := by
  simp [runL, List.foldr_append]

/-- One band at hop `h`. -/
def bandL (di : Fin 2) (h : ℕ) (d0 : Dev nD) (s : Fin 4) : List (St F) :=
  if h = 0 then [stPack di s, stSendPk di 0 s d0]
  else if h ≤ 31 then [stSendWait di (h - 1) s, stRecvWait di (h - 1) s, stAcc di h s, stSendPk di h s d0]
  else [stSendWait di (h - 1) s, stRecvWait di (h - 1) s, stSendCm di h s d0, stUnpack di h s]

/-- One direction at hop `h`. -/
def dirL (h : ℕ) (d0 : Dev nD) (di : Fin 2) : List (St F) :=
  (if 3 ≤ h then [stCredWait di 1#32] else []) ++ ((if 33 ≤ h then [stStoreWait di (h - 2)] else []) ++
  (bandL di h d0 0 ++ (bandL di h d0 1 ++ (bandL di h d0 2 ++ (bandL di h d0 3 ++
  ((if h = 0 ∨ h = 32 then [] else [stCred di d0]) ++
  (if hh : 31 ≤ h then [stStore di h (sl3 h) hh d0] else [])))))))

/-- Hop `h`. -/
def hopL (h : ℕ) (d0 : Dev nD) : List (St F) :=
  (if h ≤ 31 then [stDot 0 h d0, stDot 1 h d0] else []) ++ (dirL h d0 0 ++ dirL h d0 1)

/-- One direction at the end. -/
def endL (d0 : Dev nD) (di : Fin 2) : List (St F) :=
  [stSendWait di 61 0, stRecvWait di 61 0, stSendWait di 61 1, stRecvWait di 61 1, stSendWait di 61 2, stRecvWait di 61 2,
   stSendWait di 61 3, stRecvWait di 61 3, stCred di d0, stStoreWait di 60, stStoreWait di 61, stLast di,
   stStore di 62 1 (by decide) d0, stStoreWait di 61,
   stCred di d0, stCredWait di 3#32]

/-- The hops from `h` on, `n` of them. -/
def hopsL (d0 : Dev nD) : ℕ → ℕ → List (St F)
  | _, 0 => []
  | h, n + 1 => hopL h d0 ++ hopsL d0 (h + 1) n

def bodyL (d0 : Dev nD) : List (St F) := stBarrier d0 :: (hopsL d0 0 62 ++ (endL d0 0 ++ endL d0 1))

end Cert.KernelIdeal
-- ==== Proof.Views.lean ====
/- The bands and chunks of the kernel's buffers: their elements, what a view of one reads and what a write leaves. -/
module

public import proofs.«01_k».proof.Proof.Prog
public import Idealize.ShloMosaic.Lib.ValueLayout

@[expose] public section

noncomputable section

namespace Cert.KernelIdeal

open Idealize.ShloMosaic Idealize.ShloMosaic.TcCoe Idealize.SL Idealize.SL.Sem
open Idealize.ShloMosaic.ValueIdx
open Facts₀ Facts

/-! ## Chunks and bands of values -/

section Values
variable {α : Type}

/-- Row `y` of band `s` in its chunk. -/
def rowOf (s : Fin 4) (y : Fin 32) : Fin 128 := ⟨32 * s.val + y.val, by omega⟩

/-- Band `s` of a chunk. -/
def bandOf (v : S128x1024.Idx → α) (s : Fin 4) : S32x1024.Idx → α := fun y => v (ix2 (rowOf s (y 0)) (y 1))

/-- A buffer of chunks that holds `v` in every chunk. -/
def lift4 (n : ℕ) (v : S128x1024.Idx → α) : (S4 n).Idx → α := fun i => v (ix2 (i 2) (i 3))

abbrev bandS (n : ℕ) (di : Fin 2) (j : Fin n) (s : Fin 4) : Finset (S4 n).Idx := (bandR n di j s).set
abbrev slotS (n : ℕ) (di : Fin 2) (j : Fin n) : Finset (S4 n).Idx := (slotR n di j).set

theorem mem_bandS {n : ℕ} (di : Fin 2) (j : Fin n) (s : Fin 4) (i : (S4 n).Idx) :
    i ∈ bandS n di j s ↔ (i 0).val = di.val ∧ (i 1).val = j.val ∧ (i 2).val / 32 = s.val := by
  have h3 : (i 3).val < 1024 := (i 3).isLt
  rw [Rect.mem_set_unit]
  simp only [Fin.forall_fin_succ]
  simp
  constructor
  · rintro ⟨h0, h1, h2, h3⟩; refine ⟨?_, ?_, ?_⟩ <;> omega
  · rintro ⟨h0, h1, h2⟩; refine ⟨?_, ?_, ?_, ?_⟩ <;> omega

theorem mem_slotS {n : ℕ} (di : Fin 2) (j : Fin n) (i : (S4 n).Idx) :
    i ∈ slotS n di j ↔ (i 0).val = di.val ∧ (i 1).val = j.val := by
  have h3 : (i 3).val < 1024 := (i 3).isLt
  have h2 : (i 2).val < 128 := (i 2).isLt
  rw [Rect.mem_set_unit]
  simp only [Fin.forall_fin_succ]
  simp
  constructor
  · rintro ⟨h0, h1, h2, h3⟩; refine ⟨?_, ?_⟩ <;> omega
  · rintro ⟨h0, h1⟩; refine ⟨?_, ?_, ?_, ?_⟩ <;> omega

theorem slotS_eq {n : ℕ} (di : Fin 2) (j : Fin n) : slotS n di j = Finset.univ.biUnion (bandS n di j) := by
  ext i
  have h2 : (i 2).val < 128 := (i 2).isLt
  simp only [Finset.mem_biUnion, Finset.mem_univ, true_and, mem_slotS, mem_bandS]
  exact ⟨fun h => ⟨⟨(i 2).val / 32, by omega⟩, h.1, h.2, rfl⟩, fun ⟨s, h⟩ => ⟨h.1, h.2.1⟩⟩

theorem univ_eq (n : ℕ) :
    (Finset.univ : Finset (S4 n).Idx) = (Finset.univ : Finset (Fin 2 × Fin n)).biUnion fun p => slotS n p.1 p.2 := by
  ext i
  have h0 : (i 0).val < 2 := (i 0).isLt
  have h1 : (i 1).val < n := (i 1).isLt
  simp only [Finset.mem_biUnion, Finset.mem_univ, true_and, mem_slotS, true_iff]
  exact ⟨(⟨_, h0⟩, ⟨_, h1⟩), rfl, rfl⟩

theorem bands_disjoint {n : ℕ} (di : Fin 2) (j : Fin n) :
    ∀ s ∈ (Finset.univ : Finset (Fin 4)), ∀ s' ∈ (Finset.univ : Finset (Fin 4)), s ≠ s' →
      Disjoint (bandS n di j s) (bandS n di j s') := fun s _ s' _ h =>
  Finset.disjoint_left.mpr fun i hi hi' => h (Fin.ext (by
    rw [← ((mem_bandS di j s i).mp hi).2.2, ((mem_bandS di j s' i).mp hi').2.2]))

theorem slots_disjoint (n : ℕ) :
    ∀ p ∈ (Finset.univ : Finset (Fin 2 × Fin n)), ∀ p' ∈ (Finset.univ : Finset (Fin 2 × Fin n)), p ≠ p' →
      Disjoint (slotS n p.1 p.2) (slotS n p'.1 p'.2) := fun p _ p' _ h =>
  Finset.disjoint_left.mpr fun i hi hi' => h (by
    have a := (mem_slotS p.1 p.2 i).mp hi
    have b := (mem_slotS p'.1 p'.2 i).mp hi'
    exact Prod.ext (Fin.ext (by rw [← a.1, b.1])) (Fin.ext (by rw [← a.2, b.2])))

theorem bandS_subset {n : ℕ} (di : Fin 2) (j : Fin n) (s : Fin 4) : bandS n di j s ⊆ slotS n di j := fun i h =>
  (mem_slotS di j i).mpr ⟨((mem_bandS di j s i).mp h).1, ((mem_bandS di j s i).mp h).2.1⟩

theorem bandS_nonempty {n : ℕ} (di : Fin 2) (j : Fin n) (s : Fin 4) : (bandS n di j s).Nonempty :=
  ⟨ix4 di j (rowOf s 0) 0, (mem_bandS di j s _).mpr ⟨rfl, rfl, by
    show (32 * s.val + 0) / 32 = s.val; omega⟩⟩

theorem band_emb {n : ℕ} (di : Fin 2) (j : Fin n) (s : Fin 4) (a : Fin 32) (b : Fin 1024) :
    (bandR n di j s).emb (ix4 (⟨0, Nat.one_pos⟩ : Fin 1) (⟨0, Nat.one_pos⟩ : Fin 1) a b) = ix4 di j (rowOf s a) b := by
  funext k
  match k with
  | ⟨0, _⟩ => exact Fin.ext (by show di.val + 1 * 0 = di.val; omega)
  | ⟨1, _⟩ => exact Fin.ext (by show j.val + 1 * 0 = j.val; omega)
  | ⟨2, _⟩ => exact Fin.ext (by show 32 * s.val + 1 * a.val = 32 * s.val + a.val; omega)
  | ⟨3, _⟩ => exact Fin.ext (by show 0 + 1 * b.val = b.val; omega)

theorem slot_emb {n : ℕ} (di : Fin 2) (j : Fin n) (a : Fin 128) (b : Fin 1024) :
    (slotR n di j).emb (ix4 (⟨0, Nat.one_pos⟩ : Fin 1) (⟨0, Nat.one_pos⟩ : Fin 1) a b) = ix4 di j a b := by
  funext k
  match k with
  | ⟨0, _⟩ => exact Fin.ext (by show di.val + 1 * 0 = di.val; omega)
  | ⟨1, _⟩ => exact Fin.ext (by show j.val + 1 * 0 = j.val; omega)
  | ⟨2, _⟩ => exact Fin.ext (by show 0 + 1 * a.val = a.val; omega)
  | ⟨3, _⟩ => exact Fin.ext (by show 0 + 1 * b.val = b.val; omega)

theorem lift4_band {n : ℕ} (v : S128x1024.Idx → α) (di : Fin 2) (j : Fin n) (s : Fin 4)
    (h : S32x1024.numel = S1x1x32x1024.numel) :
    (fun y => lift4 n v ((bandR n di j s).emb (Shape.reshapeEquiv h y))) = bandOf v s := by
  have key : ∀ (a : Fin 32) (b : Fin 1024), lift4 n v ((bandR n di j s).emb (Shape.reshapeEquiv h (ix2 a b))) = v (ix2 (rowOf s a) b) := fun a b => by
    rw [reshapeEquiv_ix2_11ab]
    exact congrArg (lift4 n v) (band_emb di j s a b)
  funext y
  have e : y = ix2 (n0 := 32) (n1 := 1024) (y 0) (y 1) := eq_ix2 y
  exact (congrArg (fun z => lift4 n v ((bandR n di j s).emb (Shape.reshapeEquiv h z))) e).trans (key (y 0) (y 1))

theorem lift4_slot {n : ℕ} (v : S128x1024.Idx → α) (di : Fin 2) (j : Fin n)
    (h : S128x1024.numel = S1x1x128x1024.numel) :
    (fun y => lift4 n v ((slotR n di j).emb (Shape.reshapeEquiv h y))) = v := by
  have key : ∀ (a : Fin 128) (b : Fin 1024), lift4 n v ((slotR n di j).emb (Shape.reshapeEquiv h (ix2 a b))) = v (ix2 a b) := fun a b => by
    rw [reshapeEquiv_ix2_11ab]
    exact congrArg (lift4 n v) (slot_emb di j a b)
  funext y
  have e : y = ix2 (n0 := 128) (n1 := 1024) (y 0) (y 1) := eq_ix2 y
  exact (congrArg (fun z => lift4 n v ((slotR n di j).emb (Shape.reshapeEquiv h z))) e).trans ((key (y 0) (y 1)).trans (congrArg v e.symm))

/-- Chunks whose bands agree at `s` agree on that band of every buffer of chunks. -/
theorem lift4_congr {n : ℕ} {v w : S128x1024.Idx → α} {s : Fin 4} (h : bandOf v s = bandOf w s) (di : Fin 2) (j : Fin n) :
    ∀ i ∈ bandS n di j s, lift4 n v i = lift4 n w i := fun i hi => by
  have hs := ((mem_bandS di j s i).mp hi).2.2
  have h2 : (i 2).val < 128 := (i 2).isLt
  have e := congrFun h (ix2 ⟨(i 2).val % 32, Nat.mod_lt _ (by decide)⟩ (i 3))
  have hr : rowOf s ⟨(i 2).val % 32, Nat.mod_lt _ (by decide)⟩ = (i 2) := Fin.ext (by
    show 32 * s.val + (i 2).val % 32 = (i 2).val; omega)
  have e' : v (ix2 (rowOf s ⟨(i 2).val % 32, Nat.mod_lt _ (by decide)⟩) (i 3))
      = w (ix2 (rowOf s ⟨(i 2).val % 32, Nat.mod_lt _ (by decide)⟩) (i 3)) := e
  rw [hr] at e'
  exact e'

theorem toB_ofB (v : S1x1x32x1024.Idx → α) : toB (ofB v) = v := by
  funext y
  show v (Shape.reshapeEquiv _ (Shape.reshapeEquiv _ y)) = v y
  rw [Shape.reshapeEquiv_reshapeEquiv, Shape.reshapeEquiv_self]

end Values

/-- A view written with what it reads of `g` holds `g` on its elements. -/
theorem write_read_eq {Val : EltTy → Type} {sp : Space} {sh : Shape} {e : EltTy} (v : View sig .tc sp sh e)
    (f g : v.ty.Contents Val) (w : sh.Idx → Val e) (h : w = v.read Val g) :
    ∀ i ∈ v.set, v.write Val f w Finset.univ i = g i := fun i hi => by
  obtain ⟨x, -, rfl⟩ := Finset.mem_map.mp hi
  rw [View.write_emb_of_mem _ _ (Finset.mem_univ x), h, View.read_apply, cast_cast, cast_eq]

variable {F : FTy → Type}

/-! ## What the views read of a buffer that holds a chunk -/

theorem cmB_set (di : Fin 2) (j : Fin 3) (s : Fin 4) : (cmB di j s).view.set = bandS 3 di j s :=
  (View.set_reshape _ _).trans (View.set_slice_whole cc0_scratch1 (bandR 3 di j s))
theorem pkB_set (di : Fin 2) (j : Fin 2) (s : Fin 4) : (pkB di j s).view.set = bandS 2 di j s :=
  (View.set_reshape _ _).trans (View.set_slice_whole cc0_scratch2 (bandR 2 di j s))
theorem sbC_set (di : Fin 2) (j : Fin 2) : (sbC di j).view.set = slotS 2 di j :=
  (View.set_reshape _ _).trans (View.set_slice_whole cc0_scratch0 (slotR 2 di j))

theorem cmB_read (di : Fin 2) (j : Fin 3) (s : Fin 4) (v : S128x1024.Idx → Elt F .bf16) :
    (cmB di j s).view.read (Elt F) (lift4 3 v) = bandOf v s := lift4_band v di j s _
theorem pkB_read (di : Fin 2) (j : Fin 2) (s : Fin 4) (v : S128x1024.Idx → Elt F .bf16) :
    (pkB di j s).view.read (Elt F) (lift4 2 v) = bandOf v s := lift4_band v di j s _
theorem sbC_read (di : Fin 2) (j : Fin 2) (v : S128x1024.Idx → Elt F .f32) :
    (sbC di j).view.read (Elt F) (lift4 2 v) = v := lift4_slot v di j _

/-- Loads of a band. -/
theorem cm_load (di : Fin 2) (j : Fin 3) (s : Fin 4) (v : S128x1024.Idx → Elt F .bf16) :
    ofB (cmM.view.readAt (Elt F) (bandR 3 di j s).toLoadRect (lift4 3 v)) = bandOf v s := lift4_band v di j s _
theorem sb_load (di : Fin 2) (j : Fin 2) (s : Fin 4) (v : S128x1024.Idx → Elt F .f32) :
    ofB (sbM.view.readAt (Elt F) (bandR 2 di j s).toLoadRect (lift4 2 v)) = bandOf v s := lift4_band v di j s _
theorem cm_load_slot (di : Fin 2) (j : Fin 3) (v : S128x1024.Idx → Elt F .bf16) :
    shapeCast S128x1024 (cmM.view.readAt (Elt F) (slotR 3 di j).toLoadRect (lift4 3 v)) shapeCasts_S1x1x128x1024_S128x1024 = v :=
  lift4_slot v di j _

/-- Stores of a band or of a chunk. -/
theorem sb_store (di : Fin 2) (j : Fin 2) (s : Fin 4) (v : S128x1024.Idx → Elt F .f32) (f : (S4 2).Idx → Elt F .f32) :
    ∀ i ∈ bandS 2 di j s, (sbM.access (bandR 2 di j s)).write (Elt F) f (toB (bandOf v s)) Finset.univ i = lift4 2 v i := by
  rw [show bandS 2 di j s = (sbM.access (bandR 2 di j s)).set from (View.set_slice_whole cc0_scratch0 (bandR 2 di j s)).symm]
  exact write_read_eq (Val := Elt F) (sbM.access (bandR 2 di j s)) f (lift4 2 v) (toB (bandOf v s))
    (by rw [← sb_load di j s v]; exact toB_ofB ((sbM.access (bandR 2 di j s)).read (Elt F) (lift4 2 v)))
theorem pk_store (di : Fin 2) (j : Fin 2) (s : Fin 4) (v : S128x1024.Idx → Elt F .bf16) (f : (S4 2).Idx → Elt F .bf16) :
    ∀ i ∈ bandS 2 di j s, (pkM.access (bandR 2 di j s)).write (Elt F) f (toB (bandOf v s)) Finset.univ i = lift4 2 v i := by
  rw [show bandS 2 di j s = (pkM.access (bandR 2 di j s)).set from (View.set_slice_whole cc0_scratch2 (bandR 2 di j s)).symm]
  exact write_read_eq (Val := Elt F) (pkM.access (bandR 2 di j s)) f (lift4 2 v) (toB (bandOf v s))
    (by rw [← pkB_read di j s v]; exact toB_ofB ((pkM.access (bandR 2 di j s)).read (Elt F) (lift4 2 v)))
theorem sb_store_slot (di : Fin 2) (j : Fin 2) (v : S128x1024.Idx → Elt F .f32) (f : (S4 2).Idx → Elt F .f32) :
    ∀ i ∈ slotS 2 di j, (sbM.access (slotR 2 di j)).write (Elt F) f
      (shapeCast S1x1x128x1024 v shapeCasts_S128x1024_S1x1x128x1024) Finset.univ i = lift4 2 v i := by
  rw [show slotS 2 di j = (sbM.access (slotR 2 di j)).set from (View.set_slice_whole cc0_scratch0 (slotR 2 di j)).symm]
  refine write_read_eq (Val := Elt F) (sbM.access (slotR 2 di j)) f (lift4 2 v)
    (shapeCast S1x1x128x1024 v shapeCasts_S128x1024_S1x1x128x1024) ?_
  conv_lhs => rw [← sbC_read di j v]
  funext y
  show (lift4 2 v) ((slotR 2 di j).emb (Shape.reshapeEquiv _ (Shape.reshapeEquiv _ y))) = (lift4 2 v) ((slotR 2 di j).emb y)
  rw [Shape.reshapeEquiv_reshapeEquiv, Shape.reshapeEquiv_self]

/-- Bands in transit: what lands is the chunk's band. -/
theorem cm_land_pk (di : Fin 2) (j : Fin 3) (j' : Fin 2) (s : Fin 4) (v : S128x1024.Idx → Elt F .bf16) (f : (S4 3).Idx → Elt F .bf16) :
    ∀ i ∈ (cmB di j s).view.set, (cmB di j s).view.write (Elt F) f ((pkB di j' s).view.read (Elt F) (lift4 2 v)) Finset.univ i
      = lift4 3 v i :=
  write_read_eq _ _ _ _ (by rw [pkB_read]; exact (cmB_read di j s v).symm)
theorem cm_land_cm (di : Fin 2) (j j' : Fin 3) (s : Fin 4) (v : S128x1024.Idx → Elt F .bf16) (f : (S4 3).Idx → Elt F .bf16) :
    ∀ i ∈ (cmB di j s).view.set, (cmB di j s).view.write (Elt F) f ((cmB di j' s).view.read (Elt F) (lift4 3 v)) Finset.univ i
      = lift4 3 v i :=
  write_read_eq _ _ _ _ (by rw [cmB_read]; exact (cmB_read di j s v).symm)

/-! ## The result's chunks -/

theorem oC_set (di : Fin 2) (h : ℕ) (hh : 31 ≤ h) (c : Dev nD) (i : S4096x2048.Idx) :
    i ∈ (oC di h hh c).view.set ↔ (i 0).val / 128 = (chunkOf di h c).val ∧ (i 1).val / 1024 = di.val := by
  have h1 : (i 1).val < 2048 := (i 1).isLt
  rw [show (oC di h hh c).view.set = (Rect.unit (s := S4096x2048) (oOff di h c) S128x1024.size (oOff_inb di h hh c)).set from
    View.set_slice_whole main_v1 _, Rect.mem_set_unit]
  rw [oOff_eq di h hh]
  simp only [Fin.forall_fin_succ]
  simp
  constructor
  · rintro ⟨h0, h1⟩; refine ⟨?_, ?_⟩ <;> omega
  · rintro ⟨h0, h1⟩; refine ⟨?_, ?_⟩ <;> omega

theorem oC_emb (di : Fin 2) (h : ℕ) (hh : 31 ≤ h) (c : Dev nD) (a : Fin 128) (b : Fin 1024) :
    (((oC di h hh c).view.emb (ix2 a b) : S4096x2048.Idx) 0).val = 128 * (chunkOf di h c).val + a.val ∧
    (((oC di h hh c).view.emb (ix2 a b) : S4096x2048.Idx) 1).val = 1024 * di.val + b.val := by
  have e : ∀ k, (((oC di h hh c).view.emb (ix2 a b) : S4096x2048.Idx) k).val = oOff di h c k + 1 * ((ix2 a b : S128x1024.Idx) k).val :=
    fun k => rfl
  rw [e, e, oOff_eq di h hh]
  constructor
  · show 128 * (chunkOf di h c).val + 1 * a.val = _; omega
  · show 1024 * di.val + 1 * b.val = _; omega

end Cert.KernelIdeal
-- ==== Proof.Proto.lean ====
/- The protocol: what a chunk holds after each hop, the semaphores' rounds, duties and payloads. -/
module

public import proofs.«01_k».proof.Proof.Views
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

/-! ## The resource algebra -/

/-- A landing slot: a device, a direction, a slot's number. -/
abbrev Key : Type := Dev nD × Fin 2 × Fin 3
abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × USlots Key)).trans embR
def EU : Emb (USlots Key) (MT nD τ sig ℕ (Elt F) ℕ UU ℕ) := (Emb.inr : Emb (USlots Key) (UB × USlots Key)).trans embR

instance ER_landsIn : (ER (F := F)).LandsIn (upEmb : UEmb _ 𝕄) := by unfold ER; infer_instance
instance EU_landsIn : (EU (F := F)).LandsIn (upEmb : UEmb _ 𝕄) := by unfold EU; infer_instance

variable (m : (ℓ : Loc nD τ sig) → Buf (Elt F) ℓ)

/-! ## The ring -/

theorem src_dst (di : Fin 2) (c : Dev nD) : srcD di (dstD di c) = c := by revert di c; decide +kernel
theorem dst_src (di : Fin 2) (c : Dev nD) : dstD di (srcD di c) = c := by revert di c; decide +kernel

/-! ## Values -/

/-- The staged blocks of the operands. -/
def xV (c : Dev nD) : S4096x128.Idx → Elt F .f32 := (win0_0.blk (0 : Fin 1)).view.read (Elt F) (m ((c : Thread nD τ).loc main_arg0))
def wV (c : Dev nD) : S128x2048.Idx → Elt F .f32 := (win0_1.blk (0 : Fin 1)).view.read (Elt F) (m ((c : Thread nD τ).loc main_arg1))

/-- Hop `h`'s product. -/
def dotC (di : Fin 2) (c : Dev nD) (h : ℕ) : S128x1024.Idx → Elt F .f32 :=
  dotV (xM.view.readAt (Elt F) (xR di h c).toLoadRect (xV m c)) (wM.view.readAt (Elt F) (wR di).toLoadRect (wV m c))

/-- Whole chunks: a sum, and the activation of one. -/
def addC (a : FVec F S128x1024 .f32) (b : FVec F S128x1024 .bf16) : FVec F S128x1024 .f32 := addf a (unpackV b)
def geluC (y : FVec F S128x1024 .f32) : FVec F S128x1024 .f32 :=
  mulf (mulf (broadcast S128x1024 (Scalar.ofBits .f32 0x3F000000#32)) y)
    (addf (broadcast S128x1024 (Scalar.ofBits .f32 0x3F800000#32))
      (tanh (mulf (broadcast S128x1024 (Scalar.ofBits .f32 0x3F4C422A#32))
        (addf y (mulf (mulf (mulf (broadcast S128x1024 (Scalar.ofBits .f32 0x3D372713#32)) y) y) y)))))
def accC (h : ℕ) (a : FVec F S128x1024 .f32) (b : FVec F S128x1024 .bf16) : FVec F S128x1024 .f32 :=
  if h = 31 then geluC (addC a b) else addC a b

theorem bandOf_acc (h : ℕ) (a : FVec F S128x1024 .f32) (b : FVec F S128x1024 .bf16) (s : Fin 4) :
    bandOf (accC h a b) s = accV h (bandOf a s) (bandOf b s) := by
  unfold accC accV; split <;> rfl
theorem bandOf_pack (a : FVec F S128x1024 .f32) (s : Fin 4) : bandOf (packV a) s = packV (bandOf a s) := rfl
theorem bandOf_unpack (a : FVec F S128x1024 .bf16) (s : Fin 4) : bandOf (unpackV a) s = unpackV (bandOf a s) := rfl

/-- What a device sends at hop `h`: to 31 the packed partial sum, from 32 on what it received. -/
def Snd (di : Fin 2) : ℕ → Dev nD → S128x1024.Idx → Elt F .bf16
  | 0, c => packV (dotC m di c 0)
  | h + 1, c => if h + 1 ≤ 31 then packV (accC (h + 1) (dotC m di c (h + 1)) (Snd di h (srcD di c))) else Snd di h (srcD di c)
def Rcv (di : Fin 2) (h : ℕ) (c : Dev nD) : S128x1024.Idx → Elt F .bf16 := Snd m di h (srcD di c)

/-- What a device holds of a chunk at hop `h`. -/
def Acc (di : Fin 2) (h : ℕ) (c : Dev nD) : S128x1024.Idx → Elt F .f32 :=
  if h = 0 then dotC m di c 0 else if h ≤ 31 then accC h (dotC m di c h) (Rcv m di (h - 1) c) else unpackV (Rcv m di (h - 1) c)

theorem Snd_le (di : Fin 2) (h : ℕ) (hh : h ≤ 31) (c : Dev nD) : Snd m di h c = packV (Acc m di h c) := by
  cases h with
  | zero => rfl
  | succ h =>
    rw [Snd, if_pos hh, Acc, if_neg (Nat.succ_ne_zero h), if_pos hh]; rfl
theorem Snd_ge (di : Fin 2) (h : ℕ) (hh : 32 ≤ h) (c : Dev nD) : Snd m di h c = Rcv m di (h - 1) c := by
  cases h with
  | zero => omega
  | succ h => rw [Snd, if_neg (by omega)]; rfl
theorem Snd_eq_Rcv (di : Fin 2) (h : ℕ) (c : Dev nD) : Snd m di h c = Rcv m di h (dstD di c) := by
  unfold Rcv; rw [src_dst]

/-! ## The result -/

/-- The elements of the result that hop `h` of direction `di` stores. -/
def oS (di : Fin 2) (h : ℕ) (c : Dev nD) : Finset S4096x2048.Idx :=
  Finset.univ.filter fun i => (i 0).val / 128 = (chunkOf di h c).val ∧ (i 1).val / 1024 = di.val

theorem mem_oS (di : Fin 2) (h : ℕ) (c : Dev nD) (i : S4096x2048.Idx) :
    i ∈ oS di h c ↔ (i 0).val / 128 = (chunkOf di h c).val ∧ (i 1).val / 1024 = di.val := by simp [oS]

theorem oC_set_eq (di : Fin 2) (h : ℕ) (hh : 31 ≤ h) (c : Dev nD) : (oC di h hh c).view.set = oS di h c := by
  ext i; exact (oC_set di h hh c i).trans (mem_oS di h c i).symm

/-- The hop that stores chunk `k`. -/
def hopOf (di : Fin 2) (k : ℕ) (c : Dev nD) : ℕ :=
  31 + (if di.val = 0 then (c.val + 33 - k) % 32 else (k + 33 - c.val) % 32)

theorem hopOf_chunk (di : Fin 2) (h : ℕ) (hh : 31 ≤ h) (h2 : h ≤ 62) (c : Dev nD) : hopOf di (chunkOf di h c).val c = h := by
  have hc : c.val < 32 := c.isLt
  unfold hopOf chunkOf
  split <;> simp only <;> omega

theorem chunk_hopOf (di : Fin 2) (k : Fin 32) (c : Dev nD) : chunkOf di (hopOf di k.val c) c = k := by
  have hc : c.val < 32 := c.isLt
  have hk := k.isLt
  apply Fin.ext
  unfold hopOf chunkOf
  split <;> simp only <;> omega

theorem hopOf_range (di : Fin 2) (k : ℕ) (c : Dev nD) : 31 ≤ hopOf di k c ∧ hopOf di k c ≤ 62 := by
  unfold hopOf; split <;> omega

/-- The whole result on device `c`. -/
def outV (c : Dev nD) : S4096x2048.Idx → Elt F .f32 := fun i =>
  Acc m ⟨(i 1).val / 1024, by have h : (i 1).val < 2048 := (i 1).isLt; omega⟩
    (hopOf ⟨(i 1).val / 1024, by have h : (i 1).val < 2048 := (i 1).isLt; omega⟩ ((i 0).val / 128) c) c
    (ix2 ⟨(i 0).val % 128, Nat.mod_lt _ (by decide)⟩ ⟨(i 1).val % 1024, Nat.mod_lt _ (by decide)⟩)

theorem oC_read (di : Fin 2) (h : ℕ) (hh : 31 ≤ h) (h2 : h ≤ 62) (c : Dev nD) :
    (oC di h hh c).view.read (Elt F) (outV m c) = Acc m di h c := by
  have key : ∀ (a : Fin 128) (b : Fin 1024), outV m c ((oC di h hh c).view.emb (ix2 a b)) = Acc m di h c (ix2 a b) := fun a b => by
    obtain ⟨e0, e1⟩ := oC_emb di h hh c a b
    have ha := a.isLt; have hb := b.isLt
    have hdi : (⟨(((oC di h hh c).view.emb (ix2 a b) : S4096x2048.Idx) 1).val / 1024, by
        have h : (((oC di h hh c).view.emb (ix2 a b) : S4096x2048.Idx) 1).val < 2048 := (((oC di h hh c).view.emb (ix2 a b) : S4096x2048.Idx) 1).isLt
        omega⟩ : Fin 2) = di := Fin.ext (by show _ / 1024 = _; rw [e1]; omega)
    unfold outV
    rw [hdi]
    have hk : (((oC di h hh c).view.emb (ix2 a b) : S4096x2048.Idx) 0).val / 128 = (chunkOf di h c).val := by rw [e0]; omega
    rw [hk, hopOf_chunk di h hh h2]
    congr 2
    · exact Fin.ext (by show _ % 128 = _; rw [e0]; omega)
    · exact Fin.ext (by show _ % 1024 = _; rw [e1]; omega)
  funext y
  have e : y = ix2 (n0 := 128) (n1 := 1024) (y 0) (y 1) := eq_ix2 y
  exact (congrArg (fun z => outV m c ((oC di h hh c).view.emb z)) e).trans ((key (y 0) (y 1)).trans (congrArg (Acc m di h c) e.symm))

/-! ## Pieces of memory -/

abbrev cmL (c : Dev nD) : Loc nD τ sig := cmM.view.loc (c : Thread nD τ)
abbrev pkL (c : Dev nD) : Loc nD τ sig := pkM.view.loc (c : Thread nD τ)
abbrev sbL (c : Dev nD) : Loc nD τ sig := sbM.view.loc (c : Thread nD τ)
abbrev oL (c : Dev nD) : Loc nD τ sig := oM.view.loc (c : Thread nD τ)

def cmBand (c : Dev nD) (di : Fin 2) (j : Fin 3) (s : Fin 4) (q : PosShare TreeShare) (v : S128x1024.Idx → Elt F .bf16) : sProp 𝕄 :=
  cmL c ↦[bandS 3 di j s]{q} lift4 3 v
def cmAny (c : Dev nD) (di : Fin 2) (j : Fin 3) (s : Fin 4) : sProp 𝕄 := slot (cmL c) (bandS 3 di j s)
def pkBand (c : Dev nD) (di : Fin 2) (j : Fin 2) (s : Fin 4) (v : S128x1024.Idx → Elt F .bf16) : sProp 𝕄 :=
  pkL c ↦[bandS 2 di j s]{fullShare} lift4 2 v
def pkAny (c : Dev nD) (di : Fin 2) (j : Fin 2) (s : Fin 4) : sProp 𝕄 := slot (pkL c) (bandS 2 di j s)
def sbBand (c : Dev nD) (di : Fin 2) (j : Fin 2) (s : Fin 4) (v : S128x1024.Idx → Elt F .f32) : sProp 𝕄 :=
  sbL c ↦[bandS 2 di j s]{fullShare} lift4 2 v
def sbBandAny (c : Dev nD) (di : Fin 2) (j : Fin 2) (s : Fin 4) : sProp 𝕄 := slot (sbL c) (bandS 2 di j s)
def sbSlot (c : Dev nD) (di : Fin 2) (j : Fin 2) (v : S128x1024.Idx → Elt F .f32) : sProp 𝕄 :=
  sbL c ↦[slotS 2 di j]{fullShare} lift4 2 v
def sbAny (c : Dev nD) (di : Fin 2) (j : Fin 2) : sProp 𝕄 := slot (sbL c) (slotS 2 di j)
def outAny (c : Dev nD) (di : Fin 2) (h : ℕ) : sProp 𝕄 := slot (oL c) (oS di h c)
def outDone (c : Dev nD) (di : Fin 2) (h : ℕ) : sProp 𝕄 := oL c ↦[oS di h c]{fullShare} outV m c

instance cmBand_storable (c : Dev nD) (di : Fin 2) (j : Fin 3) (s : Fin 4) (q : PosShare TreeShare) (v : S128x1024.Idx → Elt F .bf16) :
    BI.Storable (upEmb : UEmb _ 𝕄) (cmBand c di j s q v) := by unfold cmBand; infer_instance
instance cmAny_storable (c : Dev nD) (di : Fin 2) (j : Fin 3) (s : Fin 4) :
    BI.Storable (upEmb : UEmb _ 𝕄) (cmAny (F := F) c di j s) := by unfold cmAny; infer_instance
instance pkAny_storable (c : Dev nD) (di : Fin 2) (j : Fin 2) (s : Fin 4) :
    BI.Storable (upEmb : UEmb _ 𝕄) (pkAny (F := F) c di j s) := by unfold pkAny; infer_instance
instance sbAny_storable (c : Dev nD) (di : Fin 2) (j : Fin 2) :
    BI.Storable (upEmb : UEmb _ 𝕄) (sbAny (F := F) c di j) := by unfold sbAny; infer_instance
instance outDone_storable (c : Dev nD) (di : Fin 2) (h : ℕ) :
    BI.Storable (upEmb : UEmb _ 𝕄) (outDone m c di h) := by unfold outDone; infer_instance

/-! ## Cells -/

abbrev storeC (c : Dev nD) (di : Fin 2) (j : Fin 3) : GSem nD τ sig := ((c : Thread nD τ), .dma (storeS di j))
abbrev sendC (c : Dev nD) (di : Fin 2) (j : Fin 3) (s : Fin 4) : GSem nD τ sig := ((c : Thread nD τ), .dma (sendS di j s))
abbrev recvC (c : Dev nD) (di : Fin 2) (j : Fin 3) (s : Fin 4) : GSem nD τ sig := ((c : Thread nD τ), .dma (recvS di j s))
abbrev credC (c : Dev nD) (di : Fin 2) : GSem nD τ sig := ((c : Thread nD τ), .reg (credS di))
abbrev barC (c : Dev nD) : GSem nD τ sig := ((c : Thread nD τ), .reg barS)

/-- What a semaphore counts. -/
inductive Cl where
  | none
  | store (di : Fin 2) (j : Fin 3)
  | send (di : Fin 2) (j : Fin 3) (s : Fin 4)
  | recv (di : Fin 2) (j : Fin 3) (s : Fin 4)
  | cred (di : Fin 2)
  | bar
deriving DecidableEq

def cls : SemLoc sig → Cl
  | .reg q => if q.val = 2 then .bar else .cred ⟨q.val % 2, Nat.mod_lt _ (by decide)⟩
  | .dma q =>
    if q.val < 2 then .none
    else if q.val < 8 then .store ⟨(q.val - 2) / 3 % 2, Nat.mod_lt _ (by decide)⟩ ⟨(q.val - 2) % 3, Nat.mod_lt _ (by decide)⟩
    else if q.val < 32 then .send ⟨(q.val - 8) / 12 % 2, Nat.mod_lt _ (by decide)⟩ ⟨(q.val - 8) / 4 % 3, Nat.mod_lt _ (by decide)⟩
      ⟨(q.val - 8) % 4, Nat.mod_lt _ (by decide)⟩
    else .recv ⟨(q.val - 32) / 12 % 2, Nat.mod_lt _ (by decide)⟩ ⟨(q.val - 32) / 4 % 3, Nat.mod_lt _ (by decide)⟩
      ⟨(q.val - 32) % 4, Nat.mod_lt _ (by decide)⟩

theorem cls_store (di : Fin 2) (j : Fin 3) : cls (.dma (storeS di j)) = .store di j := by revert di j; decide +kernel
theorem cls_send (di : Fin 2) (j : Fin 3) (s : Fin 4) : cls (.dma (sendS di j s)) = .send di j s := by revert di j s; decide +kernel
theorem cls_recv (di : Fin 2) (j : Fin 3) (s : Fin 4) : cls (.dma (recvS di j s)) = .recv di j s := by revert di j s; decide +kernel
theorem cls_cred (di : Fin 2) : cls (.reg (credS di)) = .cred di := by revert di; decide +kernel
theorem cls_bar : cls (.reg barS) = .bar := by decide +kernel

/-- The units a band's and a chunk's transfer count. -/
def NB : ℕ := (cc0_scratch1 : Ref sig .tc).dmaCredit S32x1024 .bf16
def NC : ℕ := (main_v1 : Ref sig .tc).dmaCredit S128x1024 .f32

theorem NB_pos : 0 < NB := View.dmaCredit_pos (cmB 0 0 0).view (by decide)
theorem NC_pos : 0 < NC := View.dmaCredit_pos (oC 0 31 (by decide) (0 : Dev nD)).view (by decide)

/-! ## The schedule -/

/-- The store that round `r` of store semaphore `j` counts. -/
def stIx (j : Fin 3) (r : ℕ) : ℕ := 31 + 3 * r + (j.val + 2) % 3

/-- The releases of slot `j` that the grant numbered `k` stands for. -/
def cnt (k : ℕ) (j : Fin 3) : ℕ := 1 + (min k 59 + 2 - j.val) / 3

/-- What a device that grants sends a `k`-th time says: which of its landing slots are free. -/
def ok (c : Dev nD) (di : Fin 2) (k : ℕ) : sProp 𝕄 :=
  bigSep Finset.univ fun j : Fin 3 => iprop(released EU (c, di, j) (cnt k j)
    ∗ bigSep Finset.univ fun s : Fin 4 => reached ER (recvC c di j s) (cnt k j - 1))

instance ok_storable (c : Dev nD) (di : Fin 2) (k : ℕ) : BI.Storable (upEmb : UEmb _ 𝕄) (ok (F := F) c di k) := by
  unfold ok; infer_instance
instance ok_persistent (c : Dev nD) (di : Fin 2) (k : ℕ) : BI.Persistent (ok (F := F) c di k) := by
  unfold ok; infer_instance

/-- What a store's end gives back: the chunk of the result and the chunk of partial sums. -/
def stPay (c : Dev nD) (di : Fin 2) (h : ℕ) : sProp 𝕄 := iprop(outDone m c di (min h 62) ∗ sbAny c di (sl2 (min h 62)))
/-- What a send's end gives back: the packed band, or half of the landing band. -/
def sendPay (c : Dev nD) (di : Fin 2) (s : Fin 4) (h : ℕ) : sProp 𝕄 :=
  if h ≤ 31 then pkAny c di (sl2 h) s else cmBand c di (sl3 (h - 1)) s fullShare.left (Rcv m di (h - 1) c)
/-- What arrives. -/
def recvPay (c : Dev nD) (di : Fin 2) (s : Fin 4) (h : ℕ) : sProp 𝕄 := cmBand c di (sl3 h) s fullShare (Rcv m di h c)

instance stPay_storable (c : Dev nD) (di : Fin 2) (h : ℕ) : BI.Storable (upEmb : UEmb _ 𝕄) (stPay m c di h) := by
  unfold stPay; infer_instance
instance sendPay_storable (c : Dev nD) (di : Fin 2) (s : Fin 4) (h : ℕ) : BI.Storable (upEmb : UEmb _ 𝕄) (sendPay m c di s h) := by
  unfold sendPay; split <;> infer_instance
instance recvPay_storable (c : Dev nD) (di : Fin 2) (s : Fin 4) (h : ℕ) : BI.Storable (upEmb : UEmb _ 𝕄) (recvPay m c di s h) := by
  unfold recvPay; infer_instance

def dutyOf (cl : Cl) (r : ℕ) : Finset ℕ :=
  match cl with
  | .none => ∅
  | .store _ j => if stIx j r ≤ 61 ∨ stIx j r = 64 then {0} else ∅
  | .send _ j _ => if 3 * r + j.val ≤ 61 then {0} else ∅
  | .recv _ j _ => if 3 * r + j.val ≤ 61 then {0} else ∅
  | .cred _ => if r = 0 then Finset.Icc 1 62 else ∅
  | .bar => if r = 0 then {0, 1} else ∅

def amtOf (cl : Cl) : ℕ :=
  match cl with
  | .store _ _ => NC
  | .send _ _ _ => NB
  | .recv _ _ _ => NB
  | _ => 1

def payOf (c : Dev nD) (cl : Cl) (r d : ℕ) : sProp 𝕄 :=
  match cl with
  | .none => iprop(emp)
  | .store di j => stPay m c di (stIx j r)
  | .send di j s => sendPay m c di s (3 * r + j.val)
  | .recv di j s => recvPay m c di s (3 * r + j.val)
  | .cred di => ok (dstD di c) di d
  | .bar => if d = 0 then ok (dstD 0 c) 0 0 else ok (dstD 1 c) 1 0

theorem amtOf_pos (cl : Cl) : 0 < amtOf cl := by
  cases cl
  · exact Nat.one_pos
  · exact NC_pos
  · exact NB_pos
  · exact NB_pos
  · exact Nat.one_pos
  · exact Nat.one_pos

instance payOf_storable (c : Dev nD) (cl : Cl) (r d : ℕ) : BI.Storable (upEmb : UEmb _ 𝕄) (payOf m c cl r d) := by
  cases cl with
  | none => exact (inferInstance : BI.Storable (upEmb : UEmb _ 𝕄) iprop(emp))
  | store di j => exact stPay_storable m c di _
  | send di j s => exact sendPay_storable m c di s _
  | recv di j s => exact recvPay_storable m c di s _
  | cred di => exact ok_storable _ di d
  | bar => unfold payOf; simp only; split <;> infer_instance

def Rd : Rounds.Schedule (GSem nD τ sig) ℕ 𝕄 where
  duties g r := if g.1.2 = .tc then dutyOf (cls g.2) r else ∅
  unitless _ := False
  amount g _ _ := amtOf (cls g.2)
  payload g r d := payOf m g.1.1 (cls g.2) r d
  amount_pos g _ _ _ := amtOf_pos _

instance Rd_storable (g : GSem nD τ sig) (r d : ℕ) : BI.Storable (upEmb : UEmb _ 𝕄) ((Rd m).payload g r d) :=
  payOf_storable m g.1.1 (cls g.2) r d

section Sched
variable (c : Dev nD) (sm : SemLoc sig) (r d : ℕ)

theorem Rd_duties : (Rd m).duties ((c : Thread nD τ), sm) r = dutyOf (cls sm) r := by
  show (if ((c : Thread nD τ).2 = Proc.tc) then dutyOf (cls sm) r else ∅) = _
  exact if_pos rfl
theorem Rd_amount : (Rd m).amount ((c : Thread nD τ), sm) r d = amtOf (cls sm) := rfl
theorem Rd_payload : (Rd m).payload ((c : Thread nD τ), sm) r d = payOf m c (cls sm) r d := rfl
theorem Rd_expect : (Rd m).expect ((c : Thread nD τ), sm) r = (dutyOf (cls sm) r).card * amtOf (cls sm) := by
  unfold Schedule.expect Schedule.amountOf
  rw [Finset.sum_congr rfl fun d _ => Rd_amount m c sm r d, Finset.sum_const, Rd_duties, smul_eq_mul]

end Sched

end Cert.KernelIdeal
-- ==== Proof.Steps.lean ====
/- The shared context of the cores and the rules of the steps that wait and signal. -/
module

public import proofs.«01_k».proof.Proof.Proto

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (m : (ℓ : Loc nD τ sig) → Buf (Elt F) ℓ)

/-- One summand of many. -/
theorem bs_elim {M : Type} [URA M] {I : Type} [DecidableEq I] {s : Finset I} {i : I} (h : i ∈ s) {Φ : I → sProp M} :
    (bigSep s Φ : sProp M) ⊢ Φ i := bigSep_elim h

theorem bs_mono {M : Type} [URA M] {I : Type} {s : Finset I} {Φ Ψ : I → sProp M} (h : ∀ i ∈ s, (Φ i : sProp M) ⊢ Ψ i) :
    (bigSep s Φ : sProp M) ⊢ bigSep s Ψ := bigSep_mono h

theorem bs_split {M : Type} [URA M] {I : Type} [Fintype I] [DecidableEq I] (i : I) {Φ : I → sProp M} :
    (bigSep Finset.univ Φ : sProp M) = iprop(Φ i ∗ bigSep (Finset.univ.erase i) Φ) := bigSep_univ_split i
theorem bs_subset {M : Type} [URA M] {I : Type} [DecidableEq I] {s t : Finset I} (h : t ⊆ s) {Φ : I → sProp M} :
    (bigSep s Φ : sProp M) ⊢ bigSep t Φ := bigSep_subset h

/-! ## Levels -/

def L (g : GSem nD τ sig) : Finset ℕ := if g.1.2 = .tc then Finset.range 100 else ∅
def lv (_ : GSem nD τ sig) (u : ℕ) : ℕ := u

theorem L_of_ne (g : GSem nD τ sig) (h : g.1.2 ≠ .tc) : L g = ∅ := if_neg h
theorem L_tc (c : Dev nD) (sm : SemLoc sig) : L ((c : Thread nD τ), sm) = Finset.range 100 := if_pos rfl

/-- Everything owed is owed at a level above `n`. -/
def Above (n : ℕ) (O : CellTallies nD τ sig ℕ) : Prop := ∀ g u, 0 < O g u → n < u ∧ g.1.2 = .tc ∧ u < 100

theorem Above_zero (n : ℕ) : Above n 0 := fun g u h => absurd h (Nat.lt_irrefl 0)
theorem Above_mono {n n' : ℕ} (h : n' ≤ n) {O : CellTallies nD τ sig ℕ} (hO : Above n O) : Above n' O := fun g u hg =>
  ⟨Nat.lt_of_le_of_lt h (hO g u hg).1, (hO g u hg).2⟩
theorem Above_add {n : ℕ} (c : Dev nD) (sm : SemLoc sig) (u k : ℕ) (h : n < u) (hu : u < 100) {O : CellTallies nD τ sig ℕ} (hO : Above n O) :
    Above n (tallyAt ((c : Thread nD τ), sm) u k + O) := fun g v hg => by
  rw [Pi.add_apply, Finsupp.add_apply, tallyAt_apply] at hg
  by_cases hc : g = ((c : Thread nD τ), sm) ∧ v = u
  · obtain ⟨rfl, rfl⟩ := hc; exact ⟨h, rfl, hu⟩
  · rw [if_neg hc, Nat.zero_add] at hg; exact hO g v hg

/-- The levels, as a shared fact. -/
def levs : sProp 𝕄 := levAts L lv
instance levs_persistent : BI.Persistent (levs (F := F)) := by unfold levs; infer_instance

theorem mayWait_above (c : Dev nD) (sm : SemLoc sig) (n : ℕ) (hn : n < 100) (O : CellTallies nD τ sig ℕ) (hO : Above n O) :
    levs (F := F) ⊢ MayWait (c : Thread nD τ) sm n O := by
  unfold levs
  exact Pipeline.mayWait_of_levAts (by rw [L_tc]; exact Finset.mem_range.mpr hn) fun g i hg => by
    have h := hO g i hg
    refine ⟨?_, h.1⟩
    unfold L; rw [if_pos h.2.1]; exact Finset.mem_range.mpr h.2.2

/-! ## The shared context -/

def hasInv (g : GSem nD τ sig) : sProp 𝕄 := iprop(∃ κ, cellInv ER (Rd m) κ g)
instance hasInv_persistent (g : GSem nD τ sig) : BI.Persistent (hasInv m g) := by unfold hasInv; infer_instance

/-- A landing slot of a device: its four bands. -/
def slotK (k : Key) : sProp 𝕄 := bigSep Finset.univ fun s : Fin 4 => cmAny k.1 k.2.1 k.2.2 s
instance slotK_storable (k : Key) : BI.Storable (upEmb : UEmb _ 𝕄) (slotK (F := F) k) := by unfold slotK; infer_instance
def hasSlot (k : Key) : sProp 𝕄 := iprop(∃ ι, slotInv EU ι k (slotK k))
instance hasSlot_persistent (k : Key) : BI.Persistent (hasSlot (F := F) k) := by unfold hasSlot; infer_instance

/-- Every counted semaphore's cell. -/
def cells : Finset (GSem nD τ sig) := (Finset.univ : Finset (Dev nD × SemLoc sig)).filter (fun p => cls p.2 ≠ .none) |>.map
  ⟨fun p => ((p.1 : Thread nD τ), p.2), fun a b h => by
    have h1 := congrArg (fun g : GSem nD τ sig => g.1.1) h
    have h2 := congrArg (fun g : GSem nD τ sig => g.2) h
    exact Prod.ext h1 h2⟩

theorem mem_cells (c : Dev nD) (sm : SemLoc sig) (h : cls sm ≠ .none) : ((c : Thread nD τ), sm) ∈ cells :=
  Finset.mem_map.mpr ⟨(c, sm), Finset.mem_filter.mpr ⟨Finset.mem_univ _, h⟩, rfl⟩

/-- What every core may use any number of times: the cells' and the slots' invariants, that the cells have reached
    round 0, and the levels. -/
def Ctx : sProp 𝕄 := iprop(bigSep cells (hasInv m) ∗ bigSep Finset.univ (hasSlot (F := F)) ∗ bigSep cells (fun g => reached ER g 0) ∗ levs (F := F))
instance Ctx_persistent : BI.Persistent (Ctx m) := by unfold Ctx; infer_instance

theorem ctx_cell (c : Dev nD) (sm : SemLoc sig) (h : cls sm ≠ .none) : Ctx m ⊢ hasInv m ((c : Thread nD τ), sm) := by
  unfold Ctx; iintro ⟨H, -⟩; iapply (bs_elim (Φ := hasInv m) (mem_cells c sm h)); iexact H
theorem ctx_slot (k : Key) : Ctx m ⊢ hasSlot k := by
  unfold Ctx; iintro ⟨-, H, -⟩; iapply (bs_elim (Φ := hasSlot (F := F)) (Finset.mem_univ k)); iexact H
theorem ctx_reached (c : Dev nD) (sm : SemLoc sig) (h : cls sm ≠ .none) : Ctx m ⊢ reached ER ((c : Thread nD τ), sm) 0 := by
  unfold Ctx; iintro ⟨-, -, H, -⟩; iapply (bs_elim (Φ := fun g => reached ER g 0) (mem_cells c sm h)); iexact H
theorem ctx_lev : Ctx m ⊢ levs (F := F) := by
  unfold Ctx
  iintro ⟨-, -, -, #H⟩
  iexact H

theorem ctx_wait (c : Dev nD) (sm : SemLoc sig) (n : ℕ) (hn : n < 100) (O : CellTallies nD τ sig ℕ) (hO : Above n O) :
    Ctx m ⊢ MayWait (c : Thread nD τ) sm n O := by
  have h1 := ctx_lev (F := F) m
  have h2 := mayWait_above (F := F) c sm n hn O hO
  exact h1.trans h2

/-- What a core still owes. -/
def ow (c : Dev nD) (O : CellTallies nD τ sig ℕ) : sProp 𝕄 := iprop(∃ W, owes (c : Thread nD τ) O W)

abbrev 𝒱₀ : Variants := Variants.none
/-- The program `P` on core `c` ends with `Q`. -/
abbrev WP (c : Dev nD) (P : Pr F) (Q : PUnit → sProp 𝕄) : sProp 𝕄 :=
  wp frame (wpE (defs₀ (F := F)) 𝒱₀ (c : Thread nD τ) none) Set.univ P Q

variable {Q : PUnit → sProp (MT nD τ sig ℕ (Elt F) ℕ UU ℕ)}

/-! ## Waiting for a transfer -/

/-- A wait for the one transfer of a round. -/
theorem wp_wait_one (c : Dev nD) (sm : SemLoc sig) (w : TpuEff nD τ sig (Elt F) Λ₀ .tc PUnit) (k' n r : ℕ)
    (hw : ∀ K : PUnit → sProp 𝕄, wpE (defs₀ (F := F)) 𝒱₀ (c : Thread nD τ) none Set.univ w K = waitSpec (c : Thread nD τ) Set.univ sm k' K)
    (hd : dutyOf (cls sm) r = {0}) (hk : amtOf (cls sm) = k') (hn : n < 100)
    (O : CellTallies nD τ sig ℕ) (hO : Above n O) (K : PUnit → Pr F) :
    iprop(Ctx m ∗ cred (tallyAt ((c : Thread nD τ), sm) n k') ∗ ow c O ∗ atPos ER ((c : Thread nD τ), sm) r ∅ 0
        ∗ ((ow c O ∗ atPos ER ((c : Thread nD τ), sm) (r + 1) ∅ 0 ∗ reached ER ((c : Thread nD τ), sm) (r + 1)
            ∗ payOf m c (cls sm) r 0) -∗ WP c (K ⟨⟩) Q))
      ⊢ WP c (.op w K) Q := by
  have hc : cls sm ≠ .none := fun h => by rw [h] at hd; exact absurd hd.symm (Finset.singleton_ne_empty 0)
  have he : 0 + k' = (Rd m).expect ((c : Thread nD τ), sm) r := by rw [Rd_expect, hd, Finset.card_singleton, Nat.one_mul, hk, Nat.zero_add]
  have hpay : bigSep ((Rd m).duties ((c : Thread nD τ), sm) r \ ∅) ((Rd m).payload ((c : Thread nD τ), sm) r) = payOf m c (cls sm) r 0 := by
    rw [Rd_duties, hd, Finset.sdiff_empty, bigSep_singleton, Rd_payload]
  unfold ow
  iintro ⟨#HC, Hcr, ⟨%W, HO⟩, Hat, HK⟩
  ihave Hi := (ctx_cell m c sm hc) $$ HC
  unfold hasInv
  icases Hi with ⟨%κ, #Hi⟩
  iapply (Rounds.wp_wait_rest_token 𝒱₀ ER (Rd m) (c : Thread nD τ) none (κ := κ) hw (Set.mem_univ _) n (O := O) (W := W)
    (R := r) (m := 0) (T := ∅) he) $$ [Hcr HO Hat]
  · isplitr; · iexact Hi
    isplitl [Hcr]; · iexact Hcr
    isplitl [HO]; · iexact HO
    isplitr; · iapply (ctx_wait m c sm n hn O hO); iexact HC
    iexact Hat
  iintro ⟨HO, Hat, Hr, Hp⟩
  iapply HK
  isplitl [HO]; · iexists _; iexact HO
  isplitl [Hat]; · iexact Hat
  isplitl [Hr]; · iexact Hr
  iapply (Entails.of_eq hpay); iexact Hp

/-! ## Positions on the semaphores, hop by hop -/

theorem sl3_add (h : ℕ) : sl3 (h + 3) = sl3 h := Fin.ext (Nat.add_mod_right h 3)
theorem div3_add (h : ℕ) : (h + 3) / 3 = h / 3 + 1 := Nat.add_div_right h (by decide)

/-- Three consecutive hops. -/
def win (Φ : ℕ → sProp 𝕄) (h : ℕ) : sProp 𝕄 := iprop(Φ h ∗ Φ (h + 1) ∗ Φ (h + 2))

theorem win_step (Φ : ℕ → sProp 𝕄) (h : ℕ) : iprop(Φ (h + 1) ∗ Φ (h + 2) ∗ Φ (h + 3)) ⊢ win Φ (h + 1) := by
  unfold win; exact BI.Entails.refl _

def sPos (c : Dev nD) (di : Fin 2) (s : Fin 4) (h : ℕ) : sProp 𝕄 :=
  iprop(atPos ER (sendC c di (sl3 h) s) (h / 3) ∅ 0 ∗ reached ER (sendC c di (sl3 h) s) (h / 3))
def rPos (c : Dev nD) (di : Fin 2) (s : Fin 4) (h : ℕ) : sProp 𝕄 :=
  iprop(atPos ER (recvC c di (sl3 h) s) (h / 3) ∅ 0 ∗ reached ER (recvC c di (sl3 h) s) (h / 3))
def tPos (c : Dev nD) (di : Fin 2) (h : ℕ) : sProp 𝕄 :=
  iprop(atPos ER (storeC c di (sl3 h)) ((h - 31) / 3) ∅ 0 ∗ reached ER (storeC c di (sl3 h)) ((h - 31) / 3))
/-- The reader of the landing slots, having freed the slot's contents of the hops before `h`. -/
def fPos (c : Dev nD) (di : Fin 2) (h : ℕ) : sProp 𝕄 := readerAt EU (c, di, sl3 h) (h / 3 + 1)

def sCr (c : Dev nD) (di : Fin 2) (s : Fin 4) (h : ℕ) : sProp 𝕄 := cred (tallyAt (sendC c di (sl3 h) s) 0 NB)
def rCr (c : Dev nD) (di : Fin 2) (s : Fin 4) (h : ℕ) : sProp 𝕄 := cred (tallyAt (recvC c di (sl3 h) s) (h + 2) NB)
def tCr (c : Dev nD) (di : Fin 2) (h : ℕ) : sProp 𝕄 := cred (tallyAt (storeC c di (sl3 h)) 0 NC)

theorem hop_eq (h : ℕ) : 3 * (h / 3) + (sl3 h).val = h := by show 3 * (h / 3) + h % 3 = h; omega

theorem duty_send (di : Fin 2) (h : ℕ) (hh : h ≤ 61) (s : Fin 4) : dutyOf (cls (.dma (sendS di (sl3 h) s))) (h / 3) = {0} := by
  rw [cls_send]; show (if 3 * (h / 3) + (sl3 h).val ≤ 61 then ({0} : Finset ℕ) else ∅) = {0}
  rw [hop_eq, if_pos hh]
theorem duty_recv (di : Fin 2) (h : ℕ) (hh : h ≤ 61) (s : Fin 4) : dutyOf (cls (.dma (recvS di (sl3 h) s))) (h / 3) = {0} := by
  rw [cls_recv]; show (if 3 * (h / 3) + (sl3 h).val ≤ 61 then ({0} : Finset ℕ) else ∅) = {0}
  rw [hop_eq, if_pos hh]
theorem stIx_eq (h : ℕ) (hh : 31 ≤ h) : stIx (sl3 h) ((h - 31) / 3) = h := by
  show 31 + 3 * ((h - 31) / 3) + (h % 3 + 2) % 3 = h; omega
theorem duty_store (di : Fin 2) (h : ℕ) (hh : 31 ≤ h) (h2 : h ≤ 61 ∨ h = 64) :
    dutyOf (cls (.dma (storeS di (sl3 h)))) ((h - 31) / 3) = {0} := by
  rw [cls_store]; show (if stIx (sl3 h) ((h - 31) / 3) ≤ 61 ∨ stIx (sl3 h) ((h - 31) / 3) = 64 then ({0} : Finset ℕ) else ∅) = {0}
  rw [stIx_eq h hh, if_pos h2]

theorem pay_send (c : Dev nD) (di : Fin 2) (h : ℕ) (s : Fin 4) (d : ℕ) :
    payOf m c (cls (.dma (sendS di (sl3 h) s))) (h / 3) d = sendPay m c di s h := by
  rw [cls_send]; show sendPay m c di s (3 * (h / 3) + (sl3 h).val) = _; rw [hop_eq]
theorem pay_recv (c : Dev nD) (di : Fin 2) (h : ℕ) (s : Fin 4) (d : ℕ) :
    payOf m c (cls (.dma (recvS di (sl3 h) s))) (h / 3) d = recvPay m c di s h := by
  rw [cls_recv]; show recvPay m c di s (3 * (h / 3) + (sl3 h).val) = _; rw [hop_eq]
theorem pay_store (c : Dev nD) (di : Fin 2) (h : ℕ) (hh : 31 ≤ h) (d : ℕ) :
    payOf m c (cls (.dma (storeS di (sl3 h)))) ((h - 31) / 3) d = stPay m c di h := by
  rw [cls_store]; show stPay m c di (stIx (sl3 h) ((h - 31) / 3)) = _; rw [stIx_eq h hh]
theorem amt_send (di : Fin 2) (j : Fin 3) (s : Fin 4) : amtOf (cls (.dma (sendS di j s))) = NB := by rw [cls_send]; rfl
theorem amt_recv (di : Fin 2) (j : Fin 3) (s : Fin 4) : amtOf (cls (.dma (recvS di j s))) = NB := by rw [cls_recv]; rfl
theorem amt_store (di : Fin 2) (j : Fin 3) : amtOf (cls (.dma (storeS di j))) = NC := by rw [cls_store]; rfl

theorem sPos_next (c : Dev nD) (di : Fin 2) (s : Fin 4) (h : ℕ) :
    iprop(atPos ER (sendC c di (sl3 h) s) (h / 3 + 1) ∅ 0 ∗ reached ER (sendC c di (sl3 h) s) (h / 3 + 1)) = sPos (F := F) c di s (h + 3) := by
  unfold sPos; rw [sl3_add, div3_add]
theorem rPos_next (c : Dev nD) (di : Fin 2) (s : Fin 4) (h : ℕ) :
    iprop(atPos ER (recvC c di (sl3 h) s) (h / 3 + 1) ∅ 0 ∗ reached ER (recvC c di (sl3 h) s) (h / 3 + 1)) = rPos (F := F) c di s (h + 3) := by
  unfold rPos; rw [sl3_add, div3_add]
theorem tPos_next (c : Dev nD) (di : Fin 2) (h : ℕ) (hh : 31 ≤ h) :
    iprop(atPos ER (storeC c di (sl3 h)) ((h - 31) / 3 + 1) ∅ 0 ∗ reached ER (storeC c di (sl3 h)) ((h - 31) / 3 + 1)) = tPos (F := F) c di (h + 3) := by
  unfold tPos; rw [sl3_add, show (h + 3 - 31) / 3 = (h - 31) / 3 + 1 by omega]

/-! ## The three waits -/

variable (O : CellTallies nD τ sig ℕ) (K : Pr F)

theorem wp_stSendWait (c : Dev nD) (di : Fin 2) (s : Fin 4) (h : ℕ) (hh : h ≤ 61) (hO : Above 0 O) :
    iprop(Ctx m ∗ ow c O ∗ sCr c di s h ∗ win (sPos c di s) h
        ∗ ((ow c O ∗ win (sPos c di s) (h + 1) ∗ sendPay m c di s h) -∗ WP c K Q))
      ⊢ WP c (stSendWait di h s K) Q := by
  unfold stSendWait win sCr
  rw [show sPos (F := F) c di s h = iprop(atPos ER (sendC c di (sl3 h) s) (h / 3) ∅ 0 ∗ reached ER (sendC c di (sl3 h) s) (h / 3)) from rfl]
  iintro ⟨#HC, HO, Hcr, ⟨⟨Hat, -⟩, H1, H2⟩, HK⟩
  iapply (wp_wait_one m c (.dma (sendS di (sl3 h) s)) _ NB 0 (h / 3)
    (fun K => (wpE_waitDma_eq 𝒱₀ (c : Thread nD τ) none Set.univ K).trans (by split <;> rfl))
    (duty_send di h hh s) (amt_send di (sl3 h) s) (by decide) O hO)
  isplitr; · iexact HC
  isplitl [Hcr]; · iexact Hcr
  isplitl [HO]; · iexact HO
  isplitl [Hat]; · iexact Hat
  iintro ⟨HO, Hat, Hr, Hp⟩
  iapply HK
  isplitl [HO]; · iexact HO
  isplitr [Hp]
  · isplitl [H1]; · iexact H1
    isplitl [H2]; · iexact H2
    rw [← sPos_next]
    isplitl [Hat]; · iexact Hat
    iexact Hr
  iapply (Entails.of_eq (pay_send m c di h s 0)); iexact Hp

theorem wp_stRecvWait (c : Dev nD) (di : Fin 2) (s : Fin 4) (h : ℕ) (hh : h ≤ 61) (hO : Above (h + 2) O) :
    iprop(Ctx m ∗ ow c O ∗ rCr c di s h ∗ win (rPos c di s) h
        ∗ ((ow c O ∗ win (rPos c di s) (h + 1) ∗ recvPay m c di s h) -∗ WP c K Q))
      ⊢ WP c (stRecvWait di h s K) Q := by
  unfold stRecvWait win rCr
  rw [show rPos (F := F) c di s h = iprop(atPos ER (recvC c di (sl3 h) s) (h / 3) ∅ 0 ∗ reached ER (recvC c di (sl3 h) s) (h / 3)) from rfl]
  iintro ⟨#HC, HO, Hcr, ⟨⟨Hat, -⟩, H1, H2⟩, HK⟩
  iapply (wp_wait_one m c (.dma (recvS di (sl3 h) s)) _ NB (h + 2) (h / 3)
    (wpE_waitDma_eq 𝒱₀ (c : Thread nD τ) none Set.univ)
    (duty_recv di h hh s) (amt_recv di (sl3 h) s) (by omega) O hO)
  isplitr; · iexact HC
  isplitl [Hcr]; · iexact Hcr
  isplitl [HO]; · iexact HO
  isplitl [Hat]; · iexact Hat
  iintro ⟨HO, Hat, Hr, Hp⟩
  iapply HK
  isplitl [HO]; · iexact HO
  isplitr [Hp]
  · isplitl [H1]; · iexact H1
    isplitl [H2]; · iexact H2
    rw [← rPos_next]
    isplitl [Hat]; · iexact Hat
    iexact Hr
  iapply (Entails.of_eq (pay_recv m c di h s 0)); iexact Hp

/-- The wait for the store counted as number `h`. -/
theorem wp_stStoreWait (c : Dev nD) (di : Fin 2) (h h' : ℕ) (hs : sl3 h' = sl3 h) (hh : 31 ≤ h) (h2 : h ≤ 61 ∨ h = 64) (hO : Above 0 O) :
    iprop(Ctx m ∗ ow c O ∗ tCr c di h ∗ tPos c di h
        ∗ ((ow c O ∗ tPos c di (h + 3) ∗ stPay m c di h) -∗ WP c K Q))
      ⊢ WP c (stStoreWait di h' K) Q := by
  unfold stStoreWait tCr
  rw [hs]
  rw [show tPos (F := F) c di h = iprop(atPos ER (storeC c di (sl3 h)) ((h - 31) / 3) ∅ 0 ∗ reached ER (storeC c di (sl3 h)) ((h - 31) / 3)) from rfl]
  iintro ⟨#HC, HO, Hcr, ⟨Hat, -⟩, HK⟩
  iapply (wp_wait_one m c (.dma (storeS di (sl3 h))) _ NC 0 ((h - 31) / 3)
    (wpE_waitDma_eq 𝒱₀ (c : Thread nD τ) none Set.univ)
    (duty_store di h hh h2) (amt_store di (sl3 h)) (by decide) O hO)
  isplitr; · iexact HC
  isplitl [Hcr]; · iexact Hcr
  isplitl [HO]; · iexact HO
  isplitl [Hat]; · iexact Hat
  iintro ⟨HO, Hat, Hr, Hp⟩
  iapply HK
  isplitl [HO]; · iexact HO
  isplitr [Hp]
  · rw [← tPos_next c di h hh]
    isplitl [Hat]; · iexact Hat
    iexact Hr
  iapply (Entails.of_eq (pay_store m c di h hh 0)); iexact Hp

/-! ## Credits -/

theorem cnt_mono {k k' : ℕ} (h : k ≤ k') (j : Fin 3) : cnt k j ≤ cnt k' j := by
  unfold cnt; exact Nat.add_le_add_left (Nat.div_le_div_right (by omega)) 1

theorem ok_mono (c : Dev nD) (di : Fin 2) {k k' : ℕ} (h : k ≤ k') : ok c di k' ⊢ ok (F := F) c di k := by
  unfold ok
  refine bigSep_mono fun j _ => BI.sep_mono (released_mono EU (cnt_mono h j)) (bigSep_mono fun s _ => ?_)
  exact reached_mono ER (Nat.sub_le_sub_right (cnt_mono h j) 1)

/-- Having waited for `k` of the grants, the rights they stand for. -/
def crd (c : Dev nD) (di : Fin 2) (k : ℕ) : sProp 𝕄 :=
  iprop(∃ T : Finset ℕ, ⌜T ⊆ Finset.Icc 1 62 ∧ k ≤ T.card⌝ ∗ atPos ER (credC c di) 0 T k
    ∗ bigSep T (fun d => ok (dstD di c) di d) ∗ ok (dstD di c) di k)

theorem exists_ge (S : Finset ℕ) (hS : S ⊆ Finset.Icc 1 62) (k : ℕ) (hk : k + 1 ≤ S.card) : ∃ d ∈ S, k + 1 ≤ d := by
  by_contra hn
  have : S ⊆ Finset.Icc 1 k := fun d hd => by
    have h1 := Finset.mem_Icc.mp (hS hd)
    exact Finset.mem_Icc.mpr ⟨h1.1, by by_contra h; exact hn ⟨d, hd, by omega⟩⟩
  have h := Finset.card_le_card this
  rw [Nat.card_Icc] at h; omega

/-- Waiting for one more grant, the token of which is at level `n`. -/
theorem wp_stCredWait (c : Dev nD) (di : Fin 2) (k n : ℕ) (hn : n < 100) (hO : Above n O) :
    iprop(Ctx m ∗ ow c O ∗ cred (tallyAt (credC c di) n 1) ∗ crd c di k ∗ ((ow c O ∗ crd c di (k + 1)) -∗ WP c K Q))
      ⊢ WP c (stCredWait di 1#32 K) Q := by
  have hd : ∀ r, (Rd m).duties (credC c di) r = if r = 0 then Finset.Icc 1 62 else ∅ := fun r => by rw [Rd_duties, cls_cred]; rfl
  have hp : ∀ d, (Rd m).payload (credC c di) 0 d = ok (dstD di c) di d := fun d => by rw [Rd_payload, cls_cred]; rfl
  have he : (Rd m).expect (credC c di) 0 = 62 := by rw [Rd_expect, cls_cred]; rfl
  unfold stCredWait ow
  rw [show crd (F := F) c di k = iprop(∃ T : Finset ℕ, ⌜T ⊆ Finset.Icc 1 62 ∧ k ≤ T.card⌝ ∗ atPos ER (credC c di) 0 T k
    ∗ bigSep T (fun d => ok (dstD di c) di d) ∗ ok (dstD di c) di k) from rfl]
  iintro ⟨#HC, ⟨%W, HO⟩, Hcr, ⟨%T, %hT, Hat, #HT, #Hok⟩, HK⟩
  ihave Hi := (ctx_cell m c (.reg (credS di)) (by rw [cls_cred]; exact Cl.noConfusion)) $$ HC
  unfold hasInv
  icases Hi with ⟨%κ, #Hi⟩
  iapply (Rounds.wp_wait 𝒱₀ ER (Rd m) (c : Thread nD τ) none (κ := κ) (wpE_semWait_eq 𝒱₀ (c : Thread nD τ) none Set.univ) (Set.mem_univ _)
    (cr := Finsupp.single n 1) (O := O) (W := W) {(.reg (credS di), n)} (R := 0) (m := k) (T := T) (Util.total_single n 1)
    (image_single_subset _ n 1)) $$ [Hcr HO Hat]
  · isplitr; · iexact Hi
    isplitl [Hcr]; · iexact Hcr
    isplitl [HO]; · iexact HO
    isplitr; · iapply (ctx_wait m c _ n hn O hO); iexact HC
    iexact Hat
  iintro %S ⟨%hS, HO, Hat, Hp⟩
  obtain ⟨hTS, hSd, hle⟩ := hS
  rw [hd, if_pos rfl] at hSd
  rw [hd, if_pos rfl, he] at hle
  have hcard : k + 1 ≤ S.card := by
    have h1 := Finset.card_sdiff_add_card_eq_card hSd
    rw [Nat.card_Icc] at h1
    have h2 : (1#32 : BitVec 32).toNat = 1 := by decide
    omega
  have hsplit : ∀ {S T : Finset ℕ}, T ⊆ S → bigSep S (fun d => ok (F := F) (dstD di c) di d)
      = iprop(bigSep T (fun d => ok (F := F) (dstD di c) di d) ∗ bigSep (S \ T) (fun d => ok (F := F) (dstD di c) di d)) := fun {S T} h => by
    exact bigSep_sdiff_split h
  obtain ⟨d, hdS, hdk⟩ := exists_ge S hSd k hcard
  ihave #HS : bigSep S (fun d => ok (F := F) (dstD di c) di d) $$ [Hp]
  · iapply (Entails.of_eq (hsplit hTS).symm)
    isplitr; · iexact HT
    iapply (Entails.of_eq (bigSep_congr (fun d _ => hp d))); iexact Hp
  iapply HK
  isplitl [HO]; · iexists _; iexact HO
  unfold crd
  iexists S
  isplitr; · ipureintro; exact ⟨hSd, hcard⟩
  isplitl [Hat]; · iexact Hat
  isplitr; · iexact HS
  iapply (ok_mono (dstD di c) di hdk)
  iapply (bs_elim (Φ := fun d => ok (F := F) (dstD di c) di d) hdS); iexact HS

/-- The grant numbered `k`, at level `n`. -/
theorem wp_stCred (c : Dev nD) (di : Fin 2) (k n : ℕ) (hk : 1 ≤ k ∧ k ≤ 62) :
    iprop(Ctx m ∗ ow c (tallyAt (credC (srcD di c) di) n 1 + O) ∗ dutyTok ER (credC (srcD di c) di) 0 k ∗ ok c di k
        ∗ (ow c O -∗ WP c K Q))
      ⊢ WP c (stCred di c K) Q := by
  have hd : k ∈ (Rd m).duties (credC (srcD di c) di) 0 := by
    rw [Rd_duties, cls_cred]; exact Finset.mem_Icc.mpr hk
  have hpay : (Rd m).payload (credC (srcD di c) di) 0 k = ok c di k := by
    rw [Rd_payload, cls_cred]; show ok (dstD di (srcD di c)) di k = _; rw [dst_src]
  unfold stCred ow
  iintro ⟨#HC, ⟨%W, HO⟩, Htok, #Hok, HK⟩
  ihave Hi := (ctx_cell m (srcD di c) (.reg (credS di)) (by rw [cls_cred]; exact Cl.noConfusion)) $$ HC
  unfold hasInv
  icases Hi with ⟨%κ, #Hi⟩
  iapply (Rounds.wp_signal 𝒱₀ ER (Rd m) (c : Thread nD τ) none (dst := (srcD di c : Thread nD τ)) (κ := κ) (d := k) (r := 0)
    hd (k' := 1) (by rw [Rd_amount, cls_cred]; rfl) n O (add_comm _ _) (W := W)) $$ [HO Htok]
  · isplitr; · iexact Hi
    isplitl [HO]; · iexact HO
    isplitl [Htok]; · iexact Htok
    isplitr; · iapply (Entails.of_eq hpay.symm); iexact Hok
    iapply (ctx_reached m (srcD di c) _ (by rw [cls_cred]; exact Cl.noConfusion)); iexact HC
  iintro HO
  iapply HK; iexists _; iexact HO

end Cert.KernelIdeal
-- ==== Proof.Moves.lean ====
/- The rules of the steps that move data: loads and stores of bands and chunks, sends, stores of the result, and the
   barrier at the start. -/
module

public import proofs.«01_k».proof.Proof.Steps

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (m : (ℓ : Loc nD τ sig) → Buf (Elt F) ℓ)
variable {Q : PUnit → sProp (MT nD τ sig ℕ (Elt F) ℕ UU ℕ)}

/-! ## Loads and stores of bands -/

theorem ofB_toB {α : Type} (v : S32x1024.Idx → α) : ofB (toB v) = v := by
  funext y
  show v (Shape.reshapeEquiv _ (Shape.reshapeEquiv _ y)) = v y
  rw [Shape.reshapeEquiv_reshapeEquiv, Shape.reshapeEquiv_self]

section Bands
variable (c : Dev nD) (di : Fin 2) (s : Fin 4)

theorem wp_ld_sb (j : Fin 2) (v : S128x1024.Idx → Elt F .f32) {hl} (k : (S1x1x32x1024.Idx → Elt F .f32) → Pr F) :
    iprop(sbBand c di j s v ∗ (sbBand c di j s v -∗ WP c (k (toB (bandOf v s))) Q))
      ⊢ WP c (.op (.load sbM (bandR 2 di j s).toLoadRect hl) k) Q := by
  unfold sbBand
  iintro ⟨H, HK⟩
  iapply (wp_load_rect 𝒱₀ (c : Thread nD τ) none Set.univ (m := sbM) (r := bandR 2 di j s)
    (View.set_slice_whole cc0_scratch0 (bandR 2 di j s)).subset) $$ H
  iintro H
  rw [show (sbM.access (bandR 2 di j s)).read (Elt F) (lift4 2 v) = toB (bandOf v s) from by
    rw [← sb_load di j s v]; exact (toB_ofB _).symm]
  iapply HK; iexact H

theorem wp_ld_cm (j : Fin 3) (q : PosShare TreeShare) (v : S128x1024.Idx → Elt F .bf16) {hl} (k : (S1x1x32x1024.Idx → Elt F .bf16) → Pr F) :
    iprop(cmBand c di j s q v ∗ (cmBand c di j s q v -∗ WP c (k (toB (bandOf v s))) Q))
      ⊢ WP c (.op (.load cmM (bandR 3 di j s).toLoadRect hl) k) Q := by
  unfold cmBand
  iintro ⟨H, HK⟩
  iapply (wp_load_rect 𝒱₀ (c : Thread nD τ) none Set.univ (m := cmM) (r := bandR 3 di j s)
    (View.set_slice_whole cc0_scratch1 (bandR 3 di j s)).subset) $$ H
  iintro H
  rw [show (cmM.access (bandR 3 di j s)).read (Elt F) (lift4 3 v) = toB (bandOf v s) from by
    rw [← cm_load di j s v]; exact (toB_ofB _).symm]
  iapply HK; iexact H

/-- A load the value of which is not used. -/
theorem wp_ld_pk (j : Fin 2) {hl} (k : (S1x1x32x1024.Idx → Elt F .bf16) → Pr F) :
    iprop(pkAny c di j s ∗ (pkAny c di j s -∗ ∀ x, WP c (k x) Q))
      ⊢ WP c (.op (.load pkM (bandR 2 di j s).toLoadRect hl) k) Q := by
  unfold pkAny slot
  iintro ⟨⟨%f, H⟩, HK⟩
  iapply (wp_load_rect 𝒱₀ (c : Thread nD τ) none Set.univ (m := pkM) (r := bandR 2 di j s)
    (View.set_slice_whole cc0_scratch2 (bandR 2 di j s)).subset) $$ H
  iintro H
  ispecialize HK $$ [H]
  · iexists f; iexact H
  iapply HK $$ %_

theorem wp_ld_sbAny (j : Fin 2) {hl} (k : (S1x1x32x1024.Idx → Elt F .f32) → Pr F) :
    iprop(sbBandAny c di j s ∗ (sbBandAny c di j s -∗ ∀ x, WP c (k x) Q))
      ⊢ WP c (.op (.load sbM (bandR 2 di j s).toLoadRect hl) k) Q := by
  unfold sbBandAny slot
  iintro ⟨⟨%f, H⟩, HK⟩
  iapply (wp_load_rect 𝒱₀ (c : Thread nD τ) none Set.univ (m := sbM) (r := bandR 2 di j s)
    (View.set_slice_whole cc0_scratch0 (bandR 2 di j s)).subset) $$ H
  iintro H
  ispecialize HK $$ [H]
  · iexists f; iexact H
  iapply HK $$ %_

theorem wp_st_sb (j : Fin 2) (v : S128x1024.Idx → Elt F .f32) {hx hm} (k : PUnit → Pr F) :
    iprop(sbBandAny c di j s ∗ (sbBand c di j s v -∗ WP c (k ⟨⟩) Q))
      ⊢ WP c (.op (.store sbM (bandR 2 di j s) (toB (bandOf v s)) Finset.univ hx hm) k) Q := by
  unfold sbBandAny sbBand slot
  iintro ⟨⟨%f, H⟩, HK⟩
  iapply (wp_store 𝒱₀ (c : Thread nD τ) none Set.univ (m := sbM) (r := bandR 2 di j s) (Mk := Finset.univ)
    (View.set_slice_whole cc0_scratch0 (bandR 2 di j s)).subset) $$ H
  iintro H
  iapply HK
  iapply (Entails.of_eq (pointsTo_congr (sb_store di j s v f)))
  iexact H

theorem wp_st_pk (j : Fin 2) (v : S128x1024.Idx → Elt F .bf16) {hx hm} (k : PUnit → Pr F) :
    iprop(pkAny c di j s ∗ (pkBand c di j s v -∗ WP c (k ⟨⟩) Q))
      ⊢ WP c (.op (.store pkM (bandR 2 di j s) (toB (bandOf v s)) Finset.univ hx hm) k) Q := by
  unfold pkAny pkBand slot
  iintro ⟨⟨%f, H⟩, HK⟩
  iapply (wp_store 𝒱₀ (c : Thread nD τ) none Set.univ (m := pkM) (r := bandR 2 di j s) (Mk := Finset.univ)
    (View.set_slice_whole cc0_scratch2 (bandR 2 di j s)).subset) $$ H
  iintro H
  iapply HK
  iapply (Entails.of_eq (pointsTo_congr (pk_store di j s v f)))
  iexact H

theorem sb_forget (j : Fin 2) (v : S128x1024.Idx → Elt F .f32) : sbBand c di j s v ⊢ sbBandAny c di j s := by
  unfold sbBand sbBandAny slot; iintro H; iexists _; iexact H
theorem pk_forget (j : Fin 2) (v : S128x1024.Idx → Elt F .bf16) : pkBand c di j s v ⊢ pkAny c di j s := by
  unfold pkBand pkAny slot; iintro H; iexists _; iexact H
theorem cm_forget (j : Fin 3) (v : S128x1024.Idx → Elt F .bf16) : cmBand c di j s fullShare v ⊢ cmAny c di j s := by
  unfold cmBand cmAny slot; iintro H; iexists _; iexact H

variable (K : Pr F)

/-- Hop 0: the packed band. -/
theorem wp_stPack (v : S128x1024.Idx → Elt F .f32) :
    iprop(sbBand c di 0 s v ∗ pkAny c di 0 s ∗ ((sbBand c di 0 s v ∗ pkBand c di 0 s (packV v)) -∗ WP c K Q))
      ⊢ WP c (stPack di s K) Q := by
  unfold stPack
  iintro ⟨Hs, Hp, HK⟩
  iapply (wp_ld_sb c di s 0 v)
  isplitl [Hs]; · iexact Hs
  iintro Hs
  iapply (wp_ld_pk c di s 0)
  isplitl [Hp]; · iexact Hp
  iintro Hp %x
  rw [ofB_toB, ← bandOf_pack]
  iapply (wp_st_pk c di s 0 (packV v))
  isplitl [Hp]; · iexact Hp
  iintro Hp
  iapply HK
  isplitl [Hs]; · iexact Hs
  iexact Hp

/-- Hops 1 to 31: the sum with the received band, and its packed form. -/
theorem wp_stAcc (h : ℕ) (a : S128x1024.Idx → Elt F .f32) (b : S128x1024.Idx → Elt F .bf16) :
    iprop(sbBand c di (sl2 h) s a ∗ cmBand c di (sl3 (h - 1)) s fullShare b ∗ pkAny c di (sl2 h) s
        ∗ ((sbBand c di (sl2 h) s (accC h a b) ∗ cmBand c di (sl3 (h - 1)) s fullShare b
            ∗ pkBand c di (sl2 h) s (packV (accC h a b))) -∗ WP c K Q))
      ⊢ WP c (stAcc di h s K) Q := by
  unfold stAcc
  iintro ⟨Hs, Hc, Hp, HK⟩
  iapply (wp_ld_sb c di s (sl2 h) a)
  isplitl [Hs]; · iexact Hs
  iintro Hs
  iapply (wp_ld_cm c di s (sl3 (h - 1)) fullShare b)
  isplitl [Hc]; · iexact Hc
  iintro Hc
  iapply (wp_ld_sb c di s (sl2 h) a)
  isplitl [Hs]; · iexact Hs
  iintro Hs
  rw [ofB_toB, ofB_toB, ← bandOf_acc]
  iapply (wp_st_sb c di s (sl2 h) (accC h a b))
  isplitl [Hs]; · iapply (sb_forget c di s (sl2 h) a); iexact Hs
  iintro Hs
  iapply (wp_ld_pk c di s (sl2 h))
  isplitl [Hp]; · iexact Hp
  iintro Hp %x
  rw [← bandOf_pack]
  iapply (wp_st_pk c di s (sl2 h) (packV (accC h a b)))
  isplitl [Hp]; · iexact Hp
  iintro Hp
  iapply HK
  isplitl [Hs]; · iexact Hs
  isplitl [Hc]; · iexact Hc
  iexact Hp

/-- From hop 32 on: the received band unpacked. -/
theorem wp_stUnpack (h : ℕ) (q : PosShare TreeShare) (b : S128x1024.Idx → Elt F .bf16) :
    iprop(sbBandAny c di (sl2 h) s ∗ cmBand c di (sl3 (h - 1)) s q b
        ∗ ((sbBand c di (sl2 h) s (unpackV b) ∗ cmBand c di (sl3 (h - 1)) s q b) -∗ WP c K Q))
      ⊢ WP c (stUnpack di h s K) Q := by
  unfold stUnpack
  iintro ⟨Hs, Hc, HK⟩
  iapply (wp_ld_cm c di s (sl3 (h - 1)) q b)
  isplitl [Hc]; · iexact Hc
  iintro Hc
  iapply (wp_ld_sbAny c di s (sl2 h))
  isplitl [Hs]; · iexact Hs
  iintro Hs %x
  rw [ofB_toB, ← bandOf_unpack]
  iapply (wp_st_sb c di s (sl2 h) (unpackV b))
  isplitl [Hs]; · iexact Hs
  iintro Hs
  iapply HK
  isplitl [Hs]; · iexact Hs
  iexact Hc

end Bands

/-! ## Whole chunks -/

section Chunks
variable (c : Dev nD) (di : Fin 2)

/-- The staged operands. -/
def stg : sProp 𝕄 := iprop((xM.view.loc (c : Thread nD τ) ↦[Finset.univ]{fullShare} xV m c)
  ∗ (wM.view.loc (c : Thread nD τ) ↦[Finset.univ]{fullShare} wV m c))

/-- Elements made of pairwise disjoint families are held family by family. -/
theorem pt_parts {I : Type} [Fintype I] {ℓ : Loc nD τ sig} {q : PosShare TreeShare} (A : Finset (Idx ℓ)) (B : I → Finset (Idx ℓ))
    (f : Buf (Elt F) ℓ) (hA : ∀ i, i ∈ A ↔ ∃ s, i ∈ B s) (hd : ∀ s s', s ≠ s' → Disjoint (B s) (B s')) :
    ((ℓ ↦[A]{q} f) : sProp 𝕄) = bigSep Finset.univ fun s => (ℓ ↦[B s]{q} f : sProp 𝕄) := by
  have e : A = Finset.univ.biUnion B := Finset.ext fun i => by
    rw [hA, Finset.mem_biUnion]; exact ⟨fun ⟨s, h⟩ => ⟨s, Finset.mem_univ s, h⟩, fun ⟨s, _, h⟩ => ⟨s, h⟩⟩
  rw [e]; exact pointsTo_biUnion Finset.univ B (fun s _ s' _ h => hd s s' h)

theorem mem_slot_iff {n : ℕ} (j : Fin n) (i : (S4 n).Idx) : i ∈ slotS n di j ↔ ∃ s, i ∈ bandS n di j s := by
  have h2 : (i 2).val < 128 := (i 2).isLt
  simp only [mem_slotS, mem_bandS]
  exact ⟨fun h => ⟨⟨(i 2).val / 32, by omega⟩, h.1, h.2, rfl⟩, fun ⟨s, h⟩ => ⟨h.1, h.2.1⟩⟩

theorem sb_parts (j : Fin 2) (f : (S4 2).Idx → Elt F .f32) :
    ((sbL c ↦[slotS 2 di j]{fullShare} f) : sProp 𝕄) = bigSep Finset.univ fun s : Fin 4 => (sbL c ↦[bandS 2 di j s]{fullShare} f : sProp 𝕄) :=
  pt_parts (ℓ := sbL c) (slotS 2 di j) (bandS 2 di j) f (mem_slot_iff di j)
    (fun s s' h => bands_disjoint di j s (Finset.mem_univ _) s' (Finset.mem_univ _) h)

theorem sb_join (j : Fin 2) (v : S128x1024.Idx → Elt F .f32) :
    sbSlot c di j v = bigSep Finset.univ fun s : Fin 4 => sbBand c di j s v := by
  unfold sbSlot sbBand; exact sb_parts c di j (lift4 2 v)
theorem sbAny_split (j : Fin 2) : sbAny c di j ⊢ bigSep Finset.univ fun s : Fin 4 => sbBandAny (F := F) c di j s := by
  unfold sbAny sbBandAny slot
  iintro ⟨%f, H⟩
  have h : (bigSep Finset.univ fun s : Fin 4 => (sbL c ↦[bandS 2 di j s]{fullShare} f : sProp 𝕄))
      ⊢ bigSep Finset.univ fun s : Fin 4 => iprop(∃ f, sbL c ↦[bandS 2 di j s]{fullShare} f) := bs_mono fun s _ => by
    iintro H; iexists f; iexact H
  iapply h
  iapply (Entails.of_eq (sb_parts c di j f)); iexact H

variable (K : Pr F)

theorem wp_stDot (h : ℕ) :
    iprop(stg m c ∗ sbAny c di (sl2 h) ∗ ((stg m c ∗ sbSlot c di (sl2 h) (dotC m di c h)) -∗ WP c K Q))
      ⊢ WP c (stDot di h c K) Q := by
  unfold stDot stg sbAny sbSlot slot dotC
  iintro ⟨⟨Hx, Hw⟩, ⟨%f, Hs⟩, HK⟩
  iapply (wp_load 𝒱₀ (c : Thread nD τ) none Set.univ (m := xM) (r := (xR di h c).toLoadRect) (Finset.subset_univ _)) $$ Hx
  iintro Hx
  iapply (wp_load 𝒱₀ (c : Thread nD τ) none Set.univ (m := wM) (r := (wR di).toLoadRect) (Finset.subset_univ _)) $$ Hw
  iintro Hw
  iapply (wp_load_rect 𝒱₀ (c : Thread nD τ) none Set.univ (m := sbM) (r := slotR 2 di (sl2 h))
    (View.set_slice_whole cc0_scratch0 (slotR 2 di (sl2 h))).subset) $$ Hs
  iintro Hs
  iapply (wp_store 𝒱₀ (c : Thread nD τ) none Set.univ (m := sbM) (r := slotR 2 di (sl2 h)) (Mk := Finset.univ)
    (View.set_slice_whole cc0_scratch0 (slotR 2 di (sl2 h))).subset) $$ Hs
  iintro Hs
  iapply HK
  isplitl [Hx Hw]
  · isplitl [Hx]; · iexact Hx
    iexact Hw
  iapply (Entails.of_eq (pointsTo_congr (sb_store_slot di (sl2 h) _ f)))
  iexact Hs

/-- A landing slot that holds the chunk `v`, at the share `q`. -/
def cmSlot (j : Fin 3) (q : PosShare TreeShare) (v : S128x1024.Idx → Elt F .bf16) : sProp 𝕄 :=
  cmL c ↦[slotS 3 di j]{q} lift4 3 v
theorem cm_join (j : Fin 3) (q : PosShare TreeShare) (v : S128x1024.Idx → Elt F .bf16) :
    cmSlot c di j q v = bigSep Finset.univ fun s : Fin 4 => cmBand c di j s q v := by
  unfold cmSlot cmBand
  exact pt_parts (ℓ := cmL c) (slotS 3 di j) (bandS 3 di j) (lift4 3 v) (mem_slot_iff di j)
    (fun s s' h => bands_disjoint di j s (Finset.mem_univ _) s' (Finset.mem_univ _) h)

theorem wp_stLast (v : S128x1024.Idx → Elt F .bf16) :
    iprop(cmSlot c di 1 fullShare v ∗ sbAny c di 0 ∗ ((cmSlot c di 1 fullShare v ∗ sbSlot c di 0 (unpackV v)) -∗ WP c K Q))
      ⊢ WP c (stLast di K) Q := by
  unfold stLast sbAny sbSlot slot cmSlot
  iintro ⟨Hc, ⟨%f, Hs⟩, HK⟩
  iapply (wp_load_rect 𝒱₀ (c : Thread nD τ) none Set.univ (m := cmM) (r := slotR 3 di 1)
    (View.set_slice_whole cc0_scratch1 (slotR 3 di 1)).subset) $$ Hc
  iintro Hc
  iapply (wp_load_rect 𝒱₀ (c : Thread nD τ) none Set.univ (m := sbM) (r := slotR 2 di 0)
    (View.set_slice_whole cc0_scratch0 (slotR 2 di 0)).subset) $$ Hs
  iintro Hs
  rw [show shapeCast S128x1024 ((cmM.access (slotR 3 di 1)).read (Elt F) (lift4 3 v)) shapeCasts_S1x1x128x1024_S128x1024 = v from
    cm_load_slot di 1 v]
  iapply (wp_store 𝒱₀ (c : Thread nD τ) none Set.univ (m := sbM) (r := slotR 2 di 0) (Mk := Finset.univ)
    (View.set_slice_whole cc0_scratch0 (slotR 2 di 0)).subset) $$ Hs
  iintro Hs
  iapply HK
  isplitl [Hc]; · iexact Hc
  iapply (Entails.of_eq (pointsTo_congr (sb_store_slot di 0 _ f)))
  iexact Hs

/-! ## Sends -/

variable (O : CellTallies nD τ sig ℕ) (s : Fin 4)

/-- Whether `c` may reach `c'`: every device reaches every other. -/
theorem routes_all (c' : Dev nD) : τ.routes (c : Thread nD τ) (c' : Thread nD τ) = true := by routes

/-- The tokens of hop `h`'s send of a band, and that the receiver's semaphore has come to that round. -/
def sTok (h : ℕ) : sProp 𝕄 := iprop(dutyTok ER (sendC c di (sl3 h) s) (h / 3) 0 ∗ dutyTok ER (recvC (dstD di c) di (sl3 h) s) (h / 3) 0)

def sOwe (h : ℕ) : CellTallies nD τ sig ℕ := tallyAt (recvC (dstD di c) di (sl3 h) s) (h + 2) NB

theorem recv_pay (h : ℕ) (v : S128x1024.Idx → Elt F .bf16) (hv : v = Snd m di h c)
    (f : (S4 3).Idx → Elt F .bf16) (g : (S4 3).Idx → Elt F .bf16)
    (hg : ∀ i ∈ (cmB di (sl3 h) s).view.set, g i = lift4 3 v i) :
    (((cmB di (sl3 h) s).view.loc (dstD di c : Thread nD τ) ↦[(cmB di (sl3 h) s).view.set]{fullShare} g) : sProp 𝕄)
      ⊢ (Rd m).payload (recvC (dstD di c) di (sl3 h) s) (h / 3) 0 := by
  rw [Rd_payload, pay_recv, recvPay, cmBand, ← Snd_eq_Rcv, ← hv, pointsTo_congr hg, cmB_set]

theorem wp_stSendPk (h : ℕ) (hh : h ≤ 31) :
    iprop(Ctx m ∗ ow c (sOwe c di s h + O) ∗ pkBand c di (sl2 h) s (Snd m di h c) ∗ cmAny (dstD di c) di (sl3 h) s
        ∗ reached ER (sendC c di (sl3 h) s) (h / 3) ∗ reached ER (recvC (dstD di c) di (sl3 h) s) (h / 3) ∗ sTok c di s h
        ∗ ((ow c O ∗ sCr c di s h) -∗ WP c K Q))
      ⊢ WP c (stSendPk di h s c K) Q := by
  unfold stSendPk ow pkBand cmAny slot sTok sCr sOwe
  iintro ⟨#HC, ⟨%W, HO⟩, Hp, ⟨%f, Hd⟩, Hr1, Hr2, ⟨Ht1, Ht2⟩, HK⟩
  ihave Hi := (ctx_cell m c (.dma (sendS di (sl3 h) s)) (by rw [cls_send]; exact Cl.noConfusion)) $$ HC
  ihave Hj := (ctx_cell m (dstD di c) (.dma (recvS di (sl3 h) s)) (by rw [cls_recv]; exact Cl.noConfusion)) $$ HC
  unfold hasInv
  icases Hi with ⟨%κ₁, #Hi⟩
  icases Hj with ⟨%κ₂, #Hj⟩
  rw [← pkB_set, ← cmB_set]
  iapply (Rounds.wp_send_pointsTo 𝒱₀ ER (Rd m) (c : Thread nD τ) none (c' := (dstD di c : Thread nD τ)) (κ₁ := κ₁) (κ₂ := κ₂)
    (src := pkB di (sl2 h) s) (dst := cmB di (sl3 h) s) (fs := lift4 2 (Snd m di h c)) (fd := f)
    (r₁ := h / 3) (r₂ := h / 3) (d₁ := 0) (d₂ := 0) (W := W)
    (by rw [Rd_duties, duty_send di h (by omega)]; exact Finset.mem_singleton_self 0)
    (by rw [Rd_duties, duty_recv di h (by omega)]; exact Finset.mem_singleton_self 0)
    (h + 2) 0 NB rfl (by rw [Rd_amount, amt_send]) (by rw [Rd_amount, amt_recv]) O (add_comm _ _)
    (by
      rw [Rd_payload, pay_send, sendPay, if_pos hh, pkB_set]
      exact pk_forget c di s (sl2 h) (Snd m di h c))
    (recv_pay m c di s h _ rfl f _ (cm_land_pk di (sl3 h) (sl2 h) s (Snd m di h c) f)) (routes_all c (dstD di c)))
    $$ [HO Hp Hd Hr1 Hr2 Ht1 Ht2]
  · isplitr; · iexact Hi
    isplitr; · iexact Hj
    isplitl [Hp]; · iexact Hp
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply HK
  isplitl [HO]; · iexists W; iexact HO
  iexact Hc

theorem wp_stSendCm (h : ℕ) (hh : 32 ≤ h) (h2 : h ≤ 61) :
    iprop(Ctx m ∗ ow c (sOwe c di s h + O) ∗ cmBand c di (sl3 (h - 1)) s fullShare.left (Rcv m di (h - 1) c) ∗ cmAny (dstD di c) di (sl3 h) s
        ∗ reached ER (sendC c di (sl3 h) s) (h / 3) ∗ reached ER (recvC (dstD di c) di (sl3 h) s) (h / 3) ∗ sTok c di s h
        ∗ ((ow c O ∗ sCr c di s h) -∗ WP c K Q))
      ⊢ WP c (stSendCm di h s c K) Q := by
  unfold stSendCm ow cmBand cmAny slot sTok sCr sOwe
  iintro ⟨#HC, ⟨%W, HO⟩, Hp, ⟨%f, Hd⟩, Hr1, Hr2, ⟨Ht1, Ht2⟩, HK⟩
  ihave Hi := (ctx_cell m c (.dma (sendS di (sl3 h) s)) (by rw [cls_send]; exact Cl.noConfusion)) $$ HC
  ihave Hj := (ctx_cell m (dstD di c) (.dma (recvS di (sl3 h) s)) (by rw [cls_recv]; exact Cl.noConfusion)) $$ HC
  unfold hasInv
  icases Hi with ⟨%κ₁, #Hi⟩
  icases Hj with ⟨%κ₂, #Hj⟩
  rw [← cmB_set, ← cmB_set]
  iapply (Rounds.wp_send_pointsTo 𝒱₀ ER (Rd m) (c : Thread nD τ) none (c' := (dstD di c : Thread nD τ)) (κ₁ := κ₁) (κ₂ := κ₂)
    (src := cmB di (sl3 (h - 1)) s) (dst := cmB di (sl3 h) s) (fs := lift4 3 (Rcv m di (h - 1) c)) (fd := f)
    (r₁ := h / 3) (r₂ := h / 3) (d₁ := 0) (d₂ := 0) (W := W)
    (by rw [Rd_duties, duty_send di h (by omega)]; exact Finset.mem_singleton_self 0)
    (by rw [Rd_duties, duty_recv di h (by omega)]; exact Finset.mem_singleton_self 0)
    (h + 2) 0 NB rfl (by rw [Rd_amount, amt_send]) (by rw [Rd_amount, amt_recv]) O (add_comm _ _)
    (by
      rw [Rd_payload, pay_send, sendPay, if_neg (by omega), cmB_set]
      exact Entails.of_eq rfl)
    (recv_pay m c di s h _ (Snd_ge m di h hh c).symm f _ (cm_land_cm di (sl3 h) (sl3 (h - 1)) s (Rcv m di (h - 1) c) f)) (routes_all c (dstD di c)))
    $$ [HO Hp Hd Hr1 Hr2 Ht1 Ht2]
  · isplitr; · iexact Hi
    isplitr; · iexact Hj
    isplitl [Hp]; · iexact Hp
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply HK
  isplitl [HO]; · iexists W; iexact HO
  iexact Hc

/-! ## Storing the result -/

/-- The store of hop `h`'s chunk, the store being counted as number `n`. -/
theorem wp_stStore (h n : ℕ) (j : Fin 3) (hj : j = sl3 n) (hh : 31 ≤ h) (hn : 31 ≤ n) (hn2 : n ≤ 61 ∨ n = 64) (hm : min n 62 = h) :
    iprop(Ctx m ∗ sbSlot c di (sl2 h) (Acc m di h c) ∗ outAny c di h
        ∗ reached ER (storeC c di (sl3 n)) ((n - 31) / 3) ∗ dutyTok ER (storeC c di (sl3 n)) ((n - 31) / 3) 0
        ∗ (tCr c di n -∗ WP c K Q))
      ⊢ WP c (stStore di h j hh c K) Q := by
  subst hj
  unfold stStore sbSlot outAny slot tCr
  iintro ⟨#HC, Hs, ⟨%f, Ho⟩, Hr, Ht, HK⟩
  ihave Hi := (ctx_cell m c (.dma (storeS di (sl3 n))) (by rw [cls_store]; exact Cl.noConfusion)) $$ HC
  unfold hasInv
  icases Hi with ⟨%κ, #Hi⟩
  rw [← sbC_set, ← oC_set_eq di h hh]
  iapply (Rounds.wp_copy_pointsTo 𝒱₀ ER (Rd m) (c : Thread nD τ) none (κ := κ)
    (src := sbC di (sl2 h)) (dst := oC di h hh c) (fs := lift4 2 (Acc m di h c)) (fd := f) (r := (n - 31) / 3) (d := 0)
    (by rw [Rd_duties, duty_store di n hn hn2]; exact Finset.mem_singleton_self 0)
    0 NC rfl (by rw [Rd_amount, amt_store])
    (by
      rw [Rd_payload, pay_store m c di n hn, stPay, hm, outDone, sbAny, slot, sbC_set, ← oC_set_eq di h hh,
        pointsTo_congr (write_read_eq (Val := Elt F) (oC di h hh c).view f (outV m c) _
          ((sbC_read di (sl2 h) (Acc m di h c)).trans (oC_read m di h hh (by omega) c).symm))]
      iintro ⟨H1, H2⟩
      isplitl [H1]; · iexact H1
      iexists _; iexact H2)) $$ [Hs Ho Ht Hr]
  · isplitr; · iexact Hi
    isplitl [Hs]; · iexact Hs
    isplitl [Ho]; · iexact Ho
    isplitl [Ht]; · iexact Ht
    iexact Hr
  iexact HK

/-! ## The barrier -/

theorem wp_stBarrier (hO : Above 1 O) :
    iprop(Ctx m ∗ ow c (tallyAt (barC (srcD 0 c)) 1 1 + (tallyAt (barC (srcD 1 c)) 1 1 + O))
        ∗ dutyTok ER (barC (srcD 0 c)) 0 0 ∗ dutyTok ER (barC (srcD 1 c)) 0 1 ∗ ok c 0 0 ∗ ok c 1 0
        ∗ cred (tallyAt (barC c) 1 2) ∗ atPos ER (barC c) 0 ∅ 0
        ∗ ((ow c O ∗ atPos ER (barC c) 1 ∅ 0 ∗ ok (dstD 0 c) 0 0 ∗ ok (dstD 1 c) 1 0) -∗ WP c K Q))
      ⊢ WP c (stBarrier c K) Q := by
  have hd : (Rd m).duties (barC c) 0 = {0, 1} := by rw [Rd_duties, cls_bar]; rfl
  have hd0 : ∀ c' : Dev nD, 0 ∈ (Rd m).duties (barC c') 0 := fun c' => by rw [Rd_duties, cls_bar]; decide
  have hd1 : ∀ c' : Dev nD, 1 ∈ (Rd m).duties (barC c') 0 := fun c' => by rw [Rd_duties, cls_bar]; decide
  have hp0 : ∀ c' : Dev nD, (Rd m).payload (barC c') 0 0 = ok (dstD 0 c') 0 0 := fun c' => by rw [Rd_payload, cls_bar]; rfl
  have hp1 : ∀ c' : Dev nD, (Rd m).payload (barC c') 0 1 = ok (dstD 1 c') 1 0 := fun c' => by rw [Rd_payload, cls_bar]; rfl
  have hpay : bigSep ((Rd m).duties (barC c) 0 \ ∅) ((Rd m).payload (barC c) 0)
      = iprop(ok (dstD 0 c) 0 0 ∗ ok (dstD 1 c) 1 0) := by
    rw [hd, Finset.sdiff_empty, bigSep_insert (by decide), bigSep_singleton, hp0, hp1]; rfl
  have hc : cls (.reg barS) ≠ .none := by rw [cls_bar]; exact Cl.noConfusion
  unfold stBarrier ow
  iintro ⟨#HC, ⟨%W, HO⟩, Ht0, Ht1, #Hok0, #Hok1, Hcr, Hat, HK⟩
  ihave Hi0 := (ctx_cell m (srcD 0 c) (.reg barS) hc) $$ HC
  ihave Hi1 := (ctx_cell m (srcD 1 c) (.reg barS) hc) $$ HC
  ihave Hi := (ctx_cell m c (.reg barS) hc) $$ HC
  unfold hasInv
  icases Hi0 with ⟨%κ0, #Hi0⟩
  icases Hi1 with ⟨%κ1, #Hi1⟩
  icases Hi with ⟨%κ, #Hi⟩
  iapply (Rounds.wp_signal 𝒱₀ ER (Rd m) (c : Thread nD τ) none (dst := (srcD 0 c : Thread nD τ)) (κ := κ0) (d := 0) (r := 0)
    (hd0 _) (k' := 1) (by rw [Rd_amount, cls_bar]; rfl) 1 _ (add_comm _ _) (W := W)) $$ [HO Ht0]
  · isplitr; · iexact Hi0
    isplitl [HO]; · iexact HO
    isplitl [Ht0]; · iexact Ht0
    isplitr; · iapply (Entails.of_eq ((hp0 (srcD 0 c)).trans (by rw [dst_src])).symm); iexact Hok0
    iapply (ctx_reached m (srcD 0 c) _ hc); iexact HC
  iintro HO
  iapply (Rounds.wp_signal 𝒱₀ ER (Rd m) (c : Thread nD τ) none (dst := (srcD 1 c : Thread nD τ)) (κ := κ1) (d := 1) (r := 0)
    (hd1 _) (k' := 1) (by rw [Rd_amount, cls_bar]; rfl) 1 O (add_comm _ _) (W := W)) $$ [HO Ht1]
  · isplitr; · iexact Hi1
    isplitl [HO]; · iexact HO
    isplitl [Ht1]; · iexact Ht1
    isplitr; · iapply (Entails.of_eq ((hp1 (srcD 1 c)).trans (by rw [dst_src])).symm); iexact Hok1
    iapply (ctx_reached m (srcD 1 c) _ hc); iexact HC
  iintro HO
  iapply (Rounds.wp_wait_rest_token 𝒱₀ ER (Rd m) (c : Thread nD τ) none (κ := κ) (wpE_semWait_eq 𝒱₀ (c : Thread nD τ) none Set.univ)
    (Set.mem_univ _) 1 (O := O) (W := W) (R := 0) (m := 0) (T := ∅) (by rw [Rd_expect, cls_bar]; rfl)) $$ [Hcr HO Hat]
  · isplitr; · iexact Hi
    isplitl [Hcr]; · iexact Hcr
    isplitl [HO]; · iexact HO
    isplitr; · iapply (ctx_wait m c _ 1 (by decide) O hO); iexact HC
    iexact Hat
  iintro ⟨HO, Hat, -, Hp⟩
  iapply HK
  isplitl [HO]; · iexists _; iexact HO
  isplitl [Hat]; · iexact Hat
  iapply (Entails.of_eq hpay); iexact Hp

end Chunks

end Cert.KernelIdeal
-- ==== Proof.Bands.lean ====
/- One hop of one direction: its four bands, and the freeing and taking of landing slots. -/
module

public import proofs.«01_k».proof.Proof.Moves

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (m : (ℓ : Loc nD τ sig) → Buf (Elt F) ℓ)
variable {Q : PUnit → sProp (MT nD τ sig ℕ (Elt F) ℕ UU ℕ)}

/-! ## Four bands -/

/-- The four bands' members of a family. -/
def b4 (Φ : Fin 4 → sProp 𝕄) : sProp 𝕄 := bigSep Finset.univ Φ

theorem b4_eq (Φ : Fin 4 → sProp 𝕄) : b4 Φ = iprop(Φ 0 ∗ Φ 1 ∗ Φ 2 ∗ Φ 3) := by
  unfold b4
  rw [show (Finset.univ : Finset (Fin 4)) = {0, 1, 2, 3} from by decide, bigSep_insert (by decide), bigSep_insert (by decide),
    bigSep_insert (by decide), bigSep_singleton]
  rfl
instance b4_persistent (Φ : Fin 4 → sProp 𝕄) [∀ s, BI.Persistent (Φ s)] : BI.Persistent (b4 Φ) := by unfold b4; infer_instance
theorem b4_sep (Φ Ψ : Fin 4 → sProp 𝕄) : b4 (fun s => iprop(Φ s ∗ Ψ s)) = iprop(b4 Φ ∗ b4 Ψ) := bigSep_sep' _ Φ Ψ
theorem b4_mono {Φ Ψ : Fin 4 → sProp 𝕄} (h : ∀ s, Φ s ⊢ Ψ s) : b4 Φ ⊢ b4 Ψ := bs_mono fun s _ => h s

section
variable (c : Dev nD) (di : Fin 2)

/-- Four bands one after the other. -/
theorem wp_four (B : Fin 4 → List (St F)) (T : Fin 4 → CellTallies nD τ sig ℕ) (Pre Post : Fin 4 → sProp 𝕄) (n : ℕ)
    (hT : ∀ s O, Above n O → Above n (T s + O))
    (hB : ∀ s O K, Above n O → iprop(Ctx m ∗ ow c (T s + O) ∗ Pre s ∗ ((ow c O ∗ Post s) -∗ WP c K Q)) ⊢ WP c (runL (B s) K) Q)
    (O : CellTallies nD τ sig ℕ) (hO : Above n O) (l : List (St F)) (K : Pr F) :
    iprop(Ctx m ∗ ow c (T 0 + (T 1 + (T 2 + (T 3 + O)))) ∗ b4 Pre ∗ ((ow c O ∗ b4 Post) -∗ WP c (runL l K) Q))
      ⊢ WP c (runL (B 0 ++ (B 1 ++ (B 2 ++ (B 3 ++ l)))) K) Q := by
  rw [b4_eq, b4_eq, runL_append, runL_append, runL_append, runL_append]
  iintro ⟨#HC, HO, ⟨H0, H1, H2, H3⟩, HK⟩
  iapply (hB 0 (T 1 + (T 2 + (T 3 + O))) _ (hT _ _ (hT _ _ (hT _ _ hO))))
  isplitr; · iexact HC
  isplitl [HO]; · iexact HO
  isplitl [H0]; · iexact H0
  iintro ⟨HO, H0⟩
  iapply (hB 1 (T 2 + (T 3 + O)) _ (hT _ _ (hT _ _ hO)))
  isplitr; · iexact HC
  isplitl [HO]; · iexact HO
  isplitl [H1]; · iexact H1
  iintro ⟨HO, H1⟩
  iapply (hB 2 (T 3 + O) _ (hT _ _ hO))
  isplitr; · iexact HC
  isplitl [HO]; · iexact HO
  isplitl [H2]; · iexact H2
  iintro ⟨HO, H2⟩
  iapply (hB 3 O _ hO)
  isplitr; · iexact HC
  isplitl [HO]; · iexact HO
  isplitl [H3]; · iexact H3
  iintro ⟨HO, H3⟩
  iapply HK
  isplitl [HO]; · iexact HO
  isplitl [H0]; · iexact H0
  isplitl [H1]; · iexact H1
  isplitl [H2]; · iexact H2
  iexact H3

/-- That the receiver's semaphore has come to hop `h`'s round. -/
def rch (s : Fin 4) (h : ℕ) : sProp 𝕄 := reached ER (recvC (dstD di c) di (sl3 h) s) (h / 3)

theorem Above_sOwe {n h : ℕ} (hn : n < h + 2) (h2 : h ≤ 61) (s : Fin 4) {O : CellTallies nD τ sig ℕ} (hO : Above n O) :
    Above n (sOwe c di s h + O) := Above_add _ _ _ _ hn (by omega) hO

theorem win_sPos (s : Fin 4) (h : ℕ) :
    win (sPos (F := F) c di s) h ⊢ iprop(win (sPos c di s) h ∗ reached ER (sendC c di (sl3 h) s) (h / 3)) := by
  unfold win sPos
  iintro ⟨⟨Ha, #Hr⟩, Hb⟩
  isplitr []
  · isplitl [Ha]
    · isplitl [Ha]; · iexact Ha
      iexact Hr
    iexact Hb
  iexact Hr

/-! ### Hop 0 -/

def Pre0 (s : Fin 4) : sProp 𝕄 := iprop(win (sPos c di s) 0 ∗ sTok c di s 0 ∗ sbBand c di 0 s (dotC m di c 0)
  ∗ pkAny c di 0 s ∗ cmAny (dstD di c) di 0 s ∗ rch c di s 0)
def Post0 (s : Fin 4) : sProp 𝕄 := iprop(win (sPos c di s) 0 ∗ sCr c di s 0 ∗ sbBand c di 0 s (Acc m di 0 c))

theorem wp_band0 (s : Fin 4) (O : CellTallies nD τ sig ℕ) (K : Pr F) :
    iprop(Ctx m ∗ ow c (sOwe c di s 0 + O) ∗ Pre0 m c di s ∗ ((ow c O ∗ Post0 m c di s) -∗ WP c K Q))
      ⊢ WP c (runL (bandL di 0 c s) K) Q := by
  rw [show runL (bandL di 0 c s) K = stPack di s (stSendPk di 0 s c K) from rfl]
  unfold Pre0 Post0 rch
  iintro ⟨#HC, HO, ⟨HsW, Ht, Hs, Hp, Hd, Hr2⟩, HK⟩
  ihave HsW := (win_sPos c di s 0) $$ HsW
  icases HsW with ⟨HsW, #Hr⟩
  iapply (wp_stPack c di s _ (dotC m di c 0))
  isplitl [Hs]; · iexact Hs
  isplitl [Hp]; · iexact Hp
  iintro ⟨Hs, Hp⟩
  iapply (wp_stSendPk m c di K O s 0 (by omega))
  isplitr; · iexact HC
  isplitl [HO]; · iexact HO
  isplitl [Hp]; · iexact Hp
  isplitl [Hd]; · iexact Hd
  isplitr; · iexact Hr
  isplitl [Hr2]; · iexact Hr2
  isplitl [Ht]; · iexact Ht
  iintro ⟨HO, Hc⟩
  iapply HK
  isplitl [HO]; · iexact HO
  isplitl [HsW]; · iexact HsW
  isplitl [Hc]; · iexact Hc
  iexact Hs

/-! ### Hops 1 to 31 -/

def PreA (h : ℕ) (s : Fin 4) : sProp 𝕄 := iprop(win (sPos c di s) h ∗ win (rPos c di s) h ∗ sCr c di s h ∗ rCr c di s h ∗ sTok c di s (h + 1)
  ∗ sbBand c di (sl2 (h + 1)) s (dotC m di c (h + 1)) ∗ pkAny c di (sl2 (h + 1)) s ∗ cmAny (dstD di c) di (sl3 (h + 1)) s ∗ rch c di s (h + 1))
def PostA (h : ℕ) (s : Fin 4) : sProp 𝕄 := iprop(win (sPos c di s) (h + 1) ∗ win (rPos c di s) (h + 1) ∗ sCr c di s (h + 1)
  ∗ sbBand c di (sl2 (h + 1)) s (Acc m di (h + 1) c) ∗ pkAny c di (sl2 h) s ∗ cmAny c di (sl3 h) s)

theorem sendPay_le (s : Fin 4) (h : ℕ) (hh : h ≤ 31) : sendPay m c di s h = pkAny c di (sl2 h) s := if_pos hh
theorem sendPay_gt (s : Fin 4) (h : ℕ) (hh : 32 ≤ h) : sendPay m c di s h = cmBand c di (sl3 (h - 1)) s fullShare.left (Rcv m di (h - 1) c) :=
  if_neg (by omega)
theorem Acc_le (h : ℕ) (hh : h + 1 ≤ 31) : Acc m di (h + 1) c = accC (h + 1) (dotC m di c (h + 1)) (Rcv m di h c) := by
  unfold Acc; rw [if_neg (Nat.succ_ne_zero h), if_pos hh]; rfl
theorem Acc_gt (h : ℕ) (hh : 32 ≤ h + 1) : Acc m di (h + 1) c = unpackV (Rcv m di h c) := by
  unfold Acc; rw [if_neg (Nat.succ_ne_zero h), if_neg (by omega)]; rfl

theorem wp_bandA (h : ℕ) (hh : h + 1 ≤ 31) (s : Fin 4) (O : CellTallies nD τ sig ℕ) (hO : Above (h + 2) O) (K : Pr F) :
    iprop(Ctx m ∗ ow c (sOwe c di s (h + 1) + O) ∗ PreA m c di h s ∗ ((ow c O ∗ PostA m c di h s) -∗ WP c K Q))
      ⊢ WP c (runL (bandL di (h + 1) c s) K) Q := by
  have hO' := Above_sOwe c di (h := h + 1) (n := h + 2) (by omega) (by omega) s hO
  rw [show runL (bandL di (h + 1) c s) K = stSendWait di h s (stRecvWait di h s (stAcc di (h + 1) s (stSendPk di (h + 1) s c K))) from by
    unfold bandL; rw [if_neg (Nat.succ_ne_zero h), if_pos hh]; rfl]
  unfold PreA PostA rch
  iintro ⟨#HC, HO, ⟨HsW, HrW, HsC, HrC, Ht, Hs, Hp, Hd, Hr2⟩, HK⟩
  iapply (wp_stSendWait m _ _ c di s h (by omega) (Above_mono (Nat.zero_le _) hO'))
  isplitr; · iexact HC
  isplitl [HO]; · iexact HO
  isplitl [HsC]; · iexact HsC
  isplitl [HsW]; · iexact HsW
  iintro ⟨HO, HsW, Hpk⟩
  iapply (wp_stRecvWait m _ _ c di s h (by omega) hO')
  isplitr; · iexact HC
  isplitl [HO]; · iexact HO
  isplitl [HrC]; · iexact HrC
  isplitl [HrW]; · iexact HrW
  iintro ⟨HO, HrW, Hcm⟩
  unfold recvPay
  iapply (wp_stAcc c di s _ (h + 1) (dotC m di c (h + 1)) (Rcv m di h c))
  isplitl [Hs]; · iexact Hs
  isplitl [Hcm]; · iexact Hcm
  isplitl [Hp]; · iexact Hp
  iintro ⟨Hs, Hcm, Hp⟩
  rw [← Acc_le m c di h hh, ← Snd_le m di (h + 1) hh c]
  ihave HsW := (win_sPos c di s (h + 1)) $$ HsW
  icases HsW with ⟨HsW, #Hr⟩
  iapply (wp_stSendPk m c di K O s (h + 1) hh)
  isplitr; · iexact HC
  isplitl [HO]; · iexact HO
  isplitl [Hp]; · iexact Hp
  isplitl [Hd]; · iexact Hd
  isplitr; · iexact Hr
  isplitl [Hr2]; · iexact Hr2
  isplitl [Ht]; · iexact Ht
  iintro ⟨HO, Hc⟩
  iapply HK
  isplitl [HO]; · iexact HO
  isplitl [HsW]; · iexact HsW
  isplitl [HrW]; · iexact HrW
  isplitl [Hc]; · iexact Hc
  isplitl [Hs]; · iexact Hs
  isplitl [Hpk]
  · iapply (Entails.of_eq (sendPay_le m c di s h (by omega))); iexact Hpk
  iapply (cm_forget c di s (sl3 h) (Rcv m di h c)); iexact Hcm

/-! ### From hop 32 on -/

def PreB (h : ℕ) (s : Fin 4) : sProp 𝕄 := iprop(win (sPos c di s) h ∗ win (rPos c di s) h ∗ sCr c di s h ∗ rCr c di s h ∗ sTok c di s (h + 1)
  ∗ sbBandAny c di (sl2 (h + 1)) s ∗ cmAny (dstD di c) di (sl3 (h + 1)) s ∗ rch c di s (h + 1))
def PostB (h : ℕ) (s : Fin 4) : sProp 𝕄 := iprop(win (sPos c di s) (h + 1) ∗ win (rPos c di s) (h + 1) ∗ sCr c di s (h + 1)
  ∗ sbBand c di (sl2 (h + 1)) s (Acc m di (h + 1) c) ∗ sendPay m c di s h ∗ cmBand c di (sl3 h) s fullShare.right (Rcv m di h c))

theorem cm_halves (j : Fin 3) (s : Fin 4) (v : S128x1024.Idx → Elt F .bf16) :
    cmBand c di j s fullShare v ⊣⊢ iprop(cmBand c di j s fullShare.left v ∗ cmBand c di j s fullShare.right v) := by
  unfold cmBand
  exact pointsTo_share (PosShare.mem_left_op_right fullShare)

theorem wp_bandB (h : ℕ) (hh : 32 ≤ h + 1) (h2 : h + 1 ≤ 61) (s : Fin 4) (O : CellTallies nD τ sig ℕ) (hO : Above (h + 2) O) (K : Pr F) :
    iprop(Ctx m ∗ ow c (sOwe c di s (h + 1) + O) ∗ PreB c di h s ∗ ((ow c O ∗ PostB m c di h s) -∗ WP c K Q))
      ⊢ WP c (runL (bandL di (h + 1) c s) K) Q := by
  have hO' := Above_sOwe c di (h := h + 1) (n := h + 2) (by omega) (by omega) s hO
  rw [show runL (bandL di (h + 1) c s) K = stSendWait di h s (stRecvWait di h s (stSendCm di (h + 1) s c (stUnpack di (h + 1) s K))) from by
    unfold bandL; rw [if_neg (Nat.succ_ne_zero h), if_neg (by omega)]; rfl]
  unfold PreB PostB rch
  iintro ⟨#HC, HO, ⟨HsW, HrW, HsC, HrC, Ht, Hs, Hd, Hr2⟩, HK⟩
  iapply (wp_stSendWait m _ _ c di s h (by omega) (Above_mono (Nat.zero_le _) hO'))
  isplitr; · iexact HC
  isplitl [HO]; · iexact HO
  isplitl [HsC]; · iexact HsC
  isplitl [HsW]; · iexact HsW
  iintro ⟨HO, HsW, Hpk⟩
  iapply (wp_stRecvWait m _ _ c di s h (by omega) hO')
  isplitr; · iexact HC
  isplitl [HO]; · iexact HO
  isplitl [HrC]; · iexact HrC
  isplitl [HrW]; · iexact HrW
  iintro ⟨HO, HrW, Hcm⟩
  unfold recvPay
  ihave Hcm := (cm_halves c di (sl3 h) s (Rcv m di h c)).1 $$ Hcm
  icases Hcm with ⟨HL, HR⟩
  ihave HsW := (win_sPos c di s (h + 1)) $$ HsW
  icases HsW with ⟨HsW, #Hr⟩
  iapply (wp_stSendCm m c di _ O s (h + 1) hh h2)
  isplitr; · iexact HC
  isplitl [HO]; · iexact HO
  isplitl [HL]; · iexact HL
  isplitl [Hd]; · iexact Hd
  isplitr; · iexact Hr
  isplitl [Hr2]; · iexact Hr2
  isplitl [Ht]; · iexact Ht
  iintro ⟨HO, Hc⟩
  iapply (wp_stUnpack c di s _ (h + 1) fullShare.right (Rcv m di h c))
  isplitl [Hs]; · iexact Hs
  isplitl [HR]; · iexact HR
  iintro ⟨Hs, HR⟩
  iapply HK
  isplitl [HO]; · iexact HO
  isplitl [HsW]; · iexact HsW
  isplitl [HrW]; · iexact HrW
  isplitl [Hc]; · iexact Hc
  isplitl [Hs]; · rw [Acc_gt m c di h hh]; iexact Hs
  isplitl [Hpk]; · iexact Hpk
  iexact HR

/-! ## Landing slots -/

/-- Before hop `h` writes in the receiver's slot, that slot is taken. -/
theorem take_slot (h : ℕ) (hh : h ≤ 61) :
    iprop(Ctx m ∗ ok (dstD di c) di (h - 2) ∗ writeTok EU (dstD di c, di, sl3 h) (h / 3 + 1))
      ⊢ |={Set.univ}=> iprop(b4 (fun s => cmAny (F := F) (dstD di c) di (sl3 h) s) ∗ b4 (fun s => rch c di s h)) := by
  have hc : cnt (h - 2) (sl3 h) = h / 3 + 1 := by
    show 1 + (min (h - 2) 59 + 2 - h % 3) / 3 = h / 3 + 1; omega
  have hok : ok (F := F) (dstD di c) di (h - 2) ⊢ iprop(released EU (dstD di c, di, sl3 h) (h / 3 + 1) ∗ b4 (fun s => rch c di s h)) := by
    unfold ok b4 rch
    refine (bs_elim (Finset.mem_univ (sl3 h))).trans ?_
    rw [hc]; exact Entails.of_eq rfl
  iintro ⟨#HC, #Hok, Hw⟩
  ihave Hs := (ctx_slot m (dstD di c, di, sl3 h)) $$ HC
  unfold hasSlot
  icases Hs with ⟨%ι, #Hs⟩
  ihave Hk := hok $$ Hok
  icases Hk with ⟨#Hrel, #Hrch⟩
  imod (slot_take EU (Set.mem_univ ι) (h / 3 + 1)) $$ [Hw] with H
  · isplitr; · iexact Hs
    isplitr; · iexact Hrel
    iexact Hw
  imodintro
  isplitl [H]
  · iapply (show slotK (F := F) (dstD di c, di, sl3 h) ⊢ b4 (fun s => cmAny (dstD di c) di (sl3 h) s) from Entails.of_eq rfl)
    iexact H
  iexact Hrch

theorem slotK_false (k : Key) : iprop(slotK (F := F) k ∗ slotK k) ⊢ (False : sProp 𝕄) := by
  unfold slotK
  iintro ⟨H1, H2⟩
  ihave H1 := (bs_elim (Φ := fun s : Fin 4 => cmAny (F := F) k.1 k.2.1 k.2.2 s) (Finset.mem_univ (0 : Fin 4))) $$ H1
  ihave H2 := (bs_elim (Φ := fun s : Fin 4 => cmAny (F := F) k.1 k.2.1 k.2.2 s) (Finset.mem_univ (0 : Fin 4))) $$ H2
  unfold cmAny
  iapply (slot_slot_false (ℓ := cmL k.1) (I := bandS 3 k.2.1 k.2.2 0) (bandS_nonempty _ _ _))
  isplitl [H1]; · iexact H1
  iexact H2

/-- The grant's content after one more slot is freed. -/
theorem ok_step (k : ℕ) (hk : k ≤ 58) :
    iprop(ok (F := F) c di k ∗ released EU (c, di, sl3 k) (k / 3 + 2) ∗ b4 (fun s => reached ER (recvC c di (sl3 k) s) (k / 3 + 1)))
      ⊢ ok c di (k + 1) := by
  have hc : cnt (k + 1) (sl3 k) = k / 3 + 2 := by
    show 1 + (min (k + 1) 59 + 2 - k % 3) / 3 = k / 3 + 2; omega
  have hne : ∀ j : Fin 3, j ≠ sl3 k → cnt (k + 1) j = cnt k j := fun j hj => by
    have : j.val ≠ k % 3 := fun h => hj (Fin.ext h)
    have hj3 := j.isLt
    show 1 + (min (k + 1) 59 + 2 - j.val) / 3 = 1 + (min k 59 + 2 - j.val) / 3; omega
  unfold ok b4
  rw [bs_split (sl3 k) (Φ := fun j : Fin 3 => iprop(released EU (c, di, j) (cnt (k + 1) j)
    ∗ bigSep Finset.univ fun s : Fin 4 => reached ER (recvC c di j s) (cnt (k + 1) j - 1)))]
  iintro ⟨#Hk, #Hr, #Hs⟩
  isplitr
  · rw [hc]
    isplitr; · iexact Hr
    iexact Hs
  rw [bigSep_congr (s := Finset.univ.erase (sl3 k)) (Ψ := fun j : Fin 3 => iprop(released EU (c, di, j) (cnt k j)
    ∗ bigSep Finset.univ fun s : Fin 4 => reached ER (recvC c di j s) (cnt k j - 1))) (fun j hj => by
      rw [hne j (Finset.ne_of_mem_erase hj)])]
  iapply (bs_subset (Finset.erase_subset (sl3 k) Finset.univ))
  iexact Hk

/-- Where the freeing of landing slots has come to: every slot before hop `k`'s is freed. The slots of hops 59 to 61 are not
    written again and are kept. -/
def FR (k : ℕ) : sProp 𝕄 :=
  iprop(ok c di k ∗ if k ≤ 59 then win (fPos c di) k else b4 fun s => cmAny c di (sl3 59) s)

theorem free_slot (k : ℕ) (hk : k ≤ 59) :
    iprop(Ctx m ∗ FR c di k ∗ b4 (fun s => cmAny c di (sl3 k) s) ∗ b4 (fun s => reached ER (recvC c di (sl3 k) s) (k / 3 + 1)))
      ⊢ |={Set.univ}=> FR (F := F) c di (k + 1) := by
  unfold FR
  rw [if_pos hk]
  rcases Nat.lt_or_ge k 59 with h | h
  · rw [if_pos (show k + 1 ≤ 59 from h)]
    have e1 : readerAt EU (c, di, sl3 k) (k / 3 + 1 + 1) = fPos (F := F) c di (k + 3) := by
      unfold fPos; rw [sl3_add, div3_add]
    unfold win
    iintro ⟨#HC, ⟨#Hok, ⟨Hf, H1, H2⟩⟩, Hs, #Hr⟩
    ihave Hi := (ctx_slot m (c, di, sl3 k)) $$ HC
    unfold hasSlot
    icases Hi with ⟨%ι, #Hi⟩
    imod (slot_release EU (Set.mem_univ ι) (slotK_false (c, di, sl3 k)) (k / 3 + 1)) $$ [Hf Hs] with ⟨Hf, #Hrel⟩
    · isplitr; · iexact Hi
      isplitl [Hf]; · iapply (show fPos (F := F) c di k ⊢ readerAt EU (c, di, sl3 k) (k / 3 + 1) from Entails.of_eq rfl); iexact Hf
      iapply (show b4 (fun s => cmAny (F := F) c di (sl3 k) s) ⊢ slotK (c, di, sl3 k) from Entails.of_eq rfl)
      iexact Hs
    imodintro
    isplitr
    · iapply (ok_step c di k (by omega))
      isplitr; · iexact Hok
      isplitr; · iexact Hrel
      iexact Hr
    isplitl [H1]; · iexact H1
    isplitl [H2]; · iexact H2
    iapply (Entails.of_eq e1); iexact Hf
  · obtain rfl : k = 59 := by omega
    rw [if_neg (by decide)]
    have e : ok (F := F) c di 59 = ok c di (59 + 1) := by
      unfold ok cnt; rfl
    iintro ⟨#HC, ⟨#Hok, Hf⟩, Hs, #Hr⟩
    imodintro
    isplitr; · iapply (Entails.of_eq e); iexact Hok
    iexact Hs

end

end Cert.KernelIdeal
-- ==== Proof.Dirs.lean ====
/- One hop of one direction: what a core holds between hops, and the hop. -/
module

public import proofs.«01_k».proof.Proof.Bands

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (m : (ℓ : Loc nD τ sig) → Buf (Elt F) ℓ)
variable {Q : PUnit → sProp (MT nD τ sig ℕ (Elt F) ℕ UU ℕ)}

section
variable (c : Dev nD) (di : Fin 2)

/-! ## What a core owes and is given at a hop -/

/-- The number of the grant that hop `h` makes. -/
def payN (h : ℕ) : ℕ := if h ≤ 31 then h else h - 1
/-- The level of the grant numbered `k`: that of the hop that waits for it, or of the end. -/
def clv (di : Fin 2) (k : ℕ) : ℕ := if k ≤ 59 then k + 3 else 64 + di.val

def cOwe (h : ℕ) : CellTallies nD τ sig ℕ :=
  if h = 0 ∨ h = 32 then 0 else tallyAt (credC (srcD di c) di) (clv di (payN h)) 1
/-- What a hop of a direction owes, before all of `O`. -/
def DO (h : ℕ) (O : CellTallies nD τ sig ℕ) : CellTallies nD τ sig ℕ :=
  sOwe c di 0 h + (sOwe c di 1 h + (sOwe c di 2 h + (sOwe c di 3 h + (cOwe c di h + O))))

theorem Above_cOwe {n h : ℕ} (hn : n < h + 2) (h2 : h ≤ 61) {O : CellTallies nD τ sig ℕ} (hO : Above n O) : Above n (cOwe c di h + O) := by
  have hd := di.isLt
  unfold cOwe
  split
  · rwa [zero_add]
  · refine Above_add _ _ _ _ ?_ ?_ hO
    all_goals unfold clv payN; split <;> split <;> omega
theorem Above_DO {n h : ℕ} (hn : n < h + 2) (h2 : h ≤ 61) {O : CellTallies nD τ sig ℕ} (hO : Above n O) : Above n (DO c di h O) :=
  Above_sOwe _ _ hn h2 _ (Above_sOwe _ _ hn h2 _ (Above_sOwe _ _ hn h2 _ (Above_sOwe _ _ hn h2 _ (Above_cOwe c di hn h2 hO))))

/-- What a hop of a direction uses up: tokens, credits, the chunk of the result. -/
def fuel (h : ℕ) : sProp 𝕄 := iprop((b4 fun s => sTok c di s h) ∗ writeTok EU (dstD di c, di, sl3 h) (h / 3 + 1)
  ∗ (if 1 ≤ h then b4 fun s => rCr c di s (h - 1) else emp)
  ∗ (if 3 ≤ h then cred (tallyAt (credC c di) (h + 1) 1) else emp)
  ∗ (if h = 0 ∨ h = 32 then emp else dutyTok ER (credC (srcD di c) di) 0 (payN h))
  ∗ (if 31 ≤ h then iprop(dutyTok ER (storeC c di (sl3 h)) ((h - 31) / 3) 0 ∗ outAny c di h) else emp))

/-! ## What a core holds of a direction between hops -/

def sW (h : ℕ) : sProp 𝕄 := b4 fun s => win (sPos c di s) h
def rW (h : ℕ) : sProp 𝕄 := b4 fun s => win (rPos c di s) h
def sC (h : ℕ) : sProp 𝕄 := b4 fun s => sCr c di s h
def PK (j : Fin 2) : sProp 𝕄 := b4 fun s => pkAny c di j s
def cmS (j : Fin 3) : sProp 𝕄 := b4 fun s => cmAny c di j s
def half (h : ℕ) : sProp 𝕄 := b4 fun s => cmBand c di (sl3 h) s fullShare.right (Rcv m di h c)

/-- Before hop `h`, up to 32. -/
def SA (h : ℕ) : sProp 𝕄 := iprop(sW c di (h - 1) ∗ rW c di (h - 1) ∗ FR c di (h - 1)
  ∗ (if h = 0 then PK c di 1 else sC c di (h - 1)) ∗ crd c di (h - 3) ∗ PK c di (sl2 h))
/-- Before hop `h`, from 33 on. -/
def SB (h : ℕ) : sProp 𝕄 := iprop(sW c di (h - 1) ∗ rW c di (h - 1) ∗ FR c di (h - 2) ∗ half m c di (h - 2) ∗ sC c di (h - 1)
  ∗ crd c di (h - 3) ∗ PK c di 0 ∗ PK c di 1 ∗ win (tPos c di) (h - 2) ∗ tCr c di (h - 2) ∗ tCr c di (h - 1)
  ∗ bigSep (Finset.Ico 31 (h - 2)) (outDone m c di))
def Dst (h : ℕ) : sProp 𝕄 :=
  if h ≤ 31 then iprop(SA c di h ∗ sbAny c di (sl2 h) ∗ sbAny c di (sl2 (h + 1)) ∗ win (tPos c di) 31)
  else if h = 32 then iprop(SA c di 32 ∗ sbAny c di 0 ∗ tCr c di 31 ∗ win (tPos c di) 31)
  else SB m c di h
/-- The same with hop `h`'s product in place. -/
def Dmid (h : ℕ) : sProp 𝕄 :=
  if h ≤ 31 then iprop(SA c di h ∗ sbSlot c di (sl2 h) (dotC m di c h) ∗ sbAny c di (sl2 (h + 1)) ∗ win (tPos c di) 31)
  else Dst m c di h

theorem sbSlot_forget (j : Fin 2) (v : S128x1024.Idx → Elt F .f32) : sbSlot c di j v ⊢ sbAny c di j := by
  unfold sbSlot sbAny slot; iintro H; iexists _; iexact H

variable (O : CellTallies nD τ sig ℕ) (K : Pr F)

/-! ## Pieces of a hop -/

theorem sb_b4 (j : Fin 2) (v : S128x1024.Idx → Elt F .f32) : sbSlot c di j v = b4 fun s => sbBand c di j s v := sb_join c di j v

theorem wp_credPre (h : ℕ) (hh : h ≤ 61) (hO : Above (h + 1) O) :
    iprop(Ctx m ∗ ow c O ∗ (if 3 ≤ h then cred (tallyAt (credC c di) (h + 1) 1) else emp) ∗ crd c di (h - 3)
        ∗ ((ow c O ∗ crd c di (h - 2)) -∗ WP c K Q))
      ⊢ WP c (runL (if 3 ≤ h then [stCredWait di 1#32] else []) K) Q := by
  rcases Nat.lt_or_ge h 3 with h3 | h3
  · rw [if_neg (by omega), if_neg (by omega), show h - 3 = 0 by omega, show h - 2 = 0 by omega]
    show _ ⊢ WP c K Q
    iintro ⟨#HC, HO, -, Hc, HK⟩
    iapply HK
    isplitl [HO]; · iexact HO
    iexact Hc
  · rw [if_pos h3, if_pos h3, show h - 2 = h - 3 + 1 by omega]
    exact wp_stCredWait m O K c di (h - 3) (h + 1) (by omega) hO

/-- The receiver's slot, taken before a hop writes in it. -/
theorem crd_take (h : ℕ) (hh : h ≤ 61) :
    iprop(Ctx m ∗ crd c di (h - 2) ∗ writeTok EU (dstD di c, di, sl3 h) (h / 3 + 1))
      ⊢ |={Set.univ}=> iprop(crd (F := F) c di (h - 2) ∗ b4 (fun s => cmAny (F := F) (dstD di c) di (sl3 h) s) ∗ b4 (fun s => rch c di s h)) := by
  rw [show crd (F := F) c di (h - 2) = iprop(∃ T : Finset ℕ, ⌜T ⊆ Finset.Icc 1 62 ∧ h - 2 ≤ T.card⌝ ∗ atPos ER (credC c di) 0 T (h - 2)
    ∗ bigSep T (fun d => ok (dstD di c) di d) ∗ ok (dstD di c) di (h - 2)) from rfl]
  iintro ⟨#HC, ⟨%T, %hT, Hat, #HT, #Hok⟩, Hw⟩
  imod (take_slot m c di h hh) $$ [Hw] with H
  · isplitr; · iexact HC
    isplitr; · iexact Hok
    iexact Hw
  imodintro
  isplitl [Hat]
  · iexists T
    isplitr; · ipureintro; exact hT
    isplitl [Hat]; · iexact Hat
    isplitr; · iexact HT
    iexact Hok
  iexact H

theorem rPos_reached (s : Fin 4) (k : ℕ) :
    rPos (F := F) c di s (k + 3) ⊢ iprop(rPos c di s (k + 3) ∗ reached ER (recvC c di (sl3 k) s) (k / 3 + 1)) := by
  unfold rPos; rw [sl3_add, div3_add]
  iintro ⟨Ha, #Hr⟩
  isplitl [Ha]
  · isplitl [Ha]; · iexact Ha
    iexact Hr
  iexact Hr
theorem rW_reached1 (k : ℕ) :
    rW (F := F) c di (k + 1) ⊢ iprop(rW c di (k + 1) ∗ b4 fun s => reached ER (recvC c di (sl3 k) s) (k / 3 + 1)) := by
  unfold rW
  rw [← b4_sep]
  refine b4_mono fun s => ?_
  unfold win
  iintro ⟨H0, H1, H2⟩
  ihave H2 := (rPos_reached c di s k) $$ H2
  icases H2 with ⟨H2, Hr⟩
  isplitr [Hr]
  · isplitl [H0]; · iexact H0
    isplitl [H1]; · iexact H1
    iexact H2
  iexact Hr
theorem rW_reached2 (k : ℕ) :
    rW (F := F) c di (k + 2) ⊢ iprop(rW c di (k + 2) ∗ b4 fun s => reached ER (recvC c di (sl3 k) s) (k / 3 + 1)) := by
  unfold rW
  rw [← b4_sep]
  refine b4_mono fun s => ?_
  unfold win
  iintro ⟨H0, H1, H2⟩
  ihave H1 := (rPos_reached c di s k) $$ H1
  icases H1 with ⟨H1, Hr⟩
  isplitr [Hr]
  · isplitl [H0]; · iexact H0
    isplitl [H1]; · iexact H1
    iexact H2
  iexact Hr

theorem FR_ok (k : ℕ) : FR (F := F) c di k ⊢ iprop(ok c di k ∗ FR c di k) := by
  unfold FR
  iintro ⟨#Hok, HF⟩
  isplitr; · iexact Hok
  isplitr; · iexact Hok
  iexact HF

/-- Freeing a slot and granting that to the device received from. -/
theorem wp_grant (h k : ℕ) (hk : k ≤ 59) (hp : payN h = k + 1) (h0 : ¬ (h = 0 ∨ h = 32)) :
    iprop(Ctx m ∗ ow c (cOwe c di h + O) ∗ FR c di k ∗ b4 (fun s => cmAny c di (sl3 k) s)
        ∗ b4 (fun s => reached ER (recvC c di (sl3 k) s) (k / 3 + 1))
        ∗ (if h = 0 ∨ h = 32 then emp else dutyTok ER (credC (srcD di c) di) 0 (payN h))
        ∗ ((ow c O ∗ FR c di (k + 1)) -∗ WP c K Q))
      ⊢ WP c (runL (if h = 0 ∨ h = 32 then [] else [stCred di c]) K) Q := by
  rw [if_neg h0, if_neg h0, hp]
  unfold cOwe
  rw [if_neg h0, hp]
  show _ ⊢ WP c (stCred di c K) Q
  iintro ⟨#HC, HO, HF, Hs, Hr, Ht, HK⟩
  imod (free_slot m c di k hk) $$ [HF Hs Hr] with HF
  · isplitr; · iexact HC
    isplitl [HF]; · iexact HF
    isplitl [Hs]; · iexact Hs
    iexact Hr
  ihave HF := (FR_ok c di (k + 1)) $$ HF
  icases HF with ⟨#Hok, HF⟩
  iapply (wp_stCred m O K c di (k + 1) (clv di (k + 1)) ⟨by omega, by omega⟩)
  isplitr; · iexact HC
  isplitl [HO]; · iexact HO
  isplitl [Ht]; · iexact Ht
  isplitr; · iexact Hok
  iintro HO
  iapply HK
  isplitl [HO]; · iexact HO
  iexact HF

theorem tPos_reached (h : ℕ) :
    tPos (F := F) c di h ⊢ iprop(tPos c di h ∗ reached ER (storeC c di (sl3 h)) ((h - 31) / 3)) := by
  unfold tPos
  iintro ⟨Ha, #Hr⟩
  isplitl [Ha]
  · isplitl [Ha]; · iexact Ha
    iexact Hr
  iexact Hr

theorem wp_storeHop (h : ℕ) (hh : 31 ≤ h) (h2 : h ≤ 61) :
    iprop(Ctx m ∗ sbSlot c di (sl2 h) (Acc m di h c) ∗ tPos c di h
        ∗ (if 31 ≤ h then iprop(dutyTok ER (storeC c di (sl3 h)) ((h - 31) / 3) 0 ∗ outAny c di h) else emp)
        ∗ ((tPos c di h ∗ tCr c di h) -∗ WP c K Q))
      ⊢ WP c (runL (if hh : 31 ≤ h then [stStore di h (sl3 h) hh c] else []) K) Q := by
  rw [if_pos hh, dif_pos hh]
  show _ ⊢ WP c (stStore di h (sl3 h) hh c K) Q
  iintro ⟨#HC, Hs, Ht, ⟨Hd, Ho⟩, HK⟩
  ihave Ht := (tPos_reached c di h) $$ Ht
  icases Ht with ⟨Ht, #Hr⟩
  iapply (wp_stStore m c di K h h (sl3 h) rfl hh hh (Or.inl h2) (by omega))
  isplitr; · iexact HC
  isplitl [Hs]; · iexact Hs
  isplitl [Ho]; · iexact Ho
  isplitr; · iexact Hr
  isplitl [Hd]; · iexact Hd
  iintro Hc
  iapply HK
  isplitl [Ht]; · iexact Ht
  iexact Hc

/-! ## Hops to 31 -/

theorem wp_dir0 (hO : Above 1 O) :
    iprop(Ctx m ∗ ow c (DO c di 0 O) ∗ fuel c di 0 ∗ SA c di 0 ∗ sbSlot c di 0 (dotC m di c 0)
        ∗ ((ow c O ∗ SA c di 1 ∗ sbSlot c di 0 (Acc m di 0 c)) -∗ WP c K Q))
      ⊢ WP c (runL (dirL 0 c di) K) Q := by
  have hT : ∀ s O, Above 1 O → Above 1 (sOwe c di s 0 + O) := fun s O h => Above_sOwe c di (by omega) (by omega) s h
  have hcO : cOwe c di 0 + O = O := by unfold cOwe; rw [if_pos (Or.inl rfl), zero_add]
  have hPre : b4 (Pre0 m c di) = iprop(sW c di 0 ∗ (b4 fun s => sTok c di s 0) ∗ (b4 fun s => sbBand c di 0 s (dotC m di c 0))
      ∗ PK c di 0 ∗ (b4 fun s => cmAny (dstD di c) di 0 s) ∗ b4 fun s => rch c di s 0) := by
    unfold Pre0 sW PK
    rw [b4_sep, b4_sep, b4_sep, b4_sep, b4_sep]
  have hPost : b4 (Post0 m c di) = iprop(sW c di 0 ∗ sC c di 0 ∗ sbSlot c di 0 (Acc m di 0 c)) := by
    unfold Post0 sW sC
    rw [b4_sep, b4_sep, sb_join]; rfl
  rw [show dirL (F := F) 0 c di = bandL di 0 c 0 ++ (bandL di 0 c 1 ++ (bandL di 0 c 2 ++ (bandL di 0 c 3 ++ []))) from rfl]
  unfold DO fuel SA
  rw [hcO, sb_b4 c di 0 (dotC m di c 0), if_pos rfl, if_neg (show ¬ (1 : ℕ) = 0 by omega)]
  iintro ⟨#HC, HO, ⟨Ht, Hw, -⟩, ⟨HsW, HrW, HF, HP1, Hc, HP0⟩, Hs, HK⟩
  imod (crd_take m c di 0 (by omega)) $$ [Hc Hw] with ⟨Hc, Hd, Hrch⟩
  · isplitr; · iexact HC
    isplitl [Hc]; · iexact Hc
    iexact Hw
  iapply (wp_four m c (bandL di 0 c) (fun s => sOwe c di s 0) (Pre0 m c di) (Post0 m c di) 1 hT
    (fun s O K hO => wp_band0 m c di s O K) O hO [] K)
  isplitr; · iexact HC
  isplitl [HO]; · iexact HO
  isplitr [HrW HF HP1 Hc HK]
  · iapply (Entails.of_eq hPre.symm)
    isplitl [HsW]; · iexact HsW
    isplitl [Ht]; · iexact Ht
    isplitl [Hs]; · iexact Hs
    isplitl [HP0]; · iexact HP0
    isplitl [Hd]; · iexact Hd
    iexact Hrch
  iintro ⟨HO, HP⟩
  ihave HP := (Entails.of_eq hPost) $$ HP
  icases HP with ⟨HsW, HsC, Hs⟩
  iapply HK
  isplitl [HO]; · iexact HO
  isplitr [Hs]
  · isplitl [HsW]; · iexact HsW
    isplitl [HrW]; · iexact HrW
    isplitl [HF]; · iexact HF
    isplitl [HsC]; · iexact HsC
    isplitl [Hc]; · iexact Hc
    iexact HP1
  iexact Hs

/-- Hops 1 to 31, up to the store. -/
theorem wp_partA (h : ℕ) (hh : h + 1 ≤ 31) (hO : Above (h + 2) O) :
    iprop(Ctx m ∗ ow c (DO c di (h + 1) O) ∗ fuel c di (h + 1) ∗ SA c di (h + 1) ∗ sbSlot c di (sl2 (h + 1)) (dotC m di c (h + 1))
        ∗ ((ow c O ∗ SA c di (h + 2) ∗ sbSlot c di (sl2 (h + 1)) (Acc m di (h + 1) c)
            ∗ (if 31 ≤ h + 1 then iprop(dutyTok ER (storeC c di (sl3 (h + 1))) ((h + 1 - 31) / 3) 0 ∗ outAny c di (h + 1)) else emp))
              -∗ WP c (runL (if hh : 31 ≤ h + 1 then [stStore di (h + 1) (sl3 (h + 1)) hh c] else []) K) Q))
      ⊢ WP c (runL (dirL (h + 1) c di) K) Q := by
  have hT : ∀ s O, Above (h + 2) O → Above (h + 2) (sOwe c di s (h + 1) + O) := fun s O ho => Above_sOwe c di (by omega) (by omega) s ho
  have hcO : Above (h + 2) (cOwe c di (h + 1) + O) := Above_cOwe c di (by omega) (by omega) hO
  have hPre : b4 (PreA m c di h) = iprop(sW c di h ∗ rW c di h ∗ sC c di h ∗ (b4 fun s => rCr c di s h) ∗ (b4 fun s => sTok c di s (h + 1))
      ∗ (b4 fun s => sbBand c di (sl2 (h + 1)) s (dotC m di c (h + 1)))
      ∗ PK c di (sl2 (h + 1)) ∗ (b4 fun s => cmAny (dstD di c) di (sl3 (h + 1)) s) ∗ b4 fun s => rch c di s (h + 1)) := by
    unfold PreA sW rW sC PK
    rw [b4_sep, b4_sep, b4_sep, b4_sep, b4_sep, b4_sep, b4_sep, b4_sep]
  have hPost : b4 (PostA m c di h) = iprop(sW c di (h + 1) ∗ rW c di (h + 1) ∗ sC c di (h + 1) ∗ sbSlot c di (sl2 (h + 1)) (Acc m di (h + 1) c)
      ∗ PK c di (sl2 h) ∗ b4 fun s => cmAny c di (sl3 h) s) := by
    unfold PostA sW rW sC PK
    rw [b4_sep, b4_sep, b4_sep, b4_sep, b4_sep, sb_join]; rfl
  have e2 : sl2 (h + 2) = sl2 h := Fin.ext (by show (h + 2) % 2 = h % 2; omega)
  unfold dirL
  rw [runL_append, if_neg (show ¬ 33 ≤ h + 1 by omega), List.nil_append]
  unfold DO fuel SA
  rw [if_neg (Nat.succ_ne_zero h), if_neg (show h + 2 ≠ 0 by omega), if_pos (show 1 ≤ h + 1 by omega), sb_b4 c di _ (dotC m di c (h + 1)), e2]
  iintro ⟨#HC, HO, ⟨Ht, Hw, HrC, Hcr, Htok, Hst⟩, ⟨HsW, HrW, HF, HsC, Hc, HP⟩, Hs, HK⟩
  iapply (wp_credPre m c di _ _ (h + 1) (by omega) (hT _ _ (hT _ _ (hT _ _ (hT _ _ hcO)))))
  isplitr; · iexact HC
  isplitl [HO]; · iexact HO
  isplitl [Hcr]; · iexact Hcr
  isplitl [Hc]; · iexact Hc
  iintro ⟨HO, Hc⟩
  imod (crd_take m c di (h + 1) (by omega)) $$ [Hc Hw] with ⟨Hc, Hd, Hrch⟩
  · isplitr; · iexact HC
    isplitl [Hc]; · iexact Hc
    iexact Hw
  iapply (wp_four m c (bandL di (h + 1) c) (fun s => sOwe c di s (h + 1)) (PreA m c di h) (PostA m c di h) (h + 2) hT
    (fun s O K hO => wp_bandA m c di h hh s O hO K) _ hcO _ K)
  isplitr; · iexact HC
  isplitl [HO]; · iexact HO
  isplitr [HF Hc HK Htok Hst]
  · iapply (Entails.of_eq hPre.symm)
    isplitl [HsW]; · iexact HsW
    isplitl [HrW]; · iexact HrW
    isplitl [HsC]; · iexact HsC
    isplitl [HrC]; · iexact HrC
    isplitl [Ht]; · iexact Ht
    isplitl [Hs]; · iexact Hs
    isplitl [HP]; · iexact HP
    isplitl [Hd]; · iexact Hd
    iexact Hrch
  iintro ⟨HO, HP⟩
  ihave HP := (Entails.of_eq hPost) $$ HP
  icases HP with ⟨HsW, HrW, HsC, Hs, HP, Hcm⟩
  ihave HrW := (rW_reached1 c di h) $$ HrW
  icases HrW with ⟨HrW, Hr⟩
  rw [runL_append]
  iapply (wp_grant m c di O _ (h + 1) h (by omega) (if_pos hh) (by omega))
  isplitr; · iexact HC
  isplitl [HO]; · iexact HO
  isplitl [HF]; · iexact HF
  isplitl [Hcm]; · iexact Hcm
  isplitl [Hr]; · iexact Hr
  isplitl [Htok]; · iexact Htok
  iintro ⟨HO, HF⟩
  iapply HK
  isplitl [HO]; · iexact HO
  isplitr [Hs Hst]
  · isplitl [HsW]; · iexact HsW
    isplitl [HrW]; · iexact HrW
    isplitl [HF]; · iexact HF
    isplitl [HsC]; · iexact HsC
    isplitl [Hc]; · iexact Hc
    iexact HP
  isplitl [Hs]; · iexact Hs
  iexact Hst

/-! ## Hops from 32 on -/

/-- The bands of a hop from 32 on. -/
theorem wp_partB (h : ℕ) (hh : 32 ≤ h + 1) (h2 : h + 1 ≤ 61) (hO : Above (h + 2) O) (l : List (St F)) :
    iprop(Ctx m ∗ ow c (sOwe c di 0 (h + 1) + (sOwe c di 1 (h + 1) + (sOwe c di 2 (h + 1) + (sOwe c di 3 (h + 1) + O))))
        ∗ (b4 fun s => sTok c di s (h + 1)) ∗ writeTok EU (dstD di c, di, sl3 (h + 1)) ((h + 1) / 3 + 1)
        ∗ (b4 fun s => rCr c di s h)
        ∗ sW c di h ∗ rW c di h ∗ sC c di h ∗ crd c di (h + 1 - 2) ∗ sbAny c di (sl2 (h + 1))
        ∗ ((ow c O ∗ sW c di (h + 1) ∗ rW c di (h + 1) ∗ sC c di (h + 1) ∗ sbSlot c di (sl2 (h + 1)) (Acc m di (h + 1) c)
            ∗ (b4 fun s => sendPay m c di s h) ∗ half m c di h ∗ crd c di (h + 1 - 2)) -∗ WP c (runL l K) Q))
      ⊢ WP c (runL (bandL di (h + 1) c 0 ++ (bandL di (h + 1) c 1 ++ (bandL di (h + 1) c 2 ++ (bandL di (h + 1) c 3 ++ l)))) K) Q := by
  have hT : ∀ s O, Above (h + 2) O → Above (h + 2) (sOwe c di s (h + 1) + O) := fun s O ho => Above_sOwe c di (by omega) (by omega) s ho
  have hPre : b4 (PreB c di h) = iprop(sW c di h ∗ rW c di h ∗ sC c di h ∗ (b4 fun s => rCr c di s h) ∗ (b4 fun s => sTok c di s (h + 1))
      ∗ (b4 fun s => sbBandAny (F := F) c di (sl2 (h + 1)) s)
      ∗ (b4 fun s => cmAny (dstD di c) di (sl3 (h + 1)) s) ∗ b4 fun s => rch c di s (h + 1)) := by
    unfold PreB sW rW sC
    rw [b4_sep, b4_sep, b4_sep, b4_sep, b4_sep, b4_sep, b4_sep]
  have hPost : b4 (PostB m c di h) = iprop(sW c di (h + 1) ∗ rW c di (h + 1) ∗ sC c di (h + 1) ∗ sbSlot c di (sl2 (h + 1)) (Acc m di (h + 1) c)
      ∗ (b4 fun s => sendPay m c di s h) ∗ half m c di h) := by
    unfold PostB sW rW sC half
    rw [b4_sep, b4_sep, b4_sep, b4_sep, b4_sep, sb_join]; rfl
  iintro ⟨#HC, HO, Ht, Hw, HrC, HsW, HrW, HsC, Hc, Hs, HK⟩
  imod (crd_take m c di (h + 1) (by omega)) $$ [Hc Hw] with ⟨Hc, Hd, Hrch⟩
  · isplitr; · iexact HC
    isplitl [Hc]; · iexact Hc
    iexact Hw
  iapply (wp_four m c (bandL di (h + 1) c) (fun s => sOwe c di s (h + 1)) (PreB c di h) (PostB m c di h) (h + 2) hT
    (fun s O K hO => wp_bandB m c di h hh h2 s O hO K) O hO l K)
  isplitr; · iexact HC
  isplitl [HO]; · iexact HO
  isplitr [Hc HK]
  · iapply (Entails.of_eq hPre.symm)
    isplitl [HsW]; · iexact HsW
    isplitl [HrW]; · iexact HrW
    isplitl [HsC]; · iexact HsC
    isplitl [HrC]; · iexact HrC
    isplitl [Ht]; · iexact Ht
    isplitl [Hs]; · iapply (show sbAny c di (sl2 (h + 1)) ⊢ b4 fun s => sbBandAny (F := F) c di (sl2 (h + 1)) s from sbAny_split c di _); iexact Hs
    isplitl [Hd]; · iexact Hd
    iexact Hrch
  iintro ⟨HO, HP⟩
  ihave HP := (Entails.of_eq hPost) $$ HP
  icases HP with ⟨HsW, HrW, HsC, Hs, HP, Hh⟩
  iapply HK
  isplitl [HO]; · iexact HO
  isplitl [HsW]; · iexact HsW
  isplitl [HrW]; · iexact HrW
  isplitl [HsC]; · iexact HsC
  isplitl [Hs]; · iexact Hs
  isplitl [HP]; · iexact HP
  isplitl [Hh]; · iexact Hh
  iexact Hc

theorem wp_dir32 (hO : Above 33 O) :
    iprop(Ctx m ∗ ow c (DO c di 32 O) ∗ fuel c di 32 ∗ (SA c di 32 ∗ sbAny c di 0 ∗ tCr c di 31 ∗ win (tPos c di) 31)
        ∗ ((ow c O ∗ SB m c di 33) -∗ WP c K Q))
      ⊢ WP c (runL (dirL 32 c di) K) Q := by
  have hcO : cOwe c di 32 + O = O := by unfold cOwe; rw [if_pos (Or.inr rfl), zero_add]
  have hT : ∀ s O, Above 33 O → Above 33 (sOwe c di s 32 + O) := fun s O ho => Above_sOwe c di (by omega) (by omega) s ho
  have hsp : (b4 fun s => sendPay m c di s 31) = PK c di 1 := by unfold PK; exact congrArg b4 (funext fun s => sendPay_le m c di s 31 (by omega))
  have hIco : (bigSep (Finset.Ico 31 31) (outDone m c di) : sProp 𝕄) = iprop(emp) := by
    rw [Finset.Ico_self]; exact bigSep_empty
  unfold dirL
  rw [runL_append, if_neg (show ¬ 33 ≤ 32 by omega), List.nil_append, if_pos (show (32 = 0 ∨ 32 = 32) from Or.inr rfl), List.nil_append]
  unfold DO fuel SA SB
  rw [hcO]
  rw [if_neg (show (32 : ℕ) ≠ 0 by omega), if_pos (show 1 ≤ 32 by omega)]
  rw [show win (tPos (F := F) c di) 31 = iprop(tPos c di 31 ∗ tPos c di 32 ∗ tPos c di 33) from rfl]
  iintro ⟨#HC, HO, ⟨Ht, Hw, HrC, Hcr, -, Hst⟩, ⟨⟨HsW, HrW, HF, HsC, Hc, HP⟩, Hs, Ht1, ⟨Hq1, Hq2, Hq3⟩⟩, HK⟩
  iapply (wp_credPre m c di _ _ 32 (by omega) (hT _ _ (hT _ _ (hT _ _ (hT _ _ hO)))))
  isplitr; · iexact HC
  isplitl [HO]; · iexact HO
  isplitl [Hcr]; · iexact Hcr
  isplitl [Hc]; · iexact Hc
  iintro ⟨HO, Hc⟩
  iapply (wp_partB m c di O K 31 (by omega) (by omega) hO _)
  isplitr; · iexact HC
  isplitl [HO]; · iexact HO
  isplitl [Ht]; · iexact Ht
  isplitl [Hw]; · iexact Hw
  isplitl [HrC]; · iexact HrC
  isplitl [HsW]; · iexact HsW
  isplitl [HrW]; · iexact HrW
  isplitl [HsC]; · iexact HsC
  isplitl [Hc]; · iexact Hc
  isplitl [Hs]; · iexact Hs
  iintro ⟨HO, HsW, HrW, HsC, Hs, HP1, Hh, Hc⟩
  iapply (wp_storeHop m c di K 32 (by omega) (by omega))
  isplitr; · iexact HC
  isplitl [Hs]; · iexact Hs
  isplitl [Hq2]; · iexact Hq2
  isplitl [Hst]; · iexact Hst
  iintro ⟨Hq2, Ht2⟩
  iapply HK
  isplitl [HO]; · iexact HO
  isplitl [HsW]; · iexact HsW
  isplitl [HrW]; · iexact HrW
  isplitl [HF]; · iexact HF
  isplitl [Hh]; · iexact Hh
  isplitl [HsC]; · iexact HsC
  isplitl [Hc]; · iexact Hc
  isplitl [HP]; · iexact HP
  isplitl [HP1]; · iapply (Entails.of_eq hsp); iexact HP1
  isplitl [Hq1 Hq2 Hq3]
  · isplitl [Hq1]; · iexact Hq1
    isplitl [Hq2]; · iexact Hq2
    iexact Hq3
  isplitl [Ht1]; · iexact Ht1
  isplitl [Ht2]; · iexact Ht2
  iapply (Entails.of_eq hIco.symm)
  iempintro

/-- The two halves of a landing slot. -/
theorem cm_whole (h : ℕ) :
    iprop((b4 fun s => cmBand c di (sl3 h) s fullShare.left (Rcv m di h c)) ∗ half m c di h) ⊢ b4 fun s => cmAny (F := F) c di (sl3 h) s := by
  unfold half
  rw [← b4_sep]
  refine b4_mono fun s => ?_
  exact (cm_halves c di (sl3 h) s (Rcv m di h c)).2.trans (cm_forget c di s (sl3 h) _)

theorem done_step (h : ℕ) (hh : 31 ≤ h) :
    iprop(bigSep (Finset.Ico 31 h) (outDone m c di) ∗ outDone m c di h) ⊢ bigSep (Finset.Ico 31 (h + 1)) (outDone m c di) := by
  have e : (bigSep (Finset.Ico 31 (h + 1)) (outDone m c di) : sProp 𝕄) = iprop(outDone m c di h ∗ bigSep (Finset.Ico 31 h) (outDone m c di)) := by
    rw [show Finset.Ico 31 (h + 1) = insert h (Finset.Ico 31 h) from by ext x; simp only [Finset.mem_insert, Finset.mem_Ico]; omega]
    exact bigSep_insert (by simp)
  rw [e]
  iintro ⟨H1, H2⟩
  isplitl [H2]; · iexact H2
  iexact H1

theorem stPay_eq (h : ℕ) (hh : h ≤ 62) : stPay m c di h = iprop(outDone m c di h ∗ sbAny c di (sl2 h)) := by
  unfold stPay; rw [Nat.min_eq_left hh]

theorem wp_dirB (h : ℕ) (hh : 33 ≤ h + 1) (h2 : h + 1 ≤ 61) (hO : Above (h + 2) O) :
    iprop(Ctx m ∗ ow c (DO c di (h + 1) O) ∗ fuel c di (h + 1) ∗ SB m c di (h + 1)
        ∗ ((ow c O ∗ SB m c di (h + 2)) -∗ WP c K Q))
      ⊢ WP c (runL (dirL (h + 1) c di) K) Q := by
  obtain ⟨k, rfl⟩ : ∃ k, h = k + 1 := ⟨h - 1, by omega⟩
  have hT : ∀ s O, Above (k + 3) O → Above (k + 3) (sOwe c di s (k + 2) + O) := fun s O ho => Above_sOwe c di (by omega) (by omega) s ho
  have hcO : Above (k + 3) (cOwe c di (k + 2) + O) := Above_cOwe c di (by omega) (by omega) hO
  have hsp : (b4 fun s => sendPay m c di s (k + 1)) = b4 fun s => cmBand c di (sl3 k) s fullShare.left (Rcv m di k c) :=
    congrArg b4 (funext fun s => sendPay_gt m c di s (k + 1) (by omega))
  have e2 : sl2 k = sl2 (k + 2) := Fin.ext (by show k % 2 = (k + 2) % 2; omega)
  have hst := stPay_eq m c di k (by omega)
  rw [e2] at hst
  unfold dirL
  rw [runL_append, if_pos (show 33 ≤ k + 1 + 1 by omega)]
  unfold DO fuel SB
  rw [if_pos (show 1 ≤ k + 1 + 1 by omega)]
  rw [show win (tPos (F := F) c di) (k + 1 + 1 - 2) = iprop(tPos c di k ∗ tPos c di (k + 1) ∗ tPos c di (k + 2)) from rfl]
  rw [show win (tPos (F := F) c di) (k + 1 + 2 - 2) = iprop(tPos c di (k + 1) ∗ tPos c di (k + 2) ∗ tPos c di (k + 3)) from rfl]
  iintro ⟨#HC, HO, ⟨Ht, Hw, HrC, Hcr, Htok, Hst⟩, ⟨HsW, HrW, HF, Hh, HsC, Hc, HP0, HP1, ⟨Hq1, Hq2, Hq3⟩, Ht1, Ht2, Hdone⟩, HK⟩
  iapply (wp_credPre m c di _ _ (k + 2) (by omega) (hT _ _ (hT _ _ (hT _ _ (hT _ _ hcO)))))
  isplitr; · iexact HC
  isplitl [HO]; · iexact HO
  isplitl [Hcr]; · iexact Hcr
  isplitl [Hc]; · iexact Hc
  iintro ⟨HO, Hc⟩
  rw [runL_append]
  iapply (wp_stStoreWait m _ _ c di k k rfl (by omega) (Or.inl (by omega)) (Above_mono (Nat.zero_le _) (hT _ _ (hT _ _ (hT _ _ (hT _ _ hcO))))))
  isplitr; · iexact HC
  isplitl [HO]; · iexact HO
  isplitl [Ht1]; · iexact Ht1
  isplitl [Hq1]; · iexact Hq1
  iintro ⟨HO, Hq1, Hs⟩
  ihave Hs := (Entails.of_eq hst) $$ Hs
  icases Hs with ⟨Hod, Hs⟩
  iapply (wp_partB m c di _ K (k + 1) (by omega) (by omega) hcO _)
  isplitr; · iexact HC
  isplitl [HO]; · iexact HO
  isplitl [Ht]; · iexact Ht
  isplitl [Hw]; · iexact Hw
  isplitl [HrC]; · iexact HrC
  isplitl [HsW]; · iexact HsW
  isplitl [HrW]; · iexact HrW
  isplitl [HsC]; · iexact HsC
  isplitl [Hc]; · iexact Hc
  isplitl [Hs]; · iexact Hs
  iintro ⟨HO, HsW, HrW, HsC, Hs, HP, Hh', Hc⟩
  ihave HP := (Entails.of_eq hsp) $$ HP
  ihave Hcm := (cm_whole m c di k) $$ [HP Hh]
  · isplitl [HP]; · iexact HP
    iexact Hh
  ihave HrW := (rW_reached2 c di k) $$ HrW
  icases HrW with ⟨HrW, Hr⟩
  rw [runL_append]
  iapply (wp_grant m c di O _ (k + 2) k (by omega) (if_neg (by omega)) (by omega))
  isplitr; · iexact HC
  isplitl [HO]; · iexact HO
  isplitl [HF]; · iexact HF
  isplitl [Hcm]; · iexact Hcm
  isplitl [Hr]; · iexact Hr
  isplitl [Htok]; · iexact Htok
  iintro ⟨HO, HF⟩
  iapply (wp_storeHop m c di K (k + 2) (by omega) (by omega))
  isplitr; · iexact HC
  isplitl [Hs]; · iexact Hs
  isplitl [Hq3]; · iexact Hq3
  isplitl [Hst]; · iexact Hst
  iintro ⟨Hq3, Ht3⟩
  iapply HK
  isplitl [HO]; · iexact HO
  isplitl [HsW]; · iexact HsW
  isplitl [HrW]; · iexact HrW
  isplitl [HF]; · iexact HF
  isplitl [Hh']; · iexact Hh'
  isplitl [HsC]; · iexact HsC
  isplitl [Hc]; · iexact Hc
  isplitl [HP0]; · iexact HP0
  isplitl [HP1]; · iexact HP1
  isplitl [Hq1 Hq2 Hq3]
  · isplitl [Hq2]; · iexact Hq2
    isplitl [Hq3]; · iexact Hq3
    iexact Hq1
  isplitl [Ht2]; · iexact Ht2
  isplitl [Ht3]; · iexact Ht3
  iapply (done_step m c di k (by omega))
  isplitl [Hdone]; · iexact Hdone
  iexact Hod

end

end Cert.KernelIdeal
-- ==== Proof.Body.lean ====
/- The hops, the end, and the whole of a core's program. -/
module

public import proofs.«01_k».proof.Proof.Dirs

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (m : (ℓ : Loc nD τ sig) → Buf (Elt F) ℓ)
variable {Q : PUnit → sProp (MT nD τ sig ℕ (Elt F) ℕ UU ℕ)}

section
variable (c : Dev nD)

/-! ## A hop -/

section
variable (di : Fin 2) (O : CellTallies nD τ sig ℕ) (K : Pr F)

theorem Dst_le (h : ℕ) (hh : h ≤ 31) : Dst m c di h = iprop(SA c di h ∗ sbAny c di (sl2 h) ∗ sbAny c di (sl2 (h + 1)) ∗ win (tPos c di) 31) := if_pos hh
theorem Dst_32 : Dst m c di 32 = iprop(SA c di 32 ∗ sbAny c di 0 ∗ tCr c di 31 ∗ win (tPos c di) 31) := by
  unfold Dst; rw [if_neg (by omega), if_pos rfl]
theorem Dst_ge (h : ℕ) (hh : 33 ≤ h) : Dst m c di h = SB m c di h := by
  unfold Dst; rw [if_neg (by omega), if_neg (by omega)]
theorem Dmid_le (h : ℕ) (hh : h ≤ 31) : Dmid m c di h = iprop(SA c di h ∗ sbSlot c di (sl2 h) (dotC m di c h) ∗ sbAny c di (sl2 (h + 1)) ∗ win (tPos c di) 31) := if_pos hh
theorem Dmid_gt (h : ℕ) (hh : 32 ≤ h) : Dmid m c di h = Dst m c di h := if_neg (by omega)

/-- One direction of a hop. -/
theorem wp_dir (h : ℕ) (hh : h ≤ 61) (hO : Above (h + 1) O) :
    iprop(Ctx m ∗ ow c (DO c di h O) ∗ fuel c di h ∗ Dmid m c di h ∗ ((ow c O ∗ Dst m c di (h + 1)) -∗ WP c K Q))
      ⊢ WP c (runL (dirL h c di) K) Q := by
  rcases Nat.eq_zero_or_pos h with rfl | h0
  · rw [Dmid_le m c di 0 (by omega), Dst_le m c di (0 + 1) (by omega)]
    iintro ⟨#HC, HO, Hf, ⟨HS, Hs, Ha, Hq⟩, HK⟩
    iapply (wp_dir0 m c di O K hO)
    isplitr; · iexact HC
    isplitl [HO]; · iexact HO
    isplitl [Hf]; · iexact Hf
    isplitl [HS]; · iexact HS
    isplitl [Hs]; · iexact Hs
    iintro ⟨HO, HS, Hs⟩
    iapply HK
    isplitl [HO]; · iexact HO
    isplitl [HS]; · iexact HS
    isplitl [Ha]; · iexact Ha
    isplitl [Hs]; · iapply (sbSlot_forget c di 0 (Acc m di 0 c)); iexact Hs
    iexact Hq
  obtain ⟨k, rfl⟩ : ∃ k, h = k + 1 := ⟨h - 1, by omega⟩
  have e2 : sl2 (k + 1 + 1 + 1) = sl2 (k + 1) := Fin.ext (by show (k + 1 + 1 + 1) % 2 = (k + 1) % 2; omega)
  rcases Nat.lt_or_ge (k + 1) 31 with h1 | h1
  · rw [Dmid_le m c di (k + 1) (by omega), Dst_le m c di (k + 1 + 1) (by omega), e2]
    iintro ⟨#HC, HO, Hf, ⟨HS, Hs, Ha, Hq⟩, HK⟩
    iapply (wp_partA m c di O K k (by omega) hO)
    isplitr; · iexact HC
    isplitl [HO]; · iexact HO
    isplitl [Hf]; · iexact Hf
    isplitl [HS]; · iexact HS
    isplitl [Hs]; · iexact Hs
    rw [dif_neg (by omega)]
    iintro ⟨HO, HS, Hs, -⟩
    iapply HK
    isplitl [HO]; · iexact HO
    isplitl [HS]; · iexact HS
    isplitl [Ha]; · iexact Ha
    isplitl [Hs]; · iapply (sbSlot_forget c di (sl2 (k + 1)) (Acc m di (k + 1) c)); iexact Hs
    iexact Hq
  rcases Nat.lt_or_ge (k + 1) 32 with h3 | h3
  · obtain rfl : k = 30 := by omega
    rw [Dmid_le m c di 31 (by omega), show 30 + 1 + 1 = 32 from rfl, Dst_32]
    rw [show win (tPos (F := F) c di) 31 = iprop(tPos c di 31 ∗ tPos c di 32 ∗ tPos c di 33) from rfl]
    iintro ⟨#HC, HO, Hf, ⟨HS, Hs, Ha, ⟨Hq1, Hq2, Hq3⟩⟩, HK⟩
    iapply (wp_partA m c di O K 30 (by omega) hO)
    isplitr; · iexact HC
    isplitl [HO]; · iexact HO
    isplitl [Hf]; · iexact Hf
    isplitl [HS]; · iexact HS
    isplitl [Hs]; · iexact Hs
    iintro ⟨HO, HS, Hs, Hst⟩
    iapply (wp_storeHop m c di K 31 (by omega) (by omega))
    isplitr; · iexact HC
    isplitl [Hs]; · iexact Hs
    isplitl [Hq1]; · iexact Hq1
    isplitl [Hst]; · iexact Hst
    iintro ⟨Hq1, Ht⟩
    iapply HK
    isplitl [HO]; · iexact HO
    isplitl [HS]; · iexact HS
    isplitl [Ha]; · iexact Ha
    isplitl [Ht]; · iexact Ht
    isplitl [Hq1]; · iexact Hq1
    isplitl [Hq2]; · iexact Hq2
    iexact Hq3
  rw [Dmid_gt m c di (k + 1) h3, Dst_ge m c di (k + 1 + 1) (by omega)]
  rcases Nat.lt_or_ge (k + 1) 33 with h4 | h4
  · obtain rfl : k = 31 := by omega
    rw [show Dst m c di (31 + 1) = _ from Dst_32 m c di]
    exact wp_dir32 m c di O K hO
  · rw [Dst_ge m c di (k + 1) h4]
    exact wp_dirB m c di O K k (by omega) (by omega) hO

theorem wp_dots (h : ℕ) :
    iprop(stg m c ∗ Dst m c 0 h ∗ Dst m c 1 h ∗ ((stg m c ∗ Dmid m c 0 h ∗ Dmid m c 1 h) -∗ WP c K Q))
      ⊢ WP c (runL (if h ≤ 31 then [stDot 0 h c, stDot 1 h c] else []) K) Q := by
  rcases Nat.lt_or_ge h 32 with hh | hh
  · rw [Dst_le m c 0 h (by omega), Dst_le m c 1 h (by omega), Dmid_le m c 0 h (by omega), Dmid_le m c 1 h (by omega), if_pos (by omega)]
    show _ ⊢ WP c (stDot 0 h c (stDot 1 h c K)) Q
    iintro ⟨Hg, ⟨HS0, Hs0, Hr0⟩, ⟨HS1, Hs1, Hr1⟩, HK⟩
    iapply (wp_stDot m c 0 _ h)
    isplitl [Hg]; · iexact Hg
    isplitl [Hs0]; · iexact Hs0
    iintro ⟨Hg, Hs0⟩
    iapply (wp_stDot m c 1 _ h)
    isplitl [Hg]; · iexact Hg
    isplitl [Hs1]; · iexact Hs1
    iintro ⟨Hg, Hs1⟩
    iapply HK
    isplitl [Hg]; · iexact Hg
    isplitl [HS0 Hs0 Hr0]
    · isplitl [HS0]; · iexact HS0
      isplitl [Hs0]; · iexact Hs0
      iexact Hr0
    isplitl [HS1]; · iexact HS1
    isplitl [Hs1]; · iexact Hs1
    iexact Hr1
  · rw [Dmid_gt m c 0 h hh, Dmid_gt m c 1 h hh, if_neg (by omega)]
    show _ ⊢ WP c K Q
    iintro ⟨Hg, H0, H1, HK⟩
    iapply HK
    isplitl [Hg]; · iexact Hg
    isplitl [H0]; · iexact H0
    iexact H1

end

/-- What a core owes from hop `h` on for `n` hops, before all of `O`. -/
def DOs (O : CellTallies nD τ sig ℕ) : ℕ → ℕ → CellTallies nD τ sig ℕ
  | _, 0 => O
  | h, n + 1 => DO c 0 h (DO c 1 h (DOs O (h + 1) n))
/-- What it uses up. -/
def fuels : ℕ → ℕ → sProp 𝕄
  | _, 0 => iprop(emp)
  | h, n + 1 => iprop(fuel c 0 h ∗ fuel c 1 h ∗ fuels (h + 1) n)

theorem Above_DOs (O : CellTallies nD τ sig ℕ) (hO : Above 63 O) : ∀ n h, h + n = 62 → Above (h + 1) (DOs c O h n)
  | 0, h, e => by obtain rfl : h = 62 := by omega
                  exact hO
  | n + 1, h, e => Above_DO c 0 (by omega) (by omega) (Above_DO c 1 (by omega) (by omega)
      (Above_mono (by omega) (Above_DOs O hO n (h + 1) (by omega))))

theorem wp_hops (O : CellTallies nD τ sig ℕ) (hO : Above 63 O) (K : Pr F) : ∀ n h, h + n = 62 →
    iprop(Ctx m ∗ ow c (DOs c O h n) ∗ fuels c h n ∗ stg m c ∗ Dst m c 0 h ∗ Dst m c 1 h
        ∗ ((ow c O ∗ stg m c ∗ SB m c 0 62 ∗ SB m c 1 62) -∗ WP c K Q))
      ⊢ WP c (runL (hopsL c h n) K) Q
  | 0, h, e => by
    obtain rfl : h = 62 := by omega
    rw [Dst_ge m c 0 62 (by omega), Dst_ge m c 1 62 (by omega)]
    show _ ⊢ WP c K Q
    iintro ⟨-, HO, -, Hg, H0, H1, HK⟩
    iapply HK
    isplitl [HO]; · iexact HO
    isplitl [Hg]; · iexact Hg
    isplitl [H0]; · iexact H0
    iexact H1
  | n + 1, h, e => by
    have hA := Above_DOs c O hO n (h + 1) (by omega)
    have hA' : Above (h + 1) (DOs c O (h + 1) n) := Above_mono (by omega) hA
    have hB : Above (h + 1) (DO c 1 h (DOs c O (h + 1) n)) := Above_DO c 1 (by omega) (by omega) hA'
    have ih := wp_hops O hO K n (h + 1) (by omega)
    rw [show hopsL (F := F) c h (n + 1) = hopL h c ++ hopsL c (h + 1) n from rfl, runL_append]
    unfold hopL
    rw [runL_append, runL_append]
    rw [show DOs c O h (n + 1) = DO c 0 h (DO c 1 h (DOs c O (h + 1) n)) from rfl]
    rw [show fuels (F := F) c h (n + 1) = iprop(fuel c 0 h ∗ fuel c 1 h ∗ fuels c (h + 1) n) from rfl]
    iintro ⟨#HC, HO, ⟨Hf0, Hf1, Hf⟩, Hg, H0, H1, HK⟩
    iapply (wp_dots m c _ h)
    isplitl [Hg]; · iexact Hg
    isplitl [H0]; · iexact H0
    isplitl [H1]; · iexact H1
    iintro ⟨Hg, H0, H1⟩
    iapply (wp_dir m c 0 (DO c 1 h (DOs c O (h + 1) n)) (runL (dirL h c 1) (runL (hopsL c (h + 1) n) K)) h (by omega) hB)
    isplitr; · iexact HC
    isplitl [HO]; · iexact HO
    isplitl [Hf0]; · iexact Hf0
    isplitl [H0]; · iexact H0
    iintro ⟨HO, H0⟩
    iapply (wp_dir m c 1 (DOs c O (h + 1) n) (runL (hopsL c (h + 1) n) K) h (by omega) hA')
    isplitr; · iexact HC
    isplitl [HO]; · iexact HO
    isplitl [Hf1]; · iexact Hf1
    isplitl [H1]; · iexact H1
    iintro ⟨HO, H1⟩
    iapply ih
    isplitr; · iexact HC
    isplitl [HO]; · iexact HO
    isplitl [Hf]; · iexact Hf
    isplitl [Hg]; · iexact Hg
    isplitl [H0]; · iexact H0
    isplitl [H1]; · iexact H1
    iexact HK

/-! ## The end -/

section
variable (di : Fin 2) (O : CellTallies nD τ sig ℕ) (K : Pr F)

/-- What the end of a direction owes, before all of `O`. -/
def DE (O : CellTallies nD τ sig ℕ) : CellTallies nD τ sig ℕ :=
  tallyAt (credC (srcD di c) di) (64 + di.val) 1 + (tallyAt (credC (srcD di c) di) (64 + di.val) 1 + O)
theorem Above_DE {n : ℕ} (hn : n < 64 + di.val) (hO : Above n O) : Above n (DE c di O) := by
  have hd := di.isLt
  exact Above_add _ _ _ _ hn (by omega) (Above_add _ _ _ _ hn (by omega) hO)

/-- What the end of a direction uses up. -/
def fuelE : sProp 𝕄 := iprop((b4 fun s => rCr c di s 61) ∗ dutyTok ER (credC (srcD di c) di) 0 61 ∗ dutyTok ER (credC (srcD di c) di) 0 62
  ∗ dutyTok ER (storeC c di (sl3 64)) ((64 - 31) / 3) 0 ∗ outAny c di 62 ∗ cred (tallyAt (credC c di) (64 + di.val) 3))

/-- What a core holds of a direction at the end. -/
def Fin' : sProp 𝕄 := iprop(sW c di 62 ∗ rW c di 62 ∗ (tPos c di 62 ∗ tPos c di 63 ∗ tPos c di 67) ∗ atPos ER (credC c di) 1 ∅ 0
  ∗ PK c di 0 ∗ PK c di 1 ∗ sbAny c di 0 ∗ sbAny c di 1 ∗ cmS c di (sl3 59) ∗ cmS c di (sl3 60) ∗ cmS c di (sl3 61)
  ∗ bigSep (Finset.Ico 31 63) (outDone m c di))

theorem ok_60 (k : ℕ) (hk : 59 ≤ k) : ok (F := F) c di 60 = ok c di k := by
  have : ∀ j, cnt 60 j = cnt k j := fun j => by unfold cnt; rw [Nat.min_eq_right hk]; rfl
  unfold ok; simp only [this]

/-- The last wait for grants takes the three that are left. -/
theorem wp_credLast (hO : Above (64 + di.val) O) :
    iprop(Ctx m ∗ ow c O ∗ cred (tallyAt (credC c di) (64 + di.val) 3) ∗ crd c di 59
        ∗ ((ow c O ∗ atPos ER (credC c di) 1 ∅ 0) -∗ WP c K Q))
      ⊢ WP c (stCredWait di 3#32 K) Q := by
  have hd := di.isLt
  have he : (Rd m).expect (credC c di) 0 = 62 := by rw [Rd_expect, cls_cred]; rfl
  unfold stCredWait ow crd
  iintro ⟨#HC, ⟨%W, HO⟩, Hcr, ⟨%T, %hT, Hat, -⟩, HK⟩
  ihave Hi := (ctx_cell m c (.reg (credS di)) (by rw [cls_cred]; exact Cl.noConfusion)) $$ HC
  unfold hasInv
  icases Hi with ⟨%κ, #Hi⟩
  iapply (Rounds.wp_wait_rest_token 𝒱₀ ER (Rd m) (c : Thread nD τ) none (κ := κ) (wpE_semWait_eq 𝒱₀ (c : Thread nD τ) none Set.univ)
    (Set.mem_univ _) (64 + di.val) (O := O) (W := W) (R := 0) (m := 59) (T := T) (by rw [he]; rfl)) $$ [Hcr HO Hat]
  · isplitr; · iexact Hi
    isplitl [Hcr]; · iexact Hcr
    isplitl [HO]; · iexact HO
    isplitr; · iapply (ctx_wait m c _ (64 + di.val) (by omega) O hO); iexact HC
    iexact Hat
  iintro ⟨HO, Hat, -, -⟩
  iapply HK
  isplitl [HO]; · iexists _; iexact HO
  iexact Hat

/-- The end's waits for the last sends and receipts. -/
def endW (l : List (St F)) : List (St F) :=
  stSendWait di 61 0 :: stRecvWait di 61 0 :: stSendWait di 61 1 :: stRecvWait di 61 1 :: stSendWait di 61 2 :: stRecvWait di 61 2 ::
  stSendWait di 61 3 :: stRecvWait di 61 3 :: l

theorem wp_endW (hO : Above 63 O) (l : List (St F)) :
    iprop(Ctx m ∗ ow c O ∗ sC c di 61 ∗ sW c di 61 ∗ (b4 fun s => rCr c di s 61) ∗ rW c di 61
        ∗ ((ow c O ∗ sW c di 62 ∗ rW c di 62 ∗ (b4 fun s => cmBand c di (sl3 60) s fullShare.left (Rcv m di 60 c))
            ∗ cmSlot c di (sl3 61) fullShare (Rcv m di 61 c)) -∗ WP c (runL l K) Q))
      ⊢ WP c (runL (endW di l) K) Q := by
  have hPre : (b4 fun s => iprop(sCr c di s 61 ∗ win (sPos c di s) 61 ∗ rCr c di s 61 ∗ win (rPos c di s) 61))
      = iprop(sC c di 61 ∗ sW c di 61 ∗ (b4 fun s => rCr c di s 61) ∗ rW (F := F) c di 61) := by
    unfold sC sW rW; rw [b4_sep, b4_sep, b4_sep]
  have hPost : (b4 fun s => iprop(win (sPos c di s) 62 ∗ win (rPos c di s) 62 ∗ sendPay m c di s 61 ∗ recvPay m c di s 61))
      = iprop(sW c di 62 ∗ rW c di 62 ∗ (b4 fun s => cmBand c di (sl3 60) s fullShare.left (Rcv m di 60 c))
            ∗ cmSlot c di (sl3 61) fullShare (Rcv m di 61 c)) := by
    unfold sW rW
    rw [b4_sep, b4_sep, b4_sep, cm_join]
    rw [show (fun s => sendPay m c di s 61) = fun s => cmBand c di (sl3 60) s fullShare.left (Rcv m di 60 c) from
      funext fun s => sendPay_gt m c di s 61 (by omega)]
    rfl
  have h := wp_four m c (fun s => [stSendWait di 61 s, stRecvWait di 61 s]) (fun _ => 0)
    (fun s => iprop(sCr c di s 61 ∗ win (sPos c di s) 61 ∗ rCr c di s 61 ∗ win (rPos c di s) 61))
    (fun s => iprop(win (sPos c di s) 62 ∗ win (rPos c di s) 62 ∗ sendPay m c di s 61 ∗ recvPay m c di s 61)) (Q := Q) 63
    (fun s O h => by rw [zero_add]; exact h)
    (fun s O K hO => by
      rw [zero_add]
      show _ ⊢ WP c (stSendWait di 61 s (stRecvWait di 61 s K)) Q
      iintro ⟨#HC, HO, ⟨HsC, HsW, HrC, HrW⟩, HK⟩
      iapply (wp_stSendWait m _ _ c di s 61 (by omega) (Above_mono (Nat.zero_le _) hO))
      isplitr; · iexact HC
      isplitl [HO]; · iexact HO
      isplitl [HsC]; · iexact HsC
      isplitl [HsW]; · iexact HsW
      iintro ⟨HO, HsW, Hp⟩
      iapply (wp_stRecvWait m _ _ c di s 61 (by omega) hO)
      isplitr; · iexact HC
      isplitl [HO]; · iexact HO
      isplitl [HrC]; · iexact HrC
      isplitl [HrW]; · iexact HrW
      iintro ⟨HO, HrW, Hq⟩
      iapply HK
      isplitl [HO]; · iexact HO
      isplitl [HsW]; · iexact HsW
      isplitl [HrW]; · iexact HrW
      isplitl [Hp]; · iexact Hp
      iexact Hq) O hO l K
  rw [hPre, hPost, zero_add, zero_add, zero_add, zero_add] at h
  iintro ⟨#HC, HO, HsC, HsW, HrC, HrW, HK⟩
  iapply (show _ ⊢ WP c (runL (endW di l) K) Q from h)
  isplitr; · iexact HC
  isplitl [HO]; · iexact HO
  isplitl [HsC HsW HrC HrW]
  · isplitl [HsC]; · iexact HsC
    isplitl [HsW]; · iexact HsW
    isplitl [HrC]; · iexact HrC
    iexact HrW
  iexact HK

theorem cmSlot_any (j : Fin 3) (v : S128x1024.Idx → Elt F .bf16) : cmSlot c di j fullShare v ⊢ cmS c di j := by
  rw [cm_join]
  exact b4_mono fun s => cm_forget c di s j v

theorem FR_60 : FR (F := F) c di 60 = iprop(ok c di 60 ∗ cmS c di (sl3 59)) := by
  unfold FR; rw [if_neg (by omega)]; rfl

theorem wp_end (hO : Above (64 + di.val) O) :
    iprop(Ctx m ∗ ow c (DE c di O) ∗ fuelE c di ∗ SB m c di 62 ∗ ((ow c O ∗ Fin' m c di) -∗ WP c K Q))
      ⊢ WP c (runL (endL c di) K) Q := by
  have hA1 : Above 63 (DE c di O) := Above_DE c di O (by omega) (Above_mono (by omega) hO)
  have hA2 : Above 0 (tallyAt (credC (srcD di c) di) (64 + di.val) 1 + O) := by
    have hd := di.isLt
    exact Above_add _ _ _ _ (by omega) (by omega) (Above_mono (Nat.zero_le _) hO)
  have hst60 : stPay m c di 60 = iprop(outDone m c di 60 ∗ sbAny c di 0) := stPay_eq m c di 60 (by omega)
  have hst61 : stPay m c di 61 = iprop(outDone m c di 61 ∗ sbAny c di 1) := stPay_eq m c di 61 (by omega)
  have hst64 : stPay m c di 64 = iprop(outDone m c di 62 ∗ sbAny c di 0) := rfl
  have hAcc : unpackV (Rcv m di 61 c) = Acc m di 62 c := (Acc_gt m c di 61 (by omega)).symm
  have e1 : sl3 61 = (1 : Fin 3) := rfl
  rw [show endL (F := F) c di = endW di (stCred di c :: stStoreWait di 60 :: stStoreWait di 61 :: stLast di ::
    stStore di 62 1 (by decide) c :: stStoreWait di 61 :: stCred di c :: stCredWait di 3#32 :: []) from rfl]
  unfold fuelE SB
  rw [show (62 - 2 : ℕ) = 60 from rfl, show (62 - 1 : ℕ) = 61 from rfl, show (62 - 3 : ℕ) = 59 from rfl, FR_60]
  rw [show win (tPos (F := F) c di) 60 = iprop(tPos c di 60 ∗ tPos c di 61 ∗ tPos c di 62) from rfl]
  iintro ⟨#HC, HO, ⟨HrC, Hk1, Hk2, Hd, Ho, Hcr⟩, ⟨HsW, HrW, ⟨#Hok, Hc2⟩, Hh, HsC, Hc, HP0, HP1, ⟨Hq1, Hq2, Hq3⟩, Ht1, Ht2, Hdone⟩, HK⟩
  iapply (wp_endW m c di _ K hA1)
  isplitr; · iexact HC
  isplitl [HO]; · iexact HO
  isplitl [HsC]; · iexact HsC
  isplitl [HsW]; · iexact HsW
  isplitl [HrC]; · iexact HrC
  isplitl [HrW]; · iexact HrW
  iintro ⟨HO, HsW, HrW, HL, Hc1⟩
  ihave Hc0 := (cm_whole m c di 60) $$ [HL Hh]
  · isplitl [HL]; · iexact HL
    iexact Hh
  iapply (wp_stCred m _ _ c di 61 (64 + di.val) ⟨by omega, by omega⟩)
  isplitr; · iexact HC
  isplitl [HO]; · iexact HO
  isplitl [Hk1]; · iexact Hk1
  isplitr; · iapply (Entails.of_eq (ok_60 c di 61 (by omega))); iexact Hok
  iintro HO
  iapply (wp_stStoreWait m _ _ c di 60 60 rfl (by omega) (Or.inl (by omega)) hA2)
  isplitr; · iexact HC
  isplitl [HO]; · iexact HO
  isplitl [Ht1]; · iexact Ht1
  isplitl [Hq1]; · iexact Hq1
  iintro ⟨HO, Hq1, Hs⟩
  ihave Hs := (Entails.of_eq hst60) $$ Hs
  icases Hs with ⟨Hod, Hs0⟩
  ihave Hdone := (done_step m c di 60 (by omega)) $$ [Hdone Hod]
  · isplitl [Hdone]; · iexact Hdone
    iexact Hod
  iapply (wp_stStoreWait m _ _ c di 61 61 rfl (by omega) (Or.inl (by omega)) hA2)
  isplitr; · iexact HC
  isplitl [HO]; · iexact HO
  isplitl [Ht2]; · iexact Ht2
  isplitl [Hq2]; · iexact Hq2
  iintro ⟨HO, Hq2, Hs⟩
  ihave Hs := (Entails.of_eq hst61) $$ Hs
  icases Hs with ⟨Hod, Hs1⟩
  ihave Hdone := (done_step m c di 61 (by omega)) $$ [Hdone Hod]
  · isplitl [Hdone]; · iexact Hdone
    iexact Hod
  iapply (wp_stLast c di _ (Rcv m di 61 c))
  isplitl [Hc1]; · iexact Hc1
  isplitl [Hs0]; · iexact Hs0
  iintro ⟨Hc1, Hs0⟩
  ihave Hq2 := (tPos_reached c di 64) $$ Hq2
  icases Hq2 with ⟨Hq2, #Hr⟩
  iapply (wp_stStore m c di _ 62 64 1 rfl (by decide) (by omega) (Or.inr rfl) rfl)
  isplitr; · iexact HC
  isplitl [Hs0]; · iapply (Entails.of_eq (congrArg (sbSlot c di 0) hAcc)); iexact Hs0
  isplitl [Ho]; · iexact Ho
  isplitr; · iexact Hr
  isplitl [Hd]; · iexact Hd
  iintro Ht
  iapply (wp_stStoreWait m _ _ c di 64 61 rfl (by omega) (Or.inr rfl) hA2)
  isplitr; · iexact HC
  isplitl [HO]; · iexact HO
  isplitl [Ht]; · iexact Ht
  isplitl [Hq2]; · iexact Hq2
  iintro ⟨HO, Hq2, Hs⟩
  ihave Hs := (Entails.of_eq hst64) $$ Hs
  icases Hs with ⟨Hod, Hs0⟩
  ihave Hdone := (done_step m c di 62 (by omega)) $$ [Hdone Hod]
  · isplitl [Hdone]; · iexact Hdone
    iexact Hod
  iapply (wp_stCred m _ _ c di 62 (64 + di.val) ⟨by omega, by omega⟩)
  isplitr; · iexact HC
  isplitl [HO]; · iexact HO
  isplitl [Hk2]; · iexact Hk2
  isplitr; · iapply (Entails.of_eq (ok_60 c di 62 (by omega))); iexact Hok
  iintro HO
  iapply (wp_credLast m c di O K hO)
  isplitr; · iexact HC
  isplitl [HO]; · iexact HO
  isplitl [Hcr]; · iexact Hcr
  isplitl [Hc]; · iexact Hc
  iintro ⟨HO, Hat⟩
  iapply HK
  isplitl [HO]; · iexact HO
  unfold Fin'
  isplitl [HsW]; · iexact HsW
  isplitl [HrW]; · iexact HrW
  isplitl [Hq1 Hq2 Hq3]
  · isplitl [Hq3]; · iexact Hq3
    isplitl [Hq1]; · iexact Hq1
    iexact Hq2
  isplitl [Hat]; · iexact Hat
  isplitl [HP0]; · iexact HP0
  isplitl [HP1]; · iexact HP1
  isplitl [Hs0]; · iexact Hs0
  isplitl [Hs1]; · iexact Hs1
  isplitl [Hc2]; · iexact Hc2
  isplitl [Hc0]; · iapply (show (b4 fun s => cmAny (F := F) c di (sl3 60) s) ⊢ cmS c di (sl3 60) from Entails.of_eq rfl); iexact Hc0
  isplitl [Hc1]; · iapply (cmSlot_any c di (sl3 61) (Rcv m di 61 c)); iexact Hc1
  iexact Hdone

end

end

end Cert.KernelIdeal
-- ==== Proof.Core.lean ====
/- The whole of a core's program. -/
module

public import proofs.«01_k».proof.Proof.Body

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (m : (ℓ : Loc nD τ sig) → Buf (Elt F) ℓ)
variable {Q : PUnit → sProp (MT nD τ sig ℕ (Elt F) ℕ UU ℕ)}
variable (c : Dev nD)

/-- What a core owes when it starts. -/
def oweAll : CellTallies nD τ sig ℕ :=
  tallyAt (barC (srcD 0 c)) 1 1 + (tallyAt (barC (srcD 1 c)) 1 1 + DOs c (DE c 0 (DE c 1 0)) 0 62)

/-- What a core holds of a direction when it starts. -/
def St0 (di : Fin 2) : sProp 𝕄 := iprop(sW c di 0 ∗ rW c di 0 ∗ FR c di 0 ∗ PK c di 1 ∗ PK c di 0 ∗ atPos ER (credC c di) 0 ∅ 0
  ∗ sbAny c di 0 ∗ sbAny c di 1 ∗ win (tPos c di) 31)

theorem crd_zero (di : Fin 2) : iprop(atPos ER (credC c di) 0 ∅ 0 ∗ ok (F := F) (dstD di c) di 0) ⊢ crd c di 0 := by
  unfold crd
  iintro ⟨Hat, #Hok⟩
  iexists ∅
  isplitr; · ipureintro; exact ⟨Finset.empty_subset _, Nat.zero_le _⟩
  isplitl [Hat]; · iexact Hat
  isplitr; · rw [bigSep_empty]; iempintro
  iexact Hok

theorem Dst_zero (di : Fin 2) : iprop(St0 (F := F) c di ∗ ok (F := F) (dstD di c) di 0) ⊢ Dst m c di 0 := by
  rw [Dst_le m c di 0 (by omega)]
  unfold St0 SA
  rw [if_pos rfl]
  iintro ⟨⟨HsW, HrW, HF, HP1, HP0, Hat, Hs0, Hs1, Ht⟩, #Hok⟩
  isplitl [HsW HrW HF HP1 HP0 Hat]
  · isplitl [HsW]; · iexact HsW
    isplitl [HrW]; · iexact HrW
    isplitl [HF]; · iexact HF
    isplitl [HP1]; · iexact HP1
    isplitl [Hat]
    · iapply (crd_zero c di)
      isplitl [Hat]; · iexact Hat
      iexact Hok
    iexact HP0
  isplitl [Hs0]; · iexact Hs0
  isplitl [Hs1]; · iexact Hs1
  iexact Ht

theorem FR_ok0 (di : Fin 2) : FR (F := F) c di 0 ⊢ iprop(FR c di 0 ∗ ok c di 0) := by
  unfold FR
  iintro ⟨#H, H'⟩
  isplitl [H']
  · isplitr; · iexact H
    iexact H'
  iexact H
theorem St0_ok (di : Fin 2) : St0 (F := F) c di ⊢ iprop(St0 c di ∗ ok c di 0) := by
  unfold St0
  iintro ⟨HsW, HrW, HF, HR⟩
  ihave HF := (FR_ok0 c di) $$ HF
  icases HF with ⟨HF, #Hok⟩
  isplitl
  · isplitl [HsW]; · iexact HsW
    isplitl [HrW]; · iexact HrW
    isplitl [HF]; · iexact HF
    iexact HR
  iexact Hok

/-- A core's program, from what it is given to what it ends with. -/
theorem wp_core :
    iprop(Ctx m ∗ ow c (oweAll c) ∗ (dutyTok ER (barC (srcD 0 c)) 0 0 ∗ dutyTok ER (barC (srcD 1 c)) 0 1) ∗ cred (tallyAt (barC c) 1 2)
        ∗ atPos ER (barC c) 0 ∅ 0 ∗ fuels c 0 62 ∗ fuelE c 0 ∗ fuelE c 1 ∗ stg m c ∗ St0 c 0 ∗ St0 c 1
        ∗ ((ow c 0 ∗ stg m c ∗ atPos ER (barC c) 1 ∅ 0 ∗ Fin' m c 0 ∗ Fin' m c 1) -∗ WP c (.ret ⟨⟩) Q))
      ⊢ WP c (runL (bodyL c) (.ret ⟨⟩)) Q := by
  have h1 : Above 65 (0 : CellTallies nD τ sig ℕ) := Above_zero _
  have h0 : Above 64 (DE c 1 0) := Above_DE c 1 0 (by decide) (Above_zero _)
  have h2 : Above 63 (DE c 0 (DE c 1 0)) := Above_DE c 0 _ (by decide) (Above_mono (by omega) h0)
  have h3 : Above 1 (DOs c (DE c 0 (DE c 1 0)) 0 62) := Above_DOs c _ h2 62 0 (by omega)
  rw [show bodyL (F := F) c = stBarrier c :: (hopsL c 0 62 ++ (endL c 0 ++ endL c 1)) from rfl]
  show _ ⊢ WP c (stBarrier c (runL (hopsL c 0 62 ++ (endL c 0 ++ endL c 1)) (.ret ⟨⟩))) Q
  rw [runL_append, runL_append]
  unfold oweAll
  iintro ⟨#HC, HO, ⟨Hd0, Hd1⟩, Hcr, Hat, Hf, He0, He1, Hg, HS0, HS1, HK⟩
  ihave HS0 := (St0_ok c 0) $$ HS0
  icases HS0 with ⟨HS0, #Hok0⟩
  ihave HS1 := (St0_ok c 1) $$ HS1
  icases HS1 with ⟨HS1, #Hok1⟩
  iapply (wp_stBarrier m c (runL (hopsL c 0 62) (runL (endL c 0) (runL (endL c 1) (.ret ⟨⟩)))) (DOs c (DE c 0 (DE c 1 0)) 0 62) h3)
  isplitr; · iexact HC
  isplitl [HO]; · iexact HO
  isplitl [Hd0]; · iexact Hd0
  isplitl [Hd1]; · iexact Hd1
  isplitr; · iexact Hok0
  isplitr; · iexact Hok1
  isplitl [Hcr]; · iexact Hcr
  isplitl [Hat]; · iexact Hat
  iintro ⟨HO, Hat, #Hk0, #Hk1⟩
  iapply (wp_hops m c (DE c 0 (DE c 1 0)) h2 (runL (endL c 0) (runL (endL c 1) (.ret ⟨⟩))) 62 0 (by omega))
  isplitr; · iexact HC
  isplitl [HO]; · iexact HO
  isplitl [Hf]; · iexact Hf
  isplitl [Hg]; · iexact Hg
  isplitl [HS0]
  · iapply (Dst_zero m c 0)
    isplitl [HS0]; · iexact HS0
    iexact Hk0
  isplitl [HS1]
  · iapply (Dst_zero m c 1)
    isplitl [HS1]; · iexact HS1
    iexact Hk1
  iintro ⟨HO, Hg, HB0, HB1⟩
  iapply (wp_end m c 0 (DE c 1 0) (runL (endL c 1) (.ret ⟨⟩)) h0)
  isplitr; · iexact HC
  isplitl [HO]; · iexact HO
  isplitl [He0]; · iexact He0
  isplitl [HB0]; · iexact HB0
  iintro ⟨HO, HF0⟩
  iapply (wp_end m c 1 0 (.ret ⟨⟩) h1)
  isplitr; · iexact HC
  isplitl [HO]; · iexact HO
  isplitl [He1]; · iexact He1
  isplitl [HB1]; · iexact HB1
  iintro ⟨HO, HF1⟩
  iapply HK
  isplitl [HO]; · iexact HO
  isplitl [Hg]; · iexact Hg
  isplitl [Hat]; · iexact Hat
  isplitl [HF0]; · iexact HF0
  iexact HF1

end Cert.KernelIdeal
-- ==== Proof.Sums.lean ====
/- Separating conjunctions over finite sets: reindexing, and the ranges of hops. Whole buffers and their slots. -/
module

public import proofs.«01_k».proof.Proof.Core

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

/-! ## Reindexing -/

section
variable {M : Type} [URA M] {I J : Type} [DecidableEq I] [DecidableEq J]

theorem bs_image {s : Finset I} {f : I → J} (hf : ∀ x ∈ s, ∀ y ∈ s, f x = f y → x = y) (Φ : J → sProp M) :
    bigSep (s.image f) Φ = bigSep s fun i => Φ (f i) := by
  induction s using Finset.induction_on with
  | empty => rfl
  | insert a s ha ih =>
    have hn : f a ∉ s.image f := fun h => by
      obtain ⟨b, hb, e⟩ := Finset.mem_image.mp h
      exact ha (hf a (Finset.mem_insert_self _ _) b (Finset.mem_insert_of_mem hb) e.symm ▸ hb)
    rw [Finset.image_insert, bigSep_insert hn, bigSep_insert ha,
      ih fun x hx y hy => hf x (Finset.mem_insert_of_mem hx) y (Finset.mem_insert_of_mem hy)]

theorem bs_inj {s : Finset I} {t : Finset J} {f : I → J} (hf : ∀ x ∈ s, ∀ y ∈ s, f x = f y → x = y) (ht : ∀ x ∈ s, f x ∈ t)
    (Φ : J → sProp M) : (bigSep t Φ : sProp M) ⊢ bigSep s fun i => Φ (f i) := by
  rw [← bs_image hf]
  exact bs_subset (fun y hy => by obtain ⟨x, hx, rfl⟩ := Finset.mem_image.mp hy; exact ht x hx)

theorem bs_pair {s : Finset I} {t : Finset J} (Φ : I × J → sProp M) :
    bigSep (s ×ˢ t) Φ = bigSep s fun i => bigSep t fun j => Φ (i, j) := by
  induction s using Finset.induction_on with
  | empty => rw [Finset.empty_product]; rfl
  | insert a s ha ih =>
    have hd : Disjoint (({a} : Finset I) ×ˢ t) (s ×ˢ t) := Finset.disjoint_product.mpr (.inl (Finset.disjoint_singleton_left.mpr ha))
    rw [bigSep_insert ha, Finset.insert_eq, Finset.union_product, bigSep_union hd, ih, Finset.singleton_product, bigSep_map]
    rfl

theorem bs_last (n : ℕ) (Φ : ℕ → sProp M) : bigSep (Finset.range (n + 1)) Φ = iprop(Φ n ∗ bigSep (Finset.range n) Φ) := by
  rw [Finset.range_add_one]; exact bigSep_insert Finset.notMem_range_self

theorem bs_first (n : ℕ) (Φ : ℕ → sProp M) :
    bigSep (Finset.range (n + 1)) Φ = iprop(Φ 0 ∗ bigSep (Finset.range n) fun i => Φ (i + 1)) := by
  have e : Finset.range (n + 1) = insert 0 ((Finset.range n).image (· + 1)) := by
    ext k
    simp only [Finset.mem_range, Finset.mem_insert, Finset.mem_image]
    constructor
    · intro h
      rcases Nat.eq_zero_or_pos k with h0 | h0
      · exact Or.inl h0
      · exact Or.inr ⟨k - 1, by omega, by omega⟩
    · rintro (rfl | ⟨j, hj, rfl⟩) <;> omega
  rw [e, bigSep_insert (fun h => by obtain ⟨j, _, hj⟩ := Finset.mem_image.mp h; omega),
    bs_image fun x _ y _ h => by omega]
  rfl

theorem bs_ite (s : Finset I) (p : I → Prop) [DecidablePred p] (Φ : I → sProp M) :
    bigSep (s.filter p) Φ = bigSep s fun i => if p i then Φ i else iprop(emp) := bigSep_filter s p Φ

theorem bs_sep (s : Finset I) (Φ Ψ : I → sProp M) : bigSep s (fun i => iprop(Φ i ∗ Ψ i)) = iprop(bigSep s Φ ∗ bigSep s Ψ) :=
  bigSep_sep' s Φ Ψ

theorem bs_swap (s : Finset I) (t : Finset J) (Φ : I → J → sProp M) :
    bigSep s (fun i => bigSep t (Φ i)) = bigSep t fun j => bigSep s fun i => Φ i j := by
  induction s using Finset.induction_on with
  | empty => exact (bigSep_emp_const t).symm
  | insert a s ha ih =>
    rw [bigSep_insert ha, ih]
    exact ((bigSep_congr fun j _ => bigSep_insert ha).trans (bs_sep t (Φ a) fun j => bigSep s fun i => Φ i j)).symm

/-- What can be used any number of times, used for every member. -/
theorem bs_with {s : Finset I} {R : sProp M} [BI.Persistent R] {Φ Ψ : I → sProp M}
    (h : ∀ i ∈ s, iprop(R ∗ Φ i) ⊢ Ψ i) : iprop(R ∗ bigSep s Φ) ⊢ bigSep s Ψ :=
  (sep_mono_left (BI.bigSep_of_persistent s R)).trans (by rw [← bigSep_sep']; exact bigSep_mono h)

theorem bs_one_or (n : ℕ) (Φ : ℕ → sProp M) :
    (bigSep (Finset.range (n + 1)) fun h => if 1 ≤ h then Φ (h - 1) else iprop(emp)) = iprop(emp ∗ bigSep (Finset.range n) Φ) := by
  rw [bs_first]
  congr 1
end

/-! ## Buffers and slots -/

variable {F : FTy → Type} [FloatOps F]
local notation "𝕄" => MT nD τ sig ℕ (Elt F) ℕ UU ℕ

section
variable {I : Type} [Fintype I] [DecidableEq I] {ℓ : Loc nD τ sig}

theorem slot_parts (A : Finset (Idx ℓ)) (B : I → Finset (Idx ℓ))
    (hA : ∀ i, i ∈ A ↔ ∃ s, i ∈ B s) (hd : ∀ s s', s ≠ s' → Disjoint (B s) (B s')) :
    (slot ℓ A : sProp 𝕄) ⊢ bigSep Finset.univ fun s => slot ℓ (B s) := by
  unfold slot
  iintro ⟨%f, H⟩
  ihave H := (Entails.of_eq (pt_parts A B f hA hd)) $$ H
  iapply (bs_mono (s := (Finset.univ : Finset I)) (Φ := fun s => (ℓ ↦[B s]{fullShare} f : sProp 𝕄)) fun s _ => (by
    iintro H; iexists f; iexact H : (ℓ ↦[B s]{fullShare} f : sProp 𝕄) ⊢ iprop(∃ f, ℓ ↦[B s]{fullShare} f)))
  iexact H

theorem slot_join (A : Finset (Idx ℓ)) (B : I → Finset (Idx ℓ)) (hA : ∀ i, i ∈ A ↔ ∃ s, i ∈ B s)
    (hd : ∀ s s', s ≠ s' → Disjoint (B s) (B s')) :
    (bigSep Finset.univ fun s => slot ℓ (B s) : sProp 𝕄) ⊢ slot ℓ A := by
  classical
  unfold slot
  iintro H
  ihave H := (BI.bigSep_exists_pi (Y := fun _ : I => Buf (Elt F) ℓ) Finset.univ (fun s f => (ℓ ↦[B s]{fullShare} f : sProp 𝕄))) $$ H
  icases H with ⟨%f, H⟩
  have key : ∃ g : Buf (Elt F) ℓ, ∀ s, ∀ i ∈ B s, f s i = g i := by
    refine ⟨fun i => if h : ∃ s, i ∈ B s then f h.choose i else (Classical.choice (inferInstance : Nonempty (Buf (Elt F) ℓ))) i, fun s i hi => ?_⟩
    have h : ∃ s, i ∈ B s := ⟨s, hi⟩
    have e : h.choose = s := by
      by_contra hne
      exact Finset.disjoint_left.mp (hd _ _ hne) h.choose_spec hi
    show f s i = if h : ∃ s, i ∈ B s then f h.choose i else _
    rw [dif_pos h, e]
  obtain ⟨g, hg⟩ := key
  iexists g
  iapply (Entails.of_eq (pt_parts A B g hA hd).symm)
  iapply (bs_mono (s := (Finset.univ : Finset I)) (Φ := fun s => (ℓ ↦[B s]{fullShare} f s : sProp 𝕄)) (Ψ := fun s => (ℓ ↦[B s]{fullShare} g : sProp 𝕄))
    fun s _ => Entails.of_eq (pointsTo_congr (hg s)))
  iexact H
end

end Cert.KernelIdeal
-- ==== Proof.Scratch.lean ====
/- A core's buffers, whole and in pieces. -/
module

public import proofs.«01_k».proof.Proof.Sums

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (m : (ℓ : Loc nD τ sig) → Buf (Elt F) ℓ)
variable (c : Dev nD)

/-! ## The pieces cover -/

theorem bands_cover {n : ℕ} (i : (S4 n).Idx) :
    i ∈ (Finset.univ : Finset (S4 n).Idx) ↔ ∃ p : Fin 2 × Fin n × Fin 4, i ∈ bandS n p.1 p.2.1 p.2.2 := by
  have h0 : (i 0).val < 2 := (i 0).isLt
  have h1 : (i 1).val < n := (i 1).isLt
  have h2 : (i 2).val < 128 := (i 2).isLt
  refine ⟨fun _ => ⟨(⟨(i 0).val, h0⟩, ⟨(i 1).val, h1⟩, ⟨(i 2).val / 32, by omega⟩), ?_⟩, fun _ => Finset.mem_univ _⟩
  exact (mem_bandS _ _ _ i).mpr ⟨rfl, rfl, rfl⟩
theorem bands_apart {n : ℕ} (p q : Fin 2 × Fin n × Fin 4) (h : p ≠ q) :
    Disjoint (bandS n p.1 p.2.1 p.2.2) (bandS n q.1 q.2.1 q.2.2) :=
  Finset.disjoint_left.mpr fun i hi hi' => h (by
    have a := (mem_bandS p.1 p.2.1 p.2.2 i).mp hi
    have b := (mem_bandS q.1 q.2.1 q.2.2 i).mp hi'
    exact Prod.ext (Fin.ext (by rw [← a.1, b.1])) (Prod.ext (Fin.ext (by rw [← a.2.1, b.2.1])) (Fin.ext (by rw [← a.2.2, b.2.2]))))
theorem slots_cover {n : ℕ} (i : (S4 n).Idx) :
    i ∈ (Finset.univ : Finset (S4 n).Idx) ↔ ∃ p : Fin 2 × Fin n, i ∈ slotS n p.1 p.2 := by
  have h0 : (i 0).val < 2 := (i 0).isLt
  have h1 : (i 1).val < n := (i 1).isLt
  refine ⟨fun _ => ⟨(⟨(i 0).val, h0⟩, ⟨(i 1).val, h1⟩), ?_⟩, fun _ => Finset.mem_univ _⟩
  exact (mem_slotS _ _ i).mpr ⟨rfl, rfl⟩
theorem outs_cover (i : S4096x2048.Idx) :
    i ∈ (Finset.univ : Finset S4096x2048.Idx) ↔ ∃ p : Fin 2 × Fin 32, i ∈ oS p.1 (31 + p.2.val) c := by
  have h0 : (i 0).val < 4096 := (i 0).isLt
  have h1 : (i 1).val < 2048 := (i 1).isLt
  refine ⟨fun _ => ?_, fun _ => Finset.mem_univ _⟩
  have hr := hopOf_range ⟨(i 1).val / 1024, by omega⟩ ((i 0).val / 128) c
  have hc := chunk_hopOf ⟨(i 1).val / 1024, by omega⟩ ⟨(i 0).val / 128, by omega⟩ c
  refine ⟨(⟨(i 1).val / 1024, by omega⟩, ⟨hopOf ⟨(i 1).val / 1024, by omega⟩ ((i 0).val / 128) c - 31, by omega⟩), (mem_oS _ _ c i).mpr ⟨?_, rfl⟩⟩
  show _ = (chunkOf _ (31 + (hopOf _ _ c - 31)) c).val
  rw [show 31 + (hopOf ⟨(i 1).val / 1024, by omega⟩ ((i 0).val / 128) c - 31) = hopOf ⟨(i 1).val / 1024, by omega⟩ ((i 0).val / 128) c by omega, hc]
theorem outs_apart (p q : Fin 2 × Fin 32) (h : p ≠ q) : Disjoint (oS p.1 (31 + p.2.val) c) (oS q.1 (31 + q.2.val) c) :=
  Finset.disjoint_left.mpr fun i hi hi' => h (by
    have a := (mem_oS p.1 (31 + p.2.val) c i).mp hi
    have b := (mem_oS q.1 (31 + q.2.val) c i).mp hi'
    have e1 : p.1 = q.1 := Fin.ext (by rw [← a.2, b.2])
    have hp := p.2.isLt
    have hq := q.2.isLt
    have e2 := hopOf_chunk p.1 (31 + p.2.val) (by omega) (by omega) c
    have e3 := hopOf_chunk q.1 (31 + q.2.val) (by omega) (by omega) c
    rw [← a.1, e1] at e2
    rw [← b.1, e2] at e3
    exact Prod.ext e1 (Fin.ext (by omega)))

/-! ## Whole buffers -/

theorem whole_slot (ℓ : Loc nD τ sig) : iprop(∃ f, ℓ ↦{fullShare} f) = (slot ℓ Finset.univ : sProp 𝕄) := rfl

theorem dirs_prod {β : Type} [Fintype β] (Φ : Fin 2 × β → sProp 𝕄) :
    bigSep Finset.univ Φ = iprop((bigSep Finset.univ fun b => Φ (0, b)) ∗ bigSep Finset.univ fun b => Φ (1, b)) := by
  rw [bigSep_univ_prod, bigSep_univ_two]

theorem sb_split : (slot (sbL c) Finset.univ : sProp 𝕄) ⊢ iprop((sbAny c 0 0 ∗ sbAny c 0 1) ∗ (sbAny c 1 0 ∗ sbAny c 1 1)) := by
  have h := slot_parts (F := F) (ℓ := sbL c) Finset.univ (fun p : Fin 2 × Fin 2 => slotS 2 p.1 p.2) slots_cover
    (fun p q hne => slots_disjoint 2 p (Finset.mem_univ _) q (Finset.mem_univ _) hne)
  rw [dirs_prod, bigSep_univ_two, bigSep_univ_two] at h
  exact h
theorem sb_unsplit : iprop((sbAny c 0 0 ∗ sbAny c 0 1) ∗ (sbAny c 1 0 ∗ sbAny c 1 1)) ⊢ (slot (sbL c) Finset.univ : sProp 𝕄) := by
  have h := slot_join (F := F) (ℓ := sbL c) Finset.univ (fun p : Fin 2 × Fin 2 => slotS 2 p.1 p.2) slots_cover
    (fun p q hne => slots_disjoint 2 p (Finset.mem_univ _) q (Finset.mem_univ _) hne)
  rw [dirs_prod, bigSep_univ_two, bigSep_univ_two] at h
  exact h

theorem pk_split : (slot (pkL c) Finset.univ : sProp 𝕄) ⊢ iprop((PK c 0 0 ∗ PK c 0 1) ∗ (PK c 1 0 ∗ PK c 1 1)) := by
  have h := slot_parts (F := F) (ℓ := pkL c) Finset.univ (fun p : Fin 2 × Fin 2 × Fin 4 => bandS 2 p.1 p.2.1 p.2.2) bands_cover bands_apart
  rw [dirs_prod, dirs_prod, dirs_prod] at h
  exact h
theorem pk_unsplit : iprop((PK c 0 0 ∗ PK c 0 1) ∗ (PK c 1 0 ∗ PK c 1 1)) ⊢ (slot (pkL c) Finset.univ : sProp 𝕄) := by
  have h := slot_join (F := F) (ℓ := pkL c) Finset.univ (fun p : Fin 2 × Fin 2 × Fin 4 => bandS 2 p.1 p.2.1 p.2.2) bands_cover bands_apart
  rw [dirs_prod, dirs_prod, dirs_prod] at h
  exact h

theorem cms_prod (di : Fin 2) : (bigSep Finset.univ fun p : Fin 3 × Fin 4 => cmAny (F := F) c di p.1 p.2)
    = iprop(cmS c di 0 ∗ cmS c di 1 ∗ cmS c di 2) := by
  rw [bigSep_univ_prod]
  exact bigSep_univ_eq_bigSepL [(0 : Fin 3), 1, 2] (by decide) (by decide) _

theorem cm_split : (slot (cmL c) Finset.univ : sProp 𝕄)
    ⊢ iprop((cmS c 0 0 ∗ cmS c 0 1 ∗ cmS c 0 2) ∗ (cmS c 1 0 ∗ cmS c 1 1 ∗ cmS c 1 2)) := by
  have h := slot_parts (F := F) (ℓ := cmL c) Finset.univ (fun p : Fin 2 × Fin 3 × Fin 4 => bandS 3 p.1 p.2.1 p.2.2) bands_cover bands_apart
  rw [dirs_prod] at h
  rw [← cms_prod, ← cms_prod]
  exact h
theorem cm_unsplit : iprop((cmS c 0 0 ∗ cmS c 0 1 ∗ cmS c 0 2) ∗ (cmS c 1 0 ∗ cmS c 1 1 ∗ cmS c 1 2))
    ⊢ (slot (cmL c) Finset.univ : sProp 𝕄) := by
  have h := slot_join (F := F) (ℓ := cmL c) Finset.univ (fun p : Fin 2 × Fin 3 × Fin 4 => bandS 3 p.1 p.2.1 p.2.2) bands_cover bands_apart
  rw [dirs_prod] at h
  rw [← cms_prod, ← cms_prod]
  exact h

/-! ## The result -/

theorem hops_fin (Φ : ℕ → sProp 𝕄) : (bigSep Finset.univ fun k : Fin 32 => Φ (31 + k.val)) = bigSep (Finset.Ico 31 63) Φ := by
  rw [show Finset.Ico 31 63 = (Finset.univ : Finset (Fin 32)).image (fun k => 31 + k.val) by decide]
  exact (bs_image (fun x _ y _ h => Fin.ext (by omega)) Φ).symm

theorem out_split : (slot (oL c) Finset.univ : sProp 𝕄)
    ⊢ iprop(bigSep (Finset.Ico 31 63) (outAny c 0) ∗ bigSep (Finset.Ico 31 63) (outAny c 1)) := by
  have h := slot_parts (F := F) (ℓ := oL c) Finset.univ (fun p : Fin 2 × Fin 32 => oS p.1 (31 + p.2.val) c) (outs_cover c) (outs_apart c)
  rw [dirs_prod] at h
  rw [← hops_fin, ← hops_fin]
  exact h
theorem out_join : iprop(bigSep (Finset.Ico 31 63) (outDone m c 0) ∗ bigSep (Finset.Ico 31 63) (outDone m c 1))
    ⊢ (oL c ↦{fullShare} outV m c : sProp 𝕄) := by
  have h := pt_parts (F := F) (ℓ := oL c) (q := fullShare) Finset.univ (fun p : Fin 2 × Fin 32 => oS p.1 (31 + p.2.val) c) (outV m c) (outs_cover c) (outs_apart c)
  rw [dirs_prod] at h
  rw [← hops_fin, ← hops_fin]
  exact Entails.of_eq h.symm

end Cert.KernelIdeal
-- ==== Proof.Sems.lean ====
/- A core's semaphores: what is held of them at the start, and their reading zero at the end. -/
module

public import proofs.«01_k».proof.Proof.Core
public import proofs.«01_k».proof.Proof.Scratch

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (m : (ℓ : Loc nD τ sig) → Buf (Elt F) ℓ)
variable (c : Dev nD)

/-! ## All of them -/

/-- The counted semaphores. -/
def sems : Finset (SemLoc sig) := Finset.univ.filter fun sm => cls sm ≠ .none

/-- The same by what they are for. -/
abbrev SIx : Type := Unit ⊕ (Fin 2 × (Unit ⊕ (Fin 3 × (Unit ⊕ (Fin 4 ⊕ Fin 4)))))
instance : DecidableEq (Unit ⊕ (Fin 4 ⊕ Fin 4)) := instDecidableEqSum
instance : DecidableEq (Unit ⊕ (Fin 3 × (Unit ⊕ (Fin 4 ⊕ Fin 4)))) := instDecidableEqSum
instance SIx_decEq : DecidableEq SIx := instDecidableEqSum
def semOf : SIx → SemLoc sig
  | .inl _ => .reg barS
  | .inr (di, .inl _) => .reg (credS di)
  | .inr (di, .inr (j, .inl _)) => .dma (storeS di j)
  | .inr (di, .inr (j, .inr (.inl s))) => .dma (sendS di j s)
  | .inr (di, .inr (j, .inr (.inr s))) => .dma (recvS di j s)

theorem semOf_image : (Finset.univ : Finset SIx).image semOf = sems := by decide +kernel
theorem semOf_inj : ∀ x y : SIx, semOf x = semOf y → x = y := by decide +kernel

/-- One direction's members of a family. -/
def semJ (Φ : SemLoc sig → sProp 𝕄) (di : Fin 2) (j : Fin 3) : sProp 𝕄 :=
  iprop(Φ (.dma (storeS di j)) ∗ (b4 fun s => Φ (.dma (sendS di j s))) ∗ (b4 fun s => Φ (.dma (recvS di j s))))
def semD (Φ : SemLoc sig → sProp 𝕄) (di : Fin 2) : sProp 𝕄 :=
  iprop(Φ (.reg (credS di)) ∗ semJ Φ di 0 ∗ semJ Φ di 1 ∗ semJ Φ di 2)

theorem bs_unit (Φ : Unit → sProp 𝕄) : bigSep Finset.univ Φ = Φ () := bigSep_singleton

theorem bs_three (Φ : Fin 3 → sProp 𝕄) : bigSep Finset.univ Φ = iprop(Φ 0 ∗ Φ 1 ∗ Φ 2) :=
  bigSep_univ_eq_bigSepL [(0 : Fin 3), 1, 2] (by decide) (by decide) Φ

theorem sems_split (Φ : SemLoc sig → sProp 𝕄) : bigSep sems Φ = iprop(Φ (.reg barS) ∗ semD Φ 0 ∗ semD Φ 1) := by
  rw [← semOf_image, bs_image (fun x _ y _ h => semOf_inj x y h)]
  have hJ : ∀ di j, (bigSep Finset.univ fun x : Unit ⊕ (Fin 4 ⊕ Fin 4) => Φ (semOf (.inr (di, .inr (j, x))))) = semJ Φ di j := fun di j => by
    rw [bigSep_univ_sum, bigSep_univ_sum, bs_unit]; rfl
  have hD : ∀ di, (bigSep Finset.univ fun x : Unit ⊕ (Fin 3 × (Unit ⊕ (Fin 4 ⊕ Fin 4))) => Φ (semOf (.inr (di, x)))) = semD Φ di := fun di => by
    rw [bigSep_univ_sum, bigSep_univ_prod, bs_unit, bs_three]
    rw [hJ, hJ, hJ]; rfl
  rw [bigSep_univ_sum, bs_unit, dirs_prod]
  rw [hD, hD]; rfl

/-- A core's cells are its semaphores'. -/
theorem cells_split (Φ : GSem nD τ sig → sProp 𝕄) :
    bigSep cells Φ = bigSep Finset.univ fun c : Dev nD => bigSep sems fun sm => Φ ((c : Thread nD τ), sm) := by
  unfold cells
  rw [bigSep_map]
  have e : (Finset.univ : Finset (Dev nD × SemLoc sig)).filter (fun p => cls p.2 ≠ .none) = Finset.univ ×ˢ sems := by
    ext p; simp [sems]
  rw [e]
  exact bs_pair fun p : Dev nD × SemLoc sig => Φ ((p.1 : Thread nD τ), p.2)

/-! ## Three hops of a family of bands -/

theorem b4_win (Φ : Fin 4 → ℕ → sProp 𝕄) (h : ℕ) : (b4 fun s => win (Φ s) h)
    = iprop((b4 fun s => Φ s h) ∗ (b4 fun s => Φ s (h + 1)) ∗ (b4 fun s => Φ s (h + 2))) := by
  unfold win; rw [b4_sep, b4_sep]

/-! ## The start -/

/-- A semaphore at its start. -/
def sem0 (sm : SemLoc sig) : sProp 𝕄 := iprop(atPos ER ((c : Thread nD τ), sm) 0 ∅ 0 ∗ reached ER ((c : Thread nD τ), sm) 0)

theorem sems_reached : iprop(Ctx m ∗ bigSep sems fun sm => atPos ER ((c : Thread nD τ), sm) 0 ∅ 0) ⊢ bigSep sems (sem0 (F := F) c) :=
  bs_with fun sm hs => by
    have h := (Finset.mem_filter.mp hs).2
    unfold sem0
    iintro ⟨HC, Hat⟩
    isplitl [Hat]; · iexact Hat
    iapply (ctx_reached m c sm h); iexact HC

theorem semD_start (di : Fin 2) : semD (sem0 (F := F) c) di
    ⊢ iprop(sW c di 0 ∗ rW c di 0 ∗ atPos ER (credC c di) 0 ∅ 0 ∗ win (tPos c di) 31) := by
  unfold semD semJ sW rW
  rw [b4_win, b4_win]
  iintro ⟨Hc, ⟨Ht0, Hs0, Hr0⟩, ⟨Ht1, Hs1, Hr1⟩, ⟨Ht2, Hs2, Hr2⟩⟩
  isplitl [Hs0 Hs1 Hs2]
  · isplitl [Hs0]; · iapply (show (b4 fun s => sem0 (F := F) c (.dma (sendS di 0 s))) ⊢ (b4 fun s => sPos c di s 0) from Entails.of_eq rfl); iexact Hs0
    isplitl [Hs1]; · iapply (show (b4 fun s => sem0 (F := F) c (.dma (sendS di 1 s))) ⊢ (b4 fun s => sPos c di s (0 + 1)) from Entails.of_eq rfl); iexact Hs1
    iapply (show (b4 fun s => sem0 (F := F) c (.dma (sendS di 2 s))) ⊢ (b4 fun s => sPos c di s (0 + 2)) from Entails.of_eq rfl); iexact Hs2
  isplitl [Hr0 Hr1 Hr2]
  · isplitl [Hr0]; · iapply (show (b4 fun s => sem0 (F := F) c (.dma (recvS di 0 s))) ⊢ (b4 fun s => rPos c di s 0) from Entails.of_eq rfl); iexact Hr0
    isplitl [Hr1]; · iapply (show (b4 fun s => sem0 (F := F) c (.dma (recvS di 1 s))) ⊢ (b4 fun s => rPos c di s (0 + 1)) from Entails.of_eq rfl); iexact Hr1
    iapply (show (b4 fun s => sem0 (F := F) c (.dma (recvS di 2 s))) ⊢ (b4 fun s => rPos c di s (0 + 2)) from Entails.of_eq rfl); iexact Hr2
  isplitl [Hc]
  · unfold sem0
    icases Hc with ⟨Hc, -⟩; iexact Hc
  unfold win
  isplitl [Ht1]; · iapply (show sem0 (F := F) c (.dma (storeS di 1)) ⊢ tPos c di 31 from Entails.of_eq rfl); iexact Ht1
  isplitl [Ht2]; · iapply (show sem0 (F := F) c (.dma (storeS di 2)) ⊢ tPos c di (31 + 1) from Entails.of_eq rfl); iexact Ht2
  iapply (show sem0 (F := F) c (.dma (storeS di 0)) ⊢ tPos c di (31 + 2) from Entails.of_eq rfl); iexact Ht0

/-! ## The end -/

/-- The round at which a semaphore ends. -/
def endR : Cl → ℕ
  | .none => 0
  | .store _ j => if j = 1 then 12 else 10
  | .send _ j _ => if j = 2 then 20 else 21
  | .recv _ j _ => if j = 2 then 20 else 21
  | .cred _ => 1
  | .bar => 1

theorem endR_none (cl : Cl) (r : ℕ) (hr : endR cl ≤ r) : dutyOf cl r = ∅ := by
  cases cl with
  | none => rfl
  | store di j =>
    have hj := j.isLt
    show (if stIx j r ≤ 61 ∨ stIx j r = 64 then ({0} : Finset ℕ) else ∅) = ∅
    refine if_neg ?_
    unfold stIx
    rcases (show j = 0 ∨ j = 1 ∨ j = 2 by omega) with rfl | rfl | rfl
    · have hr : 10 ≤ r := hr
      show ¬ (31 + 3 * r + (0 + 2) % 3 ≤ 61 ∨ 31 + 3 * r + (0 + 2) % 3 = 64); omega
    · have hr : 12 ≤ r := hr
      show ¬ (31 + 3 * r + (1 + 2) % 3 ≤ 61 ∨ 31 + 3 * r + (1 + 2) % 3 = 64); omega
    · have hr : 10 ≤ r := hr
      show ¬ (31 + 3 * r + (2 + 2) % 3 ≤ 61 ∨ 31 + 3 * r + (2 + 2) % 3 = 64); omega
  | send di j s =>
    have hr : (if j = 2 then 20 else 21) ≤ r := hr
    show (if 3 * r + j.val ≤ 61 then ({0} : Finset ℕ) else ∅) = ∅
    refine if_neg ?_
    split at hr
    · next h => subst h; show ¬ (3 * r + 2 ≤ 61); omega
    · omega
  | recv di j s =>
    have hr : (if j = 2 then 20 else 21) ≤ r := hr
    show (if 3 * r + j.val ≤ 61 then ({0} : Finset ℕ) else ∅) = ∅
    refine if_neg ?_
    split at hr
    · next h => subst h; show ¬ (3 * r + 2 ≤ 61); omega
    · omega
  | cred di => exact if_neg (Nat.one_le_iff_ne_zero.mp hr)
  | bar => exact if_neg (Nat.one_le_iff_ne_zero.mp hr)

/-- A semaphore at its end. -/
def semE (sm : SemLoc sig) : sProp 𝕄 := atPos ER ((c : Thread nD τ), sm) (endR (cls sm)) ∅ 0

theorem close_one (sm : SemLoc sig) (h : cls sm ≠ .none) :
    iprop(Ctx m ∗ semE (F := F) c sm) ⊢ |={Set.univ}=> (semVal ((c : Thread nD τ), sm) 0 : sProp 𝕄) := by
  unfold semE
  iintro ⟨HC, Hat⟩
  ihave Hi := (ctx_cell m c sm h) $$ HC
  unfold hasInv
  icases Hi with ⟨%κ, #Hi⟩
  iapply (cell_close ER (Rd m) (κ := κ) (Set.mem_univ _) (fun h => h) (R := endR (cls sm)) fun r hr => by rw [Rd_duties]; exact endR_none _ r hr)
  isplitr; · iexact Hi
  iexact Hat

theorem close_all : iprop(Ctx m ∗ bigSep sems (semE (F := F) c)) ⊢ |={Set.univ}=> bigSep sems fun sm => (semVal ((c : Thread nD τ), sm) 0 : sProp 𝕄) := by
  have h1 := bs_with (s := sems) (R := Ctx m) (Φ := semE (F := F) c) (Ψ := fun sm => iprop(|={Set.univ}=> (semVal ((c : Thread nD τ), sm) 0 : sProp 𝕄)))
    fun sm hs => close_one m c sm (Finset.mem_filter.mp hs).2
  iintro H
  iapply (show (bigSep sems fun sm => iprop(|={Set.univ}=> (semVal ((c : Thread nD τ), sm) 0 : sProp 𝕄)))
    ⊢ iprop(|={Set.univ}=> bigSep sems fun sm => (semVal ((c : Thread nD τ), sm) 0 : sProp 𝕄)) from bigSep_fupd _ _)
  iapply h1; iexact H

theorem sPos_end (di : Fin 2) (s : Fin 4) (j : Fin 3) (h : ℕ) (hj : sl3 h = j) (hr : h / 3 = endR (.send di j s)) :
    sPos (F := F) c di s h ⊢ semE c (.dma (sendS di j s)) := by
  unfold sPos semE
  rw [hj, hr, cls_send]
  iintro ⟨H, -⟩; iexact H
theorem rPos_end (di : Fin 2) (s : Fin 4) (j : Fin 3) (h : ℕ) (hj : sl3 h = j) (hr : h / 3 = endR (.recv di j s)) :
    rPos (F := F) c di s h ⊢ semE c (.dma (recvS di j s)) := by
  unfold rPos semE
  rw [hj, hr, cls_recv]
  iintro ⟨H, -⟩; iexact H
theorem tPos_end (di : Fin 2) (j : Fin 3) (h : ℕ) (hj : sl3 h = j) (hr : (h - 31) / 3 = endR (.store di j)) :
    tPos (F := F) c di h ⊢ semE c (.dma (storeS di j)) := by
  unfold tPos semE
  rw [hj, hr, cls_store]
  iintro ⟨H, -⟩; iexact H

theorem semD_end (di : Fin 2) : iprop(sW c di 62 ∗ rW c di 62 ∗ (tPos c di 62 ∗ tPos c di 63 ∗ tPos c di 67) ∗ atPos ER (credC c di) 1 ∅ 0)
    ⊢ semD (semE (F := F) c) di := by
  unfold semD semJ sW rW
  rw [b4_win, b4_win]
  iintro ⟨⟨Hs0, Hs1, Hs2⟩, ⟨Hr0, Hr1, Hr2⟩, ⟨Ht0, Ht1, Ht2⟩, Hc⟩
  isplitl [Hc]; · unfold semE; rw [cls_cred]; iexact Hc
  isplitl [Ht1 Hs1 Hr1]
  · isplitl [Ht1]; · iapply (tPos_end c di 0 63 rfl rfl); iexact Ht1
    isplitl [Hs1]; · iapply (b4_mono fun s => sPos_end (F := F) c di s 0 63 rfl rfl); iexact Hs1
    iapply (b4_mono fun s => rPos_end (F := F) c di s 0 63 rfl rfl); iexact Hr1
  isplitl [Ht2 Hs2 Hr2]
  · isplitl [Ht2]; · iapply (tPos_end c di 1 67 rfl rfl); iexact Ht2
    isplitl [Hs2]; · iapply (b4_mono fun s => sPos_end (F := F) c di s 1 64 rfl rfl); iexact Hs2
    iapply (b4_mono fun s => rPos_end (F := F) c di s 1 64 rfl rfl); iexact Hr2
  isplitl [Ht0]; · iapply (tPos_end c di 2 62 rfl rfl); iexact Ht0
  isplitl [Hs0]; · iapply (b4_mono fun s => sPos_end (F := F) c di s 2 62 rfl rfl); iexact Hs0
  iapply (b4_mono fun s => rPos_end (F := F) c di s 2 62 rfl rfl); iexact Hr0

/-! ## As the launch lists them -/

def osem (k : Fin 56) : SemLoc sig :=
  if h : k.val < 54 then .dma ⟨k.val + 2, by have := k.isLt; show k.val + 2 < 56; omega⟩ else .reg ⟨k.val - 54, by have := k.isLt; show k.val - 54 < 3; omega⟩

theorem osem_inj : ∀ x y : Fin 56, osem x = osem y → x = y := by decide +kernel
theorem sems_eq : sems = insert (.reg barS) ((Finset.univ : Finset (Fin 56)).image osem) := by decide +kernel
theorem bar_notin : (.reg barS : SemLoc sig) ∉ (Finset.univ : Finset (Fin 56)).image osem := by decide +kernel

theorem unscoped_eq : (unscopedSems0 c : sProp 𝕄) = semVal (barC c) 0 := by
  unfold unscopedSems0
  rw [bigSep_eq_bigSepL_of_eq [SemLoc.reg barS] (by decide +kernel) (by decide +kernel)]; rfl

theorem own_split : (bigSep sems fun sm => (semVal ((c : Thread nD τ), sm) 0 : sProp 𝕄)) = iprop(unscopedSems0 c ∗ Pipeline.ownSems0 osem c) := by
  rw [sems_eq, bigSep_insert bar_notin, bs_image fun x _ y _ h => osem_inj x y h, unscoped_eq]; rfl

theorem ownSemFacts : Pipeline.OwnSemFacts cfg0.spec osem := by decide +kernel

end Cert.KernelIdeal
-- ==== Proof.Tokens.lean ====
/- The rights to signal and to write, each given to the core that uses it. -/
module

public import proofs.«01_k».proof.Proof.Sems

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (c : Dev nD) (di : Fin 2) (h : ℕ)

/-! ## Which there are -/

/-- What a hop signals: a band's two semaphores, and the grant, the store and the barrier. -/
abbrev Du : Type := Fin 4 ⊕ (Fin 4 ⊕ Fin 3)
instance Du_decEq : DecidableEq Du := instDecidableEqSum

def tokOf : Du → GSem nD τ sig × ℕ × ℕ
  | .inl s => (sendC c di (sl3 h) s, h / 3, 0)
  | .inr (.inl s) => (recvC (dstD di c) di (sl3 h) s, h / 3, 0)
  | .inr (.inr u) => if u = 0 then (credC (srcD di c) di, 0, payN h)
    else if u = 1 then (storeC c di (sl3 h), (h - 31) / 3, 0) else (barC (srcD di c), 0, di.val)

def has : Du → Prop
  | .inl _ => h ≤ 61
  | .inr (.inl _) => h ≤ 61
  | .inr (.inr u) => if u = 0 then h ≤ 63 ∧ ¬ (h = 0 ∨ h = 32) else if u = 1 then (31 ≤ h ∧ h ≤ 61) ∨ h = 64 else h = 0
instance has_dec (u : Du) : Decidable (has h u) := by
  rcases u with s | s | u <;> unfold has <;> infer_instance

abbrev TIx : Type := Dev nD × Fin 2 × ℕ × Du

/-- Who uses a right, and when. -/
def userOf (d : Dev nD) (r k : ℕ) : Cl → TIx
  | .none => (d, 0, 0, .inr (.inr 2))
  | .send di j s => (d, di, 3 * r + j.val, .inl s)
  | .recv di j s => (srcD di d, di, 3 * r + j.val, .inr (.inl s))
  | .cred di => (dstD di d, di, if k ≤ 31 then k else k + 1, .inr (.inr 0))
  | .store di j => (d, di, stIx j r, .inr (.inr 1))
  | .bar => if k = 0 then (dstD 0 d, 0, 0, .inr (.inr 2)) else (dstD 1 d, 1, 0, .inr (.inr 2))

theorem userOf_tokOf (u : Du) (hu : has h u) :
    userOf (tokOf c di h u).1.1.1 (tokOf c di h u).2.1 (tokOf c di h u).2.2 (cls (tokOf c di h u).1.2) = (c, di, h, u) := by
  rcases u with s | s | u
  · show userOf c (h / 3) 0 (cls (.dma (sendS di (sl3 h) s))) = _
    rw [cls_send]; show (c, di, 3 * (h / 3) + (sl3 h).val, _) = _; rw [hop_eq]
  · show userOf (dstD di c) (h / 3) 0 (cls (.dma (recvS di (sl3 h) s))) = _
    rw [cls_recv]; show (srcD di (dstD di c), di, 3 * (h / 3) + (sl3 h).val, _) = _; rw [hop_eq, src_dst]
  · have hu' : if u = 0 then h ≤ 63 ∧ ¬ (h = 0 ∨ h = 32) else if u = 1 then (31 ≤ h ∧ h ≤ 61) ∨ h = 64 else h = 0 := hu
    rcases ((by decide : ∀ u : Fin 3, u = 0 ∨ u = 1 ∨ u = 2) u) with rfl | rfl | rfl
    · rw [if_pos rfl] at hu'
      show userOf (srcD di c) 0 (payN h) (cls (.reg (credS di))) = _
      rw [cls_cred]; show (dstD di (srcD di c), di, (if payN h ≤ 31 then payN h else payN h + 1), _) = _
      rw [dst_src]
      have : (if payN h ≤ 31 then payN h else payN h + 1) = h := by
        unfold payN
        by_cases h1 : h ≤ 31
        · rw [if_pos h1, if_pos h1]
        · rw [if_neg h1, if_neg (show ¬ h - 1 ≤ 31 by omega)]; omega
      rw [this]
    · rw [if_neg (by decide), if_pos rfl] at hu'
      show userOf c ((h - 31) / 3) 0 (cls (.dma (storeS di (sl3 h)))) = _
      rw [cls_store]; show (c, di, stIx (sl3 h) ((h - 31) / 3), _) = _
      rw [stIx_eq h (by omega)]
    · have hz : h = 0 := hu'
      subst hz
      show userOf (srcD di c) 0 di.val (cls (.reg barS)) = _
      rw [cls_bar]
      rcases ((by decide : ∀ d : Fin 2, d = 0 ∨ d = 1) di) with rfl | rfl
      · show (dstD 0 (srcD 0 c), (0 : Fin 2), 0, _) = _; rw [dst_src]
      · show (dstD 1 (srcD 1 c), (1 : Fin 2), 0, _) = _; rw [dst_src]

/-- Every use there is. -/
def uses : Finset TIx := (Finset.univ ×ˢ Finset.univ ×ˢ Finset.range 65 ×ˢ Finset.univ).filter fun x => has x.2.2.1 x.2.2.2
/-- Every right there is. -/
def rights : Finset (GSem nD τ sig × ℕ × ℕ) := uses.image fun x => tokOf x.1 x.2.1 x.2.2.1 x.2.2.2

theorem tok_inj : ∀ x ∈ uses, ∀ y ∈ uses, tokOf x.1 x.2.1 x.2.2.1 x.2.2.2 = tokOf y.1 y.2.1 y.2.2.1 y.2.2.2 → x = y := fun x hx y hy e => by
  have h1 := userOf_tokOf x.1 x.2.1 x.2.2.1 x.2.2.2 (Finset.mem_filter.mp hx).2
  have h2 := userOf_tokOf y.1 y.2.1 y.2.2.1 y.2.2.2 (Finset.mem_filter.mp hy).2
  exact by
    rw [e] at h1
    exact h1.symm.trans h2

/-! ## By user and hop -/

def dTok (x : GSem nD τ sig × ℕ × ℕ) : sProp 𝕄 := dutyTok ER x.1 x.2.1 x.2.2
def hopT (u : Du) : sProp 𝕄 := if has h u then dTok (tokOf c di h u) else iprop(emp)

theorem rights_split : bigSep rights (dTok (F := F)) = bigSep Finset.univ fun c : Dev nD => bigSep Finset.univ fun di : Fin 2 =>
    bigSep (Finset.range 65) fun h => bigSep Finset.univ (hopT c di h) := by
  unfold rights
  rw [bs_image tok_inj]
  unfold uses
  rw [bs_ite, bs_pair]
  refine bigSep_congr fun c _ => ?_
  rw [bs_pair]
  refine bigSep_congr fun di _ => ?_
  rw [bs_pair]
  rfl

/-- The rights to grant and to store. -/
def gTok : sProp 𝕄 := if h = 0 ∨ h = 32 then iprop(emp) else dutyTok ER (credC (srcD di c) di) 0 (payN h)
def oTok : sProp 𝕄 := if 31 ≤ h then dutyTok ER (storeC c di (sl3 h)) ((h - 31) / 3) 0 else iprop(emp)
/-- The right to signal the barrier. -/
def bTok : sProp 𝕄 := if h = 0 then dutyTok ER (barC (srcD di c)) 0 di.val else iprop(emp)

theorem hop_split : bigSep Finset.univ (hopT (F := F) c di h) = iprop((b4 fun s => hopT c di h (.inl s)) ∗ (b4 fun s => hopT c di h (.inr (.inl s)))
    ∗ hopT c di h (.inr (.inr 0)) ∗ hopT c di h (.inr (.inr 1)) ∗ hopT c di h (.inr (.inr 2))) := by
  rw [bigSep_univ_sum, bigSep_univ_sum, bs_three]; rfl

theorem hop_toks (hh : h < 62) : bigSep Finset.univ (hopT (F := F) c di h) ⊢
    iprop((b4 fun s => sTok c di s h) ∗ gTok c di h ∗ oTok c di h ∗ bTok c di h) := by
  rw [hop_split]
  have e1 : ∀ s, hopT (F := F) c di h (.inl s) = dutyTok ER (sendC c di (sl3 h) s) (h / 3) 0 := fun s => if_pos (show h ≤ 61 by omega)
  have e2 : ∀ s, hopT (F := F) c di h (.inr (.inl s)) = dutyTok ER (recvC (dstD di c) di (sl3 h) s) (h / 3) 0 := fun s => if_pos (show h ≤ 61 by omega)
  have e3 : hopT (F := F) c di h (.inr (.inr 0)) = gTok c di h := by
    unfold gTok
    by_cases h0 : h = 0 ∨ h = 32
    · rw [if_pos h0]; exact if_neg (fun (h' : h ≤ 63 ∧ ¬ (h = 0 ∨ h = 32)) => h'.2 h0)
    · rw [if_neg h0]; exact if_pos (show h ≤ 63 ∧ ¬ (h = 0 ∨ h = 32) from ⟨by omega, h0⟩)
  have e4 : hopT (F := F) c di h (.inr (.inr 1)) = oTok c di h := by
    unfold oTok
    by_cases h0 : 31 ≤ h
    · rw [if_pos h0]; exact if_pos (show (31 ≤ h ∧ h ≤ 61) ∨ h = 64 by omega)
    · rw [if_neg h0]; exact if_neg (show ¬ ((31 ≤ h ∧ h ≤ 61) ∨ h = 64) by omega)
  have e5 : hopT (F := F) c di h (.inr (.inr 2)) = bTok c di h := by
    unfold bTok
    by_cases h0 : h = 0
    · rw [if_pos h0]; exact if_pos (show h = 0 from h0)
    · rw [if_neg h0]; exact if_neg (show ¬ h = 0 from h0)
  rw [e3, e4, e5, funext e1, funext e2]
  unfold sTok
  rw [b4_sep]
  iintro ⟨H1, H2, H3, H4, H5⟩
  isplitl [H1 H2]
  · isplitl [H1]; · iexact H1
    iexact H2
  isplitl [H3]; · iexact H3
  isplitl [H4]; · iexact H4
  iexact H5

/-- A direction's rights. -/
def dirT : sProp 𝕄 := iprop(
  (dutyTok ER (barC (srcD di c)) 0 di.val ∗ dutyTok ER (credC (srcD di c) di) 0 61 ∗ dutyTok ER (credC (srcD di c) di) 0 62
    ∗ dutyTok ER (storeC c di (sl3 64)) ((64 - 31) / 3) 0)
  ∗ (bigSep (Finset.range 62) fun h => b4 fun s => sTok c di s h) ∗ bigSep (Finset.range 62) (gTok c di) ∗ bigSep (Finset.range 62) (oTok c di))

theorem dir_toks : (bigSep (Finset.range 65) fun h => bigSep Finset.univ (hopT (F := F) c di h)) ⊢ dirT c di := by
  unfold dirT
  rw [bs_last, bs_last, bs_last, hop_split, hop_split, hop_split]
  have e1 : hopT (F := F) c di 64 (.inr (.inr 1)) = dutyTok ER (storeC c di (sl3 64)) ((64 - 31) / 3) 0 :=
    if_pos (show (31 ≤ 64 ∧ 64 ≤ 61) ∨ 64 = 64 from .inr rfl)
  have e2 : hopT (F := F) c di 63 (.inr (.inr 0)) = dutyTok ER (credC (srcD di c) di) 0 62 :=
    if_pos (show 63 ≤ 63 ∧ ¬ (63 = 0 ∨ 63 = 32) by decide)
  have e3 : hopT (F := F) c di 62 (.inr (.inr 0)) = dutyTok ER (credC (srcD di c) di) 0 61 :=
    if_pos (show 62 ≤ 63 ∧ ¬ (62 = 0 ∨ 62 = 32) by decide)
  rw [e1, e2, e3]
  have hs : (bigSep (Finset.range 62) fun h => bigSep Finset.univ (hopT (F := F) c di h))
      ⊢ iprop((bigSep (Finset.range 62) fun h => b4 fun s => sTok c di s h) ∗ bigSep (Finset.range 62) (gTok c di)
        ∗ bigSep (Finset.range 62) (oTok c di) ∗ bigSep (Finset.range 62) (bTok c di)) := by
    rw [← bs_sep, ← bs_sep, ← bs_sep]
    exact bs_mono fun h hh => hop_toks c di h (Finset.mem_range.mp hh)
  have hb : bigSep (Finset.range 62) (bTok (F := F) c di) ⊢ dutyTok ER (barC (srcD di c)) 0 di.val :=
    bs_elim (Φ := bTok (F := F) c di) (Finset.mem_range.mpr (by decide : 0 < 62))
  iintro ⟨⟨-, -, -, Ho, -⟩, ⟨-, -, H62, -⟩, ⟨-, -, H61, -⟩, H⟩
  ihave H := hs $$ H
  icases H with ⟨H1, H2, H3, H4⟩
  isplitl [Ho H62 H61 H4]
  · isplitl [H4]; · iapply hb; iexact H4
    isplitl [H61]; · iexact H61
    isplitl [H62]; · iexact H62
    iexact Ho
  isplitl [H1]; · iexact H1
  isplitl [H2]; · iexact H2
  iexact H3

theorem rights_deal : bigSep rights (dTok (F := F)) ⊢ bigSep Finset.univ fun c : Dev nD => iprop(dirT c 0 ∗ dirT c 1) := by
  rw [rights_split]
  refine bs_mono fun c _ => ?_
  rw [bigSep_univ_two]
  iintro ⟨H0, H1⟩
  isplitl [H0]; · iapply (dir_toks c 0); iexact H0
  iapply (dir_toks c 1); iexact H1

/-! ## The rights to write a landing slot -/

/-- Hop `h`'s right. -/
def wTok : sProp 𝕄 := writeTok EU (dstD di c, di, sl3 h) (h / 3 + 1)

theorem writes_deal : (bigSep ((Finset.univ : Finset Key) ×ˢ Finset.range 21) fun x => (writeTok EU x.1 (x.2 + 1) : sProp 𝕄))
    ⊢ bigSep Finset.univ fun c : Dev nD => iprop(bigSep (Finset.range 62) (wTok c 0) ∗ bigSep (Finset.range 62) (wTok c 1)) := by
  have h1 := bs_inj (M := 𝕄) (s := (Finset.univ : Finset (Dev nD)) ×ˢ (Finset.univ : Finset (Fin 2)) ×ˢ Finset.range 62)
    (t := (Finset.univ : Finset Key) ×ˢ Finset.range 21)
    (f := fun x => ((dstD x.2.1 x.1, x.2.1, sl3 x.2.2), x.2.2 / 3))
    (fun x _ y _ e => by
      obtain ⟨c, di, h⟩ := x
      obtain ⟨c', di', h'⟩ := y
      simp only [Prod.mk.injEq] at e
      obtain ⟨⟨e1, e2, e3⟩, e4⟩ := e
      subst e2
      have e5 := congrArg (srcD di) e1
      rw [src_dst, src_dst] at e5
      have e6 : h = h' := by rw [← hop_eq h, ← hop_eq h', e3, e4]
      rw [e5, e6])
    (fun x hx => by
      have := Finset.mem_range.mp (Finset.mem_product.mp (Finset.mem_product.mp hx).2).2
      exact Finset.mem_product.mpr ⟨Finset.mem_univ _, Finset.mem_range.mpr (by show x.2.2 / 3 < 21; omega)⟩)
    (fun x => (writeTok EU x.1 (x.2 + 1) : sProp 𝕄))
  iintro H
  ihave H := h1 $$ H
  ihave H := (Entails.of_eq (bs_pair (s := (Finset.univ : Finset (Dev nD))) (t := (Finset.univ : Finset (Fin 2)) ×ˢ Finset.range 62)
    fun x => (writeTok EU (dstD x.2.1 x.1, x.2.1, sl3 x.2.2) (x.2.2 / 3 + 1) : sProp 𝕄))) $$ H
  iapply (bs_mono (s := (Finset.univ : Finset (Dev nD)))
    (Φ := fun c => bigSep ((Finset.univ : Finset (Fin 2)) ×ˢ Finset.range 62) fun x => (writeTok EU (dstD x.1 c, x.1, sl3 x.2) (x.2 / 3 + 1) : sProp 𝕄))
    (Ψ := fun c : Dev nD => iprop(bigSep (Finset.range 62) (wTok c 0) ∗ bigSep (Finset.range 62) (wTok c 1)))
    fun c _ => Entails.of_eq (by rw [bs_pair, bigSep_univ_two]; rfl))
  iexact H

end Cert.KernelIdeal
-- ==== Proof.Fuel.lean ====
/- What the hops use up, put together from what the launch hands out. -/
module

public import proofs.«01_k».proof.Proof.Tokens

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (c : Dev nD) (di : Fin 2) (h : ℕ)

/-! ## The credits of what the cores owe -/

/-- Grant `k`'s credit. -/
def gCr (k : ℕ) : sProp 𝕄 := cred (tallyAt (credC c di) (clv di k) 1)
def gCrH : sProp 𝕄 := if h = 0 ∨ h = 32 then iprop(emp) else gCr c di (payN h)
/-- A hop's. -/
def hopC : sProp 𝕄 := iprop((b4 fun s => rCr c di s h) ∗ gCrH c di h)

theorem lc_sOwe (s : Fin 4) : (Pipeline.launchCred (fun d => sOwe d di s h) c : sProp 𝕄) ⊢ rCr c di s h := by
  unfold sOwe rCr
  exact Pipeline.launchCred_tallyAt (.dma (recvS di (sl3 h) s)) (dstD di) (srcD di) (dst_src di) (src_dst di) (h + 2) NB c
theorem lc_cOwe : (Pipeline.launchCred (fun d => cOwe d di h) c : sProp 𝕄) ⊢ gCrH c di h := by
  unfold gCrH
  by_cases h0 : h = 0 ∨ h = 32
  · rw [if_pos h0, show (fun d => cOwe d di h) = fun _ => 0 from funext fun d => if_pos h0, Pipeline.launchCred_zero]
  · rw [if_neg h0, show (fun d => cOwe d di h) = fun d => tallyAt (credC (srcD di d) di) (clv di (payN h)) 1 from funext fun d => if_neg h0]
    unfold gCr
    exact Pipeline.launchCred_tallyAt (.reg (credS di)) (srcD di) (dstD di) (src_dst di) (dst_src di) (clv di (payN h)) 1 c

theorem lc_DO (O : Dev nD → CellTallies nD τ sig ℕ) :
    (Pipeline.launchCred (fun d => DO d di h (O d)) c : sProp 𝕄) ⊢ iprop(hopC c di h ∗ Pipeline.launchCred O c) := by
  unfold DO hopC
  rw [b4_eq, Pipeline.launchCred_add (fun d => sOwe d di 0 h) (fun d => sOwe d di 1 h + (sOwe d di 2 h + (sOwe d di 3 h + (cOwe d di h + O d)))),
    Pipeline.launchCred_add (fun d => sOwe d di 1 h) (fun d => sOwe d di 2 h + (sOwe d di 3 h + (cOwe d di h + O d))),
    Pipeline.launchCred_add (fun d => sOwe d di 2 h) (fun d => sOwe d di 3 h + (cOwe d di h + O d)),
    Pipeline.launchCred_add (fun d => sOwe d di 3 h) (fun d => cOwe d di h + O d),
    Pipeline.launchCred_add (fun d => cOwe d di h) O]
  iintro ⟨H0, H1, H2, H3, HC, HO⟩
  isplitr [HO]
  · isplitr [HC]
    · isplitl [H0]; · iapply (lc_sOwe c di h 0); iexact H0
      isplitl [H1]; · iapply (lc_sOwe c di h 1); iexact H1
      isplitl [H2]; · iapply (lc_sOwe c di h 2); iexact H2
      iapply (lc_sOwe c di h 3); iexact H3
    iapply (lc_cOwe c di h); iexact HC
  iexact HO

theorem lc_DOs (O : Dev nD → CellTallies nD τ sig ℕ) : ∀ n h : ℕ,
    (Pipeline.launchCred (fun d => DOs d (O d) h n) c : sProp 𝕄)
      ⊢ iprop((bigSep (Finset.range n) fun i => iprop(hopC c 0 (h + i) ∗ hopC c 1 (h + i))) ∗ Pipeline.launchCred O c)
  | 0, h => by
    rw [Finset.range_zero, bigSep_empty]
    iintro H
    isplitr; · iempintro
    iexact H
  | n + 1, h => by
    have h1 := lc_DO (F := F) c 0 h (fun d => DO d 1 h (DOs d (O d) (h + 1) n))
    have h2 := lc_DO (F := F) c 1 h (fun d => DOs d (O d) (h + 1) n)
    have h3 := lc_DOs O n (h + 1)
    have e : (bigSep (Finset.range n) fun i => iprop(hopC (F := F) c 0 (h + 1 + i) ∗ hopC c 1 (h + 1 + i)))
        = bigSep (Finset.range n) fun i => iprop(hopC (F := F) c 0 (h + (i + 1)) ∗ hopC c 1 (h + (i + 1))) :=
      bigSep_congr fun i _ => by rw [show h + 1 + i = h + (i + 1) by omega]
    rw [e] at h3
    rw [bs_first, show (fun d => DOs d (O d) h (n + 1)) = fun d => DO d 0 h (DO d 1 h (DOs d (O d) (h + 1) n)) from rfl]
    iintro H
    ihave H := h1 $$ H
    icases H with ⟨H0, H⟩
    ihave H := h2 $$ H
    icases H with ⟨H1, H⟩
    ihave H := h3 $$ H
    icases H with ⟨H2, H⟩
    isplitr [H]
    · isplitl [H0 H1]
      · isplitl [H0]; · iexact H0
        iexact H1
      iexact H2
    iexact H

/-- The credit of the two last grants. -/
def endC : sProp 𝕄 := iprop(cred (tallyAt (credC c di) (64 + di.val) 1) ∗ cred (tallyAt (credC c di) (64 + di.val) 1))

theorem lc_DE (O : Dev nD → CellTallies nD τ sig ℕ) :
    (Pipeline.launchCred (fun d => DE d di (O d)) c : sProp 𝕄) ⊢ iprop(endC c di ∗ Pipeline.launchCred O c) := by
  have h1 : (Pipeline.launchCred (fun d => tallyAt (credC (srcD di d) di) (64 + di.val) 1) c : sProp 𝕄) ⊢ cred (tallyAt (credC c di) (64 + di.val) 1) :=
    Pipeline.launchCred_tallyAt (.reg (credS di)) (srcD di) (dstD di) (src_dst di) (dst_src di) (64 + di.val) 1 c
  unfold DE endC
  rw [Pipeline.launchCred_add (fun d => tallyAt (credC (srcD di d) di) (64 + di.val) 1) (fun d => tallyAt (credC (srcD di d) di) (64 + di.val) 1 + O d),
    Pipeline.launchCred_add (fun d => tallyAt (credC (srcD di d) di) (64 + di.val) 1) O]
  iintro ⟨H0, H1, H2⟩
  isplitl [H0 H1]
  · isplitl [H0]; · iapply h1; iexact H0
    iapply h1; iexact H1
  iexact H2

theorem cred_two (g : GSem nD τ sig) (i a b : ℕ) : iprop(cred (tallyAt g i a) ∗ cred (tallyAt g i b)) ⊢ (cred (tallyAt g i (a + b)) : sProp 𝕄) := by
  rw [← tallyAt_add]; exact (cred_add _ _).2

theorem lc_all : (Pipeline.launchCred oweAll c : sProp 𝕄) ⊢ iprop(cred (tallyAt (barC c) 1 2)
    ∗ (bigSep (Finset.range 62) fun i => iprop(hopC c 0 i ∗ hopC c 1 i)) ∗ endC c 0 ∗ endC c 1) := by
  have hb : ∀ di : Fin 2, (Pipeline.launchCred (fun d => tallyAt (barC (srcD di d)) 1 1) c : sProp 𝕄) ⊢ cred (tallyAt (barC c) 1 1) := fun di =>
    Pipeline.launchCred_tallyAt (.reg barS) (srcD di) (dstD di) (src_dst di) (dst_src di) 1 1 c
  have h1 := lc_DOs (F := F) c (fun d => DE d 0 (DE d 1 0)) 62 0
  have h2 := lc_DE (F := F) c 0 (fun d => DE d 1 0)
  have h3 := lc_DE (F := F) c 1 (fun _ => 0)
  have e : (bigSep (Finset.range 62) fun i => iprop(hopC (F := F) c 0 (0 + i) ∗ hopC c 1 (0 + i)))
      = bigSep (Finset.range 62) fun i => iprop(hopC (F := F) c 0 i ∗ hopC c 1 i) := bigSep_congr fun i _ => by rw [Nat.zero_add]
  rw [e] at h1
  rw [show (oweAll : Dev nD → CellTallies nD τ sig ℕ) = fun c => tallyAt (barC (srcD 0 c)) 1 1
      + (tallyAt (barC (srcD 1 c)) 1 1 + DOs c (DE c 0 (DE c 1 0)) 0 62) from rfl,
    Pipeline.launchCred_add (fun d => tallyAt (barC (srcD 0 d)) 1 1) (fun c => tallyAt (barC (srcD 1 c)) 1 1 + DOs c (DE c 0 (DE c 1 0)) 0 62),
    Pipeline.launchCred_add (fun d => tallyAt (barC (srcD 1 d)) 1 1) (fun c => DOs c (DE c 0 (DE c 1 0)) 0 62)]
  iintro ⟨Hb0, Hb1, H⟩
  ihave H := h1 $$ H
  icases H with ⟨H1, H⟩
  ihave H := h2 $$ H
  icases H with ⟨H2, H⟩
  ihave H := h3 $$ H
  icases H with ⟨H3, -⟩
  ihave Hb0 := (hb 0) $$ Hb0
  ihave Hb1 := (hb 1) $$ Hb1
  isplitl [Hb0 Hb1]
  · iapply (cred_two (F := F) (barC c) 1 1 1)
    isplitl [Hb0]; · iexact Hb0
    iexact Hb1
  isplitl [H1]; · iexact H1
  isplitl [H2]; · iexact H2
  iexact H3

/-! ## Hop by hop -/

/-- The grants' credits, by the hop that waits for each. -/
theorem grants_shift : bigSep (Finset.range 62) (gCrH (F := F) c di)
    = iprop(gCr c di 60 ∗ bigSep (Finset.range 62) fun h => if 3 ≤ h then cred (tallyAt (credC c di) (h + 1) 1) else iprop(emp)) := by
  have e1 : bigSep (Finset.range 62) (gCrH (F := F) c di) = bigSep ((Finset.range 62).filter fun h => ¬ (h = 0 ∨ h = 32)) fun h => gCr c di (payN h) := by
    rw [bs_ite]
    exact bigSep_congr fun h _ => (ite_not _ _ _).symm
  have e2 : (bigSep (Finset.range 62) fun h => if 3 ≤ h then cred (tallyAt (credC c di) (h + 1) 1) else iprop(emp))
      = bigSep ((Finset.range 62).filter fun h => 3 ≤ h) fun h => gCr (F := F) c di (h - 2) := by
    rw [bs_ite]
    refine bigSep_congr fun h hh => ?_
    have h62 := Finset.mem_range.mp hh
    by_cases h3 : 3 ≤ h
    · rw [if_pos h3, if_pos h3]
      unfold gCr clv
      rw [if_pos (show h - 2 ≤ 59 by omega), show h - 2 + 3 = h + 1 by omega]
    · rw [if_neg h3, if_neg h3]
  rw [e1, e2, ← bs_image (f := payN) (by
      intro x hx y hy e
      have hx := (Finset.mem_filter.mp hx).2
      have hy := (Finset.mem_filter.mp hy).2
      unfold payN at e
      split at e <;> split at e <;> omega) (gCr (F := F) c di),
    ← bs_image (f := fun h => h - 2) (by
      intro x hx y hy e
      have hx := (Finset.mem_filter.mp hx).2
      have hy := (Finset.mem_filter.mp hy).2
      have e' : x - 2 = y - 2 := e
      omega) (gCr (F := F) c di),
    show ((Finset.range 62).filter fun h => ¬ (h = 0 ∨ h = 32)).image payN
      = insert 60 (((Finset.range 62).filter fun h => 3 ≤ h).image fun h => h - 2) by decide +kernel]
  exact bigSep_insert (by decide +kernel)

/-- The arrivals' credits, each at the hop after. -/
theorem arrivals_shift : (bigSep (Finset.range 62) fun h => b4 fun s => rCr (F := F) c di s h)
    ⊢ iprop((b4 fun s => rCr c di s 61) ∗ bigSep (Finset.range 62) fun h => if 1 ≤ h then b4 fun s => rCr c di s (h - 1) else iprop(emp)) := by
  have e := bs_one_or (M := 𝕄) 61 (fun h => b4 fun s => rCr c di s h)
  rw [bs_last 61 (fun h => b4 fun s => rCr (F := F) c di s h)]
  iintro ⟨H1, H⟩
  isplitl [H1]; · iexact H1
  iapply (Entails.of_eq e.symm)
  isplitr; · iempintro
  iexact H

theorem outs_shift : bigSep (Finset.Ico 31 63) (outAny (F := F) c di)
    ⊢ iprop(outAny c di 62 ∗ bigSep (Finset.range 62) fun h => if 31 ≤ h then outAny c di h else iprop(emp)) := by
  rw [show Finset.Ico 31 63 = (Finset.range 63).filter fun h => 31 ≤ h by decide +kernel, bs_ite, bs_last, if_pos (by decide)]

theorem stores_join : iprop(bigSep (Finset.range 62) (oTok (F := F) c di) ∗ bigSep (Finset.range 62) fun h => if 31 ≤ h then outAny c di h else iprop(emp))
    ⊢ bigSep (Finset.range 62) fun h => if 31 ≤ h then iprop(dutyTok ER (storeC c di (sl3 h)) ((h - 31) / 3) 0 ∗ outAny c di h) else iprop(emp) := by
  rw [← bs_sep]
  refine bs_mono fun h _ => ?_
  unfold oTok
  by_cases h31 : 31 ≤ h
  · rw [if_pos h31, if_pos h31, if_pos h31]
  · rw [if_neg h31, if_neg h31, if_neg h31]
    iintro ⟨H, -⟩; iexact H

/-- A direction's fuel, and what its end takes. -/
theorem dir_fuel : iprop(dirT (F := F) c di ∗ bigSep (Finset.range 62) (wTok c di) ∗ bigSep (Finset.range 62) (hopC c di) ∗ endC c di
      ∗ bigSep (Finset.Ico 31 63) (outAny c di))
    ⊢ iprop(dutyTok ER (barC (srcD di c)) 0 di.val ∗ bigSep (Finset.range 62) (fuel c di) ∗ fuelE c di) := by
  have e : (bigSep (Finset.range 62) (hopC (F := F) c di))
      = iprop((bigSep (Finset.range 62) fun h => b4 fun s => rCr c di s h) ∗ bigSep (Finset.range 62) (gCrH c di)) := bs_sep _ _ _
  have ef : bigSep (Finset.range 62) (fuel (F := F) c di) = iprop((bigSep (Finset.range 62) fun h => b4 fun s => sTok c di s h)
      ∗ bigSep (Finset.range 62) (wTok c di)
      ∗ (bigSep (Finset.range 62) fun h => if 1 ≤ h then b4 fun s => rCr c di s (h - 1) else iprop(emp))
      ∗ (bigSep (Finset.range 62) fun h => if 3 ≤ h then cred (tallyAt (credC c di) (h + 1) 1) else iprop(emp))
      ∗ bigSep (Finset.range 62) (gTok c di)
      ∗ bigSep (Finset.range 62) fun h => if 31 ≤ h then iprop(dutyTok ER (storeC c di (sl3 h)) ((h - 31) / 3) 0 ∗ outAny c di h) else iprop(emp)) := by
    rw [← bs_sep, ← bs_sep, ← bs_sep, ← bs_sep, ← bs_sep]; rfl
  have e3 : iprop(gCr (F := F) c di 60 ∗ endC c di) ⊢ cred (tallyAt (credC c di) (64 + di.val) 3) := by
    unfold gCr clv endC
    rw [if_neg (by decide)]
    iintro ⟨H0, H1, H2⟩
    iapply (cred_two (F := F) (credC c di) (64 + di.val) 1 2)
    isplitl [H0]; · iexact H0
    iapply (cred_two (F := F) (credC c di) (64 + di.val) 1 1)
    isplitl [H1]; · iexact H1
    iexact H2
  rw [e, ef, grants_shift]
  unfold dirT fuelE
  iintro ⟨⟨⟨Hb, H61, H62, H64⟩, Hs, Hg, Ho⟩, Hw, ⟨Hr, H60, Hc⟩, He, Hout⟩
  ihave Hr := (arrivals_shift c di) $$ Hr
  icases Hr with ⟨Hr61, Hr⟩
  ihave Hout := (outs_shift c di) $$ Hout
  icases Hout with ⟨Hout62, Hout⟩
  isplitl [Hb]; · iexact Hb
  isplitl [Hs Hw Hr Hc Hg Ho Hout]
  · isplitl [Hs]; · iexact Hs
    isplitl [Hw]; · iexact Hw
    isplitl [Hr]; · iexact Hr
    isplitl [Hc]; · iexact Hc
    isplitl [Hg]; · iexact Hg
    iapply (stores_join c di)
    isplitl [Ho]; · iexact Ho
    iexact Hout
  isplitl [Hr61]; · iexact Hr61
  isplitl [H61]; · iexact H61
  isplitl [H62]; · iexact H62
  isplitl [H64]; · iexact H64
  isplitl [Hout62]; · iexact Hout62
  iapply e3
  isplitl [H60]; · iexact H60
  iexact He

theorem fuels_intro : ∀ n h : ℕ, (bigSep (Finset.range n) fun i => iprop(fuel (F := F) c 0 (h + i) ∗ fuel c 1 (h + i))) ⊢ fuels c h n
  | 0, h => by rw [Finset.range_zero, bigSep_empty]; exact BI.Entails.refl _
  | n + 1, h => by
    have h3 := fuels_intro n (h + 1)
    have e : (bigSep (Finset.range n) fun i => iprop(fuel (F := F) c 0 (h + 1 + i) ∗ fuel c 1 (h + 1 + i)))
        = bigSep (Finset.range n) fun i => iprop(fuel (F := F) c 0 (h + (i + 1)) ∗ fuel c 1 (h + (i + 1))) :=
      bigSep_congr fun i _ => by rw [show h + 1 + i = h + (i + 1) by omega]
    rw [e] at h3
    rw [bs_first, show fuels (F := F) c h (n + 1) = iprop(fuel c 0 h ∗ fuel c 1 h ∗ fuels c (h + 1) n) from rfl]
    iintro ⟨⟨H0, H1⟩, H⟩
    isplitl [H0]; · iexact H0
    isplitl [H1]; · iexact H1
    iapply h3; iexact H

/-- Everything a core uses up. -/
theorem fuel_all : iprop(Pipeline.launchCred oweAll c ∗ (dirT (F := F) c 0 ∗ dirT c 1)
      ∗ (bigSep (Finset.range 62) (wTok c 0) ∗ bigSep (Finset.range 62) (wTok c 1))
      ∗ (bigSep (Finset.Ico 31 63) (outAny c 0) ∗ bigSep (Finset.Ico 31 63) (outAny c 1)))
    ⊢ iprop((dutyTok ER (barC (srcD 0 c)) 0 0 ∗ dutyTok ER (barC (srcD 1 c)) 0 1) ∗ cred (tallyAt (barC c) 1 2)
      ∗ fuels c 0 62 ∗ fuelE c 0 ∗ fuelE c 1) := by
  have h1 := fuels_intro (F := F) c 62 0
  have e : (bigSep (Finset.range 62) fun i => iprop(fuel (F := F) c 0 (0 + i) ∗ fuel c 1 (0 + i)))
      = iprop(bigSep (Finset.range 62) (fuel c 0) ∗ bigSep (Finset.range 62) (fuel c 1)) := by
    rw [← bs_sep]; exact bigSep_congr fun i _ => by rw [Nat.zero_add]
  rw [e] at h1
  iintro ⟨Hc, ⟨Ht0, Ht1⟩, ⟨Hw0, Hw1⟩, Ho0, Ho1⟩
  ihave Hc := (lc_all c) $$ Hc
  icases Hc with ⟨Hb, Hh, He0, He1⟩
  ihave Hh := (Entails.of_eq (bs_sep (Finset.range 62) (hopC (F := F) c 0) (hopC c 1))) $$ Hh
  icases Hh with ⟨Hh0, Hh1⟩
  ihave H0 := (dir_fuel c 0) $$ [Ht0 Hw0 Hh0 He0 Ho0]
  · isplitl [Ht0]; · iexact Ht0
    isplitl [Hw0]; · iexact Hw0
    isplitl [Hh0]; · iexact Hh0
    isplitl [He0]; · iexact He0
    iexact Ho0
  ihave H1 := (dir_fuel c 1) $$ [Ht1 Hw1 Hh1 He1 Ho1]
  · isplitl [Ht1]; · iexact Ht1
    isplitl [Hw1]; · iexact Hw1
    isplitl [Hh1]; · iexact Hh1
    isplitl [He1]; · iexact He1
    iexact Ho1
  icases H0 with ⟨Hb0, Hf0, HE0⟩
  icases H1 with ⟨Hb1, Hf1, HE1⟩
  isplitl [Hb0 Hb1]
  · isplitl [Hb0]; · iexact Hb0
    iexact Hb1
  isplitl [Hb]; · iexact Hb
  isplitl [Hf0 Hf1]
  · iapply h1
    isplitl [Hf0]; · iexact Hf0
    iexact Hf1
  isplitl [HE0]; · iexact HE0
  iexact HE1

end Cert.KernelIdeal
-- ==== Proof.Deal.lean ====
/- What the launch hands out, dealt to the cores. -/
module

public import proofs.«01_k».proof.Proof.Fuel

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

local notation "𝕄" => MT nD τ sig ℕ (Elt F) ℕ UU ℕ

variable (m : (ℓ : Loc nD τ sig) → Buf (Elt F) ℓ)

/-! ## The launch's element -/

def u₀ : UU := (initOf (Pipeline.cells cfgs Gen.cellOf_inj) (Pipeline.launchToks cfgs Gen.cellOf_inj),
  (initOf cells rights, initSlots (Finset.univ : Finset Key) 21))

/-- What a core reads of its landing slots. -/
def rdrs (c : Dev nD) : sProp 𝕄 := bigSep Finset.univ fun p : Fin 2 × Fin 3 => readerAt EU (c, p) 0
def slots : sProp 𝕄 := bigSep Finset.univ (hasSlot (F := F))
instance slots_persistent : BI.Persistent (slots (F := F)) := by unfold slots; infer_instance
/-- A core's rights. -/
def mine (c : Dev nD) : sProp 𝕄 := iprop((dirT c 0 ∗ dirT c 1) ∗ (bigSep (Finset.range 62) (wTok c 0) ∗ bigSep (Finset.range 62) (wTok c 1)) ∗ rdrs c)

def G (c : Dev nD) : sProp 𝕄 := iprop((bigSep sems fun sm => roundState ER (Rd m) ((c : Thread nD τ), sm) 0)
  ∗ (bigSep sems fun sm => reached ER ((c : Thread nD τ), sm) 0) ∗ (bigSep sems fun sm => atPos ER ((c : Thread nD τ), sm) 0 ∅ 0)
  ∗ mine c ∗ slots)

theorem fund_cells : (BI.own (ER (initOf cells rights)) : sProp 𝕄) ⊢ |==> iprop(
    (bigSep Finset.univ fun c : Dev nD => bigSep sems fun sm => roundState ER (Rd m) ((c : Thread nD τ), sm) 0)
    ∗ (bigSep Finset.univ fun c : Dev nD => bigSep sems fun sm => reached ER ((c : Thread nD τ), sm) 0)
    ∗ (bigSep Finset.univ fun c : Dev nD => bigSep sems fun sm => atPos ER ((c : Thread nD τ), sm) 0 ∅ 0)
    ∗ bigSep Finset.univ fun c : Dev nD => iprop(dirT c 0 ∗ dirT c 1)) := by
  iintro HX
  imod (Rounds.fund ER (Rd m) cells rights) $$ HX with ⟨Hst, Hr, Hat, Htok⟩
  imodintro
  isplitl [Hst]; · iapply (Entails.of_eq (cells_split fun g => roundState ER (Rd m) g 0)); iexact Hst
  isplitl [Hr]; · iapply (Entails.of_eq (cells_split (F := F) fun g => reached ER g 0)); iexact Hr
  isplitl [Hat]; · iapply (Entails.of_eq (cells_split (F := F) fun g => atPos ER g 0 ∅ 0)); iexact Hat
  iapply (rights_deal (F := F)); iexact Htok

theorem fund_slots : (BI.own (EU (initSlots (Finset.univ : Finset Key) 21)) : sProp 𝕄) ⊢ |={Set.univ}=> iprop(slots
    ∗ bigSep Finset.univ (rdrs (F := F))
    ∗ bigSep Finset.univ fun c : Dev nD => iprop(bigSep (Finset.range 62) (wTok c 0) ∗ bigSep (Finset.range 62) (wTok c 1))) := by
  iintro HX
  imod (slots_init EU (Finset.univ : Finset Key) 21 (slotK (F := F))) $$ HX with ⟨%ιs, -, Hi, Hr, Hw⟩
  imodintro
  isplitl [Hi]
  · unfold slots
    iapply (bs_mono (s := (Finset.univ : Finset Key)) (Φ := fun k => slotInv EU (ιs k) k (slotK (F := F) k)) (Ψ := hasSlot (F := F)) fun k _ => by
      unfold hasSlot
      iintro H; iexists (ιs k); iexact H)
    iexact Hi
  isplitl [Hr]
  · iapply (Entails.of_eq (bigSep_univ_prod (fun k : Key => (readerAt EU k 0 : sProp 𝕄)))); iexact Hr
  iapply (writes_deal (F := F)); iexact Hw

theorem fund_all : (BI.own (embR (initOf cells rights, initSlots (Finset.univ : Finset Key) 21)) : sProp 𝕄) ⊢ |={Set.univ}=> bigSep Finset.univ (G m) := by
  iintro H
  ihave H := (own_pair_emb embR _ _) $$ H
  icases H with ⟨HR, HU⟩
  ihave HR := (show (BI.own ((Emb.inl.trans embR) (initOf cells rights)) : sProp 𝕄) ⊢ BI.own (ER (initOf cells rights)) from Entails.of_eq rfl) $$ HR
  ihave HU := (show (BI.own ((Emb.inr.trans embR) (initSlots (Finset.univ : Finset Key) 21)) : sProp 𝕄) ⊢ BI.own (EU (initSlots (Finset.univ : Finset Key) 21)) from Entails.of_eq rfl) $$ HU
  imod (fund_cells m) $$ HR with ⟨H1, H2, H3, H4⟩
  imod (fund_slots (F := F)) $$ HU with ⟨#H5, H6, H7⟩
  imodintro
  unfold G mine
  iapply (Entails.of_eq (bs_sep _ _ _).symm)
  isplitl [H1]; · iexact H1
  iapply (Entails.of_eq (bs_sep _ _ _).symm)
  isplitl [H2]; · iexact H2
  iapply (Entails.of_eq (bs_sep _ _ _).symm)
  isplitl [H3]; · iexact H3
  iapply (Entails.of_eq (bs_sep _ _ _).symm)
  isplitr []
  · iapply (Entails.of_eq (bs_sep _ _ _).symm)
    isplitl [H4]; · iexact H4
    iapply (Entails.of_eq (bs_sep _ _ _).symm)
    isplitl [H7]; · iexact H7
    iexact H6
  iapply (show (slots (F := F)) ⊢ bigSep (Finset.univ : Finset (Dev nD)) fun _ => slots from BI.bigSep_of_persistent Finset.univ slots)
  iexact H5

/-! ## The cells' invariants -/

/-- What every core shares but for the levels. -/
def CtxI : sProp 𝕄 := iprop(bigSep cells (hasInv m) ∗ slots ∗ bigSep cells (fun g => reached ER g 0))
instance CtxI_persistent : BI.Persistent (CtxI m) := by unfold CtxI; infer_instance

theorem CtxI_levs : iprop(CtxI m ∗ levs) ⊢ Ctx m := by
  unfold CtxI Ctx slots
  iintro ⟨⟨H1, H2, H3⟩, H4⟩
  isplitl [H1]; · iexact H1
  isplitl [H2]; · iexact H2
  isplitl [H3]; · iexact H3
  iexact H4

def G' (c : Dev nD) : sProp 𝕄 := iprop(CtxI m ∗ (bigSep sems fun sm => atPos ER ((c : Thread nD τ), sm) 0 ∅ 0) ∗ mine c)

theorem core_alloc (c : Dev nD) : iprop(Pipeline.ownSems0 osem c ∗ unscopedSems0 c ∗ G m c)
    ⊢ |={Set.univ}=> iprop((bigSep sems fun sm => hasInv m ((c : Thread nD τ), sm)) ∗ (bigSep sems fun sm => reached ER ((c : Thread nD τ), sm) 0)
      ∗ (bigSep sems fun sm => atPos ER ((c : Thread nD τ), sm) 0 ∅ 0) ∗ mine c ∗ slots) := by
  have ho := Entails.of_eq (own_split (F := F) c).symm
  have hi : iprop((bigSep sems fun sm => (semVal ((c : Thread nD τ), sm) 0 : sProp 𝕄)) ∗ bigSep sems fun sm => roundState ER (Rd m) ((c : Thread nD τ), sm) 0)
      ⊢ |={Set.univ}=> bigSep sems fun sm => hasInv m ((c : Thread nD τ), sm) := by
    rw [← bs_sep]
    have h1 : (bigSep sems fun sm => iprop((semVal ((c : Thread nD τ), sm) 0 : sProp 𝕄) ∗ roundState ER (Rd m) ((c : Thread nD τ), sm) 0))
        ⊢ bigSep sems fun sm => iprop(|={Set.univ}=> hasInv m ((c : Thread nD τ), sm)) :=
      bs_mono fun sm _ => by
        unfold hasInv
        exact (Rounds.body_intro ER (Rd m) ((c : Thread nD τ), sm)).trans inv_alloc
    iintro H
    iapply (show (bigSep sems fun sm => iprop(|={Set.univ}=> hasInv m ((c : Thread nD τ), sm)))
      ⊢ iprop(|={Set.univ}=> bigSep sems fun sm => hasInv m ((c : Thread nD τ), sm)) from bigSep_fupd _ _)
    iapply h1; iexact H
  unfold G
  iintro ⟨Hos, Hus, Hst, Hr, Hat, Hm, Hsl⟩
  ihave Hv := ho $$ [Hos Hus]
  · isplitl [Hus]; · iexact Hus
    iexact Hos
  imod hi $$ [Hv Hst] with Hinv
  · isplitl [Hv]; · iexact Hv
    iexact Hst
  imodintro
  isplitl [Hinv]; · iexact Hinv
  isplitl [Hr]; · iexact Hr
  isplitl [Hat]; · iexact Hat
  isplitl [Hm]; · iexact Hm
  iexact Hsl

theorem regroup : (bigSep Finset.univ fun c : Dev nD => iprop((bigSep sems fun sm => hasInv m ((c : Thread nD τ), sm))
      ∗ (bigSep sems fun sm => reached ER ((c : Thread nD τ), sm) 0)
      ∗ (bigSep sems fun sm => atPos ER ((c : Thread nD τ), sm) 0 ∅ 0) ∗ mine c ∗ slots)) ⊢ bigSep Finset.univ (G' m) := by
  iintro H
  ihave H := (Entails.of_eq (bs_sep _ _ _)) $$ H
  icases H with ⟨H1, H⟩
  ihave H := (Entails.of_eq (bs_sep _ _ _)) $$ H
  icases H with ⟨H2, H⟩
  ihave H := (Entails.of_eq (bs_sep _ _ _)) $$ H
  icases H with ⟨H3, H⟩
  ihave H := (Entails.of_eq (bs_sep _ _ _)) $$ H
  icases H with ⟨H4, H5⟩
  ihave #H1 := (Entails.of_eq (cells_split (hasInv m)).symm) $$ H1
  ihave #H2 := (Entails.of_eq (cells_split (F := F) fun g => reached ER g 0).symm) $$ H2
  ihave #H5 := (bs_elim (Φ := fun _ : Dev nD => slots (F := F)) (Finset.mem_univ (0 : Dev nD))) $$ H5
  iapply (bs_with (s := (Finset.univ : Finset (Dev nD))) (R := CtxI m)
    (Φ := fun c : Dev nD => iprop((bigSep sems fun sm => atPos ER ((c : Thread nD τ), sm) 0 ∅ 0) ∗ mine c)) (Ψ := G' m)
    fun c _ => by unfold G'; exact BI.Entails.refl _)
  isplitr
  · unfold CtxI
    isplitr; · iexact H1
    isplitr; · iexact H5
    iexact H2
  iapply (Entails.of_eq (bs_sep _ _ _).symm)
  isplitl [H3]; · iexact H3
  iexact H4

theorem glob : (bigSep Finset.univ fun c => iprop(Pipeline.ownSems0 osem c ∗ unscopedSems0 c ∗ G m c) : sProp 𝕄) ⊢ |={Set.univ}=> bigSep Finset.univ (G' m) :=
  ((bs_mono fun c _ => core_alloc m c).trans (bigSep_fupd _ _)).trans (BI.fupd_mono (regroup m))

/-! ## The landing slots given out -/

theorem free_first (c : Dev nD) (di : Fin 2) (j : Fin 3) : iprop(Ctx m ∗ readerAt EU (c, di, j) 0 ∗ cmS c di j)
    ⊢ |={Set.univ}=> iprop(readerAt EU (c, di, j) 1 ∗ released EU (c, di, j) 1 : sProp 𝕄) := by
  iintro ⟨HC, Hr, Hs⟩
  ihave Hi := (ctx_slot m (c, di, j)) $$ HC
  unfold hasSlot
  icases Hi with ⟨%ι, #Hi⟩
  imod (slot_release EU (Set.mem_univ ι) (slotK_false (c, di, j)) 0) $$ [Hr Hs] with ⟨Hr, Hrel⟩
  · isplitr; · iexact Hi
    isplitl [Hr]; · iexact Hr
    iapply (show cmS (F := F) c di j ⊢ slotK (c, di, j) from Entails.of_eq rfl); iexact Hs
  imodintro
  isplitl [Hr]; · iexact Hr
  iexact Hrel

theorem ok_first (c : Dev nD) (di : Fin 2) : iprop(Ctx m ∗ released EU (c, di, 0) 1 ∗ released EU (c, di, 1) 1 ∗ released EU (c, di, 2) 1)
    ⊢ ok (F := F) c di 0 := by
  have hr : ∀ j : Fin 3, Ctx m ⊢ bigSep Finset.univ fun s : Fin 4 => (reached ER (recvC c di j s) 0 : sProp 𝕄) := fun j =>
    BI.bigSep_intro_persistent fun s _ => ctx_reached m c (.dma (recvS di j s)) (by rw [cls_recv]; exact Cl.noConfusion)
  unfold ok
  rw [bs_three]
  iintro ⟨#HC, #H0, #H1, #H2⟩
  isplitr
  · isplitr; · iexact H0
    iapply (hr 0); iexact HC
  isplitr
  · isplitr; · iexact H1
    iapply (hr 1); iexact HC
  isplitr; · iexact H2
  iapply (hr 2); iexact HC

theorem FR_first (c : Dev nD) (di : Fin 2) : iprop(Ctx m ∗ (readerAt EU (c, di, 0) 0 ∗ readerAt EU (c, di, 1) 0 ∗ readerAt EU (c, di, 2) 0)
      ∗ cmS c di 0 ∗ cmS c di 1 ∗ cmS c di 2) ⊢ |={Set.univ}=> FR (F := F) c di 0 := by
  iintro ⟨#HC, ⟨Hr0, Hr1, Hr2⟩, Hs0, Hs1, Hs2⟩
  imod (free_first m c di 0) $$ [Hr0 Hs0] with ⟨Hr0, #H0⟩
  · isplitr; · iexact HC
    isplitl [Hr0]; · iexact Hr0
    iexact Hs0
  imod (free_first m c di 1) $$ [Hr1 Hs1] with ⟨Hr1, #H1⟩
  · isplitr; · iexact HC
    isplitl [Hr1]; · iexact Hr1
    iexact Hs1
  imod (free_first m c di 2) $$ [Hr2 Hs2] with ⟨Hr2, #H2⟩
  · isplitr; · iexact HC
    isplitl [Hr2]; · iexact Hr2
    iexact Hs2
  imodintro
  unfold FR
  rw [if_pos (by decide)]
  isplitr
  · iapply (ok_first m c di)
    isplitr; · iexact HC
    isplitr; · iexact H0
    isplitr; · iexact H1
    iexact H2
  unfold win
  isplitl [Hr0]; · iapply (show (readerAt EU (c, di, 0) 1 : sProp 𝕄) ⊢ fPos c di 0 from Entails.of_eq rfl); iexact Hr0
  isplitl [Hr1]; · iapply (show (readerAt EU (c, di, 1) 1 : sProp 𝕄) ⊢ fPos c di (0 + 1) from Entails.of_eq rfl); iexact Hr1
  iapply (show (readerAt EU (c, di, 2) 1 : sProp 𝕄) ⊢ fPos c di (0 + 2) from Entails.of_eq rfl); iexact Hr2

theorem rdrs_split (c : Dev nD) : rdrs (F := F) c = iprop((readerAt EU (c, 0, 0) 0 ∗ readerAt EU (c, 0, 1) 0 ∗ readerAt EU (c, 0, 2) 0)
    ∗ (readerAt EU (c, 1, 0) 0 ∗ readerAt EU (c, 1, 1) 0 ∗ readerAt EU (c, 1, 2) 0)) := by
  unfold rdrs
  rw [dirs_prod, bs_three, bs_three]

/-! ## A core's start and end -/

/-- What a core starts from. -/
def start (c : Dev nD) : sProp 𝕄 := iprop(Ctx m ∗ (bigSep sems fun sm => atPos ER ((c : Thread nD τ), sm) 0 ∅ 0) ∗ mine c
  ∗ Pipeline.launchCred oweAll c ∗ slot (oL c) Finset.univ)
/-- Its own buffers. -/
def own3 (c : Dev nD) : sProp 𝕄 := iprop(slot (sbL c) Finset.univ ∗ slot (cmL c) Finset.univ ∗ slot (pkL c) Finset.univ)

theorem core_start (c : Dev nD) : iprop(start m c ∗ own3 c) ⊢ |={Set.univ}=> iprop(Ctx m
    ∗ (dutyTok ER (barC (srcD 0 c)) 0 0 ∗ dutyTok ER (barC (srcD 1 c)) 0 1) ∗ cred (tallyAt (barC c) 1 2)
    ∗ atPos ER (barC c) 0 ∅ 0 ∗ fuels c 0 62 ∗ fuelE c 0 ∗ fuelE c 1 ∗ St0 c 0 ∗ St0 c 1) := by
  unfold start own3 mine
  rw [rdrs_split]
  iintro ⟨⟨#HC, Hat, ⟨Ht, Hw, Hrd0, Hrd1⟩, Hcr, Hout⟩, Hsb, Hcm, Hpk⟩
  ihave Hs := (sems_reached m c) $$ [Hat]
  · isplitr; · iexact HC
    iexact Hat
  ihave Hs := (Entails.of_eq (sems_split (sem0 (F := F) c))) $$ Hs
  icases Hs with ⟨Hb, Hs0, Hs1⟩
  ihave Hs0 := (semD_start c 0) $$ Hs0
  ihave Hs1 := (semD_start c 1) $$ Hs1
  ihave Hout := (out_split c) $$ Hout
  ihave Hf := (fuel_all c) $$ [Hcr Ht Hw Hout]
  · isplitl [Hcr]; · iexact Hcr
    isplitl [Ht]; · iexact Ht
    isplitl [Hw]; · iexact Hw
    iexact Hout
  icases Hf with ⟨Hbt, Hbc, Hf, HE0, HE1⟩
  ihave Hsb := (sb_split c) $$ Hsb
  ihave Hpk := (pk_split c) $$ Hpk
  ihave Hcm := (cm_split c) $$ Hcm
  icases Hsb with ⟨⟨Hsb00, Hsb01⟩, Hsb10, Hsb11⟩
  icases Hpk with ⟨⟨Hpk00, Hpk01⟩, Hpk10, Hpk11⟩
  icases Hcm with ⟨Hcm0, Hcm1⟩
  imod (FR_first m c 0) $$ [Hrd0 Hcm0] with HF0
  · isplitr; · iexact HC
    isplitl [Hrd0]; · iexact Hrd0
    iexact Hcm0
  imod (FR_first m c 1) $$ [Hrd1 Hcm1] with HF1
  · isplitr; · iexact HC
    isplitl [Hrd1]; · iexact Hrd1
    iexact Hcm1
  icases Hs0 with ⟨HsW0, HrW0, Hc0, Htp0⟩
  icases Hs1 with ⟨HsW1, HrW1, Hc1, Htp1⟩
  imodintro
  isplitr; · iexact HC
  isplitl [Hbt]; · iexact Hbt
  isplitl [Hbc]; · iexact Hbc
  isplitl [Hb]; · unfold sem0; icases Hb with ⟨Hb, -⟩; iexact Hb
  isplitl [Hf]; · iexact Hf
  isplitl [HE0]; · iexact HE0
  isplitl [HE1]; · iexact HE1
  unfold St0
  isplitl [HsW0 HrW0 HF0 Hpk01 Hpk00 Hc0 Hsb00 Hsb01 Htp0]
  · isplitl [HsW0]; · iexact HsW0
    isplitl [HrW0]; · iexact HrW0
    isplitl [HF0]; · iexact HF0
    isplitl [Hpk01]; · iexact Hpk01
    isplitl [Hpk00]; · iexact Hpk00
    isplitl [Hc0]; · iexact Hc0
    isplitl [Hsb00]; · iexact Hsb00
    isplitl [Hsb01]; · iexact Hsb01
    iexact Htp0
  isplitl [HsW1]; · iexact HsW1
  isplitl [HrW1]; · iexact HrW1
  isplitl [HF1]; · iexact HF1
  isplitl [Hpk11]; · iexact Hpk11
  isplitl [Hpk10]; · iexact Hpk10
  isplitl [Hc1]; · iexact Hc1
  isplitl [Hsb10]; · iexact Hsb10
  isplitl [Hsb11]; · iexact Hsb11
  iexact Htp1

/-- What a core ends with. -/
def finish (c : Dev nD) : sProp 𝕄 := iprop((oL c ↦{fullShare} outV m c) ∗ bigSep sems fun sm => (semVal ((c : Thread nD τ), sm) 0 : sProp 𝕄))

theorem core_end (c : Dev nD) : iprop(Ctx m ∗ atPos ER (barC c) 1 ∅ 0 ∗ Fin' m c 0 ∗ Fin' m c 1)
    ⊢ |={Set.univ}=> iprop(finish m c ∗ own3 c) := by
  unfold Fin' finish own3
  iintro ⟨#HC, Hb, ⟨HsW0, HrW0, Ht0, Hc0, Hpk00, Hpk01, Hsb00, Hsb01, Hcm02, Hcm00, Hcm01, Ho0⟩,
    ⟨HsW1, HrW1, Ht1, Hc1, Hpk10, Hpk11, Hsb10, Hsb11, Hcm12, Hcm10, Hcm11, Ho1⟩⟩
  imod (close_all m c) $$ [Hb HsW0 HrW0 Ht0 Hc0 HsW1 HrW1 Ht1 Hc1] with Hsem
  · isplitr; · iexact HC
    iapply (Entails.of_eq (sems_split (semE (F := F) c)).symm)
    isplitl [Hb]; · unfold semE; rw [cls_bar]; iexact Hb
    isplitl [HsW0 HrW0 Ht0 Hc0]
    · iapply (semD_end c 0)
      isplitl [HsW0]; · iexact HsW0
      isplitl [HrW0]; · iexact HrW0
      isplitl [Ht0]; · iexact Ht0
      iexact Hc0
    iapply (semD_end c 1)
    isplitl [HsW1]; · iexact HsW1
    isplitl [HrW1]; · iexact HrW1
    isplitl [Ht1]; · iexact Ht1
    iexact Hc1
  imodintro
  isplitl [Ho0 Ho1 Hsem]
  · isplitr [Hsem]
    · iapply (out_join m c)
      isplitl [Ho0]; · iexact Ho0
      iexact Ho1
    iexact Hsem
  isplitl [Hsb00 Hsb01 Hsb10 Hsb11]
  · iapply (sb_unsplit c)
    isplitl [Hsb00 Hsb01]
    · isplitl [Hsb00]; · iexact Hsb00
      iexact Hsb01
    isplitl [Hsb10]; · iexact Hsb10
    iexact Hsb11
  isplitl [Hcm00 Hcm01 Hcm02 Hcm10 Hcm11 Hcm12]
  · iapply (cm_unsplit c)
    isplitl [Hcm00 Hcm01 Hcm02]
    · isplitl [Hcm00]; · iexact Hcm00
      isplitl [Hcm01]; · iexact Hcm01
      iexact Hcm02
    isplitl [Hcm10]; · iexact Hcm10
    isplitl [Hcm11]; · iexact Hcm11
    iexact Hcm12
  iapply (pk_unsplit c)
  isplitl [Hpk00 Hpk01]
  · isplitl [Hpk00]; · iexact Hpk00
    iexact Hpk01
  isplitl [Hpk10]; · iexact Hpk10
  iexact Hpk11

end Cert.KernelIdeal
-- ==== Proof.Whole.lean ====
/- The printed body is the run of the steps of Prog.lean. -/
module

public import proofs.«01_k».proof.Proof.Prog
public import Idealize.ShloMosaic.Lib.Pipeline.Regions

@[expose] public section

set_option maxRecDepth 100000

noncomputable section

namespace Cert.KernelIdeal

open Idealize.ShloMosaic Idealize.ShloMosaic.TcCoe Idealize.SL Idealize.SL.Sem
open Facts₀ Facts

variable {F : FTy → Type} [FloatOps F]

theorem body_eq :
    cc0_body (F := F) xM (Memref.isWhole_whole _) wM (Memref.isWhole_whole _) oM (Memref.isWhole_whole _) sbM (Memref.isWhole_whole _)
      cmM (Memref.isWhole_whole _) pkM (Memref.isWhole_whole _) cc0_scratch3 cc0_scratch4 cc0_scratch5 cc0_scratch6 cc0_scratch7
      = .op .deviceId fun d0 => runL (bodyL d0) (.ret ⟨⟩) := by chain_rfl

end Cert.KernelIdeal
-- ==== Proof.Launch.lean ====
/- The launch: every core runs to its end, its result array at the computed contents. -/
module

public import proofs.«01_k».proof.Proof.Deal
public import proofs.«01_k».proof.Proof.Whole
public import Idealize.ShloMosaic.Lib.Pipeline.CollectiveSegs
public import Idealize.ShloMosaic.Lib.Quiescent

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (ρ : Dev nD → PrngReg)

/-! ## The proof data -/

def Φ₀ (c : Dev nD) : sProp 𝕄 := iprop(start m c ∗ own3 c)
def Φ₁ (c : Dev nD) : sProp 𝕄 := iprop(finish m c ∗ own3 c)

def dats (_ : Fin 1) (c : Dev nD) : Dat τ (Elt F) ℕ ℕ UU ℕ cfg0 c where
  A w := m ((cfg0.win w).arr.view.loc (c : Thread nD τ))
  after w _ := match w with
    | ⟨0, _⟩ => xV m c
    | ⟨1, _⟩ => wV m c
  Φ t := match t with
    | ⟨0, _⟩ => Φ₀ m c
    | ⟨_ + 1, _⟩ => Φ₁ m c
  q _ := fullShare
  owed t := match t with
    | ⟨0, _⟩ => oweAll c
    | ⟨_ + 1, _⟩ => 0

abbrev t₀ : Fin cfg0.N := Gen.t0_0

theorem fetch_at (w : Fin 2) (t : Fin cfg0.N) : (cfg0.win w).fetch t = true := by rw [Gen.fin_N0 t]; fin_cases w <;> rfl

theorem owns_whole_eq (c : Dev nD) (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at some contents. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem above_all (c : Dev nD) : Above 0 (oweAll c) :=
  Above_add _ _ _ _ (by omega) (by omega) (Above_add _ _ _ _ (by omega) (by omega)
    (Above_mono (by omega) (Above_DOs c _ (Above_DE c 0 _ (by decide) (Above_DE c 1 _ (by decide) (Above_zero _))) 62 0 (by omega))))

def bodyPre (c : Dev nD) : sProp 𝕄 :=
  iprop(Φ₀ m c ∗ (dats m 0 c).owesAt 0 t₀.castSucc
    ∗ (∃ d, held c cc0_stg0_0 ((dats m 0 c).before (0 : Fin 2) t₀ d))
    ∗ (∃ d, held c cc0_stg1_0 ((dats m 0 c).before (1 : Fin 2) t₀ d)))
def bodyPost (c : Dev nD) : sProp 𝕄 :=
  iprop(Φ₁ m c ∗ (dats m 0 c).owesAt 0 t₀.succ ∗ held c cc0_stg0_0 (xV m c) ∗ held c cc0_stg1_0 (wV m c))

theorem sound_body (c : Dev nD) : bodyPre m c ⊢ WP c (runL (bodyL c) (.ret ⟨⟩)) (fun _ => bodyPost m c) := by
  unfold bodyPre Φ₀ held
  iintro ⟨Hs, Ho, ⟨%d0, %g0, %hg0, Hx⟩, ⟨%d1, %g1, %hg1, Hw⟩⟩
  have hx : g0 = xV m c := by rw [hg0]; unfold Dat.before; rw [if_pos (fetch_at 0 t₀)]; rfl
  have hw : g1 = wV m c := by rw [hg1]; unfold Dat.before; rw [if_pos (fetch_at 1 t₀)]; rfl
  subst hx hw
  unfold Dat.owesAt Pipeline.owesWithin
  icases Ho with ⟨%W, %hW, HO⟩
  imod (core_start m c) $$ Hs with ⟨#HC, Hbt, Hbc, Hb, Hf, HE0, HE1, Hs0, Hs1⟩
  iapply (wp_core m c)
  isplitr; · iexact HC
  isplitl [HO]
  · unfold ow; iexists W; iexact HO
  isplitl [Hbt]; · iexact Hbt
  isplitl [Hbc]; · iexact Hbc
  isplitl [Hb]; · iexact Hb
  isplitl [Hf]; · iexact Hf
  isplitl [HE0]; · iexact HE0
  isplitl [HE1]; · iexact HE1
  isplitl [Hx Hw]
  · unfold stg
    isplitl [Hx]; · iexact Hx
    iexact Hw
  isplitl [Hs0]; · iexact Hs0
  isplitl [Hs1]; · iexact Hs1
  iintro ⟨HO, Hst, Hb, HF0, HF1⟩
  imod (core_end m c) $$ [Hb HF0 HF1] with Hfin
  · isplitr; · iexact HC
    isplitl [Hb]; · iexact Hb
    isplitl [HF0]; · iexact HF0
    iexact HF1
  rw [wp_ret]
  imodintro
  unfold bodyPost Φ₁ Dat.owesAt Pipeline.owesWithin held ow stg
  icases HO with ⟨%W', HO⟩
  icases Hst with ⟨Hx, Hw⟩
  isplitl [Hfin]; · iexact Hfin
  isplitl [HO]
  · iexists W'
    isplitr; · ipureintro; exact fun _ _ => Or.inl trivial
    iexact HO
  isplitl [Hx]
  · iexists (xV m c); isplitr; · (ipureintro; rfl)
    iexact Hx
  iexists (wV m c); isplitr; · (ipureintro; rfl)
  iexact Hw

/-- A program that starts by reading its device number. -/
theorem wp_device (c : Dev nD) (k : Dev nD → Pr F) (Q : PUnit → sProp 𝕄) : WP c (.op .deviceId k) Q = WP c (k c) Q := by
  unfold WP; rw [wp_deviceId]

theorem sound_device (c : Dev nD) : bodyPre m c ⊢ WP c (.op .deviceId fun d0 => runL (bodyL d0) (.ret ⟨⟩)) (fun _ => bodyPost m c) := by
  rw [wp_device]
  exact sound_body m c

theorem sound_whole (c : Dev nD) : bodyPre m c ⊢ WP c (cc0_body (F := F) xM (Memref.isWhole_whole _) wM (Memref.isWhole_whole _)
    oM (Memref.isWhole_whole _) sbM (Memref.isWhole_whole _) cmM (Memref.isWhole_whole _) pkM (Memref.isWhole_whole _)
    cc0_scratch3 cc0_scratch4 cc0_scratch5 cc0_scratch6 cc0_scratch7) (fun _ => bodyPost m c) := by
  rw [body_eq]
  exact sound_device m c

attribute [local irreducible] cc0_body in
theorem body_obligation (c : Dev nD) : BodyObligation (dats m 0 c) (defs₀ (F := F)) 𝒱₀ 0 Set.univ := fun t => by
  rw [Gen.fin_N0 t]
  rw [Gen.bigSep_W0, Gen.bigSep_W0]
  simp only [owns_whole_eq]
  exact sound_whole m c

/-! ## The launch theorem's side conditions -/

theorem share_eq (c : Dev nD) (w : Fin cfg0.W) : (dats m 0 c).share w = fullShare := by unfold Dat.share; split <;> rfl

theorem waits (c : Dev nD) : (levAts L lv : sProp 𝕄) ⊢ Pipeline.cellsWaits cfgs (dats m) 0 0 c :=
  Pipeline.cellsWaits_intro cfgs (dats m) 0 0 c fun w s t => by
    have h := mayWait_above (F := F) c (.dma (((cfgs 0).win w).sem s)) 0 (by omega) ((dats m 0 c).owed t) (by
      rcases t with ⟨_ | _, ht⟩
      · exact above_all c
      · exact Above_zero 0)
    unfold levs at h
    exact h

theorem start_intro (c : Dev nD) :
    iprop(Pipeline.unscopedRestP Pipeline.Prefetch.none cfg0.spec c (fun b => m ((c : Thread nD τ).loc b)) ∗ levAts L lv
        ∗ Pipeline.launchCred oweAll c ∗ prngReg c (ρ c) ∗ G' m c)
      ⊢ |={Set.univ}=> iprop(start m c ∗ emp) := by
  rw [Pipeline.unscopedRestP_none, Gen.unscopedRest0_eq]
  unfold G' start
  iintro ⟨Ho, Hlev, Hcr, -, HI, Hat, Hm⟩
  imodintro
  isplitl
  · isplitl [Hlev HI]
    · iapply (CtxI_levs m)
      isplitl [HI]; · iexact HI
      unfold levs; iexact Hlev
    isplitl [Hat]; · iexact Hat
    isplitl [Hm]; · iexact Hm
    isplitl [Hcr]; · iexact Hcr
    iapply (Entails.of_eq (whole_slot (F := F) (oL c)))
    iexists _; iexact Ho
  · iempintro

theorem rest_eq (c : Dev nD) : (Pipeline.scopedRest cfg0.spec c : sProp 𝕄) = own3 c :=
  (Gen.scopedRest0_eq c).trans (by unfold own3; rw [← whole_slot, ← whole_slot, ← whole_slot])

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, rest_eq]
  unfold Φ₀
  iintro ⟨Hs, -, Hr⟩
  isplitl [Hs]; · iexact Hs
  iexact Hr

/-- What a core hands back. -/
def back (c : Dev nD) : sProp 𝕄 := iprop(unscopedSems0 c ∗ (oL c ↦{fullShare} outV m c))

theorem phi1_exit (c : Dev nD) :
    (dats m 0 c).Φ (Fin.last cfg0.N) ⊢ iprop(back m c ∗ Pipeline.ownSems0 osem c ∗ Pipeline.scopedRest cfg0.spec c) := by
  rw [show (dats m 0 c).Φ (Fin.last cfg0.N) = Φ₁ m c from rfl, rest_eq]
  unfold Φ₁ finish back
  rw [own_split]
  iintro ⟨⟨Ho, Hu, Hs⟩, Hr⟩
  isplitl [Ho Hu]
  · isplitl [Hu]; · iexact Hu
    iexact Ho
  isplitl [Hs]; · iexact Hs
  iexact Hr

/-- What the end of the program shows of a core. -/
def QY (c : Dev nD) (s : MemSt nD τ sig (Elt F)) : Prop :=
  (∀ sm : SemLoc sig, sm.isScoped .tc = false → s.sem ((c.tc : Thread nD τ), sm) = 0) ∧ s.mem (oL c) = outV m c

theorem read_out (c : Dev nD) (s' : Phys nD τ sig (Elt F)) : iprop(back m c ∗ emp ∗ SI s') ⊢ |={Set.univ}=> iprop(⌜QY m c s'.mem⌝ ∗ SI s') := by
  unfold back
  iintro ⟨⟨Hu, Ho⟩, -, HSI⟩
  have hr := pointsTo_read_all (Ix := ℕ) (Name := ℕ) (U := UU) (Lvl := ℕ) (Finset.univ : Finset (Fin 1)) (fun _ => oL c) (fun _ => outV m c) s' fullShare
  have hb : (oL c ↦{fullShare} outV m c : sProp 𝕄) ⊢ bigSep (Finset.univ : Finset (Fin 1)) fun _ => (oL c ↦{fullShare} outV m c) := by
    rw [show (Finset.univ : Finset (Fin 1)) = {0} from rfl, bigSep_singleton]
  ihave Ho := hb $$ Ho
  ihave H := hr $$ [Ho HSI]
  · isplitl [Ho]; · iexact Ho
    iexact HSI
  icases H with ⟨%ho, HSI⟩
  imod (Pipeline.unscopedSems0_read (X := unscopedSems0 c) (c := c) fupd_intro s') $$ [Hu HSI] with ⟨%hs, HSI⟩
  · isplitl [Hu]; · iexact Hu
    iexact HSI
  imodintro
  isplitr
  · ipureintro; exact ⟨hs, ho 0 (Finset.mem_univ _)⟩
  iexact HSI

/-! ## The run -/

/-- How the program ends: arguments as they were, the result at the computed contents. -/
def Post (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_v1) = outV m c) ∧ r.2.sem = fun _ => 0

attribute [local irreducible] cc0_body in
theorem all_ends : θ_run defs (onTc (τ := τ) (main (F := F))) ⟨m, fun _ => 0, ρ⟩ (Post m) :=
  Pipeline.θ_run_region_owing_glob_pf (fun p => (cfgs p).toPCfg) (fun p => (cfgs p).toPCfg_adm) (dats m) 0 Gen.cellOf_inj (0 : Fin 1)
    Gen.winFacts0.to₀ ownSemFacts (Pipeline.PreFacts.none _) EP defs₀ 𝒱₀ m ρ main
    (hmain := fun _ => rfl)
    (hbody := body_obligation m) (hne := Gen.block_pos0) (harr := Gen.arr_whole0) (hstage := Gen.stage_whole0) (hshare := share_eq m)
    (hdistinct := Gen.winFacts0.arr_inj)
    (O₀ := oweAll) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := back m) (Z := fun _ => iprop(emp))
    (hX := start_intro m ρ) (hin := phi0_intro m) (hout := phi1_exit m)
    (QY := QY m)
    (hY := read_out m)
    (hQ := fun _ h hs => ⟨fun c => ⟨((h c).1 0).trans ((dats m 0 c).arrAt_in 0 rfl _), ((h c).1 1).trans ((dats m 0 c).arrAt_in 1 rfl _), (h c).2.2.2⟩,
      sem_eq_zero hs fun c => (h c).2.2.1⟩)

end Cert.KernelIdeal
-- ==== Proof.Frames.lean ====
/- The kernel ends with its arguments unchanged and every counter at zero, for either reading of its floats. -/
module

public import proofs.«01_k».proof.Defs
public import proofs.«01_k».proof.Proof.Gen.Kernel
public import proofs.«01_k».proof.Proof.Launch

@[expose] public section

set_option maxRecDepth 20000

noncomputable section

namespace Cert.Proof

open Idealize.ShloMosaic Idealize.SL.Sem

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.all_ends (F := Ideal) m ρ)

/-- Over floats of bits, the kernel and its ideal reading are the same program. -/
theorem same_program : Cert.quiescent_Kernel (hKernel := Cert.Kernel.Gen.facts)
    = ∀ (m : (ℓ : Loc Cert.KernelIdeal.nD Cert.KernelIdeal.τ Cert.KernelIdeal.sig) → Buf (Elt Bits) ℓ) (ρ : Dev Cert.KernelIdeal.nD → PrngReg), True →
      θ_run (Cert.KernelIdeal.defs (F := Bits)) (onTc (τ := Cert.KernelIdeal.τ) (Cert.KernelIdeal.main (F := Bits))) ⟨m, fun _ => 0, ρ⟩ (fun r =>
        (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) := by chain_rfl

theorem frame_kernel : Cert.quiescent_Kernel (hKernel := Cert.Kernel.Gen.facts) := by
  rw [same_program]
  exact fun m ρ _ => (θ_run Cert.KernelIdeal.defs _ _).mono (fun _ h => ⟨fun c => ⟨(h.1 c).1, (h.1 c).2.1⟩, h.2⟩) (Cert.KernelIdeal.all_ends (F := Bits) m ρ)

end Cert.Proof
-- ==== Proof.Ref.lean ====
/- The reference ends with its arguments unchanged and every counter at zero, its result one term of its arguments. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof
-- ==== Proof.Values.lean ====
/- What the result holds over the extended reals: the activation of the whole product. -/
module

public import proofs.«01_k».proof.Proof.Proto
public import Idealize.ShloMosaic.Lib.MatmulPlain
public import Idealize.ShloMosaic.Lib.Layout

@[expose] public section

set_option maxRecDepth 20000

noncomputable section

namespace Cert.KernelIdeal

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Facts₀ Facts

variable {F : FTy → Type} [FloatOps F]

/-! ## The ring's sum -/

/-- Going round the ring meets every device once. -/
theorem ring_bij (di : Fin 2) (c : Dev nD) : Function.Bijective fun t : Fin 32 => ((srcD di)^[t.val] c : Dev nD) := by
  have h : ∀ di : Fin 2, ∀ c : Dev nD, ∀ t u : Fin 32, (srcD di)^[t.val] c = (srcD di)^[u.val] c → t = u := by decide +kernel
  exact (Fintype.bijective_iff_injective_and_card _).mpr ⟨fun t u e => h di c t u e, rfl⟩

theorem ring_sum (di : Fin 2) (c : Dev nD) (f : Dev nD → EReal) :
    ∑ t ∈ Finset.range 32, f ((srcD di)^[t] c) = ∑ d : Dev nD, f d := by
  rw [Finset.sum_range]
  exact (ring_bij di c).sum_comp f

theorem chunk_src (di : Fin 2) (h : ℕ) (c : Dev nD) : chunkOf di h (srcD di c) = chunkOf di (h + 1) c := by
  have hs : ∀ di : Fin 2, ∀ c : Dev nD, (srcD di c).val = if di.val = 0 then (c.val + 31) % 32 else (c.val + 1) % 32 := by decide +kernel
  have hc : c.val < 32 := c.isLt
  apply Fin.ext
  unfold chunkOf
  simp only
  rw [hs]
  split <;> omega

/-! ## One hop's product -/

/-- Row `a` of chunk `k`, column `b` of half `di`, element `k` of device `c`'s part of the contraction. -/
def chunkRow (k : Fin 32) (a : Fin 128) : Fin 4096 := ⟨128 * k.val + a.val, by omega⟩
def halfCol (di : Fin 2) (b : Fin 1024) : Fin 2048 := ⟨1024 * di.val + b.val, by omega⟩
def conOf (c : Fin 32) (k : Fin 128) : Fin 4096 := ⟨c.val * 128 + k.val, by omega⟩

variable (X : (⟨2, ![4096, 4096]⟩ : Shape).Idx → EReal) (W : (⟨2, ![4096, 2048]⟩ : Shape).Idx → EReal)

/-- Device `c`'s part of an element of the product, and the whole of it. -/
def part (r : Fin 4096) (l : Fin 2048) (c : Dev nD) : EReal := ∑ k : Fin 128, X (ix2 r (conOf c k)) * W (ix2 (conOf c k) l)
def prod (r : Fin 4096) (l : Fin 2048) : EReal := ∑ k : Fin 4096, X (ix2 r k) * W (ix2 k l)

theorem sum_parts (r : Fin 4096) (l : Fin 2048) : ∑ c : Dev nD, part X W r l c = prod X W r l := by
  unfold prod part
  rw [← Equiv.sum_comp (finProdFinEquiv : Fin 32 × Fin 128 ≃ Fin (32 * 128)), Fintype.sum_prod_type]
  refine Finset.sum_congr rfl fun c _ => Finset.sum_congr rfl fun k _ => ?_
  have e : (conOf c k : Fin 4096) = (finProdFinEquiv (c, k) : Fin (32 * 128)) := Fin.ext (by
    show c.val * 128 + k.val = k.val + 128 * c.val; omega)
  rw [e]

variable (m : (ℓ : Loc nD τ sig) → Buf (Elt Ideal) ℓ)

/-- The devices hold the blocks of `X` and `W`. -/
def Holds : Prop := ∀ c : Dev nD,
  m ((c.tc : Thread nD τ).loc main_arg0) = Layout.block ⟨2, ![4096, 128]⟩ ⟨2, ![4096, 4096]⟩ 1 32 c X
  ∧ m ((c.tc : Thread nD τ).loc main_arg1) = Layout.block ⟨2, ![128, 2048]⟩ ⟨2, ![4096, 2048]⟩ 0 32 c W

theorem xV_at (hm : Holds X W m) (c : Dev nD) (r : Fin 4096) (k : Fin 128) : xV m c (ix2 r k) = X (ix2 r (conOf c k)) := by
  have e : xV m c (ix2 r k) = m ((c.tc : Thread nD τ).loc main_arg0) (ix2 r k) := by
    unfold xV
    show m ((c.tc : Thread nD τ).loc main_arg0) _ = _
    refine congrArg _ (funext fun a => Fin.ext ?_)
    fin_cases a
    · show 0 * 4096 + 1 * r.val = r.val; omega
    · show 0 * 128 + 1 * k.val = k.val; omega
  rw [e, (hm c).1, Layout.block_apply]
  refine congrArg X (funext fun a => Fin.ext ?_)
  fin_cases a <;> rfl

theorem wV_at (hm : Holds X W m) (c : Dev nD) (k : Fin 128) (l : Fin 2048) : wV m c (ix2 k l) = W (ix2 (conOf c k) l) := by
  have e : wV m c (ix2 k l) = m ((c.tc : Thread nD τ).loc main_arg1) (ix2 k l) := by
    unfold wV
    show m ((c.tc : Thread nD τ).loc main_arg1) _ = _
    refine congrArg _ (funext fun a => Fin.ext ?_)
    fin_cases a
    · show 0 * 128 + 1 * k.val = k.val; omega
    · show 0 * 2048 + 1 * l.val = l.val; omega
  rw [e, (hm c).2, Layout.block_apply]
  refine congrArg W (funext fun a => Fin.ext ?_)
  fin_cases a <;> rfl

theorem dot_at (x : S128x128.Idx → EReal) (w : S128x1024.Idx → EReal) (a : Fin 128) (b : Fin 1024) :
    dotV (F := Ideal) x w (ix2 a b) = ∑ k : Fin 128, x (ix2 a k) * w (ix2 k b) := by
  unfold dotV
  rw [shapeCast_self, shapeCast_self]
  refine (Ideal.matmul_plain_apply none x w (constant S128x1024 .f32 0x00000000#32) a b).trans ?_
  show Ideal.ofBits .f32 0x00000000#32 + _ = _
  rw [Ideal.ofBits_zero_f32, zero_add]

theorem dotC_at (hm : Holds X W m) (di : Fin 2) (c : Dev nD) (h : ℕ) (a : Fin 128) (b : Fin 1024) :
    dotC m di c h (ix2 a b) = part X W (chunkRow (chunkOf di h c) a) (halfCol di b) c := by
  unfold dotC part
  rw [dot_at]
  refine Finset.sum_congr rfl fun k _ => ?_
  rw [← xV_at X W m hm, ← wV_at X W m hm]
  congr 1
  · show xV m c _ = _
    refine congrArg _ (funext fun d => Fin.ext ?_)
    have e := congrFun (xOff_eq di h c) d
    show xOff di h c d + 1 * (ix2 (n0 := 128) (n1 := 128) a k d).val = _
    rw [e]
    fin_cases d
    · show 128 * (chunkOf di h c).val + 1 * a.val = 128 * (chunkOf di h c).val + a.val; omega
    · show 0 + 1 * k.val = k.val; omega
  · show wV m c _ = _
    refine congrArg _ (funext fun d => Fin.ext ?_)
    fin_cases d
    · show 0 + 1 * k.val = k.val; omega
    · show 1024 * di.val + 1 * b.val = 1024 * di.val + b.val; omega

/-! ## The hops -/

/-- The activation of one element. -/
def gelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * y * y * y)))

theorem geluC_at (y : FVec Ideal S128x1024 .f32) (i : S128x1024.Idx) : geluC y i = gelu (y i) := rfl
theorem addC_at (a : FVec Ideal S128x1024 .f32) (b : FVec Ideal S128x1024 .bf16) (i : S128x1024.Idx) : addC a b i = (a i + b i : EReal) := rfl

theorem Snd_sum (hm : Holds X W m) (di : Fin 2) : ∀ (h : ℕ) (_ : h ≤ 30) (c : Dev nD) (a : Fin 128) (b : Fin 1024),
    (Snd m di h c (ix2 a b) : EReal)
      = ∑ t ∈ Finset.range (h + 1), part X W (chunkRow (chunkOf di h c) a) (halfCol di b) ((srcD di)^[t] c)
  | 0, _, c, a, b => by
    rw [Finset.sum_range_one]
    exact dotC_at X W m hm di c 0 a b
  | h + 1, hh, c, a, b => by
    rw [Snd, if_pos (by omega)]
    unfold accC
    rw [if_neg (by omega), Finset.sum_range_succ']
    refine (addC_at _ _ _).trans ?_
    rw [dotC_at X W m hm, Snd_sum hm di h (by omega), chunk_src]
    exact add_comm _ _

theorem Snd_final (hm : Holds X W m) (di : Fin 2) : ∀ (h : ℕ) (_ : 31 ≤ h) (c : Dev nD) (a : Fin 128) (b : Fin 1024),
    (Snd m di h c (ix2 a b) : EReal) = gelu (prod X W (chunkRow (chunkOf di h c) a) (halfCol di b))
  | 0, hh, _, _, _ => absurd hh (by omega)
  | h + 1, hh, c, a, b => by
    by_cases h31 : h = 30
    · subst h31
      rw [Snd, if_pos (by omega)]
      unfold accC
      rw [if_pos rfl]
      refine (geluC_at _ _).trans (congrArg gelu ?_)
      refine (addC_at _ _ _).trans ?_
      rw [dotC_at X W m hm, Snd_sum X W m hm di 30 (le_refl _), chunk_src, ← sum_parts, ← ring_sum di c, Finset.sum_range_succ' _ 31]
      exact add_comm _ _
    · rw [Snd, if_neg (by omega), Snd_final hm di h (by omega), chunk_src]

theorem Acc_final (hm : Holds X W m) (di : Fin 2) (h : ℕ) (hh : 31 ≤ h) (c : Dev nD) (a : Fin 128) (b : Fin 1024) :
    (Acc m di h c (ix2 a b) : EReal) = gelu (prod X W (chunkRow (chunkOf di h c) a) (halfCol di b)) := by
  by_cases h31 : h = 31
  · subst h31
    rw [← Snd_final X W m hm di 31 hh, Snd_le m di 31 (le_refl _)]
    rfl
  · unfold Acc
    rw [if_neg (by omega), if_neg (by omega)]
    obtain ⟨k, rfl⟩ : ∃ k, h = k + 1 := ⟨h - 1, by omega⟩
    unfold Rcv
    show (Snd m di k (srcD di c) (ix2 a b) : EReal) = _
    rw [Snd_final X W m hm di k (by omega), chunk_src]

/-- Every device ends with the activation of the whole product. -/
theorem outV_at (hm : Holds X W m) (c : Dev nD) (r : Fin 4096) (l : Fin 2048) :
    (outV m c (ix2 r l) : EReal) = gelu (prod X W r l) := by
  have hr := r.isLt
  have hl := l.isLt
  unfold outV
  rw [Acc_final X W m hm _ _ (hopOf_range _ _ c).1]
  have hk : ∀ di : Fin 2, chunkOf di (hopOf di (r.val / 128) c) c = ⟨r.val / 128, by omega⟩ := fun di => chunk_hopOf di ⟨r.val / 128, by omega⟩ c
  have h1 : chunkRow ⟨r.val / 128, by omega⟩ ⟨r.val % 128, Nat.mod_lt _ (by decide)⟩ = r := Fin.ext (by show 128 * (r.val / 128) + r.val % 128 = _; omega)
  have h2 : halfCol ⟨l.val / 1024, by omega⟩ ⟨l.val % 1024, Nat.mod_lt _ (by decide)⟩ = l := Fin.ext (by show 1024 * (l.val / 1024) + l.val % 1024 = _; omega)
  show gelu (prod X W (chunkRow (chunkOf ⟨l.val / 1024, _⟩ (hopOf ⟨l.val / 1024, _⟩ (r.val / 128) c) c) ⟨r.val % 128, _⟩) (halfCol ⟨l.val / 1024, _⟩ ⟨l.val % 1024, _⟩)) = _
  rw [hk, h1, h2]

end Cert.KernelIdeal
-- ==== Proof.Algebraic.lean ====
/- Over the extended reals the kernel's result is the reference's, on every device. -/
module

public import proofs.«01_k».proof.Defs
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Lib.StackMember

@[expose] public section

set_option maxRecDepth 20000

noncomputable section

namespace Cert.Proof

open Idealize.ShloMosaic Idealize.SL.Sem Idealize.ShloMosaic.ValueIdx

section Reference
open Cert.ReferenceIdeal Cert.ReferenceIdeal.Facts₀ Cert.ReferenceIdeal.Facts

/-- The activation as the reference computes it: it cubes its argument first and scales the cube. -/
def refGelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * (y * y * y))))

theorem refGelu_eq (y : EReal) : refGelu y = Cert.KernelIdeal.gelu y := by
  unfold refGelu Cert.KernelIdeal.gelu
  rw [← mul_assoc, ← mul_assoc]

/-- The reference's result, as a function of its whole arguments. -/
def refV (X : FVec Ideal S4096x4096 .f32) (W : FVec Ideal S4096x2048 .f32) : FVec Ideal S4096x2048 .f32 :=
  fun i => refGelu (Host.dotGeneral (F := Ideal) dot_S4096x4096_S4096x2048_S4096x2048_1_0_0_1_n_n none X W i)

theorem refV_at (X : FVec Ideal S4096x4096 .f32) (W : FVec Ideal S4096x2048 .f32) (r : Fin 4096) (l : Fin 2048) :
    refV X W (ix2 r l) = Cert.KernelIdeal.gelu (Cert.KernelIdeal.prod X W r l) := by
  refine (refGelu_eq _).trans (congrArg Cert.KernelIdeal.gelu ?_)
  exact StackMember.dotGeneral_plain_apply none X W r l

theorem ref_ends (m' : (ℓ : Loc nD τ sig) → Buf (Elt Ideal) ℓ) (g' : Dev nD → PrngReg) :
    θ_run (defs (F := Ideal)) (onTc (τ := τ) (main (F := Ideal))) ⟨m', fun _ => 0, g'⟩ (fun r => ∀ c : Dev nD,
      r.2.mem ((c.tc : Thread nD τ).loc main_v13) = refV (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun r h c => ⟨(h c).1.trans rfl, (h c).2⟩) (Value.run (F := Ideal) m' g')

end Reference

/-- Both programs end with the activation of the whole product. -/
theorem algebraic : Cert.algebraic_KernelIdeal_ReferenceIdeal (hKernelIdeal := Cert.KernelIdeal.Gen.facts)
    (hReferenceIdeal := Cert.ReferenceIdeal.Gen.facts) := fun m g m' g' _ hm => by
  refine ⟨refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).2.2.trans ?_, (h.1 c).1, (h.1 c).2.1⟩) (Cert.KernelIdeal.all_ends (F := Ideal) m g)
    refine funext fun i => ?_
    obtain ⟨a, b, rfl⟩ : ∃ (a : Fin 4096) (b : Fin 2048), i = ix2 a b := ⟨i 0, i 1, eq_ix2 i⟩
    exact (Cert.KernelIdeal.outV_at _ _ m hm c a b).trans (refV_at _ _ a b).symm
  · exact (θ_run Cert.ReferenceIdeal.defs _ _).mono (fun r h => h 0) (ref_ends m' g')

end Cert.Proof
-- ==== Proof.lean ====
/- The claims, put together. -/
module

public import proofs.«01_k».proof.Defs
public import proofs.«01_k».proof.Proof.Frames
public import proofs.«01_k».proof.Proof.Ref
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_ideal, frame_reference, trivial, algebraic⟩

end Cert.Proof
